-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_causal_logits_at_most_30 [hPre_causal_logits_at_most_30 : Cert.Pre_causal_logits_at_most_30.Facts] (m : (ℓ : Loc Cert.KernelIdeal.nD Cert.KernelIdeal.τ Cert.KernelIdeal.sig) → Buf (Elt Ideal) ℓ) : Prop :=
  ∀ c : Dev Cert.KernelIdeal.nD,
    (Cert.Pre_causal_logits_at_most_30.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_causal_logits_at_most_30 [hPre_causal_logits_at_most_30 : Cert.Pre_causal_logits_at_most_30.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_causal_logits_at_most_30.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_causal_logits_at_most_30 [hKernelIdeal : Cert.KernelIdeal.Facts] [hPre_causal_logits_at_most_30 : Cert.Pre_causal_logits_at_most_30.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_causal_logits_at_most_30 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_causal_logits_at_most_30 [hReferenceIdeal : Cert.ReferenceIdeal.Facts] [hPre_causal_logits_at_most_30 : Cert.Pre_causal_logits_at_most_30.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_causal_logits_at_most_30 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_causal_logits_at_most_30 [hKernelIdeal : Cert.KernelIdeal.Facts] [hReferenceIdeal : Cert.ReferenceIdeal.Facts] [hPre_causal_logits_at_most_30 : Cert.Pre_causal_logits_at_most_30.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_causal_logits_at_most_30 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v27)) (v3 : (c : Dev Cert.Kernel2Ideal.nD) → Buf (Elt Ideal) ((c.tc : Thread Cert.Kernel2Ideal.nD Cert.Kernel2Ideal.τ).loc Cert.Kernel2Ideal.main_v29)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v37)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v27) = v2 c
          ∧ r.2.mem ((c.tc : Thread Cert.Kernel2Ideal.nD Cert.Kernel2Ideal.τ).loc Cert.Kernel2Ideal.main_v29) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v37) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_v35) = v3 c
          ∧ r.2.mem ((c.tc : Thread Cert.Reference2Ideal.nD Cert.Reference2Ideal.τ).loc Cert.Reference2Ideal.main_v37) = v4 c
          ∧ r.2.mem ((c.tc : Thread Cert.Reference2Ideal.nD Cert.Reference2Ideal.τ).loc Cert.Reference2Ideal.main_v21) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v36) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v26_0)) (v1 : (c : Dev Cert.Kernel9Ideal.nD) → Buf (Elt Ideal) ((c.tc : Thread Cert.Kernel9Ideal.nD Cert.Kernel9Ideal.τ).loc Cert.Kernel9Ideal.main_v26_1)) (v2 : (c : Dev Cert.Kernel9Ideal.nD) → Buf (Elt Ideal) ((c.tc : Thread Cert.Kernel9Ideal.nD Cert.Kernel9Ideal.τ).loc Cert.Kernel9Ideal.main_v27)) (v3 : (c : Dev Cert.Kernel9Ideal.nD) → Buf (Elt Ideal) ((c.tc : Thread Cert.Kernel9Ideal.nD Cert.Kernel9Ideal.τ).loc Cert.Kernel9Ideal.main_v28)) (v4 : (c : Dev Cert.Kernel9Ideal.nD) → Buf (Elt Ideal) ((c.tc : Thread Cert.Kernel9Ideal.nD Cert.Kernel9Ideal.τ).loc Cert.Kernel9Ideal.main_v26_4)) (v5 : (c : Dev Cert.Kernel9Ideal.nD) → Buf (Elt Ideal) ((c.tc : Thread Cert.Kernel9Ideal.nD Cert.Kernel9Ideal.τ).loc Cert.Kernel9Ideal.main_v36)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v26_0) = v0 c
          ∧ r.2.mem ((c.tc : Thread Cert.Kernel9Ideal.nD Cert.Kernel9Ideal.τ).loc Cert.Kernel9Ideal.main_v26_1) = v1 c
          ∧ r.2.mem ((c.tc : Thread Cert.Kernel9Ideal.nD Cert.Kernel9Ideal.τ).loc Cert.Kernel9Ideal.main_v27) = v2 c
          ∧ r.2.mem ((c.tc : Thread Cert.Kernel9Ideal.nD Cert.Kernel9Ideal.τ).loc Cert.Kernel9Ideal.main_v28) = v3 c
          ∧ r.2.mem ((c.tc : Thread Cert.Kernel9Ideal.nD Cert.Kernel9Ideal.τ).loc Cert.Kernel9Ideal.main_v26_4) = v4 c
          ∧ r.2.mem ((c.tc : Thread Cert.Kernel9Ideal.nD Cert.Kernel9Ideal.τ).loc Cert.Kernel9Ideal.main_v36) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v29) = v0 c
          ∧ r.2.mem ((c.tc : Thread Cert.Reference9Ideal.nD Cert.Reference9Ideal.τ).loc Cert.Reference9Ideal.main_v33) = v1 c
          ∧ r.2.mem ((c.tc : Thread Cert.Reference9Ideal.nD Cert.Reference9Ideal.τ).loc Cert.Reference9Ideal.main_v34) = v2 c
          ∧ r.2.mem ((c.tc : Thread Cert.Reference9Ideal.nD Cert.Reference9Ideal.τ).loc Cert.Reference9Ideal.main_v35) = v3 c
          ∧ r.2.mem ((c.tc : Thread Cert.Reference9Ideal.nD Cert.Reference9Ideal.τ).loc Cert.Reference9Ideal.main_v37) = v4 c
          ∧ r.2.mem ((c.tc : Thread Cert.Reference9Ideal.nD Cert.Reference9Ideal.τ).loc Cert.Reference9Ideal.main_v21) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_causal_logits_at_most_30 : Cert.Pre_causal_logits_at_most_30.Facts),
    quiescent_Kernel (hKernel := hKernel)
    ∧ quiescent_KernelIdeal (hKernelIdeal := hKernelIdeal)
    ∧ quiescent_KernelIdeal_pre_causal_logits_at_most_30 (hKernelIdeal := hKernelIdeal) (hPre_causal_logits_at_most_30 := hPre_causal_logits_at_most_30)
    ∧ quiescent_ReferenceIdeal (hReferenceIdeal := hReferenceIdeal)
    ∧ quiescent_ReferenceIdeal_pre_causal_logits_at_most_30 (hReferenceIdeal := hReferenceIdeal) (hPre_causal_logits_at_most_30 := hPre_causal_logits_at_most_30)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_causal_logits_at_most_30 (hKernelIdeal := hKernelIdeal) (hReferenceIdeal := hReferenceIdeal) (hPre_causal_logits_at_most_30 := hPre_causal_logits_at_most_30)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_causal_logits_at_most_30.lean ====
abbrev S8x2048x16x64 : Shape := ⟨4, ![8, 2048, 16, 64]⟩
abbrev S16 : Shape := ⟨1, ![16]⟩
abbrev S1x16x1x1 : Shape := ⟨4, ![1, 16, 1, 1]⟩
abbrev S8x16x2048x2048 : Shape := ⟨4, ![8, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩

class Facts : Prop where
  bcast_S16_S1x16x1x1_1 : S16.BroadcastsInDim S1x16x1x1 (![1] : Fin 1 → Fin S1x16x1x1.rank)
  bcast_S_S8x16x2048x2048 : S_.BroadcastsInDim S8x16x2048x2048 (![] : Fin 0 → Fin S8x16x2048x2048.rank)
  bcast_S1x16x1x1_S8x16x2048x2048_0_1_2_3 : S1x16x1x1.BroadcastsInDim S8x16x2048x2048 (![0, 1, 2, 3] : Fin 4 → Fin S8x16x2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S1x1x2048x2048_2_3 : S2048x2048.BroadcastsInDim S1x1x2048x2048 (![2, 3] : Fin 2 → Fin S1x1x2048x2048.rank)
  bcast_S1x1x2048x2048_S8x16x2048x2048_0_1_2_3 : S1x1x2048x2048.BroadcastsInDim S8x16x2048x2048 (![0, 1, 2, 3] : Fin 4 → Fin S8x16x2048x2048.rank)
  reducesTo_S8x16x2048x2048_S_d0_1_2_3 : S8x16x2048x2048.ReducesTo [0, 1, 2, 3] S_
  h_S_ : 0 < S_.numel
  dot_S8x2048x16x64_S8x2048x16x64_S8x16x2048x2048_3_3_1_1_02_02_wf : DotDims.WF S8x2048x16x64 S8x2048x16x64 S8x16x2048x2048 [3] [3] [1] [1] [0, 2] [0, 2]

variable [Facts]

def dot_S8x2048x16x64_S8x2048x16x64_S8x16x2048x2048_3_3_1_1_02_02 : DotDims S8x2048x16x64 S8x2048x16x64 S8x16x2048x2048 where
  lhsContracting := [3]
  rhsContracting := [3]
  lhsNonContracting := [1]
  rhsNonContracting := [1]
  lhsBatch := [0, 2]
  rhsBatch := [0, 2]
  wf := dot_S8x2048x16x64_S8x2048x16x64_S8x16x2048x2048_3_3_1_1_02_02_wf
def fn {F : FTy → Type} [FloatOps F] (main_arg0 : FVec F S8x2048x16x64 .f32) (main_arg1 : FVec F S8x2048x16x64 .f32) (main_arg2 : FVec F S8x2048x16x64 .f32) (main_arg3 : FVec F S16 .f32) : IVec S_ 1 :=
  let main_v0 : FVec F S1x16x1x1 .f32 := broadcastInDim S1x16x1x1 ![1] bcast_S16_S1x16x1x1_1 main_arg3
  let main_v1 : FVec F S8x16x2048x2048 .f32 := (fun l r => Host.dotGeneral dot_S8x2048x16x64_S8x2048x16x64_S8x16x2048x2048_3_3_1_1_02_02 none l r) main_arg0 main_arg1
  let main_cst : FVec F S_ .f32 := constant S_ .f32 0x3E000000#32
  let main_v2 : FVec F S8x16x2048x2048 .f32 := broadcastInDim S8x16x2048x2048 ![] bcast_S_S8x16x2048x2048 main_cst
  let main_v3 : FVec F S8x16x2048x2048 .f32 := mulf main_v1 main_v2
  let main_v4 : FVec F S8x16x2048x2048 .f32 := broadcastInDim S8x16x2048x2048 ![0, 1, 2, 3] bcast_S1x16x1x1_S8x16x2048x2048_0_1_2_3 main_v0
  let main_v5 : FVec F S8x16x2048x2048 .f32 := addf main_v3 main_v4
  let main_v6 : IVec S2048 32 := iotaInDim S2048 32 0
  let main_cst_0 : FVec F S_ .f32 := constant S_ .f32 0x41F00000#32
  let main_v7 : FVec F S8x16x2048x2048 .f32 := broadcastInDim S8x16x2048x2048 ![] bcast_S_S8x16x2048x2048 main_cst_0
  let main_v8 : IVec S8x16x2048x2048 1 := cmpf .ole main_v5 main_v7
  let main_v9 : IVec S1x2048 32 := broadcastInDim S1x2048 ![1] bcast_S2048_S1x2048_1 main_v6
  let main_v10 : IVec S2048x1 32 := broadcastInDim S2048x1 ![0] bcast_S2048_S2048x1_0 main_v6
  let main_v11 : IVec S2048x2048 32 := broadcastInDim S2048x2048 ![0, 1] bcast_S1x2048_S2048x2048_0_1 main_v9
  let main_v12 : IVec S2048x2048 32 := broadcastInDim S2048x2048 ![0, 1] bcast_S2048x1_S2048x2048_0_1 main_v10
  let main_v13 : IVec S2048x2048 1 := cmpi .sge main_v11 main_v12
  let main_v14 : IVec S1x1x2048x2048 1 := broadcastInDim S1x1x2048x2048 ![2, 3] bcast_S2048x2048_S1x1x2048x2048_2_3 main_v13
  let main_v15 : IVec S8x16x2048x2048 1 := broadcastInDim S8x16x2048x2048 ![0, 1, 2, 3] bcast_S1x1x2048x2048_S8x16x2048x2048_0_1_2_3 main_v14
  let main_v16 : IVec S8x16x2048x2048 1 := ori main_v8 main_v15
  let main_c : IVec S_ 1 := constantI S_ 1 1#1
  let main_v17 : IVec S_ 1 := (fun x v => Host.reduce IntOp.andi x v reducesTo_S8x16x2048x2048_S_d0_1_2_3 h_S_) main_v16 main_c
  main_v17
-- ==== Kernel.lean ====
abbrev S8x2048x16x64 : Shape := ⟨4, ![8, 2048, 16, 64]⟩
abbrev S16 : Shape := ⟨1, ![16]⟩
abbrev S8x16x64x2048 : Shape := ⟨4, ![8, 16, 64, 2048]⟩
abbrev S8x1024x2048 : Shape := ⟨3, ![8, 1024, 2048]⟩
abbrev S8x2x1 : Shape := ⟨3, ![8, 2, 1]⟩
abbrev S8x2x128 : Shape := ⟨3, ![8, 2, 128]⟩
abbrev S8x2048x1024 : Shape := ⟨3, ![8, 2048, 1024]⟩
abbrev S_ : Shape := ⟨0, ![]⟩
abbrev S1x512x128 : Shape := ⟨3, ![1, 512, 128]⟩
abbrev S1x128x2048 : Shape := ⟨3, ![1, 128, 2048]⟩
abbrev S1x2x128 : Shape := ⟨3, ![1, 2, 128]⟩
abbrev S16x128x128 : Shape := ⟨3, ![16, 128, 128]⟩
abbrev S1024x128 : Shape := ⟨2, ![1024, 128]⟩
abbrev S1x128x128 : Shape := ⟨3, ![1, 128, 128]⟩
abbrev S128x128 : Shape := ⟨2, ![128, 128]⟩
abbrev S512x128 : Shape := ⟨2, ![512, 128]⟩
abbrev S128x256 : Shape := ⟨2, ![128, 256]⟩
abbrev S1024x512 : Shape := ⟨2, ![1024, 512]⟩
abbrev S128x512 : Shape := ⟨2, ![128, 512]⟩
abbrev S1x1x128 : Shape := ⟨3, ![1, 1, 128]⟩
abbrev S1x128 : Shape := ⟨2, ![1, 128]⟩
abbrev S1x512 : Shape := ⟨2, ![1, 512]⟩
abbrev S512x512 : Shape := ⟨2, ![512, 512]⟩
abbrev S1024x256 : Shape := ⟨2, ![1024, 256]⟩

abbrev nBuf : Space → Nat
  | .hbm => 16
  | .vmem => 14
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S16, .f32⟩
  | .hbm, ⟨4, _⟩ => ⟨S8x16x64x2048, .f32⟩
  | .hbm, ⟨5, _⟩ => ⟨S8x1024x2048, .f32⟩
  | .hbm, ⟨6, _⟩ => ⟨S8x16x64x2048, .f32⟩
  | .hbm, ⟨7, _⟩ => ⟨S8x1024x2048, .f32⟩
  | .hbm, ⟨8, _⟩ => ⟨S8x2x1, .f32⟩
  | .hbm, ⟨9, _⟩ => ⟨S8x2x128, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .bf16⟩
  | .hbm, ⟨15, _⟩ => ⟨S8x2048x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x2x128, .f32⟩
  | .local _ .vmem, ⟨7, _⟩ => ⟨S1x2x128, .f32⟩
  | .local _ .vmem, ⟨8, _⟩ => ⟨S1x512x128, .bf16⟩
  | .local _ .vmem, ⟨9, _⟩ => ⟨S1x512x128, .bf16⟩
  | .local _ .vmem, ⟨10, _⟩ => ⟨S16x128x128, .bf16⟩
  | .local _ .vmem, ⟨11, _⟩ => ⟨S16x128x128, .bf16⟩
  | .local _ .vmem, ⟨12, _⟩ => ⟨S1024x128, .f32⟩
  | .local _ .vmem, ⟨13, _⟩ => ⟨S1024x128, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_off1 (i : grid0.Coords) (c0_i32_13 : BitVec 32) : Fin 3 → Nat :=
  let c2_i32_12 : BitVec 32 := 2#32
  let arg2 : BitVec 32 := BitVec.ofNat 32 (i 2).val
  let c2_i32 : BitVec 32 := 2#32
  let v34 : BitVec 32 := Scalar.muli arg2 c2_i32
  let v37 : BitVec 32 := Scalar.muli c2_i32_12 v34
  let v38 : BitVec 32 := Scalar.addi v37 c0_i32_13
  let v39 : Index := Scalar.indexCast v38
  let c0_14 : Index := 0#32
  let c0_15 : Index := 0#32
  ![v39.toNat, 0, 0]
@[reducible] def k0_t1_loop (i : grid0.Coords) : Scf.Loop 32 :=
  let c0_i32_68 : BitVec 32 := 0#32
  let arg2 : BitVec 32 := BitVec.ofNat 32 (i 2).val
  let c2_i32_59 : BitVec 32 := 2#32
  let v149 : BitVec 32 := Scalar.muli arg2 c2_i32_59
  let c0_i32_61 : BitVec 32 := 0#32
  let v151 : BitVec 1 := Scalar.cmpi .sgt v149 c0_i32_61
  let v152 : BitVec 32 := Scalar.extui v151
  let c0_i32_62 : BitVec 32 := 0#32
  let v153 : BitVec 1 := Scalar.cmpi .slt v149 c0_i32_62
  let v154 : BitVec 32 := Scalar.extui v153
  let v155 : BitVec 32 := Scalar.subi v152 v154
  let c2_i32_60 : BitVec 32 := 2#32
  let c0_i32_63 : BitVec 32 := 0#32
  let v156 : BitVec 1 := Scalar.cmpi .sgt c2_i32_60 c0_i32_63
  let v157 : BitVec 32 := Scalar.extui v156
  let c0_i32_64 : BitVec 32 := 0#32
  let v158 : BitVec 1 := Scalar.cmpi .slt c2_i32_60 c0_i32_64
  let v159 : BitVec 32 := Scalar.extui v158
  let v160 : BitVec 32 := Scalar.subi v157 v159
  let v161 : BitVec 1 := Scalar.cmpi .ne v155 v160
  let v162 : BitVec 32 := Scalar.remsi v149 c2_i32_60
  let c0_i32_65 : BitVec 32 := 0#32
  let v163 : BitVec 1 := Scalar.cmpi .ne v162 c0_i32_65
  let v164 : BitVec 1 := Scalar.andi v161 v163
  let v150 : BitVec 32 := Scalar.divsi v149 c2_i32_60
  let c1_i32_66 : BitVec 32 := 1#32
  let v165 : BitVec 32 := Scalar.subi v150 c1_i32_66
  let v166 : BitVec 32 := Scalar.select v164 v165 v150
  let v167 : BitVec 32 := Scalar.subi v166 c0_i32_68
  let c1_i32_69 : BitVec 32 := 1#32
  let v169 : BitVec 32 := Scalar.divsi v167 c1_i32_69
  let v170 : BitVec 32 := Scalar.muli v169 c1_i32_69
  let v171 : BitVec 32 := Scalar.addi c0_i32_68 v170
  let c1_i32_70 : BitVec 32 := 1#32
  ⟨c0_i32_68, v171, c1_i32_70⟩
def k0_off2 (i : grid0.Coords) (k0_t1 : Fin (k0_t1_loop i).trips) (c0_i32_81 : BitVec 32) : Fin 3 → Nat :=
  let c2_i32_80 : BitVec 32 := 2#32
  let arg2 : BitVec 32 := BitVec.ofNat 32 (i 2).val
  let c2_i32_59 : BitVec 32 := 2#32
  let v149 : BitVec 32 := Scalar.muli arg2 c2_i32_59
  let c2_i32_78 : BitVec 32 := 2#32
  let v179 : BitVec 32 := Scalar.subi v149 c2_i32_78
  let c2_i32_79 : BitVec 32 := 2#32
  let c0_i32_68 : BitVec 32 := 0#32
  let c1_i32_70 : BitVec 32 := 1#32
  let arg12 : BitVec 32 := Scf.iv c0_i32_68 c1_i32_70 k0_t1
  let v180 : BitVec 32 := Scalar.muli c2_i32_79 arg12
  let v181 : BitVec 32 := Scalar.subi v179 v180
  let v182 : BitVec 32 := Scalar.muli c2_i32_80 v181
  let v183 : BitVec 32 := Scalar.addi v182 c0_i32_81
  let v184 : Index := Scalar.indexCast v183
  let c0_82 : Index := 0#32
  let c0_83 : Index := 0#32
  ![v184.toNat, 0, 0]
@[reducible] def k0_t2_loop (i : grid0.Coords) : Scf.Loop 32 :=
  let c0_i32_68 : BitVec 32 := 0#32
  let arg2 : BitVec 32 := BitVec.ofNat 32 (i 2).val
  let c2_i32_59 : BitVec 32 := 2#32
  let v149 : BitVec 32 := Scalar.muli arg2 c2_i32_59
  let c0_i32_61 : BitVec 32 := 0#32
  let v151 : BitVec 1 := Scalar.cmpi .sgt v149 c0_i32_61
  let v152 : BitVec 32 := Scalar.extui v151
  let c0_i32_62 : BitVec 32 := 0#32
  let v153 : BitVec 1 := Scalar.cmpi .slt v149 c0_i32_62
  let v154 : BitVec 32 := Scalar.extui v153
  let v155 : BitVec 32 := Scalar.subi v152 v154
  let c2_i32_60 : BitVec 32 := 2#32
  let c0_i32_63 : BitVec 32 := 0#32
  let v156 : BitVec 1 := Scalar.cmpi .sgt c2_i32_60 c0_i32_63
  let v157 : BitVec 32 := Scalar.extui v156
  let c0_i32_64 : BitVec 32 := 0#32
  let v158 : BitVec 1 := Scalar.cmpi .slt c2_i32_60 c0_i32_64
  let v159 : BitVec 32 := Scalar.extui v158
  let v160 : BitVec 32 := Scalar.subi v157 v159
  let v161 : BitVec 1 := Scalar.cmpi .ne v155 v160
  let v162 : BitVec 32 := Scalar.remsi v149 c2_i32_60
  let c0_i32_65 : BitVec 32 := 0#32
  let v163 : BitVec 1 := Scalar.cmpi .ne v162 c0_i32_65
  let v164 : BitVec 1 := Scalar.andi v161 v163
  let v150 : BitVec 32 := Scalar.divsi v149 c2_i32_60
  let c1_i32_66 : BitVec 32 := 1#32
  let v165 : BitVec 32 := Scalar.subi v150 c1_i32_66
  let v166 : BitVec 32 := Scalar.select v164 v165 v150
  let v167 : BitVec 32 := Scalar.subi v166 c0_i32_68
  let c1_i32_69 : BitVec 32 := 1#32
  let v169 : BitVec 32 := Scalar.divsi v167 c1_i32_69
  let v170 : BitVec 32 := Scalar.muli v169 c1_i32_69
  let v171 : BitVec 32 := Scalar.addi c0_i32_68 v170
  let v168 : BitVec 32 := Scalar.addi c0_i32_68 v167
  let c1_i32_71 : BitVec 32 := 1#32
  ⟨v171, v168, c1_i32_71⟩
def k0_off3 (i : grid0.Coords) (k0_t2 : Fin (k0_t2_loop i).trips) (c0_i32_81 : BitVec 32) : Fin 3 → Nat :=
  let c2_i32_80 : BitVec 32 := 2#32
  let arg2 : BitVec 32 := BitVec.ofNat 32 (i 2).val
  let c2_i32_59 : BitVec 32 := 2#32
  let v149 : BitVec 32 := Scalar.muli arg2 c2_i32_59
  let c2_i32_78 : BitVec 32 := 2#32
  let v179 : BitVec 32 := Scalar.subi v149 c2_i32_78
  let c2_i32_79 : BitVec 32 := 2#32
  let c0_i32_68 : BitVec 32 := 0#32
  let c0_i32_61 : BitVec 32 := 0#32
  let v151 : BitVec 1 := Scalar.cmpi .sgt v149 c0_i32_61
  let v152 : BitVec 32 := Scalar.extui v151
  let c0_i32_62 : BitVec 32 := 0#32
  let v153 : BitVec 1 := Scalar.cmpi .slt v149 c0_i32_62
  let v154 : BitVec 32 := Scalar.extui v153
  let v155 : BitVec 32 := Scalar.subi v152 v154
  let c2_i32_60 : BitVec 32 := 2#32
  let c0_i32_63 : BitVec 32 := 0#32
  let v156 : BitVec 1 := Scalar.cmpi .sgt c2_i32_60 c0_i32_63
  let v157 : BitVec 32 := Scalar.extui v156
  let c0_i32_64 : BitVec 32 := 0#32
  let v158 : BitVec 1 := Scalar.cmpi .slt c2_i32_60 c0_i32_64
  let v159 : BitVec 32 := Scalar.extui v158
  let v160 : BitVec 32 := Scalar.subi v157 v159
  let v161 : BitVec 1 := Scalar.cmpi .ne v155 v160
  let v162 : BitVec 32 := Scalar.remsi v149 c2_i32_60
  let c0_i32_65 : BitVec 32 := 0#32
  let v163 : BitVec 1 := Scalar.cmpi .ne v162 c0_i32_65
  let v164 : BitVec 1 := Scalar.andi v161 v163
  let v150 : BitVec 32 := Scalar.divsi v149 c2_i32_60
  let c1_i32_66 : BitVec 32 := 1#32
  let v165 : BitVec 32 := Scalar.subi v150 c1_i32_66
  let v166 : BitVec 32 := Scalar.select v164 v165 v150
  let v167 : BitVec 32 := Scalar.subi v166 c0_i32_68
  let c1_i32_69 : BitVec 32 := 1#32
  let v169 : BitVec 32 := Scalar.divsi v167 c1_i32_69
  let v170 : BitVec 32 := Scalar.muli v169 c1_i32_69
  let v171 : BitVec 32 := Scalar.addi c0_i32_68 v170
  let c1_i32_71 : BitVec 32 := 1#32
  let arg12 : BitVec 32 := Scf.iv v171 c1_i32_71 k0_t2
  let v180 : BitVec 32 := Scalar.muli c2_i32_79 arg12
  let v181 : BitVec 32 := Scalar.subi v179 v180
  let v182 : BitVec 32 := Scalar.muli c2_i32_80 v181
  let v183 : BitVec 32 := Scalar.addi v182 c0_i32_81
  let v184 : Index := Scalar.indexCast v183
  let c0_82 : Index := 0#32
  let c0_83 : Index := 0#32
  ![v184.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x2048x16x64 : Shape := ⟨4, ![8, 2048, 16, 64]⟩
abbrev S16 : Shape := ⟨1, ![16]⟩
abbrev S2048 : Shape := ⟨1, ![2048]⟩
abbrev S1x16x1x1 : Shape := ⟨4, ![1, 16, 1, 1]⟩
abbrev S8x16x2048x2048 : Shape := ⟨4, ![8, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x16x64x2048 : Shape := ⟨4, ![8, 16, 64, 2048]⟩
abbrev S8x2048x1024 : Shape := ⟨3, ![8, 2048, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x16x64, .f32⟩
  | .hbm, ⟨2, _⟩ => ⟨S8x2048x16x64, .f32⟩
  | .hbm, ⟨3, _⟩ => ⟨S16, .f32⟩
  | .hbm, ⟨4, _⟩ => ⟨S2048, .i32⟩
  | .hbm, ⟨5, _⟩ => ⟨S1x16x1x1, .f32⟩
  | .hbm, ⟨6, _⟩ => ⟨S8x16x2048x2048, .f32⟩
  | .hbm, ⟨7, _⟩ => ⟨S_, .f32⟩
  | .hbm, ⟨8, _⟩ => ⟨S8x16x2048x2048, .f32⟩
  | .hbm, ⟨9, _⟩ => ⟨S8x16x2048x2048, .f32⟩
  | .hbm, ⟨10, _⟩ => ⟨S8x16x2048x2048, .f32⟩
  | .hbm, ⟨11, _⟩ => ⟨S8x16x2048x2048, .f32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S8x16x2048x2048, .f32⟩
  | .hbm, ⟨18, _⟩ => ⟨S8x16x2048x2048, .f32⟩
  | .hbm, ⟨19, _⟩ => ⟨S_, .f32⟩
  | .hbm, ⟨20, _⟩ => ⟨S8x16x2048x2048, .f32⟩
  | .hbm, ⟨21, _⟩ => ⟨S8x16x2048x2048, .f32⟩
  | .hbm, ⟨22, _⟩ => ⟨S8x16x2048x2048, .f32⟩
  | .hbm, ⟨23, _⟩ => ⟨S8x16x2048x2048, .f32⟩
  | .hbm, ⟨24, _⟩ => ⟨S8x16x2048x2048, .i1⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S_, .f32⟩
  | .hbm, ⟨35, _⟩ => ⟨S_, .f32⟩
  | .hbm, ⟨36, _⟩ => ⟨S8x16x2048x2048, .i1⟩
  | .hbm, ⟨37, _⟩ => ⟨S8x16x2048x2048, .f32⟩
  | .hbm, ⟨38, _⟩ => ⟨S8x16x2048x2048, .f32⟩
  | .hbm, ⟨39, _⟩ => ⟨S_, .f32⟩
  | .hbm, ⟨40, _⟩ => ⟨S_, .f32⟩
  | .hbm, ⟨41, _⟩ => ⟨S8x16x2048x2048, .f32⟩
  | .hbm, ⟨42, _⟩ => ⟨S8x16x2048x2048, .f32⟩
  | .hbm, ⟨43, _⟩ => ⟨S8x16x2048x2048, .f32⟩
  | .hbm, ⟨44, _⟩ => ⟨S_, .f32⟩
  | .hbm, ⟨45, _⟩ => ⟨S8x16x2048x2048, .f32⟩
  | .hbm, ⟨46, _⟩ => ⟨S8x16x2048x2048, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .i1⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S8x16x2048x2048, .f32⟩
  | .hbm, ⟨58, _⟩ => ⟨S8x16x2048x2048, .f32⟩
  | .hbm, ⟨59, _⟩ => ⟨S8x16x2048x2048, .f32⟩
  | .hbm, ⟨60, _⟩ => ⟨S8x16x2048x2048, .f32⟩
  | .hbm, ⟨61, _⟩ => ⟨S_, .f32⟩
  | .hbm, ⟨62, _⟩ => ⟨S_, .f32⟩
  | .hbm, ⟨63, _⟩ => ⟨S8x16x2048x2048, .i1⟩
  | .hbm, ⟨64, _⟩ => ⟨S8x16x2048x2048, .f32⟩
  | .hbm, ⟨65, _⟩ => ⟨S8x16x2048x2048, .f32⟩
  | .hbm, ⟨66, _⟩ => ⟨S8x16x64x2048, .f32⟩
  | .hbm, ⟨67, _⟩ => ⟨S8x2048x16x64, .f32⟩
  | .hbm, ⟨68, _⟩ => ⟨S8x2048x1024, .f32⟩
  | .hbm, ⟨69, _⟩ => ⟨S8x2048x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_call2_cst : Ref sig .tc := ⟨.hbm, 39, rfl⟩
abbrev main_call2_v0 : Ref sig .tc := ⟨.hbm, 40, rfl⟩
abbrev main_v15 : Ref sig .tc := ⟨.hbm, 41, rfl⟩
abbrev main_v16 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S2048x10688 : Shape := ⟨2, ![2048, 10688]⟩
abbrev S2048x3520 : Shape := ⟨2, ![2048, 3520]⟩
abbrev S2048x3072 : Shape := ⟨2, ![2048, 3072]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x3584 : Shape := ⟨2, ![2048, 3584]⟩
abbrev S2048x1024 : Shape := ⟨2, ![2048, 1024]⟩
abbrev S2048x4096 : Shape := ⟨2, ![2048, 4096]⟩
abbrev S2048x10752 : Shape := ⟨2, ![2048, 10752]⟩
abbrev S10688x2048 : Shape := ⟨2, ![10688, 2048]⟩
abbrev S2048x2048 : Shape := ⟨2, ![2048, 2048]⟩
abbrev S16384x2048 : Shape := ⟨2, ![16384, 2048]⟩
abbrev S1x2048 : Shape := ⟨2, ![1, 2048]⟩
abbrev S16384x3584 : Shape := ⟨2, ![16384, 3584]⟩
abbrev S16384x1024 : Shape := ⟨2, ![16384, 1024]⟩
abbrev S8x1024x2048 : Shape := ⟨3, ![8, 1024, 2048]⟩
abbrev S16384x4096 : Shape := ⟨2, ![16384, 4096]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S1x512x1024 : Shape := ⟨3, ![1, 512, 1024]⟩
abbrev S1024 : Shape := ⟨1, ![1024]⟩
abbrev S1024x1 : Shape := ⟨2, ![1024, 1]⟩
abbrev S512x1024 : Shape := ⟨2, ![512, 1024]⟩
abbrev S8x16x64x2048 : Shape := ⟨4, ![8, 16, 64, 2048]⟩
abbrev S8x2048x16x64 : Shape := ⟨4, ![8, 2048, 16, 64]⟩
abbrev S8x2048x3584 : Shape := ⟨3, ![8, 2048, 3584]⟩
abbrev S8x1x3584 : Shape := ⟨3, ![8, 1, 3584]⟩
abbrev S8x3584 : Shape := ⟨2, ![8, 3584]⟩
abbrev S8x3072 : Shape := ⟨2, ![8, 3072]⟩
abbrev S8x96 : Shape := ⟨2, ![8, 96]⟩
abbrev S8x256 : Shape := ⟨2, ![8, 256]⟩
abbrev S8x3520 : Shape := ⟨2, ![8, 3520]⟩

abbrev nBuf : Space → Nat
  | .hbm => 50
  | .vmem => 18
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x10688, .f32⟩
  | .hbm, ⟨3, _⟩ => ⟨S2048x3520, .f32⟩
  | .hbm, ⟨4, _⟩ => ⟨S2048x3072, .f32⟩
  | .hbm, ⟨5, _⟩ => ⟨S2048x96, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x96, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x256, .f32⟩
  | .hbm, ⟨14, _⟩ => ⟨S2048x3584, .f32⟩
  | .hbm, ⟨15, _⟩ => ⟨S2048x3584, .bf16⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .bf16⟩
  | .hbm, ⟨25, _⟩ => ⟨S2048x4096, .f32⟩
  | .hbm, ⟨26, _⟩ => ⟨S2048x4096, .bf16⟩
  | .hbm, ⟨27, _⟩ => ⟨S2048x10752, .bf16⟩
  | .hbm, ⟨28, _⟩ => ⟨S10688x2048, .f32⟩
  | .hbm, ⟨29, _⟩ => ⟨S2048x2048, .f32⟩
  | .hbm, ⟨30, _⟩ => ⟨S2048x2048, .bf16⟩
  | .hbm, ⟨31, _⟩ => ⟨S16384x2048, .f32⟩
  | .hbm, ⟨32, _⟩ => ⟨S1x2048, .f32⟩
  | .hbm, ⟨33, _⟩ => ⟨S16384x3584, .f32⟩
  | .hbm, ⟨34, _⟩ => ⟨S16384x1024, .bf16⟩
  | .hbm, ⟨35, _⟩ => ⟨S8x1024x2048, .f32⟩
  | .hbm, ⟨36, _⟩ => ⟨S8x1024x2048, .f32⟩
  | .hbm, ⟨37, _⟩ => ⟨S16384x4096, .bf16⟩
  | .hbm, ⟨38, _⟩ => ⟨S8x16x64x2048, .f32⟩
  | .hbm, ⟨39, _⟩ => ⟨S8x2048x16x64, .f32⟩
  | .hbm, ⟨40, _⟩ => ⟨S8x16x64x2048, .f32⟩
  | .hbm, ⟨41, _⟩ => ⟨S8x2048x16x64, .f32⟩
  | .hbm, ⟨42, _⟩ => ⟨S8x2048x3584, .f32⟩
  | .hbm, ⟨43, _⟩ => ⟨S8x1x3584, .f32⟩
  | .hbm, ⟨44, _⟩ => ⟨S8x3584, .f32⟩
  | .hbm, ⟨45, _⟩ => ⟨S8x3072, .f32⟩
  | .hbm, ⟨46, _⟩ => ⟨S8x96, .f32⟩
  | .hbm, ⟨47, _⟩ => ⟨S8x96, .f32⟩
  | .hbm, ⟨48, _⟩ => ⟨S8x256, .f32⟩
  | .hbm, ⟨49, _⟩ => ⟨S8x3520, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev main_v25_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 21], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .sge arg1 c7_i32_3
  let c9_i32 : BitVec 32 := 9#32
  let v9 : BitVec 1 := Scalar.cmpi .slt arg1 c9_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c9_i32_5 : BitVec 32 := 9#32
  let v13 : BitVec 1 := Scalar.cmpi .sge arg1 c9_i32_5
  let c11_i32 : BitVec 32 := 11#32
  let v14 : BitVec 1 := Scalar.cmpi .slt arg1 c11_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c11_i32_7 : BitVec 32 := 11#32
  let v18 : BitVec 1 := Scalar.cmpi .sge arg1 c11_i32_7
  let c13_i32 : BitVec 32 := 13#32
  let v19 : BitVec 1 := Scalar.cmpi .slt arg1 c13_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c13_i32_9 : BitVec 32 := 13#32
  let v23 : BitVec 1 := Scalar.cmpi .sge arg1 c13_i32_9
  let c21_i32 : BitVec 32 := 21#32
  let v24 : BitVec 1 := Scalar.cmpi .slt arg1 c21_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg1 c9_i32
  let c13_i32 : BitVec 32 := 13#32
  let v1 : BitVec 1 := Scalar.cmpi .slt arg1 c13_i32
  let v2 : BitVec 1 := Scalar.andi v0 v1
  let c8_i32 : BitVec 32 := 8#32
  let v3 : BitVec 32 := Scalar.select v2 c8_i32 arg1
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c6_i32 : BitVec 32 := 6#32
  let v1 : BitVec 32 := Scalar.maxsi c0_i32_0 v0
  let v2 : BitVec 32 := Scalar.minsi c6_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.subi arg1 c9_i32
  let c0_i32_4 : BitVec 32 := 0#32
  let c1_i32_5 : BitVec 32 := 1#32
  let v18 : BitVec 32 := Scalar.maxsi c0_i32_4 v17
  let v19 : BitVec 32 := Scalar.minsi c1_i32_5 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v16.toNat, v19.toNat, v29.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32 : BitVec 32 := 11#32
  let v17 : BitVec 32 := Scalar.subi arg1 c11_i32
  let c0_i32_4 : BitVec 32 := 0#32
  let c1_i32_5 : BitVec 32 := 1#32
  let v18 : BitVec 32 := Scalar.maxsi c0_i32_4 v17
  let v19 : BitVec 32 := Scalar.minsi c1_i32_5 v18
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  ![v16.toNat, v19.toNat, v29.toNat]

def cc0_transform_8 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x2048 : Shape := ⟨3, ![8, 2048, 2048]⟩
abbrev S2048 : Shape := ⟨1, ![2048]⟩
abbrev S2048x10688 : Shape := ⟨2, ![2048, 10688]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x10688 : Shape := ⟨3, ![8, 2048, 10688]⟩
abbrev S8x2048x3520 : Shape := ⟨3, ![8, 2048, 3520]⟩
abbrev S8x2048x3072 : Shape := ⟨3, ![8, 2048, 3072]⟩
abbrev S8x2048x4096 : Shape := ⟨3, ![8, 2048, 4096]⟩
abbrev S8x2048x1024 : Shape := ⟨3, ![8, 2048, 1024]⟩
abbrev S8x1x3520 : Shape := ⟨3, ![8, 1, 3520]⟩
abbrev S8x3520 : Shape := ⟨2, ![8, 3520]⟩
abbrev S8x2048x96 : Shape := ⟨3, ![8, 2048, 96]⟩
abbrev S8x2048x256 : Shape := ⟨3, ![8, 2048, 256]⟩
abbrev S8x2048x128 : Shape := ⟨3, ![8, 2048, 128]⟩
abbrev S8x2048x3584 : Shape := ⟨3, ![8, 2048, 3584]⟩
abbrev S16384x3584 : Shape := ⟨2, ![16384, 3584]⟩
abbrev S16384x1024 : Shape := ⟨2, ![16384, 1024]⟩
abbrev S8x2048x16x64 : Shape := ⟨4, ![8, 2048, 16, 64]⟩
abbrev S16384x4096 : Shape := ⟨2, ![16384, 4096]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x10688, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x10688, .f32⟩
  | .hbm, ⟨20, _⟩ => ⟨S8x2048x3520, .f32⟩
  | .hbm, ⟨21, _⟩ => ⟨S8x2048x3072, .f32⟩
  | .hbm, ⟨22, _⟩ => ⟨S8x2048x4096, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x1x3520, .f32⟩
  | .hbm, ⟨27, _⟩ => ⟨S8x3520, .f32⟩
  | .hbm, ⟨28, _⟩ => ⟨S8x2048x3072, .f32⟩
  | .hbm, ⟨29, _⟩ => ⟨S8x2048x96, .f32⟩
  | .hbm, ⟨30, _⟩ => ⟨S8x2048x96, .f32⟩
  | .hbm, ⟨31, _⟩ => ⟨S8x2048x256, .f32⟩
  | .hbm, ⟨32, _⟩ => ⟨S_, .i32⟩
  | .hbm, ⟨33, _⟩ => ⟨S_, .f32⟩
  | .hbm, ⟨34, _⟩ => ⟨S8x2048x128, .f32⟩
  | .hbm, ⟨35, _⟩ => ⟨S_, .i32⟩
  | .hbm, ⟨36, _⟩ => ⟨S_, .f32⟩
  | .hbm, ⟨37, _⟩ => ⟨S8x2048x128, .f32⟩
  | .hbm, ⟨38, _⟩ => ⟨S8x2048x3584, .f32⟩
  | .hbm, ⟨39, _⟩ => ⟨S16384x3584, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S8x2048x1024, .bf16⟩
  | .hbm, ⟨44, _⟩ => ⟨S16384x1024, .bf16⟩
  | .hbm, ⟨45, _⟩ => ⟨S8x2048x16x64, .f32⟩
  | .hbm, ⟨46, _⟩ => ⟨S8x2048x16x64, .f32⟩
  | .hbm, ⟨47, _⟩ => ⟨S8x2048x4096, .bf16⟩
  | .hbm, ⟨48, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_c_2 : Ref sig .tc := ⟨.hbm, 35, rfl⟩
abbrev main_call1_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel3.lean ====
abbrev S8x2048x2048 : Shape := ⟨3, ![8, 2048, 2048]⟩
abbrev S2048x11264 : Shape := ⟨2, ![2048, 11264]⟩
abbrev S3x5632 : Shape := ⟨2, ![3, 5632]⟩
abbrev S5632x2048 : Shape := ⟨2, ![5632, 2048]⟩
abbrev S8x2x5632 : Shape := ⟨3, ![8, 2, 5632]⟩
abbrev S_ : Shape := ⟨0, ![]⟩
abbrev S8x6x5632 : Shape := ⟨3, ![8, 6, 5632]⟩
abbrev S8x8x5632 : Shape := ⟨3, ![8, 8, 5632]⟩
abbrev S16384x2048 : Shape := ⟨2, ![16384, 2048]⟩
abbrev S16x8x5632 : Shape := ⟨3, ![16, 8, 5632]⟩
abbrev S1024x2048 : Shape := ⟨2, ![1024, 2048]⟩
abbrev S2048x512 : Shape := ⟨2, ![2048, 512]⟩
abbrev S3x512 : Shape := ⟨2, ![3, 512]⟩
abbrev S512x2048 : Shape := ⟨2, ![512, 2048]⟩
abbrev S1x8x512 : Shape := ⟨3, ![1, 8, 512]⟩
abbrev S11x8x512 : Shape := ⟨3, ![11, 8, 512]⟩
abbrev S1024x512 : Shape := ⟨2, ![1024, 512]⟩
abbrev S8x512 : Shape := ⟨2, ![8, 512]⟩
abbrev S1x512 : Shape := ⟨2, ![1, 512]⟩
abbrev S1016x512 : Shape := ⟨2, ![1016, 512]⟩

abbrev nBuf : Space → Nat
  | .hbm => 14
  | .vmem => 17
  | .smem => 0
  | _ => 0

abbrev bufTy : (tb : Table) → Fin (tcTables nBuf tb) → BufTy
  | .hbm, ⟨0, _⟩ => ⟨S8x2048x2048, .f32⟩
  | .hbm, ⟨1, _⟩ => ⟨S2048x11264, .f32⟩
  | .hbm, ⟨2, _⟩ => ⟨S3x5632, .f32⟩
  | .hbm, ⟨3, _⟩ => ⟨S5632x2048, .f32⟩
  | .hbm, ⟨4, _⟩ => ⟨S8x2x5632, .f32⟩
  | .hbm, ⟨5, _⟩ => ⟨S_, .f32⟩
  | .hbm, ⟨6, _⟩ => ⟨S8x6x5632, .f32⟩
  | .hbm, ⟨7, _⟩ => ⟨S8x8x5632, .f32⟩
  | .hbm, ⟨8, _⟩ => ⟨S16384x2048, .f32⟩
  | .hbm, ⟨9, _⟩ => ⟨S16384x2048, .bf16⟩
  | .hbm, ⟨10, _⟩ => ⟨S2048x11264, .bf16⟩
  | .hbm, ⟨11, _⟩ => ⟨S5632x2048, .bf16⟩
  | .hbm, ⟨12, _⟩ => ⟨S16384x2048, .f32⟩
  | .hbm, ⟨13, _⟩ => ⟨S16x8x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S512x2048, .bf16⟩
  | .local _ .vmem, ⟨9, _⟩ => ⟨S512x2048, .bf16⟩
  | .local _ .vmem, ⟨10, _⟩ => ⟨S1x8x512, .f32⟩
  | .local _ .vmem, ⟨11, _⟩ => ⟨S1x8x512, .f32⟩
  | .local _ .vmem, ⟨12, _⟩ => ⟨S1024x2048, .f32⟩
  | .local _ .vmem, ⟨13, _⟩ => ⟨S1024x2048, .f32⟩
  | .local _ .vmem, ⟨14, _⟩ => ⟨S1x8x512, .f32⟩
  | .local _ .vmem, ⟨15, _⟩ => ⟨S1x8x512, .f32⟩
  | .local _ .vmem, ⟨16, _⟩ => ⟨S11x8x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 11], ![false, false]⟩

def k0_off1 (i : grid0.Coords) : Fin 3 → Nat :=
  let arg1 : BitVec 32 := BitVec.ofNat 32 (i 1).val
  let v26 : Index := Scalar.indexCast arg1
  let c0_17 : Index := 0#32
  let c0_18 : Index := 0#32
  ![v26.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x2048x2048 : Shape := ⟨3, ![8, 2048, 2048]⟩
abbrev S2048x11264 : Shape := ⟨2, ![2048, 11264]⟩
abbrev S3x5632 : Shape := ⟨2, ![3, 5632]⟩
abbrev S5632x2048 : Shape := ⟨2, ![5632, 2048]⟩
abbrev S8x2x5632 : Shape := ⟨3, ![8, 2, 5632]⟩
abbrev S8x2048x11264 : Shape := ⟨3, ![8, 2048, 11264]⟩
abbrev S8x2048x5632 : Shape := ⟨3, ![8, 2048, 5632]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S_ : Shape := ⟨0, ![]⟩
abbrev S16x1024x5632 : Shape := ⟨3, ![16, 1024, 5632]⟩
abbrev S16x8x5632 : Shape := ⟨3, ![16, 8, 5632]⟩
abbrev S16384x2048 : Shape := ⟨2, ![16384, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x11264, .f32⟩
  | .hbm, ⟨2, _⟩ => ⟨S3x5632, .f32⟩
  | .hbm, ⟨3, _⟩ => ⟨S5632x2048, .f32⟩
  | .hbm, ⟨4, _⟩ => ⟨S8x2x5632, .f32⟩
  | .hbm, ⟨5, _⟩ => ⟨S8x2048x11264, .f32⟩
  | .hbm, ⟨6, _⟩ => ⟨S8x2048x5632, .f32⟩
  | .hbm, ⟨7, _⟩ => ⟨S8x2048x5632, .f32⟩
  | .hbm, ⟨8, _⟩ => ⟨S8x2050x5632, .f32⟩
  | .hbm, ⟨9, _⟩ => ⟨S1x5632, .f32⟩
  | .hbm, ⟨10, _⟩ => ⟨S5632, .f32⟩
  | .hbm, ⟨11, _⟩ => ⟨S8x2048x5632, .f32⟩
  | .hbm, ⟨12, _⟩ => ⟨S1x1x5632, .f32⟩
  | .hbm, ⟨13, _⟩ => ⟨S8x2048x5632, .f32⟩
  | .hbm, ⟨14, _⟩ => ⟨S8x2048x5632, .f32⟩
  | .hbm, ⟨15, _⟩ => ⟨S_, .f32⟩
  | .hbm, ⟨16, _⟩ => ⟨S8x2048x5632, .f32⟩
  | .hbm, ⟨17, _⟩ => ⟨S8x2048x5632, .f32⟩
  | .hbm, ⟨18, _⟩ => ⟨S1x5632, .f32⟩
  | .hbm, ⟨19, _⟩ => ⟨S5632, .f32⟩
  | .hbm, ⟨20, _⟩ => ⟨S8x2048x5632, .f32⟩
  | .hbm, ⟨21, _⟩ => ⟨S1x1x5632, .f32⟩
  | .hbm, ⟨22, _⟩ => ⟨S8x2048x5632, .f32⟩
  | .hbm, ⟨23, _⟩ => ⟨S8x2048x5632, .f32⟩
  | .hbm, ⟨24, _⟩ => ⟨S8x2048x5632, .f32⟩
  | .hbm, ⟨25, _⟩ => ⟨S1x5632, .f32⟩
  | .hbm, ⟨26, _⟩ => ⟨S5632, .f32⟩
  | .hbm, ⟨27, _⟩ => ⟨S8x2048x5632, .f32⟩
  | .hbm, ⟨28, _⟩ => ⟨S1x1x5632, .f32⟩
  | .hbm, ⟨29, _⟩ => ⟨S8x2048x5632, .f32⟩
  | .hbm, ⟨30, _⟩ => ⟨S8x2048x5632, .f32⟩
  | .hbm, ⟨31, _⟩ => ⟨S8x2048x5632, .f32⟩
  | .hbm, ⟨32, _⟩ => ⟨S16x1024x5632, .f32⟩
  | .hbm, ⟨33, _⟩ => ⟨S16x8x5632, .f32⟩
  | .hbm, ⟨34, _⟩ => ⟨S8x2048x5632, .f32⟩
  | .hbm, ⟨35, _⟩ => ⟨S8x2048x5632, .f32⟩
  | .hbm, ⟨36, _⟩ => ⟨S_, .f32⟩
  | .hbm, ⟨37, _⟩ => ⟨S8x2048x5632, .f32⟩
  | .hbm, ⟨38, _⟩ => ⟨S8x2048x5632, .f32⟩
  | .hbm, ⟨39, _⟩ => ⟨S8x2048x5632, .f32⟩
  | .hbm, ⟨40, _⟩ => ⟨S_, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S_, .f32⟩
  | .hbm, ⟨45, _⟩ => ⟨S8x2048x5632, .f32⟩
  | .hbm, ⟨46, _⟩ => ⟨S8x2048x5632, .f32⟩
  | .hbm, ⟨47, _⟩ => ⟨S_, .f32⟩
  | .hbm, ⟨48, _⟩ => ⟨S8x2048x5632, .f32⟩
  | .hbm, ⟨49, _⟩ => ⟨S8x2048x5632, .f32⟩
  | .hbm, ⟨50, _⟩ => ⟨S8x2048x5632, .f32⟩
  | .hbm, ⟨51, _⟩ => ⟨S8x2048x5632, .f32⟩
  | .hbm, ⟨52, _⟩ => ⟨S8x2048x2048, .f32⟩
  | .hbm, ⟨53, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x4096 : Shape := ⟨3, ![8, 2048, 4096]⟩
abbrev S8x2048x2048 : Shape := ⟨3, ![8, 2048, 2048]⟩
abbrev S1024x2048 : Shape := ⟨2, ![1024, 2048]⟩
abbrev S2048x2048 : Shape := ⟨2, ![2048, 2048]⟩
abbrev S2048 : Shape := ⟨1, ![2048]⟩
abbrev S16384x1024 : Shape := ⟨2, ![16384, 1024]⟩
abbrev S16384x4096 : Shape := ⟨2, ![16384, 4096]⟩
abbrev S16384x2048 : Shape := ⟨2, ![16384, 2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x4096, .f32⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S16384x4096, .f32⟩
  | .hbm, ⟨13, _⟩ => ⟨S16384x4096, .bf16⟩
  | .hbm, ⟨14, _⟩ => ⟨S16384x2048, .f32⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S1x2048, .f32⟩
  | .hbm, ⟨19, _⟩ => ⟨S16384x2048, .f32⟩
  | .hbm, ⟨20, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel4Ideal.lean ====
abbrev S8x2048x1024 : Shape := ⟨3, ![8, 2048, 1024]⟩
abbrev S8x2048x4096 : Shape := ⟨3, ![8, 2048, 4096]⟩
abbrev S8x2048x2048 : Shape := ⟨3, ![8, 2048, 2048]⟩
abbrev S1024x2048 : Shape := ⟨2, ![1024, 2048]⟩
abbrev S2048x2048 : Shape := ⟨2, ![2048, 2048]⟩
abbrev S2048 : Shape := ⟨1, ![2048]⟩
abbrev S16384x1024 : Shape := ⟨2, ![16384, 1024]⟩
abbrev S16384x4096 : Shape := ⟨2, ![16384, 4096]⟩
abbrev S16384x2048 : Shape := ⟨2, ![16384, 2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x4096, .f32⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .hbm, ⟨12, _⟩ => ⟨S16384x4096, .f32⟩
  | .hbm, ⟨13, _⟩ => ⟨S16384x4096, .bf16⟩
  | .hbm, ⟨14, _⟩ => ⟨S16384x2048, .f32⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S1x2048, .f32⟩
  | .hbm, ⟨19, _⟩ => ⟨S16384x2048, .f32⟩
  | .hbm, ⟨20, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x2048x1024 : Shape := ⟨3, ![8, 2048, 1024]⟩
abbrev S8x2048x4096 : Shape := ⟨3, ![8, 2048, 4096]⟩
abbrev S8x2048x2048 : Shape := ⟨3, ![8, 2048, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x4096, .f32⟩
  | .hbm, ⟨3, _⟩ => ⟨S8x2048x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S1x1x2048, .f32⟩
  | .hbm, ⟨47, _⟩ => ⟨S8x2048x2048, .f32⟩
  | .hbm, ⟨48, _⟩ => ⟨S8x2048x2048, .f32⟩
  | .hbm, ⟨49, _⟩ => ⟨S16384x2048, .f32⟩
  | .hbm, ⟨50, _⟩ => ⟨S16384x2048, .f32⟩
  | .hbm, ⟨51, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel5.lean ====
abbrev S8x2048x2048 : Shape := ⟨3, ![8, 2048, 2048]⟩
abbrev S8x2048x256 : Shape := ⟨3, ![8, 2048, 256]⟩
abbrev S256x2048 : Shape := ⟨2, ![256, 2048]⟩
abbrev S2048x2048 : Shape := ⟨2, ![2048, 2048]⟩
abbrev S2048 : Shape := ⟨1, ![2048]⟩
abbrev S16384x2048 : Shape := ⟨2, ![16384, 2048]⟩
abbrev S16384x256 : Shape := ⟨2, ![16384, 256]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x256, .f32⟩
  | .hbm, ⟨10, _⟩ => ⟨S256x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
abbrev S8x2048x2048 : Shape := ⟨3, ![8, 2048, 2048]⟩
abbrev S8x2048x256 : Shape := ⟨3, ![8, 2048, 256]⟩
abbrev S256x2048 : Shape := ⟨2, ![256, 2048]⟩
abbrev S2048x2048 : Shape := ⟨2, ![2048, 2048]⟩
abbrev S2048 : Shape := ⟨1, ![2048]⟩
abbrev S16384x2048 : Shape := ⟨2, ![16384, 2048]⟩
abbrev S16384x256 : Shape := ⟨2, ![16384, 256]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x256, .f32⟩
  | .hbm, ⟨10, _⟩ => ⟨S256x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S256x2048, .bf16⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8x2048x2048 : Shape := ⟨3, ![8, 2048, 2048]⟩
abbrev S8x2048x256 : Shape := ⟨3, ![8, 2048, 256]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S8x2048x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S1x1x2048, .f32⟩
  | .hbm, ⟨50, _⟩ => ⟨S8x2048x2048, .f32⟩
  | .hbm, ⟨51, _⟩ => ⟨S8x2048x2048, .f32⟩
  | .hbm, ⟨52, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel6.lean ====
abbrev S32x8x1024 : Shape := ⟨3, ![32, 8, 1024]⟩
abbrev S32x8x4096 : Shape := ⟨3, ![32, 8, 4096]⟩
abbrev S32x8x2048 : Shape := ⟨3, ![32, 8, 2048]⟩
abbrev S1024x2048 : Shape := ⟨2, ![1024, 2048]⟩
abbrev S2048x2048 : Shape := ⟨2, ![2048, 2048]⟩
abbrev S2048 : Shape := ⟨1, ![2048]⟩
abbrev S256x1024 : Shape := ⟨2, ![256, 1024]⟩
abbrev S256x4096 : Shape := ⟨2, ![256, 4096]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 21
  | .vmem => 11
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x4096, .f32⟩
  | .hbm, ⟨3, _⟩ => ⟨S32x8x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S256x1024, .bf16⟩
  | .hbm, ⟨12, _⟩ => ⟨S256x4096, .f32⟩
  | .hbm, ⟨13, _⟩ => ⟨S256x4096, .bf16⟩
  | .hbm, ⟨14, _⟩ => ⟨S256x2048, .f32⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S1x2048, .f32⟩
  | .hbm, ⟨19, _⟩ => ⟨S256x2048, .f32⟩
  | .hbm, ⟨20, _⟩ => ⟨S256x2048, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S1024x2048, .bf16⟩
  | .local _ .vmem, ⟨6, _⟩ => ⟨S1024x2048, .bf16⟩
  | .local _ .vmem, ⟨7, _⟩ => ⟨S2048x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S32x8x1024 : Shape := ⟨3, ![32, 8, 1024]⟩
abbrev S32x8x4096 : Shape := ⟨3, ![32, 8, 4096]⟩
abbrev S32x8x2048 : Shape := ⟨3, ![32, 8, 2048]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S256x2048 : Shape := ⟨2, ![256, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x4096, .f32⟩
  | .hbm, ⟨3, _⟩ => ⟨S32x8x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S32x8x2048, .f32⟩
  | .hbm, ⟨9, _⟩ => ⟨S32x8x2048, .f32⟩
  | .hbm, ⟨10, _⟩ => ⟨S32x8x2048, .f32⟩
  | .hbm, ⟨11, _⟩ => ⟨S32x8x2048, .f32⟩
  | .hbm, ⟨12, _⟩ => ⟨S_, .f32⟩
  | .hbm, ⟨13, _⟩ => ⟨S32x8x2048, .f32⟩
  | .hbm, ⟨14, _⟩ => ⟨S32x8x2048, .f32⟩
  | .hbm, ⟨15, _⟩ => ⟨S_, .f32⟩
  | .hbm, ⟨16, _⟩ => ⟨S32x8x2048, .f32⟩
  | .hbm, ⟨17, _⟩ => ⟨S32x8x2048, .f32⟩
  | .hbm, ⟨18, _⟩ => ⟨S32x8x2048, .f32⟩
  | .hbm, ⟨19, _⟩ => ⟨S32x8x2048, .f32⟩
  | .hbm, ⟨20, _⟩ => ⟨S32x8x2048, .f32⟩
  | .hbm, ⟨21, _⟩ => ⟨S32x8x2048, .f32⟩
  | .hbm, ⟨22, _⟩ => ⟨S_, .f32⟩
  | .hbm, ⟨23, _⟩ => ⟨S32x8x2048, .f32⟩
  | .hbm, ⟨24, _⟩ => ⟨S32x8x2048, .f32⟩
  | .hbm, ⟨25, _⟩ => ⟨S_, .f32⟩
  | .hbm, ⟨26, _⟩ => ⟨S32x8x2048, .f32⟩
  | .hbm, ⟨27, _⟩ => ⟨S32x8x2048, .f32⟩
  | .hbm, ⟨28, _⟩ => ⟨S32x8x2048, .f32⟩
  | .hbm, ⟨29, _⟩ => ⟨S32x8x2048, .f32⟩
  | .hbm, ⟨30, _⟩ => ⟨S32x8x2048, .f32⟩
  | .hbm, ⟨31, _⟩ => ⟨S32x8x2048, .f32⟩
  | .hbm, ⟨32, _⟩ => ⟨S32x8x2048, .f32⟩
  | .hbm, ⟨33, _⟩ => ⟨S32x8x2048, .f32⟩
  | .hbm, ⟨34, _⟩ => ⟨S_, .f32⟩
  | .hbm, ⟨35, _⟩ => ⟨S32x8, .f32⟩
  | .hbm, ⟨36, _⟩ => ⟨S32x8x1, .f32⟩
  | .hbm, ⟨37, _⟩ => ⟨S_, .f32⟩
  | .hbm, ⟨38, _⟩ => ⟨S32x8x1, .f32⟩
  | .hbm, ⟨39, _⟩ => ⟨S32x8x1, .f32⟩
  | .hbm, ⟨40, _⟩ => ⟨S_, .f32⟩
  | .hbm, ⟨41, _⟩ => ⟨S32x8x1, .f32⟩
  | .hbm, ⟨42, _⟩ => ⟨S32x8x1, .f32⟩
  | .hbm, ⟨43, _⟩ => ⟨S32x8x1, .f32⟩
  | .hbm, ⟨44, _⟩ => ⟨S32x8x2048, .f32⟩
  | .hbm, ⟨45, _⟩ => ⟨S32x8x2048, .f32⟩
  | .hbm, ⟨46, _⟩ => ⟨S1x1x2048, .f32⟩
  | .hbm, ⟨47, _⟩ => ⟨S32x8x2048, .f32⟩
  | .hbm, ⟨48, _⟩ => ⟨S32x8x2048, .f32⟩
  | .hbm, ⟨49, _⟩ => ⟨S256x2048, .f32⟩
  | .hbm, ⟨50, _⟩ => ⟨S256x2048, .f32⟩
  | .hbm, ⟨51, _⟩ => ⟨S256x2048, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel7.lean ====
abbrev S32x8x2048 : Shape := ⟨3, ![32, 8, 2048]⟩
abbrev S32x8x256 : Shape := ⟨3, ![32, 8, 256]⟩
abbrev S256x2048 : Shape := ⟨2, ![256, 2048]⟩
abbrev S2048x2048 : Shape := ⟨2, ![2048, 2048]⟩
abbrev S2048 : Shape := ⟨1, ![2048]⟩
abbrev S256x256 : Shape := ⟨2, ![256, 256]⟩
abbrev S1x2048 : Shape := ⟨2, ![1, 2048]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S32x8x2048, .f32⟩
  | .hbm, ⟨1, _⟩ => ⟨S32x8x2048, .f32⟩
  | .hbm, ⟨2, _⟩ => ⟨S32x8x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S256x2048, .f32⟩
  | .hbm, ⟨8, _⟩ => ⟨S256x2048, .f32⟩
  | .hbm, ⟨9, _⟩ => ⟨S256x256, .f32⟩
  | .hbm, ⟨10, _⟩ => ⟨S256x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x256, .f32⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S32x8x2048 : Shape := ⟨3, ![32, 8, 2048]⟩
abbrev S32x8x256 : Shape := ⟨3, ![32, 8, 256]⟩
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x8x2048, .f32⟩
  | .hbm, ⟨2, _⟩ => ⟨S32x8x256, .f32⟩
  | .hbm, ⟨3, _⟩ => ⟨S256x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S32x8x2048, .f32⟩
  | .hbm, ⟨8, _⟩ => ⟨S32x8x2048, .f32⟩
  | .hbm, ⟨9, _⟩ => ⟨S_, .f32⟩
  | .hbm, ⟨10, _⟩ => ⟨S32x8, .f32⟩
  | .hbm, ⟨11, _⟩ => ⟨S32x8x1, .f32⟩
  | .hbm, ⟨12, _⟩ => ⟨S_, .f32⟩
  | .hbm, ⟨13, _⟩ => ⟨S32x8x1, .f32⟩
  | .hbm, ⟨14, _⟩ => ⟨S32x8x1, .f32⟩
  | .hbm, ⟨15, _⟩ => ⟨S_, .f32⟩
  | .hbm, ⟨16, _⟩ => ⟨S32x8x1, .f32⟩
  | .hbm, ⟨17, _⟩ => ⟨S32x8x1, .f32⟩
  | .hbm, ⟨18, _⟩ => ⟨S32x8x1, .f32⟩
  | .hbm, ⟨19, _⟩ => ⟨S32x8x2048, .f32⟩
  | .hbm, ⟨20, _⟩ => ⟨S32x8x2048, .f32⟩
  | .hbm, ⟨21, _⟩ => ⟨S1x1x2048, .f32⟩
  | .hbm, ⟨22, _⟩ => ⟨S32x8x2048, .f32⟩
  | .hbm, ⟨23, _⟩ => ⟨S32x8x2048, .f32⟩
  | .hbm, ⟨24, _⟩ => ⟨S32x8x2048, .f32⟩
  | .hbm, ⟨25, _⟩ => ⟨S32x8x2048, .f32⟩
  | .hbm, ⟨26, _⟩ => ⟨S32x8x2048, .f32⟩
  | .hbm, ⟨27, _⟩ => ⟨S32x8x2048, .f32⟩
  | .hbm, ⟨28, _⟩ => ⟨S_, .f32⟩
  | .hbm, ⟨29, _⟩ => ⟨S32x8x2048, .f32⟩
  | .hbm, ⟨30, _⟩ => ⟨S32x8x2048, .f32⟩
  | .hbm, ⟨31, _⟩ => ⟨S_, .f32⟩
  | .hbm, ⟨32, _⟩ => ⟨S32x8x2048, .f32⟩
  | .hbm, ⟨33, _⟩ => ⟨S32x8x2048, .f32⟩
  | .hbm, ⟨34, _⟩ => ⟨S32x8x2048, .f32⟩
  | .hbm, ⟨35, _⟩ => ⟨S32x8x2048, .f32⟩
  | .hbm, ⟨36, _⟩ => ⟨S32x8x2048, .f32⟩
  | .hbm, ⟨37, _⟩ => ⟨S_, .f32⟩
  | .hbm, ⟨38, _⟩ => ⟨S32x8, .f32⟩
  | .hbm, ⟨39, _⟩ => ⟨S32x8x1, .f32⟩
  | .hbm, ⟨40, _⟩ => ⟨S_, .f32⟩
  | .hbm, ⟨41, _⟩ => ⟨S32x8x1, .f32⟩
  | .hbm, ⟨42, _⟩ => ⟨S32x8x1, .f32⟩
  | .hbm, ⟨43, _⟩ => ⟨S_, .f32⟩
  | .hbm, ⟨44, _⟩ => ⟨S32x8x1, .f32⟩
  | .hbm, ⟨45, _⟩ => ⟨S32x8x1, .f32⟩
  | .hbm, ⟨46, _⟩ => ⟨S32x8x1, .f32⟩
  | .hbm, ⟨47, _⟩ => ⟨S32x8x2048, .f32⟩
  | .hbm, ⟨48, _⟩ => ⟨S32x8x2048, .f32⟩
  | .hbm, ⟨49, _⟩ => ⟨S1x1x2048, .f32⟩
  | .hbm, ⟨50, _⟩ => ⟨S32x8x2048, .f32⟩
  | .hbm, ⟨51, _⟩ => ⟨S32x8x2048, .f32⟩
  | .hbm, ⟨52, _⟩ => ⟨S256x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel8.lean ====
abbrev S32x8x2048 : Shape := ⟨3, ![32, 8, 2048]⟩
abbrev S2048x11264 : Shape := ⟨2, ![2048, 11264]⟩
abbrev S3x5632 : Shape := ⟨2, ![3, 5632]⟩
abbrev S5632x2048 : Shape := ⟨2, ![5632, 2048]⟩
abbrev S32x2x5632 : Shape := ⟨3, ![32, 2, 5632]⟩
abbrev S_ : Shape := ⟨0, ![]⟩
abbrev S32x6x5632 : Shape := ⟨3, ![32, 6, 5632]⟩
abbrev S32x8x5632 : Shape := ⟨3, ![32, 8, 5632]⟩
abbrev S256x5632 : Shape := ⟨2, ![256, 5632]⟩
abbrev S256x2048 : Shape := ⟨2, ![256, 2048]⟩
abbrev S2048x512 : Shape := ⟨2, ![2048, 512]⟩
abbrev S3x512 : Shape := ⟨2, ![3, 512]⟩
abbrev S512x2048 : Shape := ⟨2, ![512, 2048]⟩
abbrev S256x512 : Shape := ⟨2, ![256, 512]⟩
abbrev S11x8x512 : Shape := ⟨3, ![11, 8, 512]⟩
abbrev S1x512 : Shape := ⟨2, ![1, 512]⟩

abbrev nBuf : Space → Nat
  | .hbm => 15
  | .vmem => 15
  | .smem => 0
  | _ => 0

abbrev bufTy : (tb : Table) → Fin (tcTables nBuf tb) → BufTy
  | .hbm, ⟨0, _⟩ => ⟨S32x8x2048, .f32⟩
  | .hbm, ⟨1, _⟩ => ⟨S2048x11264, .f32⟩
  | .hbm, ⟨2, _⟩ => ⟨S3x5632, .f32⟩
  | .hbm, ⟨3, _⟩ => ⟨S5632x2048, .f32⟩
  | .hbm, ⟨4, _⟩ => ⟨S32x2x5632, .f32⟩
  | .hbm, ⟨5, _⟩ => ⟨S_, .f32⟩
  | .hbm, ⟨6, _⟩ => ⟨S32x6x5632, .f32⟩
  | .hbm, ⟨7, _⟩ => ⟨S32x8x5632, .f32⟩
  | .hbm, ⟨8, _⟩ => ⟨S256x5632, .f32⟩
  | .hbm, ⟨9, _⟩ => ⟨S256x2048, .f32⟩
  | .hbm, ⟨10, _⟩ => ⟨S256x2048, .bf16⟩
  | .hbm, ⟨11, _⟩ => ⟨S2048x11264, .bf16⟩
  | .hbm, ⟨12, _⟩ => ⟨S5632x2048, .bf16⟩
  | .hbm, ⟨13, _⟩ => ⟨S256x2048, .f32⟩
  | .hbm, ⟨14, _⟩ => ⟨S256x5632, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S512x2048, .bf16⟩
  | .local _ .vmem, ⟨8, _⟩ => ⟨S512x2048, .bf16⟩
  | .local _ .vmem, ⟨9, _⟩ => ⟨S256x512, .f32⟩
  | .local _ .vmem, ⟨10, _⟩ => ⟨S256x512, .f32⟩
  | .local _ .vmem, ⟨11, _⟩ => ⟨S256x2048, .f32⟩
  | .local _ .vmem, ⟨12, _⟩ => ⟨S256x512, .f32⟩
  | .local _ .vmem, ⟨13, _⟩ => ⟨S256x512, .f32⟩
  | .local _ .vmem, ⟨14, _⟩ => ⟨S11x8x512, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S32x8x2048 : Shape := ⟨3, ![32, 8, 2048]⟩
abbrev S2048x11264 : Shape := ⟨2, ![2048, 11264]⟩
abbrev S3x5632 : Shape := ⟨2, ![3, 5632]⟩
abbrev S5632x2048 : Shape := ⟨2, ![5632, 2048]⟩
abbrev S32x2x5632 : Shape := ⟨3, ![32, 2, 5632]⟩
abbrev S32x8x11264 : Shape := ⟨3, ![32, 8, 11264]⟩
abbrev S32x8x5632 : Shape := ⟨3, ![32, 8, 5632]⟩
abbrev S32x10x5632 : Shape := ⟨3, ![32, 10, 5632]⟩
abbrev S1x5632 : Shape := ⟨2, ![1, 5632]⟩
abbrev S5632 : Shape := ⟨1, ![5632]⟩
abbrev S1x1x5632 : Shape := ⟨3, ![1, 1, 5632]⟩
abbrev S_ : Shape := ⟨0, ![]⟩
abbrev S256x2048 : Shape := ⟨2, ![256, 2048]⟩
abbrev S256x5632 : Shape := ⟨2, ![256, 5632]⟩

abbrev nBuf : Space → Nat
  | .hbm => 53
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2048x11264, .f32⟩
  | .hbm, ⟨2, _⟩ => ⟨S3x5632, .f32⟩
  | .hbm, ⟨3, _⟩ => ⟨S5632x2048, .f32⟩
  | .hbm, ⟨4, _⟩ => ⟨S32x2x5632, .f32⟩
  | .hbm, ⟨5, _⟩ => ⟨S32x8x11264, .f32⟩
  | .hbm, ⟨6, _⟩ => ⟨S32x8x5632, .f32⟩
  | .hbm, ⟨7, _⟩ => ⟨S32x8x5632, .f32⟩
  | .hbm, ⟨8, _⟩ => ⟨S32x10x5632, .f32⟩
  | .hbm, ⟨9, _⟩ => ⟨S1x5632, .f32⟩
  | .hbm, ⟨10, _⟩ => ⟨S5632, .f32⟩
  | .hbm, ⟨11, _⟩ => ⟨S32x8x5632, .f32⟩
  | .hbm, ⟨12, _⟩ => ⟨S1x1x5632, .f32⟩
  | .hbm, ⟨13, _⟩ => ⟨S32x8x5632, .f32⟩
  | .hbm, ⟨14, _⟩ => ⟨S32x8x5632, .f32⟩
  | .hbm, ⟨15, _⟩ => ⟨S_, .f32⟩
  | .hbm, ⟨16, _⟩ => ⟨S32x8x5632, .f32⟩
  | .hbm, ⟨17, _⟩ => ⟨S32x8x5632, .f32⟩
  | .hbm, ⟨18, _⟩ => ⟨S1x5632, .f32⟩
  | .hbm, ⟨19, _⟩ => ⟨S5632, .f32⟩
  | .hbm, ⟨20, _⟩ => ⟨S32x8x5632, .f32⟩
  | .hbm, ⟨21, _⟩ => ⟨S1x1x5632, .f32⟩
  | .hbm, ⟨22, _⟩ => ⟨S32x8x5632, .f32⟩
  | .hbm, ⟨23, _⟩ => ⟨S32x8x5632, .f32⟩
  | .hbm, ⟨24, _⟩ => ⟨S32x8x5632, .f32⟩
  | .hbm, ⟨25, _⟩ => ⟨S1x5632, .f32⟩
  | .hbm, ⟨26, _⟩ => ⟨S5632, .f32⟩
  | .hbm, ⟨27, _⟩ => ⟨S32x8x5632, .f32⟩
  | .hbm, ⟨28, _⟩ => ⟨S1x1x5632, .f32⟩
  | .hbm, ⟨29, _⟩ => ⟨S32x8x5632, .f32⟩
  | .hbm, ⟨30, _⟩ => ⟨S32x8x5632, .f32⟩
  | .hbm, ⟨31, _⟩ => ⟨S32x8x5632, .f32⟩
  | .hbm, ⟨32, _⟩ => ⟨S32x8x5632, .f32⟩
  | .hbm, ⟨33, _⟩ => ⟨S32x8x5632, .f32⟩
  | .hbm, ⟨34, _⟩ => ⟨S_, .f32⟩
  | .hbm, ⟨35, _⟩ => ⟨S32x8x5632, .f32⟩
  | .hbm, ⟨36, _⟩ => ⟨S32x8x5632, .f32⟩
  | .hbm, ⟨37, _⟩ => ⟨S32x8x5632, .f32⟩
  | .hbm, ⟨38, _⟩ => ⟨S_, .f32⟩
  | .hbm, ⟨39, _⟩ => ⟨S32x8x5632, .f32⟩
  | .hbm, ⟨40, _⟩ => ⟨S32x8x5632, .f32⟩
  | .hbm, ⟨41, _⟩ => ⟨S32x8x5632, .f32⟩
  | .hbm, ⟨42, _⟩ => ⟨S_, .f32⟩
  | .hbm, ⟨43, _⟩ => ⟨S32x8x5632, .f32⟩
  | .hbm, ⟨44, _⟩ => ⟨S32x8x5632, .f32⟩
  | .hbm, ⟨45, _⟩ => ⟨S_, .f32⟩
  | .hbm, ⟨46, _⟩ => ⟨S32x8x5632, .f32⟩
  | .hbm, ⟨47, _⟩ => ⟨S32x8x5632, .f32⟩
  | .hbm, ⟨48, _⟩ => ⟨S32x8x5632, .f32⟩
  | .hbm, ⟨49, _⟩ => ⟨S32x8x5632, .f32⟩
  | .hbm, ⟨50, _⟩ => ⟨S32x8x2048, .f32⟩
  | .hbm, ⟨51, _⟩ => ⟨S256x2048, .f32⟩
  | .hbm, ⟨52, _⟩ => ⟨S256x5632, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel9.lean ====
abbrev S32x8x2048 : Shape := ⟨3, ![32, 8, 2048]⟩
abbrev S2048 : Shape := ⟨1, ![2048]⟩
abbrev S2048x10688 : Shape := ⟨2, ![2048, 10688]⟩
abbrev S2048x3520 : Shape := ⟨2, ![2048, 3520]⟩
abbrev S2048x3072 : Shape := ⟨2, ![2048, 3072]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S2048x3584 : Shape := ⟨2, ![2048, 3584]⟩
abbrev S2048x1024 : Shape := ⟨2, ![2048, 1024]⟩
abbrev S2048x4096 : Shape := ⟨2, ![2048, 4096]⟩
abbrev S2048x10752 : Shape := ⟨2, ![2048, 10752]⟩
abbrev S10688x2048 : Shape := ⟨2, ![10688, 2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S256x3584 : Shape := ⟨2, ![256, 3584]⟩
abbrev S256x1024 : Shape := ⟨2, ![256, 1024]⟩
abbrev S256x4096 : Shape := ⟨2, ![256, 4096]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩
abbrev S32x8x16x64 : Shape := ⟨4, ![32, 8, 16, 64]⟩
abbrev S32x8x3584 : Shape := ⟨3, ![32, 8, 3584]⟩
abbrev S32x1x3584 : Shape := ⟨3, ![32, 1, 3584]⟩
abbrev S32x3584 : Shape := ⟨2, ![32, 3584]⟩
abbrev S32x3072 : Shape := ⟨2, ![32, 3072]⟩
abbrev S32x96 : Shape := ⟨2, ![32, 96]⟩
abbrev S32x256 : Shape := ⟨2, ![32, 256]⟩
abbrev S32x3520 : Shape := ⟨2, ![32, 3520]⟩

abbrev nBuf : Space → Nat
  | .hbm => 49
  | .vmem => 17
  | .smem => 0
  | _ => 0

abbrev bufTy : (tb : Table) → Fin (tcTables nBuf tb) → BufTy
  | .hbm, ⟨0, _⟩ => ⟨S32x8x2048, .f32⟩
  | .hbm, ⟨1, _⟩ => ⟨S2048, .f32⟩
  | .hbm, ⟨2, _⟩ => ⟨S2048x10688, .f32⟩
  | .hbm, ⟨3, _⟩ => ⟨S2048x3520, .f32⟩
  | .hbm, ⟨4, _⟩ => ⟨S2048x3072, .f32⟩
  | .hbm, ⟨5, _⟩ => ⟨S2048x96, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x96, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x256, .f32⟩
  | .hbm, ⟨14, _⟩ => ⟨S2048x3584, .f32⟩
  | .hbm, ⟨15, _⟩ => ⟨S2048x3584, .bf16⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .bf16⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .bf16⟩
  | .hbm, ⟨25, _⟩ => ⟨S2048x4096, .f32⟩
  | .hbm, ⟨26, _⟩ => ⟨S2048x4096, .bf16⟩
  | .hbm, ⟨27, _⟩ => ⟨S2048x10752, .bf16⟩
  | .hbm, ⟨28, _⟩ => ⟨S10688x2048, .f32⟩
  | .hbm, ⟨29, _⟩ => ⟨S2048x2048, .f32⟩
  | .hbm, ⟨30, _⟩ => ⟨S2048x2048, .bf16⟩
  | .hbm, ⟨31, _⟩ => ⟨S256x2048, .f32⟩
  | .hbm, ⟨32, _⟩ => ⟨S1x2048, .f32⟩
  | .hbm, ⟨33, _⟩ => ⟨S512x2048, .bf16⟩
  | .hbm, ⟨34, _⟩ => ⟨S256x3584, .f32⟩
  | .hbm, ⟨35, _⟩ => ⟨S256x1024, .bf16⟩
  | .hbm, ⟨36, _⟩ => ⟨S256x1024, .f32⟩
  | .hbm, ⟨37, _⟩ => ⟨S256x1024, .f32⟩
  | .hbm, ⟨38, _⟩ => ⟨S256x4096, .bf16⟩
  | .hbm, ⟨39, _⟩ => ⟨S32x8x16x64, .f32⟩
  | .hbm, ⟨40, _⟩ => ⟨S32x8x16x64, .f32⟩
  | .hbm, ⟨41, _⟩ => ⟨S32x8x3584, .f32⟩
  | .hbm, ⟨42, _⟩ => ⟨S32x1x3584, .f32⟩
  | .hbm, ⟨43, _⟩ => ⟨S32x3584, .f32⟩
  | .hbm, ⟨44, _⟩ => ⟨S32x3072, .f32⟩
  | .hbm, ⟨45, _⟩ => ⟨S32x96, .f32⟩
  | .hbm, ⟨46, _⟩ => ⟨S32x96, .f32⟩
  | .hbm, ⟨47, _⟩ => ⟨S32x256, .f32⟩
  | .hbm, ⟨48, _⟩ => ⟨S32x3520, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 21], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c7_i32_3 : BitVec 32 := 7#32
  let v8 : BitVec 1 := Scalar.cmpi .sge arg1 c7_i32_3
  let c9_i32 : BitVec 32 := 9#32
  let v9 : BitVec 1 := Scalar.cmpi .slt arg1 c9_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c9_i32_5 : BitVec 32 := 9#32
  let v13 : BitVec 1 := Scalar.cmpi .sge arg1 c9_i32_5
  let c11_i32 : BitVec 32 := 11#32
  let v14 : BitVec 1 := Scalar.cmpi .slt arg1 c11_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c11_i32_7 : BitVec 32 := 11#32
  let v18 : BitVec 1 := Scalar.cmpi .sge arg1 c11_i32_7
  let c13_i32 : BitVec 32 := 13#32
  let v19 : BitVec 1 := Scalar.cmpi .slt arg1 c13_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c13_i32_9 : BitVec 32 := 13#32
  let v23 : BitVec 1 := Scalar.cmpi .sge arg1 c13_i32_9
  let c21_i32 : BitVec 32 := 21#32
  let v24 : BitVec 1 := Scalar.cmpi .slt arg1 c21_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c0_i32_0 : BitVec 32 := 0#32
  let v1 : BitVec 1 := Scalar.cmpi .slt arg1 c0_i32_0
  let v2 : BitVec 1 := Scalar.andi v0 v1
  let c0_i32_1 : BitVec 32 := 0#32
  let v3 : BitVec 32 := Scalar.select v2 c0_i32_1 arg1
  let c0_i32_2 : BitVec 32 := 0#32
  let c0_i32_3 : BitVec 32 := 0#32
  ![c0_i32_2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c6_i32 : BitVec 32 := 6#32
  let v1 : BitVec 32 := Scalar.maxsi c0_i32_0 v0
  let v2 : BitVec 32 := Scalar.minsi c6_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S32x8x2048 : Shape := ⟨3, ![32, 8, 2048]⟩
abbrev S2048 : Shape := ⟨1, ![2048]⟩
abbrev S2048x10688 : Shape := ⟨2, ![2048, 10688]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x8x10688 : Shape := ⟨3, ![32, 8, 10688]⟩
abbrev S32x8x3520 : Shape := ⟨3, ![32, 8, 3520]⟩
abbrev S32x8x3072 : Shape := ⟨3, ![32, 8, 3072]⟩
abbrev S32x8x4096 : Shape := ⟨3, ![32, 8, 4096]⟩
abbrev S32x8x1024 : Shape := ⟨3, ![32, 8, 1024]⟩
abbrev S32x1x3520 : Shape := ⟨3, ![32, 1, 3520]⟩
abbrev S32x3520 : Shape := ⟨2, ![32, 3520]⟩
abbrev S32x8x96 : Shape := ⟨3, ![32, 8, 96]⟩
abbrev S32x8x256 : Shape := ⟨3, ![32, 8, 256]⟩
abbrev S32x8x128 : Shape := ⟨3, ![32, 8, 128]⟩
abbrev S32x8x3584 : Shape := ⟨3, ![32, 8, 3584]⟩
abbrev S256x3584 : Shape := ⟨2, ![256, 3584]⟩
abbrev S256x1024 : Shape := ⟨2, ![256, 1024]⟩
abbrev S32x8x16x64 : Shape := ⟨4, ![32, 8, 16, 64]⟩
abbrev S256x4096 : Shape := ⟨2, ![256, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2048, .f32⟩
  | .hbm, ⟨2, _⟩ => ⟨S2048x10688, .f32⟩
  | .hbm, ⟨3, _⟩ => ⟨S32x8x2048, .f32⟩
  | .hbm, ⟨4, _⟩ => ⟨S_, .f32⟩
  | .hbm, ⟨5, _⟩ => ⟨S32x8, .f32⟩
  | .hbm, ⟨6, _⟩ => ⟨S32x8x1, .f32⟩
  | .hbm, ⟨7, _⟩ => ⟨S_, .f32⟩
  | .hbm, ⟨8, _⟩ => ⟨S32x8x1, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S32x8x1, .f32⟩
  | .hbm, ⟨14, _⟩ => ⟨S32x8x2048, .f32⟩
  | .hbm, ⟨15, _⟩ => ⟨S32x8x2048, .f32⟩
  | .hbm, ⟨16, _⟩ => ⟨S1x1x2048, .f32⟩
  | .hbm, ⟨17, _⟩ => ⟨S32x8x2048, .f32⟩
  | .hbm, ⟨18, _⟩ => ⟨S32x8x2048, .f32⟩
  | .hbm, ⟨19, _⟩ => ⟨S32x8x10688, .f32⟩
  | .hbm, ⟨20, _⟩ => ⟨S32x8x3520, .f32⟩
  | .hbm, ⟨21, _⟩ => ⟨S32x8x3072, .f32⟩
  | .hbm, ⟨22, _⟩ => ⟨S32x8x4096, .f32⟩
  | .hbm, ⟨23, _⟩ => ⟨S32x8x1024, .f32⟩
  | .hbm, ⟨24, _⟩ => ⟨S32x8x1024, .f32⟩
  | .hbm, ⟨25, _⟩ => ⟨S32x8x1024, .f32⟩
  | .hbm, ⟨26, _⟩ => ⟨S32x1x3520, .f32⟩
  | .hbm, ⟨27, _⟩ => ⟨S32x3520, .f32⟩
  | .hbm, ⟨28, _⟩ => ⟨S32x8x3072, .f32⟩
  | .hbm, ⟨29, _⟩ => ⟨S32x8x96, .f32⟩
  | .hbm, ⟨30, _⟩ => ⟨S32x8x96, .f32⟩
  | .hbm, ⟨31, _⟩ => ⟨S32x8x256, .f32⟩
  | .hbm, ⟨32, _⟩ => ⟨S_, .i32⟩
  | .hbm, ⟨33, _⟩ => ⟨S_, .f32⟩
  | .hbm, ⟨34, _⟩ => ⟨S32x8x128, .f32⟩
  | .hbm, ⟨35, _⟩ => ⟨S_, .i32⟩
  | .hbm, ⟨36, _⟩ => ⟨S_, .f32⟩
  | .hbm, ⟨37, _⟩ => ⟨S32x8x128, .f32⟩
  | .hbm, ⟨38, _⟩ => ⟨S32x8x3584, .f32⟩
  | .hbm, ⟨39, _⟩ => ⟨S256x3584, .f32⟩
  | .hbm, ⟨40, _⟩ => ⟨S_, .f32⟩
  | .hbm, ⟨41, _⟩ => ⟨S32x8x1024, .f32⟩
  | .hbm, ⟨42, _⟩ => ⟨S32x8x1024, .f32⟩
  | .hbm, ⟨43, _⟩ => ⟨S32x8x1024, .bf16⟩
  | .hbm, ⟨44, _⟩ => ⟨S256x1024, .bf16⟩
  | .hbm, ⟨45, _⟩ => ⟨S32x8x16x64, .f32⟩
  | .hbm, ⟨46, _⟩ => ⟨S32x8x16x64, .f32⟩
  | .hbm, ⟨47, _⟩ => ⟨S32x8x4096, .bf16⟩
  | .hbm, ⟨48, _⟩ => ⟨S256x4096, .bf16⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_v26 : Ref sig .tc := ⟨.hbm, 34, rfl⟩
abbrev main_c_2 : Ref sig .tc := ⟨.hbm, 35, rfl⟩
abbrev main_call1_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Sweep.lean ====
/-
  The sweep over the earlier key blocks of one grid step, as plain arithmetic on values. The kernel keeps two
  arrays between key blocks: for every query row the (negated) weight already spent on later keys, and the output
  gathered so far. One trip of the kernel's loop turns the two into the next two; this file states a trip as a
  function and shows that what the loop leaves in the two arrays is that function applied once per trip.
-/
module

public import proofs.«01_k».proof.Proof.Gen.KernelIdeal.Value
public import Idealize.ShloMosaic.Lib.Pipeline.Value
public import Idealize.ShloMosaic.Lib.Pipeline.RowLoads
public import Idealize.ShloMosaic.Lib.Pipeline.ValueKit.Basic
public import Idealize.ShloMosaic.Lib.VecWindow
public import Idealize.ShloMosaic.Lib.Pointwise

@[expose] public section

noncomputable section

open Idealize.ShloMosaic Idealize.ShloMosaic.TcCoe Idealize.SL.Sem

namespace Cert.Attn

open Cert.KernelIdeal Cert.KernelIdeal.Gen

variable {F : FTy → Type} [FloatOps F]

/-- Tile `j` of a stack of sixteen 128 by 128 tiles. -/
def tile (X : Vec F S16x128x128 .bf16) (j : ℕ) : Vec F S1x128x128 .bf16 :=
  fun y => X (ix3 (⟨j % 16, Nat.mod_lt _ (by decide)⟩ : Fin 16) (y 1) (y 2))

/-- Row `u` (0 or 1) of a pair of bias rows. -/
def biasRow (b : Vec F S1x2x128 .f32) (u : Fin 2) : Vec F S1x1x128 .f32 := fun y => b (ix3 (0 : Fin 1) u (y 2))

/-- The logits of all query rows against the keys of block `b` (tiles `4 b` to `4 b + 3`). -/
def logits (q : FVec F S1024x128 .bf16) (K : Vec F S16x128x128 .bf16) (bias : Vec F S1x2x128 .f32) (b : ℕ) : FVec F S1024x512 .f32 :=
  k0_pay42 q (tile K (4 * b)) (tile K (4 * b + 1)) (tile K (4 * b + 2)) (tile K (4 * b + 3)) (biasRow bias 0) (biasRow bias 1)

/-- The two arrays (spent weight, output so far) after a trip over key block `b`, from those before it. -/
def step (q : FVec F S1024x128 .bf16) (K V : Vec F S16x128x128 .bf16) (bias : Vec F S1x2x128 .f32) (b : ℕ)
    (s : FVec F S1024x128 .f32 × FVec F S1024x128 .f32) : FVec F S1024x128 .f32 × FVec F S1024x128 .f32 :=
  (k0_pay2 (k0_pay52 k0_pay69 (logits q K bias b) k0_pay43 s.1),
   k0_pay1 (k0_pay53 k0_pay69 (logits q K bias b) k0_pay43 s.1) (tile V (4 * b)) (tile V (4 * b + 1)) (tile V (4 * b + 2)) (tile V (4 * b + 3)) s.2)

/-- The two arrays after the block on the diagonal, block `b` itself, where both start at zero. -/
def diag (q : FVec F S1024x128 .bf16) (K V : Vec F S16x128x128 .bf16) (bias : Vec F S1x2x128 .f32) (b : ℕ) :
    FVec F S1024x128 .f32 × FVec F S1024x128 .f32 :=
  let z := k0_pay74 q (tile K (4 * b)) (tile K (4 * b + 1)) (tile K (4 * b + 2)) (tile K (4 * b + 3)) (biasRow bias 0) (biasRow bias 1)
  let e := k0_pay75 q (tile K (4 * b)) (tile K (4 * b + 1)) (tile K (4 * b + 2)) (tile K (4 * b + 3)) (biasRow bias 0) (biasRow bias 1)
  let mask := k0_pay73 k0_pay72
  (k0_pay88 (k0_pay85 k0_pay69 mask z e k0_pay76 k0_pay70),
   k0_pay87 (k0_pay86 k0_pay69 mask z e k0_pay76 k0_pay70) (tile V (4 * b)) (tile V (4 * b + 1)) (tile V (4 * b + 2)) (tile V (4 * b + 3)) k0_pay71)

/-- The two arrays after `n` trips that begin at `s₀`: over block `b - 1`, then `b - 2`, and so on. -/
def sweepFrom (q : FVec F S1024x128 .bf16) (K V : Vec F S16x128x128 .bf16) (bias : Vec F S1x2x128 .f32) (b : ℕ)
    (s₀ : FVec F S1024x128 .f32 × FVec F S1024x128 .f32) : ℕ → FVec F S1024x128 .f32 × FVec F S1024x128 .f32
  | 0 => s₀
  | n + 1 => step q K V bias (b - 1 - n) (sweepFrom q K V bias b s₀ n)

/-- The two arrays at the end of a grid step of query block `b`: the diagonal block, then all those before it. -/
def sweep (q : FVec F S1024x128 .bf16) (K V : Vec F S16x128x128 .bf16) (bias : Vec F S1x2x128 .f32) (b : ℕ) :
    FVec F S1024x128 .f32 × FVec F S1024x128 .f32 := sweepFrom q K V bias b (diag q K V bias b) b

/-- The block of the output a grid step stores: the two heads' halves of the rows, side by side. -/
def rows512 (o : ℕ) (h : o + 512 ≤ 1024) (x : FVec F S1024x128 .f32) : FVec F S512x128 .f32 := RowLoads.rowsFrom 512 x o h

/-- What grid step of query block `b` stores, from its queries, all keys and values of the head pair, and the bias. -/
def blockOut (q : FVec F S1x512x128 .bf16) (K V : Vec F S16x128x128 .bf16) (bias : Vec F S1x2x128 .f32) (b : ℕ) : FVec F S1x512x128 .bf16 :=
  k0_pay5 k0_pay67 (rows512 0 (by decide) (sweep (k0_pay68 q) K V bias b).2) (rows512 512 (by decide) (sweep (k0_pay68 q) K V bias b).2)

/-! ## The loops' bounds and addresses -/

/-- The loop over earlier blocks runs once per earlier block … -/
theorem trips1 (i : grid0.Coords) : (k0_t1_loop i).trips = (i 2).val := by
  have : ∀ q : Fin 4, ∀ i : grid0.Coords, i 2 = q → (k0_t1_loop i).trips = q.val := by
    intro q i h
    have e : (i 2).val = q.val := congrArg Fin.val h
    unfold k0_t1_loop
    rw [e]
    clear e h i
    revert q
    decide +kernel
  exact this (i 2) i rfl
/-- … and leaves nothing for the loop over the remainder. -/
theorem trips2 (i : grid0.Coords) : (k0_t2_loop i).trips = 0 := by
  have : ∀ q : Fin 4, ∀ i : grid0.Coords, i 2 = q → (k0_t2_loop i).trips = 0 := by
    intro q i h
    have e : (i 2).val = q.val := congrArg Fin.val h
    unfold k0_t2_loop
    rw [e]
    clear e h i
    revert q
    decide +kernel
  exact this (i 2) i rfl

theorem off1 (i : grid0.Coords) (s : Fin 4) : k0_off1 i (BitVec.ofNat 32 s.val) = ![4 * (i 2).val + s.val, 0, 0] := by
  have : ∀ q : Fin 4, ∀ s : Fin 4, ∀ i : grid0.Coords, i 2 = q → k0_off1 i (BitVec.ofNat 32 s.val) = ![4 * q.val + s.val, 0, 0] := by
    intro q s i h
    have e : (i 2).val = q.val := congrArg Fin.val h
    unfold k0_off1
    rw [e]
    clear e h i
    revert q s
    decide +kernel
  exact this (i 2) s i rfl

theorem off2 (i : grid0.Coords) (k : Fin (k0_t1_loop i).trips) (s : Fin 4) :
    k0_off2 i k (BitVec.ofNat 32 s.val) = ![4 * ((i 2).val - 1 - k.val) + s.val, 0, 0] := by
  have key : ∀ q : Fin 4, ∀ s : Fin 4, ∀ n : Fin 4, n.val < q.val → ∀ i : grid0.Coords, i 2 = q → ∀ k : Fin (k0_t1_loop i).trips, k.val = n.val →
      k0_off2 i k (BitVec.ofNat 32 s.val) = ![4 * (q.val - 1 - n.val) + s.val, 0, 0] := by
    intro q s n hn i h k hk
    have e : (i 2).val = q.val := congrArg Fin.val h
    unfold k0_off2
    rw [e, hk]
    clear e h hk k i
    revert q s n
    decide +kernel
  have hlt : k.val < (i 2).val := lt_of_lt_of_eq k.isLt (trips1 i)
  exact key (i 2) s ⟨k.val, lt_trans hlt (i 2).isLt⟩ hlt i rfl k rfl

theorem ld_tile (X : Vec F S16x128x128 .bf16) (off : Fin 3 → ℕ) (j : ℕ) (hoff : off = ![j, 0, 0])
    (inb : ∀ a, off a + S1x128x128.size a ≤ S16x128x128.size a) :
    View.ld X (Rect.unit off S1x128x128.size inb) = tile X j := by
  subst hoff
  have hj : j + 1 ≤ 16 := inb 0
  funext y
  unfold tile
  refine congrArg X ?_
  have h0 : (y 0).val < 1 := (y 0).isLt
  funext a
  fin_cases a
  · refine Fin.ext ?_
    show (Rect.unit (s := S16x128x128) ![j, 0, 0] S1x128x128.size inb).toLoadRect.idx y 0 = j % 16
    simp
    omega
  · refine Fin.ext ?_
    simp
  · refine Fin.ext ?_
    simp

theorem ld_biasRow (b : Vec F S1x2x128 .f32) (off : Fin 3 → ℕ) (u : Fin 2) (hoff : off = ![0, u.val, 0])
    (inb : ∀ a, off a + S1x1x128.size a ≤ S1x2x128.size a) :
    View.ld b (Rect.unit off S1x1x128.size inb) = biasRow b u := by
  subst hoff
  funext y
  unfold biasRow
  refine congrArg b ?_
  have h0 : (y 0).val < 1 := (y 0).isLt
  have h1 : (y 1).val < 1 := (y 1).isLt
  funext a
  fin_cases a
  · refine Fin.ext ?_
    simp
    try omega
  · refine Fin.ext ?_
    simp
    try omega
  · refine Fin.ext ?_
    simp
    try omega

theorem hz : (![0, 0] : Fin 2 → Nat) = fun _ => 0 := funext fun a => by fin_cases a <;> rfl

/-! ## One trip, and all of them -/

section Loop

variable (c : Dev nD) (i : grid0.Coords)
  (arg3 : Memref sig .tc .vmem S1x512x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S1x2x128 .f32) (harg6 : arg6.IsWhole)
  (arg7 : Memref sig .tc .vmem S1x512x128 .bf16) (harg7 : arg7.IsWhole)
  (arg8 : Memref sig .tc .vmem S16x128x128 .bf16) (harg8 : arg8.IsWhole)
  (arg9 : Memref sig .tc .vmem S16x128x128 .bf16) (harg9 : arg9.IsWhole)
  (arg10 : Memref sig .tc .vmem S1024x128 .f32) (harg10 : arg10.IsWhole)
  (arg11 : Memref sig .tc .vmem S1024x128 .f32) (harg11 : arg11.IsWhole)
  (q : FVec F S1024x128 .bf16) (K V : Vec F S16x128x128 .bf16) (bias : Vec F S1x2x128 .f32)

/-- One trip, from the contents it finds in the two arrays. -/
theorem trip_reads (v149 : BitVec 32) (k : Fin (k0_t1_loop i).trips)
    (X6 : BufTy.Contents (Elt F) arg6.view.ty) (h6 : arg6.view.read (Elt F) X6 = bias)
    (X8 : BufTy.Contents (Elt F) arg8.view.ty) (h8 : arg8.view.read (Elt F) X8 = K)
    (X9 : BufTy.Contents (Elt F) arg9.view.ty) (h9 : arg9.view.read (Elt F) X9 = V)
    (f10 : BufTy.Contents (Elt F) arg10.view.ty) (f11 : BufTy.Contents (Elt F) arg11.view.ty) :
    ∃ w10 w11,
      (trip_k0_t1 (F := F) Variants.none c none i arg3 harg3 arg4 harg4 arg5 harg5 arg6 harg6 arg7 harg7 arg8 harg8 arg9 harg9 arg10 harg10 arg11 harg11 q k0_pay69 v149 X6 X8 X9 k).1 f10 f11
        = [⟨Rect.unit ![0, 0] S1024x128.size inb_S1024x128_S1024x128_0_0, w10⟩] ∧
      (trip_k0_t1 (F := F) Variants.none c none i arg3 harg3 arg4 harg4 arg5 harg5 arg6 harg6 arg7 harg7 arg8 harg8 arg9 harg9 arg10 harg10 arg11 harg11 q k0_pay69 v149 X6 X8 X9 k).2.1 f10 f11
        = [⟨Rect.unit ![0, 0] S1024x128.size inb_S1024x128_S1024x128_0_0, w11⟩] ∧
      (w10, w11) = step q K V bias ((i 2).val - 1 - k.val) (arg10.view.read (Elt F) f10, arg11.view.read (Elt F) f11) := by
  have n0 := k0_off2_inb i k 0
  have n1 := k0_off2_inb i k 1
  have n2 := k0_off2_inb i k 2
  have n3 := k0_off2_inb i k 3
  have o0 : k0_off2 i k (BitVec.ofNat 32 (0 : Fin 4).val) = ![4 * ((i 2).val - 1 - k.val), 0, 0] := off2 i k 0
  have o1 : k0_off2 i k (BitVec.ofNat 32 (1 : Fin 4).val) = ![4 * ((i 2).val - 1 - k.val) + 1, 0, 0] := off2 i k 1
  have o2 : k0_off2 i k (BitVec.ofNat 32 (2 : Fin 4).val) = ![4 * ((i 2).val - 1 - k.val) + 2, 0, 0] := off2 i k 2
  have o3 : k0_off2 i k (BitVec.ofNat 32 (3 : Fin 4).val) = ![4 * ((i 2).val - 1 - k.val) + 3, 0, 0] := off2 i k 3
  unfold trip_k0_t1
  dsimp only
  sl_unfold_words
  refine ⟨_, _, rfl, rfl, ?_⟩
  unfold step logits
  rw [← ld_tile K _ _ o0 n0, ← ld_tile K _ _ o1 n1, ← ld_tile K _ _ o2 n2, ← ld_tile K _ _ o3 n3,
    ← ld_tile V _ _ o0 n0, ← ld_tile V _ _ o1 n1, ← ld_tile V _ _ o2 n2, ← ld_tile V _ _ o3 n3,
    ← ld_biasRow bias ![0, 0, 0] 0 rfl inb_S1x2x128_S1x1x128_0_0_0, ← ld_biasRow bias ![0, 1, 0] 1 rfl inb_S1x2x128_S1x1x128_0_1_0]
  subst h6 h8 h9
  simp only [View.readAt_eq_ld]
  rw [View.ld_unit_zero (S := S1024x128) hz, View.ld_unit_zero (S := S1024x128) hz]
  rfl

/-- All the trips up to the `n`-th: reading the two arrays after them is the sweep from what was there at first. -/
theorem loop_reads (v149 : BitVec 32)
    (X6 : BufTy.Contents (Elt F) arg6.view.ty) (h6 : arg6.view.read (Elt F) X6 = bias)
    (X8 : BufTy.Contents (Elt F) arg8.view.ty) (h8 : arg8.view.read (Elt F) X8 = K)
    (X9 : BufTy.Contents (Elt F) arg9.view.ty) (h9 : arg9.view.read (Elt F) X9 = V)
    (f10 : BufTy.Contents (Elt F) arg10.view.ty) (f11 : BufTy.Contents (Elt F) arg11.view.ty) :
    ∀ n, n ≤ (k0_t1_loop i).trips →
      (arg10.view.read (Elt F) (arg10.view.writes (Elt F) f10 (pb_k0_t1 (F := F) Variants.none c none i arg3 harg3 arg4 harg4 arg5 harg5 arg6 harg6 arg7 harg7 arg8 harg8 arg9 harg9 arg10 harg10 arg11 harg11 q k0_pay69 v149 X6 X8 X9 f10 f11 n).1),
       arg11.view.read (Elt F) (arg11.view.writes (Elt F) f11 (pb_k0_t1 (F := F) Variants.none c none i arg3 harg3 arg4 harg4 arg5 harg5 arg6 harg6 arg7 harg7 arg8 harg8 arg9 harg9 arg10 harg10 arg11 harg11 q k0_pay69 v149 X6 X8 X9 f10 f11 n).2))
        = sweepFrom q K V bias (i 2).val (arg10.view.read (Elt F) f10, arg11.view.read (Elt F) f11) n
  | 0, _ => rfl
  | n + 1, hn => by
    have ih := loop_reads v149 X6 h6 X8 h8 X9 h9 f10 f11 n (Nat.le_of_succ_le hn)
    have hs := pb_k0_t1_succ (F := F) Variants.none c none i arg3 harg3 arg4 harg4 arg5 harg5 arg6 harg6 arg7 harg7 arg8 harg8 arg9 harg9 arg10 harg10 arg11 harg11 q k0_pay69 v149 X6 X8 X9 f10 f11 ⟨n, hn⟩
    obtain ⟨w10, w11, e10, e11, e⟩ := trip_reads c i arg3 harg3 arg4 harg4 arg5 harg5 arg6 harg6 arg7 harg7 arg8 harg8 arg9 harg9 arg10 harg10 arg11 harg11 q K V bias v149 ⟨n, hn⟩ X6 h6 X8 h8 X9 h9
      (arg10.view.writes (Elt F) f10 (pb_k0_t1 (F := F) Variants.none c none i arg3 harg3 arg4 harg4 arg5 harg5 arg6 harg6 arg7 harg7 arg8 harg8 arg9 harg9 arg10 harg10 arg11 harg11 q k0_pay69 v149 X6 X8 X9 f10 f11 n).1)
      (arg11.view.writes (Elt F) f11 (pb_k0_t1 (F := F) Variants.none c none i arg3 harg3 arg4 harg4 arg5 harg5 arg6 harg6 arg7 harg7 arg8 harg8 arg9 harg9 arg10 harg10 arg11 harg11 q k0_pay69 v149 X6 X8 X9 f10 f11 n).2)
    simp only [tripL_k0_t1, e10, e11] at hs
    rw [hs, sweepFrom, ← ih]
    refine Eq.trans ?_ e
    refine Prod.ext ?_ ?_
    · exact View.read_writes_full arg10.view _ _ _ _
    · exact View.read_writes_full arg11.view _ _ _ _

end Loop

end Cert.Attn

end
-- ==== Proof.Block.lean ====
/-
  What one grid step stores, as a function of the values it finds: the query block, the bias, and the two stacks of
  key and value tiles. A step that is not the first of its head pair finds the stacks in scratch.
-/
module

public import proofs.«01_k».proof.Proof.Sweep
public import Idealize.ShloMosaic.Lib.Pipeline.ReadBack

@[expose] public section

noncomputable section

open Idealize.ShloMosaic Idealize.ShloMosaic.TcCoe Idealize.SL.Sem

namespace Cert.Attn

open Cert.KernelIdeal Cert.KernelIdeal.Gen

variable {F : FTy → Type} [FloatOps F]

variable (c : Dev nD) (i : grid0.Coords)
  (arg3 : Memref sig .tc .vmem S1x512x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S1x2x128 .f32) (harg6 : arg6.IsWhole)
  (arg7 : Memref sig .tc .vmem S1x512x128 .bf16) (harg7 : arg7.IsWhole)
  (arg8 : Memref sig .tc .vmem S16x128x128 .bf16) (harg8 : arg8.IsWhole)
  (arg9 : Memref sig .tc .vmem S16x128x128 .bf16) (harg9 : arg9.IsWhole)
  (arg10 : Memref sig .tc .vmem S1024x128 .f32) (harg10 : arg10.IsWhole)
  (arg11 : Memref sig .tc .vmem S1024x128 .f32) (harg11 : arg11.IsWhole)

/-- The trips of a loop that has none leave no stores. -/
theorem no_trips (v12 : FVec F S1024x128 .bf16) (v22 : FVec F S128x256 .bf16) (v149 v171 : BitVec 32)
    (X6 : BufTy.Contents (Elt F) arg6.view.ty) (X8 : BufTy.Contents (Elt F) arg8.view.ty) (X9 : BufTy.Contents (Elt F) arg9.view.ty)
    (f10 : BufTy.Contents (Elt F) arg10.view.ty) (f11 : BufTy.Contents (Elt F) arg11.view.ty) (n : ℕ) (hn : n = 0) :
    pb_k0_t2 (F := F) Variants.none c none i arg3 harg3 arg4 harg4 arg5 harg5 arg6 harg6 arg7 harg7 arg8 harg8 arg9 harg9 arg10 harg10 arg11 harg11 v12 v22 v149 v171 X6 X8 X9 f10 f11 n = ([], []) := by
  subst hn
  rfl
/-- … so listing them changes nothing. -/
theorem no_trips_append (v12 : FVec F S1024x128 .bf16) (v22 : FVec F S128x256 .bf16) (v149 v171 : BitVec 32)
    (X6 : BufTy.Contents (Elt F) arg6.view.ty) (X8 : BufTy.Contents (Elt F) arg8.view.ty) (X9 : BufTy.Contents (Elt F) arg9.view.ty)
    (f10 : BufTy.Contents (Elt F) arg10.view.ty) (f11 : BufTy.Contents (Elt F) arg11.view.ty) (n : ℕ) (hn : n = 0)
    (L : List (View.Piece (Elt F) S1024x128 .f32)) :
    (pb_k0_t2 (F := F) Variants.none c none i arg3 harg3 arg4 harg4 arg5 harg5 arg6 harg6 arg7 harg7 arg8 harg8 arg9 harg9 arg10 harg10 arg11 harg11 v12 v22 v149 v171 X6 X8 X9 f10 f11 n).2 ++ L = L := by
  rw [no_trips (hn := hn)]
  rfl

/-- The diagonal block's two arrays, spelled with the loads the kernel makes: the newly filled arrays, four key tiles,
    four value tiles and two bias rows. -/
theorem diag_loads (q : FVec F S1024x128 .bf16) (K V : Vec F S16x128x128 .bf16) (bias : Vec F S1x2x128 .f32)
    (X6 : BufTy.Contents (Elt F) arg6.view.ty) (h6 : arg6.view.read (Elt F) X6 = bias)
    (X8 : BufTy.Contents (Elt F) arg8.view.ty) (h8 : arg8.view.read (Elt F) X8 = K)
    (X9 : BufTy.Contents (Elt F) arg9.view.ty) (h9 : arg9.view.read (Elt F) X9 = V) :
    diag q K V bias (i 2).val =
      (k0_pay88 (k0_pay85 k0_pay69 (k0_pay73 k0_pay72)
          (k0_pay74 q (View.readAt (Elt F) arg8.view (Rect.unit (s := S16x128x128) (k0_off1 i 0#32) S1x128x128.size (k0_off1_inb i 0)).toLoadRect X8) (View.readAt (Elt F) arg8.view (Rect.unit (s := S16x128x128) (k0_off1 i 1#32) S1x128x128.size (k0_off1_inb i 1)).toLoadRect X8) (View.readAt (Elt F) arg8.view (Rect.unit (s := S16x128x128) (k0_off1 i 2#32) S1x128x128.size (k0_off1_inb i 2)).toLoadRect X8) (View.readAt (Elt F) arg8.view (Rect.unit (s := S16x128x128) (k0_off1 i 3#32) S1x128x128.size (k0_off1_inb i 3)).toLoadRect X8) (View.readAt (Elt F) arg6.view (Rect.unit (s := S1x2x128) ![0, 0, 0] S1x1x128.size inb_S1x2x128_S1x1x128_0_0_0).toLoadRect X6) (View.readAt (Elt F) arg6.view (Rect.unit (s := S1x2x128) ![0, 1, 0] S1x1x128.size inb_S1x2x128_S1x1x128_0_1_0).toLoadRect X6))
          (k0_pay75 q (View.readAt (Elt F) arg8.view (Rect.unit (s := S16x128x128) (k0_off1 i 0#32) S1x128x128.size (k0_off1_inb i 0)).toLoadRect X8) (View.readAt (Elt F) arg8.view (Rect.unit (s := S16x128x128) (k0_off1 i 1#32) S1x128x128.size (k0_off1_inb i 1)).toLoadRect X8) (View.readAt (Elt F) arg8.view (Rect.unit (s := S16x128x128) (k0_off1 i 2#32) S1x128x128.size (k0_off1_inb i 2)).toLoadRect X8) (View.readAt (Elt F) arg8.view (Rect.unit (s := S16x128x128) (k0_off1 i 3#32) S1x128x128.size (k0_off1_inb i 3)).toLoadRect X8) (View.readAt (Elt F) arg6.view (Rect.unit (s := S1x2x128) ![0, 0, 0] S1x1x128.size inb_S1x2x128_S1x1x128_0_0_0).toLoadRect X6) (View.readAt (Elt F) arg6.view (Rect.unit (s := S1x2x128) ![0, 1, 0] S1x1x128.size inb_S1x2x128_S1x1x128_0_1_0).toLoadRect X6))
          k0_pay76 (arg10.view.readCov [⟨(Rect.unit (s := S1024x128) ![0, 0] S1024x128.size inb_S1024x128_S1024x128_0_0), k0_pay70⟩] (Rect.unit (s := S1024x128) ![0, 0] S1024x128.size inb_S1024x128_S1024x128_0_0).toLoadRect)),
       k0_pay87 (k0_pay86 k0_pay69 (k0_pay73 k0_pay72)
          (k0_pay74 q (View.readAt (Elt F) arg8.view (Rect.unit (s := S16x128x128) (k0_off1 i 0#32) S1x128x128.size (k0_off1_inb i 0)).toLoadRect X8) (View.readAt (Elt F) arg8.view (Rect.unit (s := S16x128x128) (k0_off1 i 1#32) S1x128x128.size (k0_off1_inb i 1)).toLoadRect X8) (View.readAt (Elt F) arg8.view (Rect.unit (s := S16x128x128) (k0_off1 i 2#32) S1x128x128.size (k0_off1_inb i 2)).toLoadRect X8) (View.readAt (Elt F) arg8.view (Rect.unit (s := S16x128x128) (k0_off1 i 3#32) S1x128x128.size (k0_off1_inb i 3)).toLoadRect X8) (View.readAt (Elt F) arg6.view (Rect.unit (s := S1x2x128) ![0, 0, 0] S1x1x128.size inb_S1x2x128_S1x1x128_0_0_0).toLoadRect X6) (View.readAt (Elt F) arg6.view (Rect.unit (s := S1x2x128) ![0, 1, 0] S1x1x128.size inb_S1x2x128_S1x1x128_0_1_0).toLoadRect X6))
          (k0_pay75 q (View.readAt (Elt F) arg8.view (Rect.unit (s := S16x128x128) (k0_off1 i 0#32) S1x128x128.size (k0_off1_inb i 0)).toLoadRect X8) (View.readAt (Elt F) arg8.view (Rect.unit (s := S16x128x128) (k0_off1 i 1#32) S1x128x128.size (k0_off1_inb i 1)).toLoadRect X8) (View.readAt (Elt F) arg8.view (Rect.unit (s := S16x128x128) (k0_off1 i 2#32) S1x128x128.size (k0_off1_inb i 2)).toLoadRect X8) (View.readAt (Elt F) arg8.view (Rect.unit (s := S16x128x128) (k0_off1 i 3#32) S1x128x128.size (k0_off1_inb i 3)).toLoadRect X8) (View.readAt (Elt F) arg6.view (Rect.unit (s := S1x2x128) ![0, 0, 0] S1x1x128.size inb_S1x2x128_S1x1x128_0_0_0).toLoadRect X6) (View.readAt (Elt F) arg6.view (Rect.unit (s := S1x2x128) ![0, 1, 0] S1x1x128.size inb_S1x2x128_S1x1x128_0_1_0).toLoadRect X6))
          k0_pay76 (arg10.view.readCov [⟨(Rect.unit (s := S1024x128) ![0, 0] S1024x128.size inb_S1024x128_S1024x128_0_0), k0_pay70⟩] (Rect.unit (s := S1024x128) ![0, 0] S1024x128.size inb_S1024x128_S1024x128_0_0).toLoadRect))
          (View.readAt (Elt F) arg9.view (Rect.unit (s := S16x128x128) (k0_off1 i 0#32) S1x128x128.size (k0_off1_inb i 0)).toLoadRect X9) (View.readAt (Elt F) arg9.view (Rect.unit (s := S16x128x128) (k0_off1 i 1#32) S1x128x128.size (k0_off1_inb i 1)).toLoadRect X9) (View.readAt (Elt F) arg9.view (Rect.unit (s := S16x128x128) (k0_off1 i 2#32) S1x128x128.size (k0_off1_inb i 2)).toLoadRect X9) (View.readAt (Elt F) arg9.view (Rect.unit (s := S16x128x128) (k0_off1 i 3#32) S1x128x128.size (k0_off1_inb i 3)).toLoadRect X9)
          (arg11.view.readCov [⟨(Rect.unit (s := S1024x128) ![0, 0] S1024x128.size inb_S1024x128_S1024x128_0_0), k0_pay71⟩] (Rect.unit (s := S1024x128) ![0, 0] S1024x128.size inb_S1024x128_S1024x128_0_0).toLoadRect)) := by
  have n0 := k0_off1_inb i 0
  have n1 := k0_off1_inb i 1
  have n2 := k0_off1_inb i 2
  have n3 := k0_off1_inb i 3
  have o0 : k0_off1 i (BitVec.ofNat 32 (0 : Fin 4).val) = ![4 * (i 2).val, 0, 0] := off1 i 0
  have o1 : k0_off1 i (BitVec.ofNat 32 (1 : Fin 4).val) = ![4 * (i 2).val + 1, 0, 0] := off1 i 1
  have o2 : k0_off1 i (BitVec.ofNat 32 (2 : Fin 4).val) = ![4 * (i 2).val + 2, 0, 0] := off1 i 2
  have o3 : k0_off1 i (BitVec.ofNat 32 (3 : Fin 4).val) = ![4 * (i 2).val + 3, 0, 0] := off1 i 3
  unfold diag
  dsimp only
  rw [← ld_tile K _ _ o0 n0, ← ld_tile K _ _ o1 n1, ← ld_tile K _ _ o2 n2, ← ld_tile K _ _ o3 n3,
    ← ld_tile V _ _ o0 n0, ← ld_tile V _ _ o1 n1, ← ld_tile V _ _ o2 n2, ← ld_tile V _ _ o3 n3,
    ← ld_biasRow bias ![0, 0, 0] 0 rfl inb_S1x2x128_S1x1x128_0_0_0, ← ld_biasRow bias ![0, 1, 0] 1 rfl inb_S1x2x128_S1x1x128_0_1_0]
  subst h6 h8 h9
  rw [View.readCov_full, View.readCov_full]
  rfl

/-- A load of 512 rows of the output gathered so far, after the loop over earlier blocks. -/
theorem rows_after (q : FVec F S1024x128 .bf16) (K V : Vec F S16x128x128 .bf16) (bias : Vec F S1x2x128 .f32) (v149 : BitVec 32)
    (X6 : BufTy.Contents (Elt F) arg6.view.ty) (h6 : arg6.view.read (Elt F) X6 = bias)
    (X8 : BufTy.Contents (Elt F) arg8.view.ty) (h8 : arg8.view.read (Elt F) X8 = K)
    (X9 : BufTy.Contents (Elt F) arg9.view.ty) (h9 : arg9.view.read (Elt F) X9 = V)
    (H10 H11 : List (View.Piece (Elt F) S1024x128 .f32))
    (e10 : arg10.view.read (Elt F) (arg10.view.writes (Elt F) arg10.view.junk H10) = (diag q K V bias (i 2).val).1)
    (e11 : arg11.view.read (Elt F) (arg11.view.writes (Elt F) arg11.view.junk H11) = (diag q K V bias (i 2).val).2)
    (v171 : BitVec 32) (g10 : BufTy.Contents (Elt F) arg10.view.ty) (g11 : BufTy.Contents (Elt F) arg11.view.ty) (o : ℕ) (ho : o + 512 ≤ 1024) (inb : ∀ a, (![o, 0] : Fin 2 → ℕ) a + S512x128.size a ≤ S1024x128.size a) :
    arg11.view.readCov ((pb_k0_t2 (F := F) Variants.none c none i arg3 harg3 arg4 harg4 arg5 harg5 arg6 harg6 arg7 harg7 arg8 harg8 arg9 harg9 arg10 harg10 arg11 harg11 q k0_pay69 v149 v171 X6 X8 X9 g10 g11 (k0_t2_loop i).trips).2 ++
      ((pb_k0_t1 (F := F) Variants.none c none i arg3 harg3 arg4 harg4 arg5 harg5 arg6 harg6 arg7 harg7 arg8 harg8 arg9 harg9 arg10 harg10 arg11 harg11 q k0_pay69 v149 X6 X8 X9
        (arg10.view.writes (Elt F) arg10.view.junk H10) (arg11.view.writes (Elt F) arg11.view.junk H11) (k0_t1_loop i).trips).2 ++ H11))
        (Rect.unit (s := S1024x128) ![o, 0] S512x128.size inb).toLoadRect
      = rows512 o ho (sweep q K V bias (i 2).val).2 := by
  rw [no_trips (hn := trips2 i)]
  dsimp only
  rw [List.nil_append]
  have h := loop_reads c i arg3 harg3 arg4 harg4 arg5 harg5 arg6 harg6 arg7 harg7 arg8 harg8 arg9 harg9 arg10 harg10 arg11 harg11 q K V bias v149 X6 h6 X8 h8 X9 h9
    (arg10.view.writes (Elt F) arg10.view.junk H10) (arg11.view.writes (Elt F) arg11.view.junk H11) (k0_t1_loop i).trips le_rfl
  rw [e10, e11] at h
  have h2 := congrArg Prod.snd h
  dsimp only at h2
  rw [← View.writes_append, View.read_writes_junk_eq_canon, trips1] at h2
  rw [View.readCov_eq_canon', trips1, h2]
  unfold rows512 RowLoads.rowsFrom sweep
  funext j
  refine congrArg _ ?_
  funext a
  fin_cases a
  · refine Fin.ext ?_
    simp
  · refine Fin.ext ?_
    simp

/-- What any other step stores. -/
theorem out_B (hc0 : ¬cond0_0 i) (x0 : Vec F S1x512x128 .bf16) (x1 x2 : Vec F S1x128x2048 .f32) (x3 : Vec F S1x2x128 .f32)
    (xs0 xs1 : Vec F S16x128x128 .bf16) :
    out0_B_4 (F := F) c i arg3 harg3 arg4 harg4 arg5 harg5 arg6 harg6 arg7 harg7 arg8 harg8 arg9 harg9 arg10 harg10 arg11 harg11 hc0 x0 x1 x2 x3 xs0 xs1 = blockOut x0 xs0 xs1 x3 (i 2).val := by
  have hz3 : (![0, 0, 0] : Fin 3 → Nat) = fun _ => 0 := funext fun a => by fin_cases a <;> rfl
  unfold out0_B_4
  rw [View.read_writes_eq_canon _ _ _ (cover0_B_4 c i arg3 harg3 arg4 harg4 arg5 harg5 arg6 harg6 arg7 harg7 arg8 harg8 arg9 harg9 arg10 harg10 arg11 harg11 hc0 x0 x1 x2 x3 xs0 xs1)]
  unfold kernelRun0_B
  dsimp only
  sl_unfold_words
  rw [View.canon_unit_zero (S := S1x512x128) hz3]
  have hq : View.readAt (Elt F) arg3.view (Rect.unit (s := S1x512x128) ![0, 0, 0] S1x512x128.size inb_S1x512x128_S1x512x128_0_0_0).toLoadRect (harg3.unread x0) = x0 := by
    rw [View.readAt_eq_ld, View.ld_unit_zero (S := S1x512x128) hz3, harg3.read_unread]
  have hr : blockOut x0 xs0 xs1 x3 (i 2).val = blockOut (View.readAt (Elt F) arg3.view (Rect.unit (s := S1x512x128) ![0, 0, 0] S1x512x128.size inb_S1x512x128_S1x512x128_0_0_0).toLoadRect (harg3.unread x0)) xs0 xs1 x3 (i 2).val := by
    rw [hq]
  refine Eq.trans ?_ hr.symm
  clear hq hr
  unfold blockOut
  refine congrArg₂ (k0_pay5 k0_pay67) ?_ ?_
  all_goals
    refine rows_after c i arg3 harg3 arg4 harg4 arg5 harg5 arg6 harg6 arg7 harg7 arg8 harg8 arg9 harg9 arg10 harg10 arg11 harg11 _ xs0 xs1 x3 _ _ (harg6.read_unread x3) _ (harg8.read_unread xs0) _ (harg9.read_unread xs1) _ _ ?_ ?_ _ _ _ _ _ _
    · exact (View.read_writes_full _ _ _ _ _).trans (congrArg Prod.fst (diag_loads i arg6 arg8 arg9 arg10 arg11 _ xs0 xs1 x3 _ (harg6.read_unread x3) _ (harg8.read_unread xs0) _ (harg9.read_unread xs1))).symm
    · exact (View.read_writes_full _ _ _ _ _).trans (congrArg Prod.snd (diag_loads i arg6 arg8 arg9 arg10 arg11 _ xs0 xs1 x3 _ (harg6.read_unread x3) _ (harg8.read_unread xs0) _ (harg9.read_unread xs1))).symm

/-! ## The stacks of tiles, which the first step of a head pair fills -/

/-- The sixteen tiles of a head pair's keys (or values): tile `j` holds positions `128 j` to `128 j + 127`. -/
def tiles (x : Vec F S1x128x2048 .f32) : Vec F S16x128x128 .bf16 := fun y =>
  (truncf .bf16 (x : FVec F S1x128x2048 .f32) bitsLt_bf16_f32 : FVec F S1x128x2048 .bf16)
    (ix3 (0 : Fin 1) (y 1 : Fin 128) (⟨128 * (y 0).val + (y 2).val, by
      have h0 : (y 0).val < 16 := (y 0).isLt
      have h2 : (y 2).val < 128 := (y 2).isLt
      omega⟩ : Fin 2048))

/-- What is stored into tile `j` is tile `j`. -/
theorem tile_stored (x : Vec F S1x128x2048 .f32) (j o : ℕ) (ho : o = 128 * j)
    (inb : ∀ a, (![0, 0, o] : Fin 3 → ℕ) a + S1x128x128.size a ≤ S1x128x2048.size a)
    (inb' : ∀ a, (![j, 0, 0] : Fin 3 → ℕ) a + S1x128x128.size a ≤ S16x128x128.size a) (y : S1x128x128.Idx) :
    k0_pay6 (View.ld x (Rect.unit (s := S1x128x2048) ![0, 0, o] S1x128x128.size inb)) y
      = tiles x ((Rect.unit (s := S16x128x128) ![j, 0, 0] S1x128x128.size inb').emb y) := by
  subst ho
  unfold k0_pay6 tiles
  dsimp only
  refine (shapeCast_addUnit_apply (n := 2) ![128, 128] _ _ y).trans ?_
  refine congrArg (FloatOps.truncf .bf16 bitsLt_bf16_f32) ?_
  refine (shapeCast_dropUnit_apply (n := 2) ![128, 128] _ _ _).trans ?_
  refine congrArg x ?_
  have h0 : (y 0).val < 1 := (y 0).isLt
  funext a
  fin_cases a
  · exact Fin.ext rfl
  · exact Fin.ext rfl
  · refine Fin.ext ?_
    show 128 * j + 1 * (y 2).val = 128 * (j + 1 * (y 0).val) + (0 + 1 * (y 2).val)
    omega

/-- The first step of a head pair fills the stack of key tiles. -/
theorem stack_A0 (hc0 : cond0_0 i) (x0 : Vec F S1x512x128 .bf16) (x1 x2 : Vec F S1x128x2048 .f32) (x3 : Vec F S1x2x128 .f32) :
    View.canon (kernelRun0_A (F := F) c i arg3 harg3 arg4 harg4 arg5 harg5 arg6 harg6 arg7 harg7 arg8 harg8 arg9 harg9 arg10 harg10 arg11 harg11 hc0 x0 x1 x2 x3).2.1 = tiles x1 := by
  funext y
  refine View.canon_apply_of_pieces _ _ ?_ y (scover0_A_0 c i arg3 harg3 arg4 harg4 arg5 harg5 arg6 harg6 arg7 harg7 arg8 harg8 arg9 harg9 arg10 harg10 arg11 harg11 hc0 x0 x1 x2 x3 y)
  rw [show tiles x1 = tiles (arg4.view.read (Elt F) (harg4.unread x1)) by rw [harg4.read_unread]]
  unfold kernelRun0_A
  dsimp only
  sl_unfold_words
  exact List.forall_mem_cons.2 ⟨fun y => tile_stored _ 15 1920 rfl _ inb_S16x128x128_S1x128x128_15_0_0 y,
    List.forall_mem_cons.2 ⟨fun y => tile_stored _ 14 1792 rfl _ inb_S16x128x128_S1x128x128_14_0_0 y,
    List.forall_mem_cons.2 ⟨fun y => tile_stored _ 13 1664 rfl _ inb_S16x128x128_S1x128x128_13_0_0 y,
    List.forall_mem_cons.2 ⟨fun y => tile_stored _ 12 1536 rfl _ inb_S16x128x128_S1x128x128_12_0_0 y,
    List.forall_mem_cons.2 ⟨fun y => tile_stored _ 11 1408 rfl _ inb_S16x128x128_S1x128x128_11_0_0 y,
    List.forall_mem_cons.2 ⟨fun y => tile_stored _ 10 1280 rfl _ inb_S16x128x128_S1x128x128_10_0_0 y,
    List.forall_mem_cons.2 ⟨fun y => tile_stored _ 9 1152 rfl _ inb_S16x128x128_S1x128x128_9_0_0 y,
    List.forall_mem_cons.2 ⟨fun y => tile_stored _ 8 1024 rfl _ inb_S16x128x128_S1x128x128_8_0_0 y,
    List.forall_mem_cons.2 ⟨fun y => tile_stored _ 7 896 rfl _ inb_S16x128x128_S1x128x128_7_0_0 y,
    List.forall_mem_cons.2 ⟨fun y => tile_stored _ 6 768 rfl _ inb_S16x128x128_S1x128x128_6_0_0 y,
    List.forall_mem_cons.2 ⟨fun y => tile_stored _ 5 640 rfl _ inb_S16x128x128_S1x128x128_5_0_0 y,
    List.forall_mem_cons.2 ⟨fun y => tile_stored _ 4 512 rfl _ inb_S16x128x128_S1x128x128_4_0_0 y,
    List.forall_mem_cons.2 ⟨fun y => tile_stored _ 3 384 rfl _ inb_S16x128x128_S1x128x128_3_0_0 y,
    List.forall_mem_cons.2 ⟨fun y => tile_stored _ 2 256 rfl _ inb_S16x128x128_S1x128x128_2_0_0 y,
    List.forall_mem_cons.2 ⟨fun y => tile_stored _ 1 128 rfl _ inb_S16x128x128_S1x128x128_1_0_0 y,
    List.forall_mem_cons.2 ⟨fun y => tile_stored _ 0 0 rfl _ inb_S16x128x128_S1x128x128_0_0_0 y,
    List.forall_mem_nil _⟩⟩⟩⟩⟩⟩⟩⟩⟩⟩⟩⟩⟩⟩⟩⟩
theorem sout_A0 (hc0 : cond0_0 i) (x0 : Vec F S1x512x128 .bf16) (x1 x2 : Vec F S1x128x2048 .f32) (x3 : Vec F S1x2x128 .f32) :
    sout0_A_0 (F := F) c i arg3 harg3 arg4 harg4 arg5 harg5 arg6 harg6 arg7 harg7 arg8 harg8 arg9 harg9 arg10 harg10 arg11 harg11 hc0 x0 x1 x2 x3 = tiles x1 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 x0 x1 x2 x3)]
  exact stack_A0 c i arg3 harg3 arg4 harg4 arg5 harg5 arg6 harg6 arg7 harg7 arg8 harg8 arg9 harg9 arg10 harg10 arg11 harg11 hc0 x0 x1 x2 x3

/-- The first step of a head pair fills the stack of value tiles. -/
theorem stack_A1 (hc0 : cond0_0 i) (x0 : Vec F S1x512x128 .bf16) (x1 x2 : Vec F S1x128x2048 .f32) (x3 : Vec F S1x2x128 .f32) :
    View.canon (kernelRun0_A (F := F) c i arg3 harg3 arg4 harg4 arg5 harg5 arg6 harg6 arg7 harg7 arg8 harg8 arg9 harg9 arg10 harg10 arg11 harg11 hc0 x0 x1 x2 x3).2.2.1 = tiles x2 := by
  funext y
  refine View.canon_apply_of_pieces _ _ ?_ y (scover0_A_1 c i arg3 harg3 arg4 harg4 arg5 harg5 arg6 harg6 arg7 harg7 arg8 harg8 arg9 harg9 arg10 harg10 arg11 harg11 hc0 x0 x1 x2 x3 y)
  rw [show tiles x2 = tiles (arg5.view.read (Elt F) (harg5.unread x2)) by rw [harg5.read_unread]]
  unfold kernelRun0_A
  dsimp only
  sl_unfold_words
  exact List.forall_mem_cons.2 ⟨fun y => tile_stored _ 15 1920 rfl _ inb_S16x128x128_S1x128x128_15_0_0 y,
    List.forall_mem_cons.2 ⟨fun y => tile_stored _ 14 1792 rfl _ inb_S16x128x128_S1x128x128_14_0_0 y,
    List.forall_mem_cons.2 ⟨fun y => tile_stored _ 13 1664 rfl _ inb_S16x128x128_S1x128x128_13_0_0 y,
    List.forall_mem_cons.2 ⟨fun y => tile_stored _ 12 1536 rfl _ inb_S16x128x128_S1x128x128_12_0_0 y,
    List.forall_mem_cons.2 ⟨fun y => tile_stored _ 11 1408 rfl _ inb_S16x128x128_S1x128x128_11_0_0 y,
    List.forall_mem_cons.2 ⟨fun y => tile_stored _ 10 1280 rfl _ inb_S16x128x128_S1x128x128_10_0_0 y,
    List.forall_mem_cons.2 ⟨fun y => tile_stored _ 9 1152 rfl _ inb_S16x128x128_S1x128x128_9_0_0 y,
    List.forall_mem_cons.2 ⟨fun y => tile_stored _ 8 1024 rfl _ inb_S16x128x128_S1x128x128_8_0_0 y,
    List.forall_mem_cons.2 ⟨fun y => tile_stored _ 7 896 rfl _ inb_S16x128x128_S1x128x128_7_0_0 y,
    List.forall_mem_cons.2 ⟨fun y => tile_stored _ 6 768 rfl _ inb_S16x128x128_S1x128x128_6_0_0 y,
    List.forall_mem_cons.2 ⟨fun y => tile_stored _ 5 640 rfl _ inb_S16x128x128_S1x128x128_5_0_0 y,
    List.forall_mem_cons.2 ⟨fun y => tile_stored _ 4 512 rfl _ inb_S16x128x128_S1x128x128_4_0_0 y,
    List.forall_mem_cons.2 ⟨fun y => tile_stored _ 3 384 rfl _ inb_S16x128x128_S1x128x128_3_0_0 y,
    List.forall_mem_cons.2 ⟨fun y => tile_stored _ 2 256 rfl _ inb_S16x128x128_S1x128x128_2_0_0 y,
    List.forall_mem_cons.2 ⟨fun y => tile_stored _ 1 128 rfl _ inb_S16x128x128_S1x128x128_1_0_0 y,
    List.forall_mem_cons.2 ⟨fun y => tile_stored _ 0 0 rfl _ inb_S16x128x128_S1x128x128_0_0_0 y,
    List.forall_mem_nil _⟩⟩⟩⟩⟩⟩⟩⟩⟩⟩⟩⟩⟩⟩⟩⟩
theorem sout_A1 (hc0 : cond0_0 i) (x0 : Vec F S1x512x128 .bf16) (x1 x2 : Vec F S1x128x2048 .f32) (x3 : Vec F S1x2x128 .f32) :
    sout0_A_1 (F := F) c i arg3 harg3 arg4 harg4 arg5 harg5 arg6 harg6 arg7 harg7 arg8 harg8 arg9 harg9 arg10 harg10 arg11 harg11 hc0 x0 x1 x2 x3 = tiles x2 := by
  unfold sout0_A_1
  rw [View.read_writes_eq_canon _ _ _ (scover0_A_1 c i arg3 harg3 arg4 harg4 arg5 harg5 arg6 harg6 arg7 harg7 arg8 harg8 arg9 harg9 arg10 harg10 arg11 harg11 hc0 x0 x1 x2 x3)]
  exact stack_A1 c i arg3 harg3 arg4 harg4 arg5 harg5 arg6 harg6 arg7 harg7 arg8 harg8 arg9 harg9 arg10 harg10 arg11 harg11 hc0 x0 x1 x2 x3

/-- What the first step of a head pair stores. -/
theorem out_A (hc0 : cond0_0 i) (x0 : Vec F S1x512x128 .bf16) (x1 x2 : Vec F S1x128x2048 .f32) (x3 : Vec F S1x2x128 .f32) :
    out0_A_4 (F := F) c i arg3 harg3 arg4 harg4 arg5 harg5 arg6 harg6 arg7 harg7 arg8 harg8 arg9 harg9 arg10 harg10 arg11 harg11 hc0 x0 x1 x2 x3 = blockOut x0 (tiles x1) (tiles x2) x3 (i 2).val := by
  have hz3 : (![0, 0, 0] : Fin 3 → Nat) = fun _ => 0 := funext fun a => by fin_cases a <;> rfl
  have h8 : arg8.view.read (Elt F) (arg8.view.writes (Elt F) arg8.view.junk (kernelRun0_A (F := F) c i arg3 harg3 arg4 harg4 arg5 harg5 arg6 harg6 arg7 harg7 arg8 harg8 arg9 harg9 arg10 harg10 arg11 harg11 hc0 x0 x1 x2 x3).2.1) = tiles x1 := by
    rw [View.read_writes_junk_eq_canon, stack_A0]
  have h9 : arg9.view.read (Elt F) (arg9.view.writes (Elt F) arg9.view.junk (kernelRun0_A (F := F) c i arg3 harg3 arg4 harg4 arg5 harg5 arg6 harg6 arg7 harg7 arg8 harg8 arg9 harg9 arg10 harg10 arg11 harg11 hc0 x0 x1 x2 x3).2.2.1) = tiles x2 := by
    rw [View.read_writes_junk_eq_canon, stack_A1]
  unfold out0_A_4
  rw [View.read_writes_eq_canon _ _ _ (cover0_A_4 c i arg3 harg3 arg4 harg4 arg5 harg5 arg6 harg6 arg7 harg7 arg8 harg8 arg9 harg9 arg10 harg10 arg11 harg11 hc0 x0 x1 x2 x3)]
  have hq : View.readAt (Elt F) arg3.view (Rect.unit (s := S1x512x128) ![0, 0, 0] S1x512x128.size inb_S1x512x128_S1x512x128_0_0_0).toLoadRect (harg3.unread x0) = x0 := by
    rw [View.readAt_eq_ld, View.ld_unit_zero (S := S1x512x128) hz3, harg3.read_unread]
  have hr : blockOut x0 (tiles x1) (tiles x2) x3 (i 2).val = blockOut (View.readAt (Elt F) arg3.view (Rect.unit (s := S1x512x128) ![0, 0, 0] S1x512x128.size inb_S1x512x128_S1x512x128_0_0_0).toLoadRect (harg3.unread x0)) (tiles x1) (tiles x2) x3 (i 2).val := by
    rw [hq]
  refine Eq.trans ?_ hr.symm
  clear hq hr
  revert h8 h9
  unfold kernelRun0_A
  dsimp only
  sl_unfold_words
  intro h8 h9
  rw [View.canon_unit_zero (S := S1x512x128) hz3]
  unfold blockOut
  refine congrArg₂ (k0_pay5 k0_pay67) ?_ ?_
  all_goals
    refine rows_after c i arg3 harg3 arg4 harg4 arg5 harg5 arg6 harg6 arg7 harg7 arg8 harg8 arg9 harg9 arg10 harg10 arg11 harg11 _ (tiles x1) (tiles x2) x3 _ _ (harg6.read_unread x3) _ h8 _ h9 _ _ ?_ ?_ _ _ _ _ _ _
    · exact (View.read_writes_full _ _ _ _ _).trans (congrArg Prod.fst (diag_loads i arg6 arg8 arg9 arg10 arg11 _ (tiles x1) (tiles x2) x3 _ (harg6.read_unread x3) _ h8 _ h9)).symm
    · exact (View.read_writes_full _ _ _ _ _).trans (congrArg Prod.snd (diag_loads i arg6 arg8 arg9 arg10 arg11 _ (tiles x1) (tiles x2) x3 _ (harg6.read_unread x3) _ h8 _ h9)).symm

end Cert.Attn

end
-- ==== Proof.Blocks.lean ====
/-
  What every grid step stores, as a function of its own blocks alone. The stacks of key and value tiles are filled
  at the first of the four steps of a head pair and kept for the other three, whose key and value blocks are the same;
  so at every step the stacks are the tiles of the step's own blocks. The output array is then the steps' blocks laid
  side by side.
-/
module

public import proofs.«01_k».proof.Proof.Block
public import Idealize.ShloMosaic.Lib.Pipeline.ValueKit
public import Idealize.ShloMosaic.Lib.Pipeline.ValueKit.Held

@[expose] public section

noncomputable section

open Idealize.ShloMosaic Idealize.ShloMosaic.TcCoe Idealize.SL.Sem
open Idealize.ShloMosaic.Pipeline (Dat)

namespace Cert.Attn

open Cert.KernelIdeal Cert.KernelIdeal.Gen

variable {F : FTy → Type} [FloatOps F]
variable (m : (ℓ : Loc nD τ sig) → Buf (Elt F) ℓ)

theorem index0 : ∀ t : Fin cfg0.N, win0_0.index t = ![t.val / 32, t.val % 4, t.val / 4 % 8] := by decide +kernel
theorem index1 : ∀ t : Fin cfg0.N, win0_1.index t = ![t.val / 32, t.val / 4 % 8, 0] := by decide +kernel
theorem index2 : ∀ t : Fin cfg0.N, win0_2.index t = ![t.val / 32, t.val / 4 % 8, 0] := by decide +kernel
theorem index3 : ∀ t : Fin cfg0.N, win0_3.index t = ![t.val / 4 % 8, 0, 0] := by decide +kernel
theorem index4 : ∀ t : Fin cfg0.N, win0_4.index t = ![t.val / 32, t.val % 4, t.val / 4 % 8] := by decide +kernel
theorem coord2 : ∀ t : Fin cfg0.N, (grid0.coords t 2).val = t.val % 4 := by decide +kernel

/-- The queries' array, the keys', the values' and the bias, as the grid steps find them. -/
abbrev Q0 (c : Dev nD) : FVec F S8x2048x1024 .bf16 := V m c (Pipeline.arrRef spec0 0)
abbrev K0 (c : Dev nD) : FVec F S8x1024x2048 .f32 := V m c (Pipeline.arrRef spec0 1)
abbrev V0 (c : Dev nD) : FVec F S8x1024x2048 .f32 := V m c (Pipeline.arrRef spec0 2)
abbrev B0 (c : Dev nD) : FVec F S8x2x128 .f32 := V m c (Pipeline.arrRef spec0 3)

/-- The step's place in the grid: batch element, head pair, query block. -/
abbrev bOf (t : Fin cfg0.N) : Fin 8 := ⟨t.val / 32, by have := lt_of_lt_of_eq t.isLt (show cfg0.N = 256 from N_0); omega⟩
abbrev hOf (t : Fin cfg0.N) : Fin 8 := ⟨t.val / 4 % 8, by omega⟩
abbrev qOf (t : Fin cfg0.N) : Fin 4 := ⟨t.val % 4, by omega⟩

theorem iblk0 (c : Dev nD) (t : Fin cfg0.N) (y : S1x512x128.Idx) :
    iblk m c 0 t y = Q0 m c (ix3 (bOf t) (⟨512 * (qOf t).val + (y 1).val, by have h1 : (y 1).val < 512 := (y 1).isLt; omega⟩ : Fin 2048)
      (⟨128 * (hOf t).val + (y 2).val, by have h1 : (y 2).val < 128 := (y 2).isLt; omega⟩ : Fin 1024)) := by
  blk_ext [iblk, index0 t]
theorem iblk1 (c : Dev nD) (t : Fin cfg0.N) (y : S1x128x2048.Idx) :
    iblk m c 1 t y = K0 m c (ix3 (bOf t) (⟨128 * (hOf t).val + (y 1).val, by have h1 : (y 1).val < 128 := (y 1).isLt; omega⟩ : Fin 1024)
      (⟨(y 2).val, (y 2).isLt⟩ : Fin 2048)) := by
  blk_ext [iblk, index1 t]
theorem iblk2 (c : Dev nD) (t : Fin cfg0.N) (y : S1x128x2048.Idx) :
    iblk m c 2 t y = V0 m c (ix3 (bOf t) (⟨128 * (hOf t).val + (y 1).val, by have h1 : (y 1).val < 128 := (y 1).isLt; omega⟩ : Fin 1024)
      (⟨(y 2).val, (y 2).isLt⟩ : Fin 2048)) := by
  blk_ext [iblk, index2 t]
theorem iblk3 (c : Dev nD) (t : Fin cfg0.N) (y : S1x2x128.Idx) :
    iblk m c 3 t y = B0 m c (ix3 (hOf t) (⟨(y 1).val, (y 1).isLt⟩ : Fin 2) (⟨(y 2).val, (y 2).isLt⟩ : Fin 128)) := by
  blk_ext [iblk, index3 t]

/-- The blocks of queries, keys, values and bias of one batch element, head pair and query block. -/
def qBlk (X : FVec F S8x2048x1024 .bf16) (b h : Fin 8) (q : Fin 4) : FVec F S1x512x128 .bf16 := fun y =>
  X (ix3 b (⟨512 * q.val + (y 1).val, by have h1 : (y 1).val < 512 := (y 1).isLt; omega⟩ : Fin 2048)
      (⟨128 * h.val + (y 2).val, by have h1 : (y 2).val < 128 := (y 2).isLt; omega⟩ : Fin 1024))
def kBlk (X : FVec F S8x1024x2048 .f32) (b h : Fin 8) : Vec F S1x128x2048 .f32 := fun y =>
  X (ix3 b (⟨128 * h.val + (y 1).val, by have h1 : (y 1).val < 128 := (y 1).isLt; omega⟩ : Fin 1024) (⟨(y 2).val, (y 2).isLt⟩ : Fin 2048))
def bBlk (X : FVec F S8x2x128 .f32) (h : Fin 8) : Vec F S1x2x128 .f32 := fun y =>
  X (ix3 h (⟨(y 1).val, (y 1).isLt⟩ : Fin 2) (⟨(y 2).val, (y 2).isLt⟩ : Fin 128))

/-- The stack of key tiles after any step is the tiles of that step's keys. -/
theorem keys_held (c : Dev nD) (n : ℕ) (hn : n < cfg0.N) : (outsAt0 m c n hn).2.1 = tiles (kBlk (K0 m c) (bOf ⟨n, hn⟩) (hOf ⟨n, hn⟩)) := by
  induction n with
  | zero =>
    rw [outsAt0_A m c ⟨0, hn⟩ rfl]
    dsimp only
    rw [sout_A0]
    exact congrArg tiles (funext fun y => iblk1 m c _ y)
  | succ n ih =>
    by_cases h : (n + 1) % 4 = 0
    · rw [outsAt0_A m c ⟨n + 1, hn⟩ h]
      dsimp only
      rw [sout_A0]
      exact congrArg tiles (funext fun y => iblk1 m c _ y)
    · rw [outsAt0_B m c ⟨n + 1, hn⟩ h]
      dsimp only
      refine Eq.trans (?_ : _ = (outsAt0 m c n (Nat.lt_of_succ_lt hn)).2.1) ((ih (Nat.lt_of_succ_lt hn)).trans ?_)
      · rfl
      · have e1 : bOf ⟨n, Nat.lt_of_succ_lt hn⟩ = bOf ⟨n + 1, hn⟩ := Fin.ext (by show n / 32 = (n + 1) / 32; omega)
        have e2 : hOf ⟨n, Nat.lt_of_succ_lt hn⟩ = hOf ⟨n + 1, hn⟩ := Fin.ext (by show n / 4 % 8 = (n + 1) / 4 % 8; omega)
        rw [e1, e2]

/-- The stack of value tiles after any step is the tiles of that step's values. -/
theorem vals_held (c : Dev nD) (n : ℕ) (hn : n < cfg0.N) : (outsAt0 m c n hn).2.2 = tiles (kBlk (V0 m c) (bOf ⟨n, hn⟩) (hOf ⟨n, hn⟩)) := by
  induction n with
  | zero =>
    rw [outsAt0_A m c ⟨0, hn⟩ rfl]
    dsimp only
    rw [sout_A1]
    exact congrArg tiles (funext fun y => iblk2 m c _ y)
  | succ n ih =>
    by_cases h : (n + 1) % 4 = 0
    · rw [outsAt0_A m c ⟨n + 1, hn⟩ h]
      dsimp only
      rw [sout_A1]
      exact congrArg tiles (funext fun y => iblk2 m c _ y)
    · rw [outsAt0_B m c ⟨n + 1, hn⟩ h]
      dsimp only
      refine Eq.trans (?_ : _ = (outsAt0 m c n (Nat.lt_of_succ_lt hn)).2.2) ((ih (Nat.lt_of_succ_lt hn)).trans ?_)
      · rfl
      · have e1 : bOf ⟨n, Nat.lt_of_succ_lt hn⟩ = bOf ⟨n + 1, hn⟩ := Fin.ext (by show n / 32 = (n + 1) / 32; omega)
        have e2 : hOf ⟨n, Nat.lt_of_succ_lt hn⟩ = hOf ⟨n + 1, hn⟩ := Fin.ext (by show n / 4 % 8 = (n + 1) / 4 % 8; omega)
        rw [e1, e2]

/-- The output block of batch element `b`, head pair `h`, query block `q`, from the four arrays. -/
def stepOut (Q : FVec F S8x2048x1024 .bf16) (K V : FVec F S8x1024x2048 .f32) (B : FVec F S8x2x128 .f32) (b h : Fin 8) (q : Fin 4) :
    FVec F S1x512x128 .bf16 := blockOut (qBlk Q b h q) (tiles (kBlk K b h)) (tiles (kBlk V b h)) (bBlk B h) q.val

/-- What a grid step leaves for the output is its block. -/
theorem step_out (c : Dev nD) (t : Fin cfg0.N) :
    (outsAt0 m c t.val t.isLt).1 = stepOut (Q0 m c) (K0 m c) (V0 m c) (B0 m c) (bOf t) (hOf t) (qOf t) := by
  have e0 : iblk m c 0 t = qBlk (Q0 m c) (bOf t) (hOf t) (qOf t) := funext fun y => iblk0 m c t y
  have e1 : iblk m c 1 t = kBlk (K0 m c) (bOf t) (hOf t) := funext fun y => iblk1 m c t y
  have e2 : iblk m c 2 t = kBlk (V0 m c) (bOf t) (hOf t) := funext fun y => iblk2 m c t y
  have e3 : iblk m c 3 t = bBlk (B0 m c) (hOf t) := funext fun y => iblk3 m c t y
  unfold stepOut
  by_cases h : t.val % 4 = 0
  · rw [outsAt0_A m c t h]
    dsimp only
    rw [out_A, e0, e1, e2, e3, coord2]
  · rw [outsAt0_B m c t h]
    have hlt : t.val - 1 < cfg0.N := Nat.lt_of_le_of_lt (Nat.sub_le _ _) t.isLt
    have b1 : bOf ⟨t.val - 1, hlt⟩ = bOf t := Fin.ext (by show (t.val - 1) / 32 = t.val / 32; omega)
    have b2 : hOf ⟨t.val - 1, hlt⟩ = hOf t := Fin.ext (by show (t.val - 1) / 4 % 8 = t.val / 4 % 8; omega)
    dsimp only
    rw [out_B, keys_held m c (t.val - 1) hlt, vals_held m c (t.val - 1) hlt, b1, b2, e0, e3, coord2]

/-- The output array: at a position and a column, the element of the block they fall in. -/
def arrOut (Q : FVec F S8x2048x1024 .bf16) (K V : FVec F S8x1024x2048 .f32) (B : FVec F S8x2x128 .f32) : FVec F S8x2048x1024 .bf16 := fun i =>
  stepOut Q K V B (i 0) (⟨(i 2).val / 128, by have h : (i 2).val < 1024 := (i 2).isLt; omega⟩ : Fin 8)
    (⟨(i 1).val / 512, by have h : (i 1).val < 2048 := (i 1).isLt; omega⟩ : Fin 4)
    (ix3 (0 : Fin 1) (⟨(i 1).val % 512, Nat.mod_lt _ (by decide)⟩ : Fin 512) (⟨(i 2).val % 128, Nat.mod_lt _ (by decide)⟩ : Fin 128))

theorem final (c : Dev nD) : (dats m 0 c).arrAt 4 cfg0.N = arrOut (Q0 m c) (K0 m c) (V0 m c) (B0 m c) := by
  refine (dats m 0 c).arrAt_eq_of_covers 4 _ (by decide +kernel) fun t hf y => ?_
  blk_simp
  rw [after0_4, step_out]
  have h0 : (y 0).val < 1 := (y 0).isLt
  have h1 : (y 1).val < 512 := (y 1).isLt
  have h2 : (y 2).val < 128 := (y 2).isLt
  have hN := lt_of_lt_of_eq t.isLt (show cfg0.N = 256 from N_0)
  have p0 : ((((cfg0.win 4).blk t).view.emb y) 0 : ℕ) = t.val / 32 * 1 + (y 0).val := by blk_simp [index4 t]
  have p1 : ((((cfg0.win 4).blk t).view.emb y) 1 : ℕ) = t.val % 4 * 512 + (y 1).val := by blk_simp [index4 t]
  have p2 : ((((cfg0.win 4).blk t).view.emb y) 2 : ℕ) = t.val / 4 % 8 * 128 + (y 2).val := by blk_simp [index4 t]
  generalize ((cfg0.win 4).blk t).view.emb y = j at p0 p1 p2 ⊢
  unfold arrOut
  have q0 : j 0 = bOf t := Fin.ext (by show (j 0 : ℕ) = t.val / 32; omega)
  have q1 : (⟨(j 1).val / 512, by have h : (j 1).val < 2048 := (j 1).isLt; omega⟩ : Fin 4) = qOf t := Fin.ext (by show (j 1 : ℕ) / 512 = t.val % 4; omega)
  have q2 : (⟨(j 2).val / 128, by have h : (j 2).val < 1024 := (j 2).isLt; omega⟩ : Fin 8) = hOf t := Fin.ext (by show (j 2 : ℕ) / 128 = t.val / 4 % 8; omega)
  rw [q0, q1, q2]
  refine congrArg _ (funext fun a => ?_)
  match a with
  | ⟨0, _⟩ => exact Fin.ext (by show (y 0).val = (0 : ℕ); omega)
  | ⟨1, _⟩ => exact Fin.ext (by show (y 1).val = (j 1 : ℕ) % 512; omega)
  | ⟨2, _⟩ => exact Fin.ext (by show (y 2).val = (j 2 : ℕ) % 128; omega)

end Cert.Attn

end
-- ==== Proof.Scalar.lean ====
/-
  The scalar functions of the attention over the extended reals. A key `j` before the query keeps, of the weight that
  reaches it, the share `sigmoid (-z)`, and takes the share `sigmoid z`. The kernel works with the softplus
  `sp z = log (1 + exp z)` of a logit `z ≤ 30`, a real number: the logarithms of the two shares are `-(sp z)` and
  `z - sp z`. The reference computes the two logarithms by the guarded formula below; the lemmas say that it agrees.
-/
module

public import Idealize.ShloMosaic.PureOps.Ideal

@[expose] public section

noncomputable section

open Idealize.ShloMosaic

namespace Cert.Attn

/-- The softplus of a logit that is not `⊤`, as a real number. -/
def sp (z : EReal) : ℝ := (Ideal.log (1 + Ideal.exp z)).toReal

theorem sp_bot : sp ⊥ = 0 := by
  unfold sp
  rw [Ideal.exp_bot, add_zero, ← EReal.coe_one, Ideal.log_coe, if_neg (by norm_num), Real.log_one]
  rfl

/-- The larger of two reals, as an extended real. -/
theorem coe_max (x y : ℝ) : ((max x y : ℝ) : EReal) = max (x : EReal) y := EReal.coe_strictMono.monotone.map_max

theorem log_one_add_exp (x : ℝ) : Ideal.log (1 + Ideal.exp x) = ((Real.log (1 + Real.exp x) : ℝ) : EReal) := by
  have h : 0 < 1 + Real.exp x := by positivity
  rw [Ideal.exp_coe, ← EReal.coe_one, ← EReal.coe_add, Ideal.log_coe, if_neg (not_le.2 h)]

theorem sp_coe (x : ℝ) : sp x = Real.log (1 + Real.exp x) := by
  unfold sp
  rw [log_one_add_exp, EReal.toReal_coe]

/-- The kernel's softplus, with its logit held to at most 30 in the exponential, is the softplus below 30. -/
theorem log_eq_sp (z : EReal) (h : z ≤ ((30 : ℝ) : EReal)) : Ideal.log (1 + Ideal.exp (min z ((30 : ℝ) : EReal))) = (sp z : EReal) := by
  rw [min_eq_left h]
  induction z with
  | bot => rw [sp_bot, Ideal.exp_bot, add_zero, ← EReal.coe_one, Ideal.log_coe]; simp
  | coe x => rw [sp_coe, log_one_add_exp]
  | top => exact absurd h (by simp)

/-- The reference's `log_sigmoid`, in the order it computes it. -/
def logSigmoid (x : EReal) : EReal := -(max (-x) 0 + Ideal.log1p (Ideal.exp (-max (-x - 0) (-(-x - 0)))))

theorem softplus_real (y : ℝ) : max y 0 + Real.log (1 + Real.exp (-max y (-y))) = Real.log (1 + Real.exp y) := by
  have pos : ∀ t : ℝ, 0 < 1 + Real.exp t := fun t => by positivity
  rcases le_total 0 y with h | h
  · rw [max_eq_left h, max_eq_left (by linarith)]
    nth_rewrite 1 [← Real.log_exp y]
    rw [← Real.log_mul (Real.exp_pos y).ne' (pos _).ne', mul_add, mul_one, ← Real.exp_add, add_neg_cancel, Real.exp_zero, add_comm]
  · rw [max_eq_right h, max_eq_right (by linarith), neg_neg, zero_add]

theorem logSigmoid_coe (x : ℝ) : logSigmoid x = ((-Real.log (1 + Real.exp (-x)) : ℝ) : EReal) := by
  unfold logSigmoid Ideal.log1p
  have e : max (-(x : EReal) - 0) (-(-(x : EReal) - 0)) = ((max (-x) (-(-x)) : ℝ) : EReal) := by
    simp only [sub_zero, coe_max, EReal.coe_neg]
  rw [e, ← EReal.coe_neg, ← EReal.coe_neg, log_one_add_exp, ← EReal.coe_zero, ← coe_max, ← EReal.coe_add, softplus_real, EReal.coe_neg]

theorem sub_zero_bot : (⊥ : EReal) - 0 = ⊥ := by rw [sub_zero]

/-- The logarithm of the share a key leaves … -/
theorem logSigmoid_neg (z : EReal) (h : z ≤ ((30 : ℝ) : EReal)) : logSigmoid (-z) = ((-sp z : ℝ) : EReal) := by
  induction z with
  | bot =>
    unfold logSigmoid Ideal.log1p
    rw [sp_bot, neg_neg, sub_zero, EReal.neg_bot, max_eq_right (show (⊥ : EReal) ≤ ⊤ from bot_le), EReal.neg_top, Ideal.exp_bot,
      max_eq_right (show (⊥ : EReal) ≤ 0 from bot_le), zero_add, add_zero, ← EReal.coe_one, Ideal.log_coe]
    simp
  | coe x => rw [← EReal.coe_neg, logSigmoid_coe, neg_neg, sp_coe]
  | top => exact absurd h (by simp)

/-- … and of the share it takes. -/
theorem logSigmoid_eq (z : EReal) (h : z ≤ ((30 : ℝ) : EReal)) : logSigmoid z = z - (sp z : EReal) := by
  induction z with
  | bot =>
    unfold logSigmoid Ideal.log1p
    rw [sp_bot, sub_zero, EReal.neg_bot, EReal.neg_top, max_eq_left (show (⊥ : EReal) ≤ ⊤ from bot_le), EReal.neg_top, Ideal.exp_bot,
      max_eq_left (show (0 : EReal) ≤ ⊤ from le_top), add_zero, ← EReal.coe_one, Ideal.log_coe]
    simp
  | coe x =>
    rw [logSigmoid_coe, sp_coe, ← EReal.coe_sub]
    have pos : ∀ t : ℝ, 0 < 1 + Real.exp t := fun t => by positivity
    congr 1
    have : 1 + Real.exp x = Real.exp x * (1 + Real.exp (-x)) := by
      rw [mul_add, mul_one, ← Real.exp_add, add_neg_cancel, Real.exp_zero, add_comm]
    rw [this, Real.log_mul (Real.exp_pos x).ne' (pos _).ne', Real.log_exp]
    ring
  | top => exact absurd h (by simp)

end Cert.Attn

end
-- ==== Proof.Payload.lean ====
/-
  The kernel's vector expressions read at an index, at the ideal instance: the logits, the mask of the diagonal block,
  the triangular matrix, the two heads' queries, the product with the values, and the block stored.
-/
module

public import proofs.«01_k».proof.Proof.Blocks
public import proofs.«01_k».proof.Proof.Scalar
public import Idealize.ShloMosaic.Lib.Pointwise

@[expose] public section

set_option maxRecDepth 16384

noncomputable section

open Idealize.ShloMosaic Idealize.ShloMosaic.TcCoe Idealize.SL.Sem

namespace Cert.Attn

open Cert.KernelIdeal Cert.KernelIdeal.Gen

/-- Element `x` of key (or value) `j`, in a stack of tiles. -/
def keyAt (K : Vec Ideal S16x128x128 .bf16) (x : Fin 128) (j : ℕ) : EReal :=
  K (ix3 (⟨j / 128 % 16, Nat.mod_lt _ (by decide)⟩ : Fin 16) x (⟨j % 128, Nat.mod_lt _ (by decide)⟩ : Fin 128))

theorem tile_apply (K : Vec Ideal S16x128x128 .bf16) (x : Fin 128) (t j : ℕ) (l : Fin 128) (h : j = 128 * t + l.val) :
    tile K t (ix3 0 x l) = keyAt K x j := by
  subst h
  have hl := l.isLt
  show K (ix3 (⟨t % 16, _⟩ : Fin 16) x l) = _
  unfold keyAt
  congr 2
  · exact Fin.ext (by show t % 16 = (128 * t + l.val) / 128 % 16; omega)
  · exact Fin.ext (by show l.val = (128 * t + l.val) % 128; omega)

/-- The logit of query row `r` against key `j`. -/
def zAt (q : FVec Ideal S1024x128 .bf16) (K : Vec Ideal S16x128x128 .bf16) (bias : Vec Ideal S1x2x128 .f32) (r : Fin 1024) (j : ℕ) : EReal :=
  (∑ x : Fin 128, q (ix2 r x) * keyAt K x j)
    + bias (ix3 (0 : Fin 1) (⟨r.val / 512, by have := r.isLt; omega⟩ : Fin 2) (⟨j % 128, Nat.mod_lt _ (by decide)⟩ : Fin 128))

theorem logits_apply (q : FVec Ideal S1024x128 .bf16) (K : Vec Ideal S16x128x128 .bf16) (bias : Vec Ideal S1x2x128 .f32) (b : ℕ) (r : Fin 1024)
    (c : Fin 512) : logits q K bias b (ix2 r c) = zAt q K bias r (512 * b + c.val) := by
  have hr := r.isLt
  have hc := c.isLt
  unfold logits zAt
  pointwise [k0_pay42]
  have bi : ∀ (u : Fin 2) (hu : u.val = r.val / 512) (l : Fin 128), l.val = (512 * b + c.val) % 128 →
      biasRow bias u (ix3 0 0 l) = bias (ix3 (0 : Fin 1) (⟨r.val / 512, by omega⟩ : Fin 2) (⟨(512 * b + c.val) % 128, Nat.mod_lt _ (by decide)⟩ : Fin 128)) := by
    intro u hu l hl
    show bias (ix3 (0 : Fin 1) u l) = _
    congr 2
    · exact Fin.ext hu
    · exact Fin.ext hl
  have sums : ∀ {f g : Fin 128 → EReal} {x y : EReal}, (∀ l, f l = g l) → x = y → (∑ l, f l) + x = (∑ l, g l) + y := by
    intro f g x y h h'
    rw [h', Finset.sum_congr rfl fun l _ => h l]
  by_cases g : r.val < 512
  · rw [dif_pos g]
    refine sums (fun x => ?_) ?_
    · refine congrArg (q (ix2 r x) * ·) ?_
      split_ifs
      all_goals exact tile_apply K x _ _ _ (by dsimp only; omega)
    · split_ifs <;> first | exact bi _ (by show (0 : ℕ) = _; omega) _ (by dsimp only; omega) | exact absurd rfl ‹_›
  · rw [dif_neg g]
    refine sums (fun x => ?_) ?_
    · have e : (ix2 (⟨512 + (r.val - 512), by omega⟩ : Fin 1024) x : S1024x128.Idx) = ix2 r x := by
        congr 1; exact Fin.ext (by dsimp only; omega)
      refine congrArg₂ (· * ·) (congrArg q e) ?_
      split_ifs
      all_goals exact tile_apply K x _ _ _ (by dsimp only; omega)
    · split_ifs
      all_goals exact bi _ (by show (1 : ℕ) = _; omega) _ (by dsimp only; omega)

theorem gather_apply (att : FVec Ideal S1024x512 .f32) (V : Vec Ideal S16x128x128 .bf16) (b : ℕ) (a : FVec Ideal S1024x128 .f32) (r : Fin 1024)
    (d : Fin 128) : k0_pay1 (F := Ideal) att (tile V (4 * b)) (tile V (4 * b + 1)) (tile V (4 * b + 2)) (tile V (4 * b + 3)) a (ix2 r d)
      = a (ix2 r d) + ∑ c : Fin 512, att (ix2 r c) * keyAt V d (512 * b + c.val) := by
  pointwise [k0_pay1]
  refine congrArg (a (ix2 r d) + ·) (Finset.sum_congr rfl fun c _ => congrArg (att (ix2 r c) * ·) ?_)
  have hc := c.isLt
  split_ifs with g0 g1 g2
  all_goals exact tile_apply V d _ _ _ (by dsimp only; omega)

/-- The mask of the diagonal block: a key strictly before the query's position. -/
theorem mask_apply (r : Fin 1024) (c : Fin 512) : k0_pay73 k0_pay72 (ix2 r c) = BitVec.ofBool (decide (c.val < r.val % 512)) := by
  have hr := r.isLt
  have hc := c.isLt
  have e : IntOp.andi (BitVec.ofNat 32 r.val) 511#32 = BitVec.ofNat 32 (r.val % 512) := by
    refine BitVec.eq_of_toNat_eq ?_
    show ((BitVec.ofNat 32 r.val) &&& 511#32).toNat = _
    rw [BitVec.toNat_and, BitVec.toNat_ofNat, BitVec.toNat_ofNat, BitVec.toNat_ofNat, Nat.mod_eq_of_lt (by omega : r.val < 2 ^ 32),
      Nat.mod_eq_of_lt (by omega : r.val % 512 < 2 ^ 32), Nat.mod_eq_of_lt (by omega : 511 < 2 ^ 32)]
    exact Nat.and_two_pow_sub_one_eq_mod r.val 9
  pointwise [k0_pay73, k0_pay72]
  rw [e]
  word_cmp

theorem neg_one : Ideal.ofBits .f32 3212836864#32 = ((-1 : ℝ) : EReal) := by
  simp [Ideal.ofBits, Ideal.ieee, -EReal.coe_mul, -EReal.coe_neg]; norm_num

theorem thirty : Ideal.ofBits .f32 1106247680#32 = ((30 : ℝ) : EReal) := by
  simp [Ideal.ofBits, Ideal.ieee, -EReal.coe_mul, -EReal.coe_neg]; norm_num

/-- The matrix that sums the keys after a column within a tile, and, in its other half, all keys of the tile. -/
theorem tri_apply (r : Fin 128) (c : Fin 256) :
    (k0_pay69 (F := Ideal)) (ix2 r c) = (((if 128 ≤ c.val ∨ c.val < r.val then -1 else 0 : ℝ)) : EReal) := by
  have hr := r.isLt
  have hc := c.isLt
  pointwise [k0_pay69]
  rw [neg_one]
  word_cmp
  by_cases h1 : 128 ≤ c.val <;> by_cases h2 : c.val < r.val <;> simp [h1, h2, IntOp.ori, Scalar.select]

theorem query_apply (q : FVec Ideal S1x512x128 .bf16) (r : Fin 1024) (x : Fin 128) :
    k0_pay68 q (ix2 r x) = if x.val / 64 = r.val / 512 then q (ix3 (0 : Fin 1) (⟨r.val % 512, Nat.mod_lt _ (by decide)⟩ : Fin 512) x) else 0 := by
  have hr := r.isLt
  have hx := x.isLt
  pointwise [k0_pay68, k0_pay67]
  word_cmp
  have e : ∀ (a : Fin 512), a.val = r.val % 512 →
      q (ix3 (0 : Fin 1) a x) = q (ix3 (0 : Fin 1) (⟨r.val % 512, Nat.mod_lt _ (by decide)⟩ : Fin 512) x) := by
    intro a ha
    congr 2
    exact Fin.ext ha
  by_cases g : r.val < 512
  · rw [dif_pos g]
    by_cases h : x.val < 64
    · rw [if_pos h]
      exact (e ⟨r.val, by omega⟩ (by show r.val = _; omega)).trans (if_pos (by omega)).symm
    · rw [if_neg h]
      exact (if_neg (by omega)).symm
  · rw [dif_neg g]
    by_cases h : x.val < 64
    · rw [if_pos h]
      exact (if_neg (by omega)).symm
    · rw [if_neg h]
      exact (e ⟨r.val - 512, by omega⟩ (by show r.val - 512 = _; omega)).trans (if_pos (by omega)).symm

theorem blockOut_apply (q : Vec Ideal S1x512x128 .bf16) (K V : Vec Ideal S16x128x128 .bf16) (bias : Vec Ideal S1x2x128 .f32) (b : ℕ) (r : Fin 512)
    (d : Fin 128) : blockOut q K V bias b (ix3 (0 : Fin 1) r d)
      = (sweep (k0_pay68 q) K V bias b).2 (ix2 (⟨512 * (d.val / 64) + r.val, by have := r.isLt; have := d.isLt; omega⟩ : Fin 1024) d) := by
  have hr := r.isLt
  have hd := d.isLt
  unfold blockOut
  generalize (sweep (k0_pay68 q) K V bias b).2 = acc
  pointwise [k0_pay5, k0_pay67, rows512]
  word_cmp
  split_ifs with h
  · show acc _ = acc _
    congr 1
    funext a
    refine Fin.ext ?_
    fin_cases a
    · show 0 + r.val = 512 * (d.val / 64) + r.val; omega
    · rfl
  · show acc _ = acc _
    congr 1
    funext a
    refine Fin.ext ?_
    fin_cases a
    · show 512 + r.val = 512 * (d.val / 64) + r.val; omega
    · rfl

theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The kernel's softplus of a logit of at most 30. -/
theorem softplus_apply (z : FVec Ideal S1024x512 .f32) (r : Fin 1024) (c : Fin 512) (h : z (ix2 r c) ≤ ((30 : ℝ) : EReal)) :
    k0_pay44 z k0_pay43 (ix2 r c) = (sp (z (ix2 r c)) : EReal) := by
  pointwise [k0_pay44, k0_pay43]
  rw [thirty, if_neg (not_lt.2 h), log_eq_sp _ h]

/-- The same in the diagonal block, where a masked column has zero. -/
theorem diag_softplus_apply (mask : IVec S1024x512 1) (q : FVec Ideal S1024x128 .bf16) (t0 t1 t2 t3 : Vec Ideal S1x128x128 .bf16)
    (b0 b1 : Vec Ideal S1x1x128 .f32) (r : Fin 1024) (c : Fin 512) (P : Prop) [Decidable P] (hm : mask (ix2 r c) = BitVec.ofBool (decide P))
    (h : P → k0_pay74 q t0 t1 t2 t3 b0 b1 (ix2 r c) ≤ ((30 : ℝ) : EReal)) :
    k0_pay77 mask (k0_pay74 q t0 t1 t2 t3 b0 b1) (k0_pay75 q t0 t1 t2 t3 b0 b1) k0_pay76 (ix2 r c)
      = ((if P then sp (k0_pay74 q t0 t1 t2 t3 b0 b1 (ix2 r c)) else 0 : ℝ) : EReal) := by
  unfold k0_pay75
  generalize k0_pay74 q t0 t1 t2 t3 b0 b1 = z at *
  pointwise [k0_pay77, k0_pay76]
  rw [hm]
  by_cases g : P
  · rw [if_pos g, thirty, if_neg (not_lt.2 (h g)), log_eq_sp _ (h g), decide_eq_true g]; rfl
  · rw [if_neg g, decide_eq_false g]; rfl

/-! ### Sums of softplus over the later keys of a tile -/

section Ladder

variable {X : FVec Ideal S1024x512 .f32} {r : Fin 1024} {s : ℕ → ℝ}

/-- The product with the left half of the matrix: minus the sum over the later keys of the tile that starts at column `o`. -/
theorem later_sum (hX : ∀ c : Fin 512, X (ix2 r c) = (s c.val : EReal)) (o l : ℕ) (hl : l < 128) (f : Fin 128 → Fin 512) (hf : ∀ x, (f x).val = o + x.val)
    (g : Fin 256) (hg : g.val = l) :
    (∑ x : Fin 128, X (ix2 r (f x)) * (k0_pay69 (F := Ideal)) (ix2 x g)) = ((-∑ i ∈ Finset.Ico (o + l + 1) (o + 128), s i : ℝ) : EReal) := by
  have e : ∀ x : Fin 128, X (ix2 r (f x)) * (k0_pay69 (F := Ideal)) (ix2 x g) = (((if l < x.val then -s (o + x.val) else 0 : ℝ)) : EReal) := by
    intro x
    rw [hX, tri_apply, hf, hg, ← EReal.coe_mul]
    congr 1
    by_cases h : l < x.val
    · rw [if_pos (Or.inr h), if_pos h]; ring
    · rw [if_neg (by omega), if_neg h]; ring
  rw [Finset.sum_congr rfl fun x _ => e x, coe_sum]
  congr 1
  rw [Fin.sum_univ_eq_sum_range (fun x => if l < x then -s (o + x) else 0) 128, ← Finset.sum_neg_distrib, Finset.sum_Ico_eq_sum_range,
    ← Finset.sum_filter]
  have e2 : (Finset.range 128).filter (fun x => l < x) = Finset.Ico (l + 1) 128 := by
    ext x; simp only [Finset.mem_filter, Finset.mem_range, Finset.mem_Ico]; omega
  rw [e2, Finset.sum_Ico_eq_sum_range]
  refine Finset.sum_congr (by congr 1; omega) fun x _ => ?_
  congr 2; omega

/-- The product with the right half: minus the sum over all keys of the tile. -/
theorem tile_sum (hX : ∀ c : Fin 512, X (ix2 r c) = (s c.val : EReal)) (o : ℕ) (f : Fin 128 → Fin 512) (hf : ∀ x, (f x).val = o + x.val)
    (g : Fin 256) (hg : 128 ≤ g.val) :
    (∑ x : Fin 128, X (ix2 r (f x)) * (k0_pay69 (F := Ideal)) (ix2 x g)) = ((-∑ i ∈ Finset.Ico o (o + 128), s i : ℝ) : EReal) := by
  have e : ∀ x : Fin 128, X (ix2 r (f x)) * (k0_pay69 (F := Ideal)) (ix2 x g) = ((-s (o + x.val) : ℝ) : EReal) := by
    intro x
    rw [hX, tri_apply, hf, if_pos (Or.inl hg), ← EReal.coe_mul]
    congr 1; ring
  rw [Finset.sum_congr rfl fun x _ => e x, coe_sum]
  congr 1
  rw [Fin.sum_univ_eq_sum_range (fun x => -s (o + x)) 128, ← Finset.sum_neg_distrib, Finset.sum_Ico_eq_sum_range]
  refine Finset.sum_congr (by congr 1; omega) fun x _ => rfl

end Ladder

section Score

variable {r : Fin 1024} {s : ℕ → ℝ} {ρ : ℝ} {run : FVec Ideal S1024x128 .f32}

/-- The four tiles' scores side by side: the logit less its softplus, the later keys of the tile, and all later tiles. -/
theorem ladder (z X : FVec Ideal S1024x512 .f32) (hX : ∀ c : Fin 512, X (ix2 r c) = (s c.val : EReal))
    (hrun : ∀ l : Fin 128, run (ix2 r l) = (ρ : EReal)) (c : Fin 512) :
    (if h0 : c.val < 128 then (z (ix2 r c) - X (ix2 r c)) + (∑ x : Fin 128, X (ix2 r (⟨x.val, by have := x.isLt; omega⟩ : Fin 512)) * (k0_pay69 (F := Ideal)) (ix2 x (⟨c.val, by omega⟩ : Fin 256)))
        + (run (ix2 r (⟨c.val, by omega⟩ : Fin 128)) + (∑ x : Fin 128, X (ix2 r (⟨384 + x.val, by have := x.isLt; omega⟩ : Fin 512)) * (k0_pay69 (F := Ideal)) (ix2 x (⟨128 + c.val, by omega⟩ : Fin 256))) + (∑ x : Fin 128, X (ix2 r (⟨256 + x.val, by have := x.isLt; omega⟩ : Fin 512)) * (k0_pay69 (F := Ideal)) (ix2 x (⟨128 + c.val, by omega⟩ : Fin 256))) + (∑ x : Fin 128, X (ix2 r (⟨128 + x.val, by have := x.isLt; omega⟩ : Fin 512)) * (k0_pay69 (F := Ideal)) (ix2 x (⟨128 + c.val, by omega⟩ : Fin 256))))
     else if h1 : c.val - 128 < 128 then (z (ix2 r (⟨128 + (c.val - 128), by omega⟩ : Fin 512)) - X (ix2 r (⟨128 + (c.val - 128), by omega⟩ : Fin 512))) + (∑ x : Fin 128, X (ix2 r (⟨128 + x.val, by have := x.isLt; omega⟩ : Fin 512)) * (k0_pay69 (F := Ideal)) (ix2 x (⟨c.val - 128, by omega⟩ : Fin 256)))
        + (run (ix2 r (⟨c.val - 128, by omega⟩ : Fin 128)) + (∑ x : Fin 128, X (ix2 r (⟨384 + x.val, by have := x.isLt; omega⟩ : Fin 512)) * (k0_pay69 (F := Ideal)) (ix2 x (⟨128 + (c.val - 128), by omega⟩ : Fin 256))) + (∑ x : Fin 128, X (ix2 r (⟨256 + x.val, by have := x.isLt; omega⟩ : Fin 512)) * (k0_pay69 (F := Ideal)) (ix2 x (⟨128 + (c.val - 128), by omega⟩ : Fin 256))))
     else if h2 : c.val - 128 - 128 < 128 then (z (ix2 r (⟨256 + (c.val - 128 - 128), by omega⟩ : Fin 512)) - X (ix2 r (⟨256 + (c.val - 128 - 128), by omega⟩ : Fin 512))) + (∑ x : Fin 128, X (ix2 r (⟨256 + x.val, by have := x.isLt; omega⟩ : Fin 512)) * (k0_pay69 (F := Ideal)) (ix2 x (⟨c.val - 128 - 128, by omega⟩ : Fin 256)))
        + (run (ix2 r (⟨c.val - 128 - 128, by omega⟩ : Fin 128)) + (∑ x : Fin 128, X (ix2 r (⟨384 + x.val, by have := x.isLt; omega⟩ : Fin 512)) * (k0_pay69 (F := Ideal)) (ix2 x (⟨128 + (c.val - 128 - 128), by omega⟩ : Fin 256))))
     else (z (ix2 r (⟨384 + (c.val - 128 - 128 - 128), by have := c.isLt; omega⟩ : Fin 512)) - X (ix2 r (⟨384 + (c.val - 128 - 128 - 128), by have := c.isLt; omega⟩ : Fin 512))) + (∑ x : Fin 128, X (ix2 r (⟨384 + x.val, by have := x.isLt; omega⟩ : Fin 512)) * (k0_pay69 (F := Ideal)) (ix2 x (⟨c.val - 128 - 128 - 128, by have := c.isLt; omega⟩ : Fin 256)))
        + run (ix2 r (⟨c.val - 128 - 128 - 128, by have := c.isLt; omega⟩ : Fin 128)))
      = (z (ix2 r c) - (s c.val : EReal)) + ((ρ - ∑ i ∈ Finset.Ico (c.val + 1) 512, s i : ℝ) : EReal) := by
  have hc := c.isLt
  have ec : ∀ d : Fin 512, d.val = c.val → z (ix2 r d) - X (ix2 r d) = z (ix2 r c) - (s c.val : EReal) := by
    intro d hd
    rw [Fin.ext hd, hX]
  have a1 := fun (m n : ℕ) (h : m ≤ n) (h' : n ≤ 512) => Finset.sum_Ico_consecutive s h h'
  by_cases h0 : c.val < 128
  · rw [dif_pos h0, hX, hrun, tile_sum hX 384 (fun x => ⟨384 + x.val, by have := x.isLt; omega⟩) (fun x => rfl) _ (by dsimp only; omega), tile_sum hX 256 (fun x => ⟨256 + x.val, by have := x.isLt; omega⟩) (fun x => rfl) _ (by dsimp only; omega),
      tile_sum hX 128 (fun x => ⟨128 + x.val, by have := x.isLt; omega⟩) (fun x => rfl) _ (by dsimp only; omega), later_sum hX 0 c.val h0 (fun x => ⟨x.val, by have := x.isLt; omega⟩) (fun x => (Nat.zero_add _).symm) _ rfl, add_assoc]
    simp only [← EReal.coe_add]
    congr 2
    have b1 := a1 (c.val + 1) 128 (by omega) (by omega)
    have b2 := Finset.sum_Ico_consecutive s (show 128 ≤ 256 by omega) (show 256 ≤ 384 by omega)
    have b3 := Finset.sum_Ico_consecutive s (show 128 ≤ 384 by omega) (show 384 ≤ 512 by omega)
    rw [Nat.zero_add]
    norm_num only at *
    linarith
  rw [dif_neg h0]
  by_cases h1 : c.val - 128 < 128
  · rw [dif_pos h1, ec _ (by dsimp only; omega), hrun, tile_sum hX 384 (fun x => ⟨384 + x.val, by have := x.isLt; omega⟩) (fun x => rfl) _ (by dsimp only; omega), tile_sum hX 256 (fun x => ⟨256 + x.val, by have := x.isLt; omega⟩) (fun x => rfl) _ (by dsimp only; omega),
      later_sum hX 128 (c.val - 128) h1 (fun x => ⟨128 + x.val, by have := x.isLt; omega⟩) (fun x => rfl) _ rfl, add_assoc]
    simp only [← EReal.coe_add]
    congr 2
    have b1 := a1 (c.val + 1) 256 (by omega) (by omega)
    have b2 := Finset.sum_Ico_consecutive s (show 256 ≤ 384 by omega) (show 384 ≤ 512 by omega)
    rw [show 128 + (c.val - 128) + 1 = c.val + 1 by omega]
    norm_num only at *
    linarith
  rw [dif_neg h1]
  by_cases h2 : c.val - 128 - 128 < 128
  · rw [dif_pos h2, ec _ (by dsimp only; omega), hrun, tile_sum hX 384 (fun x => ⟨384 + x.val, by have := x.isLt; omega⟩) (fun x => rfl) _ (by dsimp only; omega),
      later_sum hX 256 (c.val - 128 - 128) h2 (fun x => ⟨256 + x.val, by have := x.isLt; omega⟩) (fun x => rfl) _ rfl, add_assoc]
    simp only [← EReal.coe_add]
    congr 2
    have b1 := a1 (c.val + 1) 384 (by omega) (by omega)
    rw [show 256 + (c.val - 128 - 128) + 1 = c.val + 1 by omega]
    norm_num only at *
    linarith
  · rw [dif_neg h2, ec _ (by dsimp only; omega), hrun, later_sum hX 384 (c.val - 128 - 128 - 128) (by omega) (fun x => ⟨384 + x.val, by have := x.isLt; omega⟩) (fun x => rfl) _ rfl, add_assoc]
    simp only [← EReal.coe_add]
    congr 2
    rw [show 384 + (c.val - 128 - 128 - 128) + 1 = c.val + 1 by omega]
    norm_num only at *
    linarith

/-- The running sum after the four tiles. -/
theorem total (X : FVec Ideal S1024x512 .f32) (hX : ∀ c : Fin 512, X (ix2 r c) = (s c.val : EReal))
    (hrun : ∀ l : Fin 128, run (ix2 r l) = (ρ : EReal)) (l : Fin 128) :
    run (ix2 r l) + (∑ x : Fin 128, X (ix2 r (⟨384 + x.val, by have := x.isLt; omega⟩ : Fin 512)) * (k0_pay69 (F := Ideal)) (ix2 x (⟨128 + l.val, by have := l.isLt; omega⟩ : Fin 256)))
      + (∑ x : Fin 128, X (ix2 r (⟨256 + x.val, by have := x.isLt; omega⟩ : Fin 512)) * (k0_pay69 (F := Ideal)) (ix2 x (⟨128 + l.val, by have := l.isLt; omega⟩ : Fin 256)))
      + (∑ x : Fin 128, X (ix2 r (⟨128 + x.val, by have := x.isLt; omega⟩ : Fin 512)) * (k0_pay69 (F := Ideal)) (ix2 x (⟨128 + l.val, by have := l.isLt; omega⟩ : Fin 256)))
      + (∑ x : Fin 128, X (ix2 r (⟨x.val, by have := x.isLt; omega⟩ : Fin 512)) * (k0_pay69 (F := Ideal)) (ix2 x (⟨128 + l.val, by have := l.isLt; omega⟩ : Fin 256)))
      = ((ρ - ∑ i ∈ Finset.Ico 0 512, s i : ℝ) : EReal) := by
  rw [hrun, tile_sum hX 384 (fun x => ⟨384 + x.val, by have := x.isLt; omega⟩) (fun x => rfl) _ (by dsimp only; omega), tile_sum hX 256 (fun x => ⟨256 + x.val, by have := x.isLt; omega⟩) (fun x => rfl) _ (by dsimp only; omega),
    tile_sum hX 128 (fun x => ⟨128 + x.val, by have := x.isLt; omega⟩) (fun x => rfl) _ (by dsimp only; omega), tile_sum hX 0 (fun x => ⟨x.val, by have := x.isLt; omega⟩) (fun x => (Nat.zero_add _).symm) _ (by dsimp only; omega)]
  simp only [← EReal.coe_add]
  congr 1
  have a1 := Finset.sum_Ico_consecutive s (show 0 ≤ 128 by omega) (show 128 ≤ 256 by omega)
  have a2 := Finset.sum_Ico_consecutive s (show 0 ≤ 256 by omega) (show 256 ≤ 384 by omega)
  have a3 := Finset.sum_Ico_consecutive s (show 0 ≤ 384 by omega) (show 384 ≤ 512 by omega)
  norm_num only at *
  linarith

theorem total_apply (z : FVec Ideal S1024x512 .f32) (hX : ∀ c : Fin 512, k0_pay44 z k0_pay43 (ix2 r c) = (s c.val : EReal))
    (hrun : ∀ l : Fin 128, run (ix2 r l) = (ρ : EReal)) (l : Fin 128) :
    k0_pay2 (k0_pay52 k0_pay69 z k0_pay43 run) (ix2 r l) = ((ρ - ∑ i ∈ Finset.Ico 0 512, s i : ℝ) : EReal) := by
  pointwise [k0_pay2, k0_pay52, k0_pay51, k0_pay50, k0_pay49, k0_pay48, k0_pay47, k0_pay46, k0_pay45]
  exact total _ hX hrun l

theorem score_apply (z : FVec Ideal S1024x512 .f32) (hX : ∀ c : Fin 512, k0_pay44 z k0_pay43 (ix2 r c) = (s c.val : EReal))
    (hrun : ∀ l : Fin 128, run (ix2 r l) = (ρ : EReal)) (c : Fin 512) :
    k0_pay53 k0_pay69 z k0_pay43 run (ix2 r c)
      = Ideal.exp ((z (ix2 r c) - (s c.val : EReal)) + ((ρ - ∑ i ∈ Finset.Ico (c.val + 1) 512, s i : ℝ) : EReal)) := by
  pointwise [k0_pay53, k0_pay52, k0_pay51, k0_pay50, k0_pay49, k0_pay48, k0_pay47, k0_pay46, k0_pay45]
  exact congrArg Ideal.exp (ladder z _ hX hrun c)

theorem diag_total_apply (mask : IVec S1024x512 1) (z e one : FVec Ideal S1024x512 .f32)
    (hX : ∀ c : Fin 512, k0_pay77 mask z e one (ix2 r c) = (s c.val : EReal)) (hrun : ∀ l : Fin 128, run (ix2 r l) = (ρ : EReal)) (l : Fin 128) :
    k0_pay88 (k0_pay85 k0_pay69 mask z e one run) (ix2 r l) = ((ρ - ∑ i ∈ Finset.Ico 0 512, s i : ℝ) : EReal) := by
  pointwise [k0_pay88, k0_pay85, k0_pay84, k0_pay83, k0_pay82, k0_pay81, k0_pay80, k0_pay79, k0_pay78]
  exact total _ hX hrun l

theorem diag_score_apply (mask : IVec S1024x512 1) (z e one : FVec Ideal S1024x512 .f32)
    (hX : ∀ c : Fin 512, k0_pay77 mask z e one (ix2 r c) = (s c.val : EReal)) (hrun : ∀ l : Fin 128, run (ix2 r l) = (ρ : EReal)) (c : Fin 512) :
    k0_pay86 k0_pay69 mask z e one run (ix2 r c)
      = Scalar.select (mask (ix2 r c)) (Ideal.exp ((z (ix2 r c) - (s c.val : EReal)) + ((ρ - ∑ i ∈ Finset.Ico (c.val + 1) 512, s i : ℝ) : EReal))) 0 := by
  pointwise [k0_pay86, k0_pay85, k0_pay84, k0_pay83, k0_pay82, k0_pay81, k0_pay80, k0_pay79, k0_pay78]
  exact congrArg (fun t => Scalar.select (mask (ix2 r c)) (Ideal.exp t) 0) (ladder z _ hX hrun c)

end Score

end Cert.Attn

end
-- ==== Proof.Weights.lean ====
/-
  One query row of one grid step. The weight of key `j` is `exp (z j - sp (z j) - ∑ sp (z i))`, the sum over the keys `i`
  after `j` and before the query. The kernel goes through the key blocks from the diagonal backwards and keeps the sum of
  the softplus so far; after each block the row holds minus the sum over all blocks seen and the weighted values of them.
-/
module

public import proofs.«01_k».proof.Proof.Payload

@[expose] public section

set_option maxRecDepth 16384

noncomputable section

open Idealize.ShloMosaic Idealize.ShloMosaic.TcCoe Idealize.SL.Sem

namespace Cert.Attn

open Cert.KernelIdeal Cert.KernelIdeal.Gen

/-- The softplus of key `j`'s logit, zero at the query's position `p` and after it. -/
def spent (z : ℕ → EReal) (p j : ℕ) : ℝ := if j < p then sp (z j) else 0

/-- The weight of key `j` for a query at position `p`. -/
def weight (z : ℕ → EReal) (p j : ℕ) : EReal :=
  if j < p then Ideal.exp ((z j - (sp (z j) : EReal)) + ((-∑ i ∈ Finset.Ico (j + 1) 2048, spent z p i : ℝ) : EReal)) else 0

theorem weight_congr {z z' : ℕ → EReal} {p : ℕ} (hp : p ≤ 2048) (h : ∀ j < 2048, z j = z' j) (j : ℕ) : weight z p j = weight z' p j := by
  have hs : ∀ i, spent z p i = spent z' p i := by
    intro i
    unfold spent
    by_cases g : i < p
    · rw [if_pos g, if_pos g, h i (by omega)]
    · rw [if_neg g, if_neg g]
  unfold weight
  by_cases g : j < p
  · rw [if_pos g, if_pos g, h j (by omega), Finset.sum_congr rfl fun i _ => hs i]
  · rw [if_neg g, if_neg g]

theorem spent_tail (z : ℕ → EReal) (p a e : ℕ) (ha : a ≤ e) (he : p ≤ e) (h : e ≤ 2048) :
    ∑ i ∈ Finset.Ico a 2048, spent z p i = ∑ i ∈ Finset.Ico a e, spent z p i := by
  rw [← Finset.sum_Ico_consecutive _ ha h]
  rw [Finset.sum_eq_zero (s := Finset.Ico e 2048), add_zero]
  intro i hi
  have := (Finset.mem_Ico.1 hi).1
  exact if_neg (by omega)

/-- A sum over a block's columns as a sum over keys. -/
theorem block_sum {M : Type} [AddCommMonoid M] (f : ℕ → M) (b a : ℕ) :
    ∑ i ∈ Finset.Ico a 512, f (512 * b + i) = ∑ i ∈ Finset.Ico (512 * b + a) (512 * (b + 1)), f i := by
  rw [Finset.sum_Ico_add f a 512 (512 * b)]
  congr 2 <;> omega

theorem block_sum_fin {M : Type} [AddCommMonoid M] (f : ℕ → M) (b : ℕ) :
    ∑ c : Fin 512, f (512 * b + c.val) = ∑ i ∈ Finset.Ico (512 * b) (512 * (b + 1)), f i := by
  rw [Fin.sum_univ_eq_sum_range (fun i => f (512 * b + i)) 512, Finset.range_eq_Ico, block_sum f b 0, add_zero]

variable (q : FVec Ideal S1024x128 .bf16) (K V : Vec Ideal S16x128x128 .bf16) (bias : Vec Ideal S1x2x128 .f32) (b : ℕ) (r : Fin 1024)

/-- What row `r` holds after all key blocks from `a` on. -/
def RowAt (a : ℕ) (s : FVec Ideal S1024x128 .f32 × FVec Ideal S1024x128 .f32) : Prop :=
  (∀ l : Fin 128, s.1 (ix2 r l) = ((-∑ i ∈ Finset.Ico (512 * a) 2048, spent (zAt q K bias r) (512 * b + r.val % 512) i : ℝ) : EReal))
  ∧ ∀ d : Fin 128, s.2 (ix2 r d)
      = ∑ j ∈ Finset.Ico (512 * a) (512 * (b + 1)), weight (zAt q K bias r) (512 * b + r.val % 512) j * keyAt V d j

theorem row_diag (hb : b < 4) (hz : ∀ j < 512 * b + r.val % 512, zAt q K bias r j ≤ ((30 : ℝ) : EReal)) :
    RowAt q K V bias b r b (diag q K V bias b) := by
  set p := 512 * b + r.val % 512 with hp
  have lp : p < 512 * (b + 1) := by omega
  have hl : ∀ c : Fin 512, k0_pay74 q (tile K (4 * b)) (tile K (4 * b + 1)) (tile K (4 * b + 2)) (tile K (4 * b + 3)) (biasRow bias 0) (biasRow bias 1) (ix2 r c)
      = zAt q K bias r (512 * b + c.val) := fun c => logits_apply q K bias b r c
  have hX : ∀ c : Fin 512, k0_pay77 (k0_pay73 k0_pay72)
      (k0_pay74 q (tile K (4 * b)) (tile K (4 * b + 1)) (tile K (4 * b + 2)) (tile K (4 * b + 3)) (biasRow bias 0) (biasRow bias 1))
      (k0_pay75 q (tile K (4 * b)) (tile K (4 * b + 1)) (tile K (4 * b + 2)) (tile K (4 * b + 3)) (biasRow bias 0) (biasRow bias 1)) k0_pay76 (ix2 r c)
      = ((fun i => spent (zAt q K bias r) p (512 * b + i)) c.val : EReal) := by
    intro c
    rw [diag_softplus_apply _ _ _ _ _ _ _ _ r c _ (mask_apply r c) (fun h => by rw [hl]; exact hz _ (by omega)), hl]
    congr 1
    show _ = if 512 * b + c.val < p then _ else _
    by_cases h : c.val < r.val % 512
    · rw [if_pos h, if_pos (by omega)]
    · rw [if_neg h, if_neg (by omega)]
  have h0 : ∀ l : Fin 128, (k0_pay70 (F := Ideal)) (ix2 r l) = ((0 : ℝ) : EReal) := by
    intro l
    pointwise [k0_pay70]
    rfl
  constructor
  · intro l
    rw [spent_tail _ _ _ (512 * (b + 1)) (by omega) (by omega) (by omega)]
    refine (diag_total_apply (s := fun i => spent (zAt q K bias r) p (512 * b + i)) _ _ _ _ hX h0 l).trans ?_
    rw [block_sum (spent (zAt q K bias r) p) b 0, add_zero, zero_sub]
  · intro d
    show k0_pay87 (k0_pay86 _ _ _ _ _ _) _ _ _ _ k0_pay71 (ix2 r d) = _
    refine (gather_apply _ V b k0_pay71 r d).trans ?_
    have h1 : (k0_pay71 (F := Ideal)) (ix2 r d) = 0 := by
      pointwise [k0_pay71]
    rw [h1, zero_add, ← block_sum_fin (fun j => weight (zAt q K bias r) p j * keyAt V d j) b]
    refine Finset.sum_congr rfl fun c _ => congrArg (· * keyAt V d (512 * b + c.val)) ?_
    have hc := c.isLt
    refine (diag_score_apply (s := fun i => spent (zAt q K bias r) p (512 * b + i)) _ _ _ _ hX h0 c).trans ?_
    rw [mask_apply, hl]
    show _ = if 512 * b + c.val < p then _ else _
    by_cases h : c.val < r.val % 512
    · have h' : 512 * b + c.val < p := by omega
      rw [if_pos h', decide_eq_true h, zero_sub, block_sum (spent (zAt q K bias r) p) b (c.val + 1),
        spent_tail _ _ _ (512 * (b + 1)) (by omega) (by omega) (by omega)]
      show Ideal.exp (_ - ((if 512 * b + c.val < p then _ else _ : ℝ) : EReal) + _) = _
      rw [if_pos h']
      rfl
    · rw [if_neg (by omega), decide_eq_false h]
      rfl

theorem row_step (hb : b < 4) (hz : ∀ j < 512 * b + r.val % 512, zAt q K bias r j ≤ ((30 : ℝ) : EReal)) (a : ℕ) (ha : a < b)
    (s : FVec Ideal S1024x128 .f32 × FVec Ideal S1024x128 .f32) (h : RowAt q K V bias b r (a + 1) s) :
    RowAt q K V bias b r a (step q K V bias a s) := by
  set p := 512 * b + r.val % 512 with hp
  have lp : p < 512 * (b + 1) := by omega
  have le : ∀ c : Fin 512, 512 * a + c.val < p := fun c => by have := c.isLt; omega
  have hX : ∀ c : Fin 512, k0_pay44 (logits q K bias a) k0_pay43 (ix2 r c) = ((fun i => spent (zAt q K bias r) p (512 * a + i)) c.val : EReal) := by
    intro c
    have e := logits_apply q K bias a r c
    rw [softplus_apply _ _ _ (by rw [e]; exact hz _ (le c)), e]
    congr 1
    exact (if_pos (le c)).symm
  have join : ∀ x, x ≤ 512 * (a + 1) → ∑ i ∈ Finset.Ico x (512 * (a + 1)), spent (zAt q K bias r) p i
      + ∑ i ∈ Finset.Ico (512 * (a + 1)) 2048, spent (zAt q K bias r) p i = ∑ i ∈ Finset.Ico x 2048, spent (zAt q K bias r) p i :=
    fun x hx => Finset.sum_Ico_consecutive _ hx (by omega)
  constructor
  · intro l
    refine (total_apply (s := fun i => spent (zAt q K bias r) p (512 * a + i)) _ hX h.1 l).trans ?_
    rw [block_sum (spent (zAt q K bias r) p) a 0, add_zero, ← join (512 * a) (by omega)]
    congr 1
    ring
  · intro d
    refine (gather_apply _ V a s.2 r d).trans ?_
    rw [h.2, ← Finset.sum_Ico_consecutive _ (by omega : 512 * a ≤ 512 * (a + 1)) (by omega : 512 * (a + 1) ≤ 512 * (b + 1)), add_comm,
      ← block_sum_fin (fun j => weight (zAt q K bias r) p j * keyAt V d j) a]
    congr 1
    refine Finset.sum_congr rfl fun c _ => congrArg (· * keyAt V d (512 * a + c.val)) ?_
    have hc := c.isLt
    refine (score_apply (s := fun i => spent (zAt q K bias r) p (512 * a + i)) _ hX h.1 c).trans ?_
    rw [logits_apply]
    show Ideal.exp (_ - ((if 512 * a + c.val < p then _ else _ : ℝ) : EReal) + _) = if 512 * a + c.val < p then _ else _
    rw [if_pos (le c), if_pos (le c), block_sum (spent (zAt q K bias r) p) a (c.val + 1), ← join (512 * a + c.val + 1) (by omega)]
    congr 3
    rw [add_assoc]
    ring

/-- The output row of a grid step: all values, weighted. -/
theorem row_sweep (hb : b < 4) (hz : ∀ j < 512 * b + r.val % 512, zAt q K bias r j ≤ ((30 : ℝ) : EReal)) (d : Fin 128) :
    (sweep q K V bias b).2 (ix2 r d) = ∑ j ∈ Finset.range 2048, weight (zAt q K bias r) (512 * b + r.val % 512) j * keyAt V d j := by
  have all : ∀ n, n ≤ b → RowAt q K V bias b r (b - n) (sweepFrom q K V bias b (diag q K V bias b) n) := by
    intro n
    induction n with
    | zero => intro _; exact row_diag q K V bias b r hb hz
    | succ n ih =>
      intro hn
      have e : b - n = b - 1 - n + 1 := by omega
      have h := ih (by omega)
      rw [e] at h
      have e' : b - (n + 1) = b - 1 - n := by omega
      rw [e']
      exact row_step q K V bias b r hb hz (b - 1 - n) (by omega) _ h
  have h := (all b le_rfl).2 d
  rw [Nat.sub_self, Nat.mul_zero] at h
  refine h.trans ?_
  rw [Finset.range_eq_Ico, ← Finset.sum_Ico_consecutive _ (by omega : 0 ≤ 512 * (b + 1)) (by omega : 512 * (b + 1) ≤ 2048)]
  rw [Finset.sum_eq_zero (s := Finset.Ico (512 * (b + 1)) 2048), add_zero]
  intro j hj
  have := (Finset.mem_Ico.1 hj).1
  rw [weight, if_neg (by omega), zero_mul]

end Cert.Attn

end
-- ==== Proof.Entry.lean ====
/-
  The kernel's output in terms of the arrays it is called with: at batch element `b`, position `t` and column `D`, the
  values of head `D / 64` weighted by the stick-breaking weights of that head's logits.
-/
module

public import proofs.«01_k».proof.Proof.Weights

@[expose] public section

set_option maxRecDepth 16384

noncomputable section

open Idealize.ShloMosaic Idealize.ShloMosaic.TcCoe Idealize.SL.Sem

namespace Cert.Attn

open Cert.KernelIdeal Cert.KernelIdeal.Gen

/-- The factor the logits are scaled by, one eighth. -/
abbrev eighth : EReal := Ideal.ofBits .f32 0x3E000000#32

theorem eighth_eq : eighth = ((1 / 8 : ℝ) : EReal) := by
  simp [eighth, Ideal.ofBits, Ideal.ieee, -EReal.coe_mul, -EReal.coe_neg]; norm_num

theorem sum_mul_eighth {ι : Type} (s : Finset ι) (f : ι → EReal) : (∑ i ∈ s, f i * eighth) = (∑ i ∈ s, f i) * eighth := by
  classical
  have h0 : (0 : EReal) ≤ eighth := by rw [eighth_eq]; exact EReal.coe_nonneg.2 (by norm_num)
  have ht : eighth ≠ ⊤ := by rw [eighth_eq]; exact EReal.coe_ne_top _
  induction s using Finset.induction_on with
  | empty => simp
  | insert a s ha ih => rw [Finset.sum_insert ha, Finset.sum_insert ha, ih, EReal.right_distrib_of_nonneg_of_ne_top h0 ht]

section Spec

variable (q k v : FVec Ideal S8x2048x16x64 .f32) (bias : FVec Ideal S16 .f32)

/-- The logit of head `h`'s query at position `t` against its key at position `j`. -/
def logit (b : Fin 8) (h : Fin 16) (t : Fin 2048) (j : ℕ) : EReal :=
  (∑ e : Fin 64, q (ix4 b t h e) * k (ix4 b (⟨j % 2048, Nat.mod_lt _ (by decide)⟩ : Fin 2048) h e)) * eighth + bias (ix1 h)

/-- Every logit against an earlier key is at most 30. -/
def Bounded : Prop := ∀ (b : Fin 8) (h : Fin 16) (t : Fin 2048) (j : ℕ), j < t.val → logit q k bias b h t j ≤ ((30 : ℝ) : EReal)

/-- The attention's output. -/
def attended (b : Fin 8) (t : Fin 2048) (D : Fin 1024) : EReal :=
  ∑ j ∈ Finset.range 2048, weight (logit q k bias b (⟨D.val / 64, by have := D.isLt; omega⟩ : Fin 16) t) t.val j
    * v (ix4 b (⟨j % 2048, Nat.mod_lt _ (by decide)⟩ : Fin 2048) (⟨D.val / 64, by have := D.isLt; omega⟩ : Fin 16) (⟨D.val % 64, by omega⟩ : Fin 64))

end Spec

section Arrays

variable (m : (ℓ : Loc nD τ sig) → Buf (Elt Ideal) ℓ) (c : Dev nD)

/-- The arguments on device `c`. -/
abbrev argQ : FVec Ideal S8x2048x16x64 .f32 := m ((c : Thread nD τ).loc main_arg0)
abbrev argK : FVec Ideal S8x2048x16x64 .f32 := m ((c : Thread nD τ).loc main_arg1)
abbrev argV : FVec Ideal S8x2048x16x64 .f32 := m ((c : Thread nD τ).loc main_arg2)
abbrev argB : FVec Ideal S16 .f32 := m ((c : Thread nD τ).loc main_arg3)

theorem Q0_apply (b : Fin 8) (t : Fin 2048) (D : Fin 1024) : Q0 m c (ix3 b t D)
    = argQ m c (ix4 b t (⟨D.val / 64, by have := D.isLt; omega⟩ : Fin 16) (⟨D.val % 64, by omega⟩ : Fin 64)) * eighth := by
  show Gen.V m c main_v9 (ix3 b t D) = _
  entry_read
  pointwise
  try rfl

theorem K0_apply (b : Fin 8) (D : Fin 1024) (t : Fin 2048) : K0 m c (ix3 b D t)
    = argK m c (ix4 b t (⟨D.val / 64, by have := D.isLt; omega⟩ : Fin 16) (⟨D.val % 64, by omega⟩ : Fin 64)) := by
  show Gen.V m c main_v1 (ix3 b D t) = _
  entry_read
  pointwise
  try rfl

theorem V0_apply (b : Fin 8) (D : Fin 1024) (t : Fin 2048) : V0 m c (ix3 b D t)
    = argV m c (ix4 b t (⟨D.val / 64, by have := D.isLt; omega⟩ : Fin 16) (⟨D.val % 64, by omega⟩ : Fin 64)) := by
  show Gen.V m c main_v3 (ix3 b D t) = _
  entry_read
  pointwise
  try rfl

theorem B0_apply (h : Fin 8) (u : Fin 2) (l : Fin 128) : B0 m c (ix3 h u l)
    = argB m c (ix1 (⟨h.val * 2 + u.val, by have := h.isLt; have := u.isLt; omega⟩ : Fin 16)) := by
  show Gen.V m c main_v5 (ix3 h u l) = _
  entry_read
  pointwise
  try rfl

/-- The logit the kernel computes in row `R` of a head pair is the logit of the row's head. -/
theorem zAt_eq (b hp : Fin 8) (qb : Fin 4) (R : Fin 1024) (h : Fin 16) (t : Fin 2048) (hh : h.val = 2 * hp.val + R.val / 512)
    (ht : t.val = 512 * qb.val + R.val % 512) (j : ℕ) (hj : j < 2048) :
    zAt (k0_pay68 (qBlk (Q0 m c) b hp qb)) (tiles (kBlk (K0 m c) b hp)) (bBlk (B0 m c) hp) R j = logit (argQ m c) (argK m c) (argB m c) b h t j := by
  have hR := R.isLt
  unfold zAt logit
  have key : ∀ x : Fin 128, keyAt (tiles (kBlk (K0 m c) b hp)) x j = argK m c (ix4 b (⟨j % 2048, Nat.mod_lt _ (by decide)⟩ : Fin 2048)
      (⟨2 * hp.val + x.val / 64, by have := hp.isLt; have := x.isLt; omega⟩ : Fin 16) (⟨x.val % 64, by omega⟩ : Fin 64)) := by
    intro x
    have hx := x.isLt
    refine (K0_apply m c b (⟨128 * hp.val + x.val, by have := hp.isLt; omega⟩ : Fin 1024)
      (⟨128 * (j / 128 % 16) + j % 128, by omega⟩ : Fin 2048)).trans ?_
    congr 2
    · exact Fin.ext (by show 128 * (j / 128 % 16) + j % 128 = j % 2048; omega)
    · exact Fin.ext (by show (128 * hp.val + x.val) / 64 = 2 * hp.val + x.val / 64; omega)
    · exact Fin.ext (by show (128 * hp.val + x.val) % 64 = x.val % 64; omega)
  have qry : ∀ x : Fin 128, k0_pay68 (qBlk (Q0 m c) b hp qb) (ix2 R x) = if x.val / 64 = R.val / 512 then
      argQ m c (ix4 b t (⟨2 * hp.val + x.val / 64, by have := hp.isLt; have := x.isLt; omega⟩ : Fin 16) (⟨x.val % 64, by omega⟩ : Fin 64)) * eighth else 0 := by
    intro x
    have hx := x.isLt
    rw [query_apply]
    refine if_congr Iff.rfl ?_ rfl
    refine (Q0_apply m c b (⟨512 * qb.val + R.val % 512, by have := qb.isLt; omega⟩ : Fin 2048)
      (⟨128 * hp.val + x.val, by have := hp.isLt; omega⟩ : Fin 1024)).trans ?_
    congr 3
    · exact Fin.ext ht.symm
    · exact Fin.ext (by show (128 * hp.val + x.val) / 64 = 2 * hp.val + x.val / 64; omega)
    · exact Fin.ext (by show (128 * hp.val + x.val) % 64 = x.val % 64; omega)
  refine congrArg₂ (· + ·) ?_ ?_
  · rw [← sum_mul_eighth]
    rw [Finset.sum_congr rfl fun x _ => by rw [key x, qry x]]
    rw [Fin.sum_univ_two_halves 64 64 rfl]
    have here : ∀ (x : Fin 128) (e : Fin 64), x.val = 64 * (R.val / 512) + e.val →
        (if x.val / 64 = R.val / 512 then argQ m c (ix4 b t (⟨2 * hp.val + x.val / 64, by have := hp.isLt; have := x.isLt; omega⟩ : Fin 16)
            (⟨x.val % 64, by omega⟩ : Fin 64)) * eighth else 0)
          * argK m c (ix4 b (⟨j % 2048, Nat.mod_lt _ (by decide)⟩ : Fin 2048) (⟨2 * hp.val + x.val / 64, by have := hp.isLt; have := x.isLt; omega⟩ : Fin 16)
            (⟨x.val % 64, by omega⟩ : Fin 64))
        = argQ m c (ix4 b t h e) * argK m c (ix4 b (⟨j % 2048, Nat.mod_lt _ (by decide)⟩ : Fin 2048) h e) * eighth := by
      intro x e hx
      have he := e.isLt
      have e1 : (⟨2 * hp.val + x.val / 64, by have := hp.isLt; have := x.isLt; omega⟩ : Fin 16) = h := Fin.ext (by show 2 * hp.val + x.val / 64 = h.val; omega)
      have e2 : (⟨x.val % 64, by omega⟩ : Fin 64) = e := Fin.ext (by show x.val % 64 = e.val; omega)
      rw [if_pos (by omega), e1, e2, mul_right_comm]
    have away : ∀ (x : Fin 128) (y z : EReal), x.val / 64 ≠ R.val / 512 → (if x.val / 64 = R.val / 512 then y else 0) * z = 0 := by
      intro x y z hx
      rw [if_neg hx, zero_mul]
    rcases (by omega : R.val / 512 = 0 ∨ R.val / 512 = 1) with hu | hu
    · refine (congrArg₂ (· + ·) (Finset.sum_congr rfl fun x _ => here _ x ?_) (Finset.sum_eq_zero fun x _ => away _ _ _ ?_)).trans (add_zero _)
      · show x.val = _
        omega
      · show (64 + x.val) / 64 ≠ _
        omega
    · refine (congrArg₂ (· + ·) (Finset.sum_eq_zero fun x _ => away _ _ _ ?_) (Finset.sum_congr rfl fun x _ => here _ x ?_)).trans (zero_add _)
      · have := x.isLt
        show x.val / 64 ≠ _
        omega
      · show 64 + x.val = _
        omega
  · refine (B0_apply m c hp _ _).trans ?_
    congr 2
    exact Fin.ext (by show hp.val * 2 + R.val / 512 = h.val; omega)

/-- The kernel's output array. -/
theorem arrOut_eq (hz : Bounded (argQ m c) (argK m c) (argB m c)) (b : Fin 8) (t : Fin 2048) (D : Fin 1024) :
    arrOut (Q0 m c) (K0 m c) (V0 m c) (B0 m c) (ix3 b t D) = attended (argQ m c) (argK m c) (argV m c) (argB m c) b t D := by
  have hD := D.isLt
  have ht := t.isLt
  show blockOut _ _ _ _ (t.val / 512) (ix3 (0 : Fin 1) (⟨t.val % 512, by omega⟩ : Fin 512) (⟨D.val % 128, by omega⟩ : Fin 128)) = _
  rw [blockOut_apply]
  set R : Fin 1024 := ⟨512 * ((D.val % 128) / 64) + t.val % 512, by omega⟩ with hR
  have rv : R.val = 512 * ((D.val % 128) / 64) + t.val % 512 := rfl
  have z : ∀ j < 2048, zAt (k0_pay68 (qBlk (Q0 m c) b ⟨D.val / 128, by omega⟩ ⟨t.val / 512, by omega⟩)) (tiles (kBlk (K0 m c) b ⟨D.val / 128, by omega⟩))
      (bBlk (B0 m c) ⟨D.val / 128, by omega⟩) R j = logit (argQ m c) (argK m c) (argB m c) b (⟨D.val / 64, by omega⟩ : Fin 16) t j := by
    intro j hj
    refine zAt_eq m c b _ _ R _ t ?_ ?_ j hj
    · show D.val / 64 = 2 * (D.val / 128) + R.val / 512
      omega
    · show t.val = 512 * (t.val / 512) + R.val % 512
      omega
  have ep : 512 * (t.val / 512) + R.val % 512 = t.val := by omega
  refine (row_sweep _ _ _ _ (t.val / 512) R (by omega) ?_ _).trans ?_
  · intro j hj
    rw [ep] at hj
    refine (le_of_eq (z j (by omega))).trans (hz _ _ _ j hj)
  · unfold attended
    refine Finset.sum_congr rfl fun j hj => ?_
    have hj' := Finset.mem_range.1 hj
    rw [ep]
    refine congrArg₂ (· * ·) ?_ ?_
    · exact weight_congr (by omega) z j
    · refine (V0_apply m c b (⟨128 * (D.val / 128) + D.val % 128, by omega⟩ : Fin 1024) (⟨128 * (j / 128 % 16) + j % 128, by omega⟩ : Fin 2048)).trans ?_
      congr 2
      · exact Fin.ext (by show 128 * (j / 128 % 16) + j % 128 = j % 2048; omega)
      · exact Fin.ext (by show (128 * (D.val / 128) + D.val % 128) / 64 = D.val / 64; omega)
      · exact Fin.ext (by show (128 * (D.val / 128) + D.val % 128) % 64 = D.val % 64; omega)

end Arrays

end Cert.Attn

end
-- ==== Proof.Window.lean ====
/-
  A window sum along the last axis, each window reaching from its position to the end of the axis, at the ideal
  instance: at position `j` it is the sum of the elements from `j` on.
-/
module

public import Idealize.ShloMosaic.Lib.Pointwise

@[expose] public section

set_option maxRecDepth 16384

noncomputable section

open Idealize.ShloMosaic

namespace Cert.Attn

/-- A left fold of sums from zero is the sum. -/
theorem foldl_add {n : ℕ} (g : Fin n → EReal) : (List.finRange n).foldl (fun r i => r + g i) 0 = ∑ i, g i := by
  rw [Fin.sum_univ_def, List.sum_eq_foldl, List.foldl_map]

theorem suffix_window {A B T : ℕ} (x : FVec Ideal (⟨4, ![A, B, T, 2048]⟩ : Shape) .f32) (init : FVec Ideal (⟨0, ![]⟩ : Shape) .f32)
    (h0 : ∀ i, init i = (0 : EReal))
    (h : (⟨4, ![A, B, T, 2048]⟩ : Shape).ReduceWindows ![1, 1, 1, 2048] ![1, 1, 1, 1] ![0, 0, 0, 0] ![0, 0, 0, 2047] ⟨4, ![A, B, T, 2048]⟩)
    (hu : 0 < (⟨0, ![]⟩ : Shape).numel) (b : Fin A) (hd : Fin B) (t : Fin T) (j : Fin 2048) :
    (Host.reduceWindowAdd ![1, 1, 1, 2048] ![1, 1, 1, 1] ![0, 0, 0, 0] ![0, 0, 0, 2047] x init h hu) (ix4 b hd t j)
      = ∑ n : Fin 2048, if hn : j.val + n.val < 2048 then x (ix4 b hd t ⟨j.val + n.val, hn⟩) else (0 : EReal) := by
  unfold Host.reduceWindowAdd
  rw [Ideal.hostReduceWindowAdd_def, h0]
  unfold Ideal.hostReduceWindowAdd Host.reduceWindow
  dsimp only
  refine (foldl_add _).trans ?_
  refine Eq.trans (Finset.sum_congr rfl fun n _ => ?_) ((Equiv.sum_comp (Shape.rowMajor (⟨4, ![1, 1, 1, 2048]⟩ : Shape)).symm
    (fun i : (⟨4, ![1, 1, 1, 2048]⟩ : Shape).Idx =>
      if hn : j.val + (i 3).val < 2048 then x (ix4 b hd t ⟨j.val + (i 3).val, hn⟩) else (0 : EReal))).trans ?_)
  · let i := (Shape.rowMajor (⟨4, ![1, 1, 1, 2048]⟩ : Shape)).symm n
    change _ = if hn : j.val + (i 3).val < 2048 then x (ix4 b hd t ⟨j.val + (i 3).val, hn⟩) else (0 : EReal)
    have i0 : (i 0).val = 0 := by have : (i 0).val < 1 := (i 0).isLt; omega
    have i1 : (i 1).val = 0 := by have : (i 1).val < 1 := (i 1).isLt; omega
    have i2 : (i 2).val = 0 := by have : (i 2).val < 1 := (i 2).isLt; omega
    by_cases hn : j.val + (i 3).val < 2048
    · rw [dif_pos hn, dif_pos]
      · congr 1
        funext a
        apply Fin.ext
        fin_cases a
        · show b.val * 1 + (i 0).val - 0 = b.val; omega
        · show hd.val * 1 + (i 1).val - 0 = hd.val; omega
        · show t.val * 1 + (i 2).val - 0 = t.val; omega
        · show j.val * 1 + (i 3).val - 0 = j.val + (i 3).val; omega
      · intro a
        refine ⟨by fin_cases a <;> exact Nat.zero_le _, ?_⟩
        fin_cases a
        · show b.val * 1 + (i 0).val - 0 < A; have := b.isLt; omega
        · show hd.val * 1 + (i 1).val - 0 < B; have := hd.isLt; omega
        · show t.val * 1 + (i 2).val - 0 < T; have := t.isLt; omega
        · show j.val * 1 + (i 3).val - 0 < 2048; omega
    · rw [dif_neg hn, dif_neg]
      intro hin
      have := (hin 3).2
      change j.val * 1 + (i 3).val - 0 < 2048 at this
      omega
  · rw [sum_idx4]
    simp only [Fin.sum_univ_one, Fin.isValue]
    rfl

/-- The sum over the window, its elements given by a function of the position. -/
theorem suffix_sum (f : ℕ → EReal) (j : ℕ) (hj : j < 2048) :
    (∑ n : Fin 2048, if j + n.val < 2048 then f (j + n.val) else 0) = ∑ i ∈ Finset.Ico j 2048, f i := by
  rw [Fin.sum_univ_eq_sum_range (fun n => if j + n < 2048 then f (j + n) else 0) 2048, ← Finset.sum_filter,
    Finset.sum_Ico_eq_sum_range]
  refine Finset.sum_congr ?_ fun _ _ => rfl
  ext n
  simp only [Finset.mem_filter, Finset.mem_range]
  omega

end Cert.Attn

end
-- ==== Proof.RefRead.lean ====
/-
  The reference's result in terms of its arguments, and what the precondition says of the logits. The reference's host
  program is read in stages: the logits, the log-sigmoid, the causal mask, the sums over later keys, the weights.
-/
module

public import proofs.«01_k».proof.Proof.Entry
public import proofs.«01_k».proof.Proof.Window
public import proofs.«01_k».proof.Proof.Gen.ReferenceIdeal
public import proofs.«01_k».proof.Proof.Gen.ReferenceIdeal.Run
public import proofs.«01_k».proof.Proof.Gen.Pre_causal_logits_at_most_30
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Attn.Ref

open Cert.ReferenceIdeal Cert.ReferenceIdeal.Gen

abbrev Arr : Type := FVec Ideal S8x16x2048x2048 .f32

section Stages

variable (q k v : FVec Ideal S8x2048x16x64 .f32) (bias : FVec Ideal S16 .f32)

/-- The logits. -/
def zRef : Arr :=
  addf (mulf (Host.dotGeneral dot_S8x2048x16x64_S8x2048x16x64_S8x16x2048x2048_3_3_1_1_02_02 none q k)
      (broadcastInDim S8x16x2048x2048 ![] bcast_S_S8x16x2048x2048 (constant S_ .f32 0x3E000000#32)))
    (broadcastInDim S8x16x2048x2048 ![0, 1, 2, 3] bcast_S1x16x1x1_S8x16x2048x2048_0_1_2_3
      (broadcastInDim S1x16x1x1 ![1] bcast_S16_S1x16x1x1_1 bias))

/-- Zeros. -/
def zeros : Arr := broadcastInDim S8x16x2048x2048 ![] bcast_S_S8x16x2048x2048 (constant S_ .f32 0x00000000#32)

/-- The log-sigmoid, elementwise. -/
def logSig (x : Arr) : Arr :=
  Host.negf (select (cmpf .une (subf (Host.negf x) zeros) (subf (Host.negf x) zeros)) (addf (Host.negf x) zeros)
    (addf (maximumf (Host.negf x) zeros) (Host.log1p (Host.exp (Host.negf (Host.absf (subf (Host.negf x) zeros)))))))

/-- True where the key comes before the query. -/
def causal : IVec S8x16x2048x2048 1 :=
  broadcastInDim S8x16x2048x2048 ![2, 3] bcast_S2048x2048_S8x16x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

/-- `x` where the key comes before the query, zero elsewhere. -/
def masked (x : Arr) : Arr :=
  select causal x (broadcastInDim S8x16x2048x2048 ![] bcast_S_S8x16x2048x2048 (id (constant S_ .f32 0x00000000#32)))

/-- The logarithm of the share every key leaves. -/
def kept (z : Arr) : Arr := masked (logSig (Host.negf z))

/-- The sums of `kept` over the keys from each key on. -/
def suffix (x : Arr) : Arr :=
  Host.reduceWindowAdd ![1, 1, 1, 2048] ![1, 1, 1, 1] ![0, 0, 0, 0] ![0, 0, 0, 2047] x
    (broadcastInDim S_ ![] bcast_S_S_ (constant S_ .f32 0x00000000#32))
    reduceWindows_S8x16x2048x2048_S8x16x2048x2048_w1s1p0_0_w1s1p0_0_w1s1p0_0_w2048s1p0_2047 h_S_

/-- The weights. -/
def weights (z : Arr) : Arr := masked (Host.exp (addf (logSig z) (subf (suffix (kept z)) (kept z))))

/-- The output. -/
def outRef : FVec Ideal S8x2048x1024 .bf16 :=
  truncf .bf16 (shapeCast _ (transpose S8x2048x16x64 [0, 3, 1, 2]
    (Host.dotGeneral dot_S8x2048x16x64_S8x16x2048x2048_S8x16x64x2048_1_3_3_2_02_01 none v (weights (zRef q k bias)))
    transposes_S8x16x64x2048_S8x2048x16x64_0_3_1_2) shapeCasts_S8x2048x16x64_S8x2048x1024) bitsLt_bf16_f32

end Stages

theorem res_eq (m : (ℓ : Loc nD τ sig) → Buf (Elt Ideal) ℓ) (c : Dev nD) :
    Cert.ReferenceIdeal.Value.res_main_v24 m c = outRef (m ((c : Thread nD τ).loc main_arg0)) (m ((c : Thread nD τ).loc main_arg1))
      (m ((c : Thread nD τ).loc main_arg2)) (m ((c : Thread nD τ).loc main_arg3)) := rfl

section Reads

variable (q k v : FVec Ideal S8x2048x16x64 .f32) (bias : FVec Ideal S16 .f32)

theorem zRef_apply (b : Fin 8) (h : Fin 16) (t j : Fin 2048) : zRef q k bias (ix4 b h t j) = logit q k bias b h t j.val := by
  unfold zRef logit
  pointwise
  have e : (⟨j.val % 2048, Nat.mod_lt _ (by decide)⟩ : Fin 2048) = j := Fin.ext (Nat.mod_eq_of_lt j.isLt)
  rw [e]

theorem logSig_apply (x : Arr) (b : Fin 8) (h : Fin 16) (t j : Fin 2048) : logSig x (ix4 b h t j) = logSigmoid (x (ix4 b h t j)) := by
  unfold logSig zeros logSigmoid
  pointwise
  simp [show ∀ y : EReal, (FloatOps.absf (F := Ideal) (φ := .f32) y) = max y (-y) from fun _ => rfl]

theorem masked_apply (x : Arr) (b : Fin 8) (h : Fin 16) (t j : Fin 2048) :
    masked x (ix4 b h t j) = if j.val < t.val then x (ix4 b h t j) else 0 := by
  unfold masked causal
  pointwise
  word_cmp
  simp [constant]

theorem outRef_apply (b : Fin 8) (t : Fin 2048) (D : Fin 1024) : outRef q k v bias (ix3 b t D)
    = ∑ j : Fin 2048, v (ix4 b j (⟨D.val / 64, by have := D.isLt; omega⟩ : Fin 16) (⟨D.val % 64, by omega⟩ : Fin 64))
      * weights (zRef q k bias) (ix4 b (⟨D.val / 64, by have := D.isLt; omega⟩ : Fin 16) t j) := by
  unfold outRef
  pointwise

/-- A sum over the keys, the key's position taken modulo their number. -/
theorem sum_keys (f : Fin 2048 → EReal) : (∑ j : Fin 2048, f j) = ∑ j ∈ Finset.range 2048, f (⟨j % 2048, Nat.mod_lt _ (by decide)⟩ : Fin 2048) := by
  rw [← Fin.sum_univ_eq_sum_range (fun j => f (⟨j % 2048, Nat.mod_lt _ (by decide)⟩ : Fin 2048)) 2048]
  exact Finset.sum_congr rfl fun j _ => congrArg f (Fin.ext (Nat.mod_eq_of_lt j.isLt).symm)

variable (hz : Bounded q k bias)

include hz

theorem kept_apply (b : Fin 8) (h : Fin 16) (t j : Fin 2048) :
    kept (zRef q k bias) (ix4 b h t j) = ((-spent (logit q k bias b h t) t.val j.val : ℝ) : EReal) := by
  unfold kept spent
  rw [masked_apply, logSig_apply]
  by_cases hj : j.val < t.val
  · rw [if_pos hj, if_pos hj]
    refine Eq.trans ?_ (logSigmoid_neg _ (hz b h t j.val hj))
    congr 1
    exact congrArg Neg.neg (zRef_apply q k bias b h t j)
  · rw [if_neg hj, if_neg hj]
    simp

theorem suffix_apply (b : Fin 8) (h : Fin 16) (t j : Fin 2048) : suffix (kept (zRef q k bias)) (ix4 b h t j)
    = ((-∑ i ∈ Finset.Ico j.val 2048, spent (logit q k bias b h t) t.val i : ℝ) : EReal) := by
  unfold suffix
  refine (suffix_window _ _ (fun i => Ideal.ofBits_zero_f32) _ _ b h t j).trans ?_
  rw [← Finset.sum_neg_distrib, ← coe_sum, ← suffix_sum _ _ j.isLt]
  refine Finset.sum_congr rfl fun n _ => ?_
  by_cases hn : j.val + n.val < 2048
  · rw [dif_pos hn, if_pos hn]
    exact kept_apply q k bias hz b h t ⟨j.val + n.val, hn⟩
  · rw [dif_neg hn, if_neg hn]

theorem weights_apply (b : Fin 8) (h : Fin 16) (t j : Fin 2048) :
    weights (zRef q k bias) (ix4 b h t j) = weight (logit q k bias b h t) t.val j.val := by
  unfold weights weight
  rw [masked_apply]
  by_cases hj : j.val < t.val
  · rw [if_pos hj, if_pos hj]
    show Ideal.exp (logSig (zRef q k bias) (ix4 b h t j) + (suffix (kept (zRef q k bias)) (ix4 b h t j) - kept (zRef q k bias) (ix4 b h t j))) = _
    rw [logSig_apply, suffix_apply q k bias hz, kept_apply q k bias hz, zRef_apply, logSigmoid_eq _ (hz b h t j.val hj), ← EReal.coe_sub]
    congr 3
    rw [Finset.sum_eq_sum_Ico_succ_bot j.isLt]
    ring
  · rw [if_neg hj, if_neg hj]

/-- The reference computes the attention. -/
theorem outRef_eq (b : Fin 8) (t : Fin 2048) (D : Fin 1024) : outRef q k v bias (ix3 b t D) = attended q k v bias b t D := by
  rw [outRef_apply, sum_keys]
  unfold attended
  refine Finset.sum_congr rfl fun j hj => ?_
  rw [weights_apply q k bias hz, mul_comm]
  exact congrArg (fun i => weight _ _ i * _) (Nat.mod_eq_of_lt (Finset.mem_range.1 hj))

end Reads

/-- What the precondition says: every logit against an earlier key is at most 30. -/
theorem bounded_of_pre (q k v : FVec Ideal S8x2048x16x64 .f32) (bias : FVec Ideal S16 .f32)
    (h : Cert.Pre_causal_logits_at_most_30.fn (F := Ideal) q k v bias = fun _ => 1#1) : Bounded q k bias := by
  intro b hd t j hj
  have ht := t.isLt
  have h1 := congrFun h ix0
  dsimp only [Cert.Pre_causal_logits_at_most_30.fn] at h1
  have h2 := Host.reduce_andi_all _ _ _ _ _ h1 (ix4 b hd t (⟨j, by omega⟩ : Fin 2048))
  clear h h1
  revert h2
  pointwise
  word_cmp
  intro h2
  rw [thirty] at h2
  have e : (⟨j % 2048, Nat.mod_lt _ (by decide)⟩ : Fin 2048) = ⟨j, by omega⟩ := Fin.ext (Nat.mod_eq_of_lt (by omega))
  unfold logit
  rw [e]
  exact h2.resolve_right (by omega)

end Cert.Attn.Ref

end
-- ==== Proof.ProjRun.lean ====
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.WordCmp
public import Idealize.ShloMosaic.Lib.Claim

/-!
# One step of the input projection's kernel

The body of the projection's call at one grid point, in its six cases: the first point of a block of rows normalises the
rows into the scratch buffer and computes the first block of the convolution's branch; the later points multiply the
normalised rows by one block of the weights each, and put the product into the output their column block belongs to.
Every run names only the buffers its case touches.
-/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions on the grid point -/

/-- The point is the first of its block of rows. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 21 = 0 :=
  (fun t => by
    have ht : t.val < 336 := Nat.lt_of_lt_of_eq t.isLt N_0
    have e0 : (grid0.coords t 0).val = t.val / 21 % 16 := Pipeline.Grid.coords_val t 0 (by decide) rfl
    have e1 : (grid0.coords t 1).val = t.val / 1 % 21 := Pipeline.Grid.coords_val t 1 (by decide) rfl
    simp only [cond0_0, e0, e1]
    word_cmp
   : ∀ t : Fin grid0.N, cond0_0 (grid0.coords t) ↔ t.val % 21 = 0)

/-- The point's column block is one of the convolution's branch. -/
theorem hcond0_1 : ∀ t : Fin cfg0.N, k0_cond2 (grid0.coords t) = 1#1 ↔ (0 ≤ t.val % 21 ∧ t.val % 21 ≤ 6) :=
  (by decide +kernel : ∀ t : Fin grid0.N, k0_cond2 (grid0.coords t) = 1#1 ↔ (0 ≤ t.val % 21 ∧ t.val % 21 ≤ 6))

/-- The point's column block is one of the queries. -/
theorem hcond0_2 : ∀ t : Fin cfg0.N, k0_cond3 (grid0.coords t) = 1#1 ↔ (7 ≤ t.val % 21 ∧ t.val % 21 ≤ 8) :=
  (by decide +kernel : ∀ t : Fin grid0.N, k0_cond3 (grid0.coords t) = 1#1 ↔ (7 ≤ t.val % 21 ∧ t.val % 21 ≤ 8))

/-- The point's column block is one of the keys. -/
theorem hcond0_3 : ∀ t : Fin cfg0.N, k0_cond4 (grid0.coords t) = 1#1 ↔ (9 ≤ t.val % 21 ∧ t.val % 21 ≤ 10) :=
  (by decide +kernel : ∀ t : Fin grid0.N, k0_cond4 (grid0.coords t) = 1#1 ↔ (9 ≤ t.val % 21 ∧ t.val % 21 ≤ 10))

/-- The point's column block is one of the values. -/
theorem hcond0_4 : ∀ t : Fin cfg0.N, k0_cond5 (grid0.coords t) = 1#1 ↔ (11 ≤ t.val % 21 ∧ t.val % 21 ≤ 12) :=
  (by decide +kernel : ∀ t : Fin grid0.N, k0_cond5 (grid0.coords t) = 1#1 ↔ (11 ≤ t.val % 21 ∧ t.val % 21 ≤ 12))

/-- The point's column block is one of the gates. -/
theorem hcond0_5 : ∀ t : Fin cfg0.N, k0_cond6 (grid0.coords t) = 1#1 ↔ (13 ≤ t.val % 21 ∧ t.val % 21 ≤ 20) :=
  (by decide +kernel : ∀ t : Fin grid0.N, k0_cond6 (grid0.coords t) = 1#1 ↔ (13 ≤ t.val % 21 ∧ t.val % 21 ≤ 20))

set_option maxHeartbeats 2000000 in
/-- The body at the first point of a block of rows: the rows normalised, and the first block of the convolution's branch. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x512 .bf16) (harg10 : arg10.IsWhole) (arg11 : Memref sig .tc .vmem S1024x2048 .bf16) (harg11 : arg11.IsWhole)
    (hc0 : cond0_0 i) (hc1 : k0_cond2 i = 1#1) (hc2 : ¬(k0_cond3 i = 1#1)) (hc3 : ¬(k0_cond4 i = 1#1)) (hc4 : ¬(k0_cond5 i = 1#1)) (hc5 : ¬(k0_cond6 i = 1#1))
    (x2 : Vec F S1024x2048 .f32) (x3 : Vec F S1x2048 .f32) (x4 : Vec F S2048x512 .bf16) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg6 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg6 fullShare (k0_pay2 (k0_pay1 x2 x3) x4) ∗ owns (c : Thread nD τ) arg11 fullShare (k0_pay1 x2 x3)) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f2, %hf2, H2⟩, ⟨%f3, %hf3, H3⟩, ⟨%f4, %hf4, H4⟩, ⟨%d6, %f6, -, H6⟩, ⟨%ds, %fs, -, HS⟩, Hk⟩
    obtain rfl := harg2.eq_unread hf2; obtain rfl := harg3.eq_unread hf3; obtain rfl := harg4.eq_unread hf4
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; swap; · iexact H6
      ipureintro
      rw [View.read_writes_full]
      rw [show run_A.sl.v28 (F := F) c arg2 harg2 arg3 harg3 arg11 x2 x3 = k0_pay1 (arg2.view.readAt (Elt F) (Rect.unit ![0, 0] S1024x2048.size inb_S1024x2048_S1024x2048_0_0).toLoadRect (harg2.unread x2)) (arg3.view.readAt (Elt F) (Rect.unit ![0, 0] S1x2048.size inb_S1x2048_S1x2048_0_0).toLoadRect (harg3.unread x3)) from (View.readAt_full arg11.view _ inb_S1024x2048_S1024x2048_0_0).trans (View.read_writes_full arg11.view _ _ _ _),
        (View.readAt_full arg2.view (harg2.unread x2) inb_S1024x2048_S1024x2048_0_0).trans (harg2.read_unread x2), (View.readAt_full arg3.view (harg3.unread x3) inb_S1x2048_S1x2048_0_0).trans (harg3.read_unread x3), (View.readAt_full arg4.view (harg4.unread x4) inb_S2048x512_S2048x512_0_0).trans (harg4.read_unread x4)]
    iexists _; isplitr; swap; · iexact HS
    ipureintro
    delta run_A.sl.HS_1
    rw [View.read_writes_full, (View.readAt_full arg2.view (harg2.unread x2) inb_S1024x2048_S1024x2048_0_0).trans (harg2.read_unread x2), (View.readAt_full arg3.view (harg3.unread x3) inb_S1x2048_S1x2048_0_0).trans (harg3.read_unread x3)]

set_option maxHeartbeats 2000000 in
/-- The body at a later block of the convolution's branch. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x512 .bf16) (harg10 : arg10.IsWhole) (arg11 : Memref sig .tc .vmem S1024x2048 .bf16) (harg11 : arg11.IsWhole)
    (hc0 : ¬cond0_0 i) (hc1 : k0_cond2 i = 1#1) (hc2 : ¬(k0_cond3 i = 1#1)) (hc3 : ¬(k0_cond4 i = 1#1)) (hc4 : ¬(k0_cond5 i = 1#1)) (hc5 : ¬(k0_cond6 i = 1#1))
    (x4 : Vec F S2048x512 .bf16) (xs : Vec F S1024x2048 .bf16) :
      ∀ (E : Set ℕ) (K : PUnit → sProp 𝕄),
        iprop(owns (c : Thread nD τ) arg4 fullShare x4 ∗ (∃ d, owns (c : Thread nD τ) arg6 fullShare d) ∗ owns (c : Thread nD τ) arg11 fullShare xs
            ∗ (iprop(owns (c : Thread nD τ) arg4 fullShare x4 ∗ owns (c : Thread nD τ) arg6 fullShare (k0_pay2 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d6, %f6, -, H6⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; swap; · iexact H6
      ipureintro
      rw [View.read_writes_full]
      rw [(View.readAt_full arg11.view (harg11.unread xs) inb_S1024x2048_S1024x2048_0_0).trans (harg11.read_unread xs), (View.readAt_full arg4.view (harg4.unread x4) inb_S2048x512_S2048x512_0_0).trans (harg4.read_unread x4)]
    iexists _; isplitr; swap; · iexact HS
    ipureintro
    exact harg11.read_unread _

set_option maxHeartbeats 2000000 in
/-- The body at a block of the queries. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x512 .bf16) (harg10 : arg10.IsWhole) (arg11 : Memref sig .tc .vmem S1024x2048 .bf16) (harg11 : arg11.IsWhole)
    (hc0 : ¬cond0_0 i) (hc1 : ¬(k0_cond2 i = 1#1)) (hc2 : k0_cond3 i = 1#1) (hc3 : ¬(k0_cond4 i = 1#1)) (hc4 : ¬(k0_cond5 i = 1#1)) (hc5 : ¬(k0_cond6 i = 1#1))
    (x4 : Vec F S2048x512 .bf16) (xs : Vec F S1024x2048 .bf16) :
      ∀ (E : Set ℕ) (K : PUnit → sProp 𝕄),
        iprop(owns (c : Thread nD τ) arg4 fullShare x4 ∗ (∃ d, owns (c : Thread nD τ) arg7 fullShare d) ∗ owns (c : Thread nD τ) arg11 fullShare xs
            ∗ (iprop(owns (c : Thread nD τ) arg4 fullShare x4 ∗ owns (c : Thread nD τ) arg7 fullShare (k0_pay3 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d7, %f7, -, H7⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H7]
    · iexists _; isplitr; swap; · iexact H7
      ipureintro
      rw [View.read_writes_full]
      rw [(View.readAt_full arg11.view (harg11.unread xs) inb_S1024x2048_S1024x2048_0_0).trans (harg11.read_unread xs), (View.readAt_full arg4.view (harg4.unread x4) inb_S2048x512_S2048x512_0_0).trans (harg4.read_unread x4)]
    iexists _; isplitr; swap; · iexact HS
    ipureintro
    exact harg11.read_unread _

set_option maxHeartbeats 2000000 in
/-- The body at a block of the keys. -/
theorem run_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x512 .bf16) (harg10 : arg10.IsWhole) (arg11 : Memref sig .tc .vmem S1024x2048 .bf16) (harg11 : arg11.IsWhole)
    (hc0 : ¬cond0_0 i) (hc1 : ¬(k0_cond2 i = 1#1)) (hc2 : ¬(k0_cond3 i = 1#1)) (hc3 : k0_cond4 i = 1#1) (hc4 : ¬(k0_cond5 i = 1#1)) (hc5 : ¬(k0_cond6 i = 1#1))
    (x5 : Vec F S512x2048 .bf16) (xs : Vec F S1024x2048 .bf16) :
      ∀ (E : Set ℕ) (K : PUnit → sProp 𝕄),
        iprop(owns (c : Thread nD τ) arg5 fullShare x5 ∗ (∃ d, owns (c : Thread nD τ) arg8 fullShare d) ∗ owns (c : Thread nD τ) arg11 fullShare xs
            ∗ (iprop(owns (c : Thread nD τ) arg5 fullShare x5 ∗ owns (c : Thread nD τ) arg8 fullShare (k0_pay4 x5 xs) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f5, %hf5, H5⟩, ⟨%d8, %f8, -, H8⟩, ⟨%fs, %hfs, HS⟩, Hk⟩
    obtain rfl := harg5.eq_unread hf5; obtain rfl := harg11.eq_unread hfs
    sl_exec (disch := first | sl_exact hc0 | sl_exact hc1 | sl_exact hc2 | sl_exact hc3 | sl_exact hc4 | sl_exact hc5)
    sl_step
    iapply Hk
    isplitl [H5]
    · iexists _; isplitr; · ipureintro; exact harg5.read_unread _
      iexact H5
    isplitl [H8]
    · iexists _; isplitr; swap; · iexact H8
      ipureintro
      rw [View.read_writes_full]
      rw [(View.readAt_full arg11.view (harg11.unread xs) inb_S1024x2048_S1024x2048_0_0).trans (harg11.read_unread xs), (View.readAt_full arg5.view (harg5.unread x5) inb_S512x2048_S512x2048_0_0).trans (harg5.read_unread x5)]
    iexists _; isplitr; swap; · iexact HS
    ipureintro
    exact harg11.read_unread _

set_option maxHeartbeats 2000000 in
/-- The body at a block of the values. -/
theorem run_E (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x512 .bf16) (harg10 : arg10.IsWhole) (arg11 : Memref sig .tc .vmem S1024x2048 .bf16) (harg11 : arg11.IsWhole)
    (hc0 : ¬cond0_0 i) (hc1 : ¬(k0_cond2 i = 1#1)) (hc2 : ¬(k0_cond3 i = 1#1)) (hc3 : ¬(k0_cond4 i = 1#1)) (hc4 : k0_cond5 i = 1#1) (hc5 : ¬(k0_cond6 i = 1#1))
    (x5 : Vec F S512x2048 .bf16) (xs : Vec F S1024x2048 .bf16) :
      ∀ (E : Set ℕ) (K : PUnit → sProp 𝕄),
        iprop(owns (c : Thread nD τ) arg5 fullShare x5 ∗ (∃ d, owns (c : Thread nD τ) arg9 fullShare d) ∗ owns (c : Thread nD τ) arg11 fullShare xs
            ∗ (iprop(owns (c : Thread nD τ) arg5 fullShare x5 ∗ owns (c : Thread nD τ) arg9 fullShare (k0_pay5 x5 xs) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f5, %hf5, H5⟩, ⟨%d9, %f9, -, H9⟩, ⟨%fs, %hfs, HS⟩, Hk⟩
    obtain rfl := harg5.eq_unread hf5; obtain rfl := harg11.eq_unread hfs
    sl_exec (disch := first | sl_exact hc0 | sl_exact hc1 | sl_exact hc2 | sl_exact hc3 | sl_exact hc4 | sl_exact hc5)
    sl_step
    iapply Hk
    isplitl [H5]
    · iexists _; isplitr; · ipureintro; exact harg5.read_unread _
      iexact H5
    isplitl [H9]
    · iexists _; isplitr; swap; · iexact H9
      ipureintro
      rw [View.read_writes_full]
      rw [(View.readAt_full arg11.view (harg11.unread xs) inb_S1024x2048_S1024x2048_0_0).trans (harg11.read_unread xs), (View.readAt_full arg5.view (harg5.unread x5) inb_S512x2048_S512x2048_0_0).trans (harg5.read_unread x5)]
    iexists _; isplitr; swap; · iexact HS
    ipureintro
    exact harg11.read_unread _

set_option maxHeartbeats 2000000 in
/-- The body at a block of the gates. -/
theorem run_F (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1024x512 .f32) (harg6 : arg6.IsWhole) (arg7 : Memref sig .tc .vmem S1024x512 .bf16) (harg7 : arg7.IsWhole) (arg8 : Memref sig .tc .vmem S1x512x1024 .f32) (harg8 : arg8.IsWhole) (arg9 : Memref sig .tc .vmem S1x512x1024 .f32) (harg9 : arg9.IsWhole) (arg10 : Memref sig .tc .vmem S1024x512 .bf16) (harg10 : arg10.IsWhole) (arg11 : Memref sig .tc .vmem S1024x2048 .bf16) (harg11 : arg11.IsWhole)
    (hc0 : ¬cond0_0 i) (hc1 : ¬(k0_cond2 i = 1#1)) (hc2 : ¬(k0_cond3 i = 1#1)) (hc3 : ¬(k0_cond4 i = 1#1)) (hc4 : ¬(k0_cond5 i = 1#1)) (hc5 : k0_cond6 i = 1#1)
    (x4 : Vec F S2048x512 .bf16) (xs : Vec F S1024x2048 .bf16) :
      ∀ (E : Set ℕ) (K : PUnit → sProp 𝕄),
        iprop(owns (c : Thread nD τ) arg4 fullShare x4 ∗ (∃ d, owns (c : Thread nD τ) arg10 fullShare d) ∗ owns (c : Thread nD τ) arg11 fullShare xs
            ∗ (iprop(owns (c : Thread nD τ) arg4 fullShare x4 ∗ owns (c : Thread nD τ) arg10 fullShare (k0_pay6 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d10, %f10, -, H10⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H10]
    · iexists _; isplitr; swap; · iexact H10
      ipureintro
      rw [View.read_writes_full]
      rw [(View.readAt_full arg11.view (harg11.unread xs) inb_S1024x2048_S1024x2048_0_0).trans (harg11.read_unread xs), (View.readAt_full arg4.view (harg4.unread x4) inb_S2048x512_S2048x512_0_0).trans (harg4.read_unread x4)]
    iexists _; isplitr; swap; · iexact HS
    ipureintro
    exact harg11.read_unread _

end Cert.Kernel2Ideal.Gen

end
-- ==== Proof.ProjFrame.lean ====
module

public import proofs.«01_k».proof.Proof.ProjRun

/-!
# The input projection's run

What the scratch buffer holds between points (`Held`: the normalised rows of the point's block), what every point leaves
in its output (`out4` … `out8`), and the run of the whole call with those contents.  A window's buffer is left alone at
the points whose column block belongs to another output; at the last point of a block of rows it still holds what the
last point of its own left (`before4` … `before8`).
-/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The point of `t`'s block of rows at column block `j`, or `t` itself where `t` is before it. -/
def upTo (j : Fin 21) (t : Fin cfg0.N) : Fin cfg0.N :=
  ⟨t.val / 21 * 21 + min (t.val % 21) j.val, by
    have ht : t.val < 336 := Nat.lt_of_lt_of_eq t.isLt N_0
    exact Nat.lt_of_lt_of_eq (show _ < 336 by omega) N_0.symm⟩

theorem upTo_self (j : Fin 21) (t : Fin cfg0.N) (h : t.val % 21 ≤ j.val) : upTo j t = t :=
  Fin.ext (by show t.val / 21 * 21 + min (t.val % 21) j.val = t.val; omega)

theorem upTo_eq (j : Fin 21) (s t : Fin cfg0.N) (hr : s.val / 21 = t.val / 21) (hs : j.val ≤ s.val % 21) (ht : j.val ≤ t.val % 21) :
    upTo j s = upTo j t :=
  Fin.ext (by show s.val / 21 * 21 + min (s.val % 21) j.val = t.val / 21 * 21 + min (t.val % 21) j.val; omega)

/-- The normalised rows of the point's block, as its first point computes them. -/
def xnAt (c : Dev nD) (t : Fin cfg0.N) : FVec F S1024x2048 .bf16 := k0_pay1 (iblk m c 0 (upTo 0 t)) (iblk m c 1 (upTo 0 t))

/-- What the point leaves in the convolution's branch's block. -/
def out4 (c : Dev nD) (t : Fin cfg0.N) : FVec F S1024x512 .f32 := k0_pay2 (xnAt m c t) (iblk m c 2 t)
/-- What the point leaves in the queries' block. -/
def out5 (c : Dev nD) (t : Fin cfg0.N) : FVec F S1024x512 .bf16 := k0_pay3 (xnAt m c t) (iblk m c 2 t)
/-- What the point leaves in the keys' block. -/
def out6 (c : Dev nD) (t : Fin cfg0.N) : FVec F S1x512x1024 .f32 := k0_pay4 (iblk m c 3 t) (xnAt m c t)
/-- What the point leaves in the values' block. -/
def out7 (c : Dev nD) (t : Fin cfg0.N) : FVec F S1x512x1024 .f32 := k0_pay5 (iblk m c 3 t) (xnAt m c t)
/-- What the point leaves in the gates' block. -/
def out8 (c : Dev nD) (t : Fin cfg0.N) : FVec F S1024x512 .bf16 := k0_pay6 (xnAt m c t) (iblk m c 2 t)

/-- Between points: before point `n`, unless it is the first of a block of rows, the scratch buffer holds the block's
    normalised rows. -/
def Held (c : Dev nD) (n : ℕ) (X : Vec F S1024x2048 .bf16) : Prop :=
  ∀ s : Fin cfg0.N, s.val = n → s.val % 21 ≠ 0 → X = xnAt m c s

theorem xnAt_eq (c : Dev nD) (s t : Fin cfg0.N) (hr : s.val / 21 = t.val / 21) : xnAt m c s = xnAt m c t := by
  unfold xnAt
  rw [upTo_eq 0 s t hr (Nat.zero_le _) (Nat.zero_le _)]

theorem xnAt_first (c : Dev nD) (t : Fin cfg0.N) (h : t.val % 21 = 0) : xnAt m c t = k0_pay1 (iblk m c 0 t) (iblk m c 1 t) := by
  unfold xnAt
  rw [upTo_self 0 t (Nat.le_of_eq h)]

theorem Held_step (c : Dev nD) (t : Fin cfg0.N) : Held m c (t.val + 1) (xnAt m c t) := fun s hs h =>
  (xnAt_eq m c s t (by omega)).symm

/-! ## The proof data -/

/-- The scratch buffer. -/
abbrev scM0_0 : Memref sig .tc .vmem S1024x2048 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What holds between points. -/
def PhiC (c : Dev nD) (n : ℕ) : sProp 𝕄 :=
  iprop((∃ X, ⌜Held m c n X⌝ ∗ owns (c : Thread nD τ) scM0_0 fullShare X) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c (upTo 6 t)
    | ⟨5, _⟩ => out5 m c (upTo 8 t)
    | ⟨6, _⟩ => out6 m c (upTo 10 t)
    | ⟨7, _⟩ => out7 m c (upTo 12 t)
    | ⟨8, _⟩ => out8 m c (upTo 20 t)
  Φ t := PhiC m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c (upTo 6 t) := by dsimp only [dats]
theorem after0_5 (c : Dev nD) (t : Fin cfg0.N) : (dats m 0 c).after 5 t = out5 m c (upTo 8 t) := by dsimp only [dats]
theorem after0_6 (c : Dev nD) (t : Fin cfg0.N) : (dats m 0 c).after 6 t = out6 m c (upTo 10 t) := by dsimp only [dats]
theorem after0_7 (c : Dev nD) (t : Fin cfg0.N) : (dats m 0 c).after 7 t = out7 m c (upTo 12 t) := by dsimp only [dats]
theorem after0_8 (c : Dev nD) (t : Fin cfg0.N) : (dats m 0 c).after 8 t = out8 m c (upTo 20 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The points that leave a window alone -/

theorem idle0_4 (t : Fin cfg0.N) (h : ¬ (0 ≤ t.val % 21 ∧ t.val % 21 ≤ 6)) : cfg0.idle 4 (cfg0.grid.coords t) = true := by
  show (!(k0_cond2 (grid0.coords t) == 1#1)) = true
  have hc : ¬ (k0_cond2 (grid0.coords t) = 1#1) := fun q => h ((hcond0_1 t).mp q)
  simp [hc]

theorem live0_4 (t : Fin cfg0.N) (h : 0 ≤ t.val % 21 ∧ t.val % 21 ≤ 6) : cfg0.idle 4 (cfg0.grid.coords t) = false := by
  show (!(k0_cond2 (grid0.coords t) == 1#1)) = false
  have hc : k0_cond2 (grid0.coords t) = 1#1 := (hcond0_1 t).mpr h
  simp [hc]

/-- The window is written back at its own points but the last, and at the last point of the block of rows. -/
theorem flush0_4 : ∀ t : Fin cfg0.N, (cfg0.win 4).flush t = true ↔ ((0 ≤ t.val % 21 ∧ t.val % 21 < 6) ∨ t.val % 21 = 20) :=
  (by decide +kernel : ∀ t : Fin grid0.N, win0_4.flush t = true ↔ ((0 ≤ t.val % 21 ∧ t.val % 21 < 6) ∨ t.val % 21 = 20))

/-- After its own points the window's buffer holds what the last of them left. -/
theorem before4 (c : Dev nD) (d) : ∀ (n : ℕ) (h : n < cfg0.N), 6 < n % 21 → (dats m 0 c).before 4 ⟨n, h⟩ d = (dats m 0 c).after 4 ⟨n, h⟩
  | 0, _, h => absurd h (by omega)
  | n + 1, hn, h => by
    have hf : (cfg0.win 4).fetch ⟨n + 1, hn⟩ = false := (cfg0.win 4).fetch_out rfl _
    have hl : n < cfg0.N := Nat.lt_of_succ_lt hn
    have hx : ¬ (cfg0.win 4).flush ⟨n, hl⟩ = true := fun q => by
      have : (0 ≤ n % 21 ∧ n % 21 < 6) ∨ n % 21 = 20 := (flush0_4 ⟨n, hl⟩).mp q
      omega
    have step : (dats m 0 c).before 4 ⟨n + 1, hn⟩ d = (dats m 0 c).left 4 ⟨n, hl⟩ d := by
      rw [(dats m 0 c).before_of_pos 4 ⟨n + 1, hn⟩ (Nat.succ_ne_zero n) hf d]
      exact if_neg hx
    have last : (dats m 0 c).after 4 ⟨n, hl⟩ = (dats m 0 c).after 4 ⟨n + 1, hn⟩ := by
      rw [after0_4, after0_4]
      exact congrArg _ (upTo_eq 6 ⟨n, hl⟩ ⟨n + 1, hn⟩ (show n / 21 = (n + 1) / 21 by omega) (show 6 ≤ n % 21 by omega) (show 6 ≤ (n + 1) % 21 by omega))
    rw [step, ← last]
    by_cases e : n % 21 ≤ 6
    · unfold Dat.left; rw [live0_4 ⟨n, hl⟩ ⟨by dsimp only; omega, e⟩]; rfl
    · unfold Dat.left; rw [idle0_4 ⟨n, hl⟩ (fun q => e q.2)]; exact before4 c d n hl (by omega)

/-- The buffer handed back as it was found. -/
theorem kept4 (c : Dev nD) (t : Fin cfg0.N) (d) (h : ¬ (0 ≤ t.val % 21 ∧ t.val % 21 ≤ 6)) :
    owns (c : Thread nD τ) (win0_4.stage (cfg0.slots t 4)) fullShare ((dats m 0 c).before 4 t d) ⊢ ((dats m 0 c).leavesExact 4 t : sProp 𝕄) := by
  have hi := idle0_4 t h
  unfold Dat.leavesExact
  rw [hi]
  cases hf : (cfg0.win 4).flush t with
  | false => dsimp only; iintro H; iexists d; iexact H
  | true =>
    have e : (dats m 0 c).before 4 t d = (dats m 0 c).after 4 t := before4 m c d t.val t.isLt (by
      have := (flush0_4 t).mp hf
      omega)
    rw [e]

/-- The buffer left with the point's own block. -/
theorem made4 (c : Dev nD) (t : Fin cfg0.N) (h : 0 ≤ t.val % 21 ∧ t.val % 21 ≤ 6) :
    owns (c : Thread nD τ) (win0_4.stage (cfg0.slots t 4)) fullShare (out4 m c t) ⊢ ((dats m 0 c).leavesExact 4 t : sProp 𝕄) := by
  have hi := live0_4 t h
  unfold Dat.leavesExact
  rw [hi, after0_4, upTo_self 6 t h.2]

/-! The windows 5 to 8, in the same words as window 4. -/

theorem idle0_5 (t : Fin cfg0.N) (h : ¬ (7 ≤ t.val % 21 ∧ t.val % 21 ≤ 8)) : cfg0.idle 5 (cfg0.grid.coords t) = true := by
  show (!(k0_cond3 (grid0.coords t) == 1#1)) = true
  have hc : ¬ (k0_cond3 (grid0.coords t) = 1#1) := fun q => h ((hcond0_2 t).mp q)
  simp [hc]

theorem live0_5 (t : Fin cfg0.N) (h : 7 ≤ t.val % 21 ∧ t.val % 21 ≤ 8) : cfg0.idle 5 (cfg0.grid.coords t) = false := by
  show (!(k0_cond3 (grid0.coords t) == 1#1)) = false
  have hc : k0_cond3 (grid0.coords t) = 1#1 := (hcond0_2 t).mpr h
  simp [hc]

theorem flush0_5 : ∀ t : Fin cfg0.N, (cfg0.win 5).flush t = true ↔ ((7 ≤ t.val % 21 ∧ t.val % 21 < 8) ∨ t.val % 21 = 20) :=
  (by decide +kernel : ∀ t : Fin grid0.N, win0_5.flush t = true ↔ ((7 ≤ t.val % 21 ∧ t.val % 21 < 8) ∨ t.val % 21 = 20))

theorem before5 (c : Dev nD) (d) : ∀ (n : ℕ) (h : n < cfg0.N), 8 < n % 21 → (dats m 0 c).before 5 ⟨n, h⟩ d = (dats m 0 c).after 5 ⟨n, h⟩
  | 0, _, h => absurd h (by omega)
  | n + 1, hn, h => by
    have hf : (cfg0.win 5).fetch ⟨n + 1, hn⟩ = false := (cfg0.win 5).fetch_out rfl _
    have hl : n < cfg0.N := Nat.lt_of_succ_lt hn
    have hx : ¬ (cfg0.win 5).flush ⟨n, hl⟩ = true := fun q => by
      have : (7 ≤ n % 21 ∧ n % 21 < 8) ∨ n % 21 = 20 := (flush0_5 ⟨n, hl⟩).mp q
      omega
    have step : (dats m 0 c).before 5 ⟨n + 1, hn⟩ d = (dats m 0 c).left 5 ⟨n, hl⟩ d := by
      rw [(dats m 0 c).before_of_pos 5 ⟨n + 1, hn⟩ (Nat.succ_ne_zero n) hf d]
      exact if_neg hx
    have last : (dats m 0 c).after 5 ⟨n, hl⟩ = (dats m 0 c).after 5 ⟨n + 1, hn⟩ := by
      rw [after0_5, after0_5]
      exact congrArg _ (upTo_eq 8 ⟨n, hl⟩ ⟨n + 1, hn⟩ (show n / 21 = (n + 1) / 21 by omega) (show 8 ≤ n % 21 by omega) (show 8 ≤ (n + 1) % 21 by omega))
    rw [step, ← last]
    by_cases e : n % 21 ≤ 8
    · unfold Dat.left; rw [live0_5 ⟨n, hl⟩ ⟨by dsimp only; omega, e⟩]; rfl
    · unfold Dat.left; rw [idle0_5 ⟨n, hl⟩ (fun q => e q.2)]; exact before5 c d n hl (by omega)

theorem kept5 (c : Dev nD) (t : Fin cfg0.N) (d) (h : ¬ (7 ≤ t.val % 21 ∧ t.val % 21 ≤ 8)) :
    owns (c : Thread nD τ) (win0_5.stage (cfg0.slots t 5)) fullShare ((dats m 0 c).before 5 t d) ⊢ ((dats m 0 c).leavesExact 5 t : sProp 𝕄) := by
  have hi := idle0_5 t h
  unfold Dat.leavesExact
  rw [hi]
  cases hf : (cfg0.win 5).flush t with
  | false => dsimp only; iintro H; iexists d; iexact H
  | true =>
    have e : (dats m 0 c).before 5 t d = (dats m 0 c).after 5 t := before5 m c d t.val t.isLt (by
      have := (flush0_5 t).mp hf
      omega)
    rw [e]

theorem made5 (c : Dev nD) (t : Fin cfg0.N) (h : 7 ≤ t.val % 21 ∧ t.val % 21 ≤ 8) :
    owns (c : Thread nD τ) (win0_5.stage (cfg0.slots t 5)) fullShare (out5 m c t) ⊢ ((dats m 0 c).leavesExact 5 t : sProp 𝕄) := by
  have hi := live0_5 t h
  unfold Dat.leavesExact
  rw [hi, after0_5, upTo_self 8 t h.2]

theorem idle0_6 (t : Fin cfg0.N) (h : ¬ (9 ≤ t.val % 21 ∧ t.val % 21 ≤ 10)) : cfg0.idle 6 (cfg0.grid.coords t) = true := by
  show (!(k0_cond4 (grid0.coords t) == 1#1)) = true
  have hc : ¬ (k0_cond4 (grid0.coords t) = 1#1) := fun q => h ((hcond0_3 t).mp q)
  simp [hc]

theorem live0_6 (t : Fin cfg0.N) (h : 9 ≤ t.val % 21 ∧ t.val % 21 ≤ 10) : cfg0.idle 6 (cfg0.grid.coords t) = false := by
  show (!(k0_cond4 (grid0.coords t) == 1#1)) = false
  have hc : k0_cond4 (grid0.coords t) = 1#1 := (hcond0_3 t).mpr h
  simp [hc]

theorem flush0_6 : ∀ t : Fin cfg0.N, (cfg0.win 6).flush t = true ↔ ((9 ≤ t.val % 21 ∧ t.val % 21 < 10) ∨ t.val % 21 = 20) :=
  (by decide +kernel : ∀ t : Fin grid0.N, win0_6.flush t = true ↔ ((9 ≤ t.val % 21 ∧ t.val % 21 < 10) ∨ t.val % 21 = 20))

theorem before6 (c : Dev nD) (d) : ∀ (n : ℕ) (h : n < cfg0.N), 10 < n % 21 → (dats m 0 c).before 6 ⟨n, h⟩ d = (dats m 0 c).after 6 ⟨n, h⟩
  | 0, _, h => absurd h (by omega)
  | n + 1, hn, h => by
    have hf : (cfg0.win 6).fetch ⟨n + 1, hn⟩ = false := (cfg0.win 6).fetch_out rfl _
    have hl : n < cfg0.N := Nat.lt_of_succ_lt hn
    have hx : ¬ (cfg0.win 6).flush ⟨n, hl⟩ = true := fun q => by
      have : (9 ≤ n % 21 ∧ n % 21 < 10) ∨ n % 21 = 20 := (flush0_6 ⟨n, hl⟩).mp q
      omega
    have step : (dats m 0 c).before 6 ⟨n + 1, hn⟩ d = (dats m 0 c).left 6 ⟨n, hl⟩ d := by
      rw [(dats m 0 c).before_of_pos 6 ⟨n + 1, hn⟩ (Nat.succ_ne_zero n) hf d]
      exact if_neg hx
    have last : (dats m 0 c).after 6 ⟨n, hl⟩ = (dats m 0 c).after 6 ⟨n + 1, hn⟩ := by
      rw [after0_6, after0_6]
      exact congrArg _ (upTo_eq 10 ⟨n, hl⟩ ⟨n + 1, hn⟩ (show n / 21 = (n + 1) / 21 by omega) (show 10 ≤ n % 21 by omega) (show 10 ≤ (n + 1) % 21 by omega))
    rw [step, ← last]
    by_cases e : n % 21 ≤ 10
    · unfold Dat.left; rw [live0_6 ⟨n, hl⟩ ⟨by dsimp only; omega, e⟩]; rfl
    · unfold Dat.left; rw [idle0_6 ⟨n, hl⟩ (fun q => e q.2)]; exact before6 c d n hl (by omega)

theorem kept6 (c : Dev nD) (t : Fin cfg0.N) (d) (h : ¬ (9 ≤ t.val % 21 ∧ t.val % 21 ≤ 10)) :
    owns (c : Thread nD τ) (win0_6.stage (cfg0.slots t 6)) fullShare ((dats m 0 c).before 6 t d) ⊢ ((dats m 0 c).leavesExact 6 t : sProp 𝕄) := by
  have hi := idle0_6 t h
  unfold Dat.leavesExact
  rw [hi]
  cases hf : (cfg0.win 6).flush t with
  | false => dsimp only; iintro H; iexists d; iexact H
  | true =>
    have e : (dats m 0 c).before 6 t d = (dats m 0 c).after 6 t := before6 m c d t.val t.isLt (by
      have := (flush0_6 t).mp hf
      omega)
    rw [e]

theorem made6 (c : Dev nD) (t : Fin cfg0.N) (h : 9 ≤ t.val % 21 ∧ t.val % 21 ≤ 10) :
    owns (c : Thread nD τ) (win0_6.stage (cfg0.slots t 6)) fullShare (out6 m c t) ⊢ ((dats m 0 c).leavesExact 6 t : sProp 𝕄) := by
  have hi := live0_6 t h
  unfold Dat.leavesExact
  rw [hi, after0_6, upTo_self 10 t h.2]

theorem idle0_7 (t : Fin cfg0.N) (h : ¬ (11 ≤ t.val % 21 ∧ t.val % 21 ≤ 12)) : cfg0.idle 7 (cfg0.grid.coords t) = true := by
  show (!(k0_cond5 (grid0.coords t) == 1#1)) = true
  have hc : ¬ (k0_cond5 (grid0.coords t) = 1#1) := fun q => h ((hcond0_4 t).mp q)
  simp [hc]

theorem live0_7 (t : Fin cfg0.N) (h : 11 ≤ t.val % 21 ∧ t.val % 21 ≤ 12) : cfg0.idle 7 (cfg0.grid.coords t) = false := by
  show (!(k0_cond5 (grid0.coords t) == 1#1)) = false
  have hc : k0_cond5 (grid0.coords t) = 1#1 := (hcond0_4 t).mpr h
  simp [hc]

theorem flush0_7 : ∀ t : Fin cfg0.N, (cfg0.win 7).flush t = true ↔ ((11 ≤ t.val % 21 ∧ t.val % 21 < 12) ∨ t.val % 21 = 20) :=
  (by decide +kernel : ∀ t : Fin grid0.N, win0_7.flush t = true ↔ ((11 ≤ t.val % 21 ∧ t.val % 21 < 12) ∨ t.val % 21 = 20))

theorem before7 (c : Dev nD) (d) : ∀ (n : ℕ) (h : n < cfg0.N), 12 < n % 21 → (dats m 0 c).before 7 ⟨n, h⟩ d = (dats m 0 c).after 7 ⟨n, h⟩
  | 0, _, h => absurd h (by omega)
  | n + 1, hn, h => by
    have hf : (cfg0.win 7).fetch ⟨n + 1, hn⟩ = false := (cfg0.win 7).fetch_out rfl _
    have hl : n < cfg0.N := Nat.lt_of_succ_lt hn
    have hx : ¬ (cfg0.win 7).flush ⟨n, hl⟩ = true := fun q => by
      have : (11 ≤ n % 21 ∧ n % 21 < 12) ∨ n % 21 = 20 := (flush0_7 ⟨n, hl⟩).mp q
      omega
    have step : (dats m 0 c).before 7 ⟨n + 1, hn⟩ d = (dats m 0 c).left 7 ⟨n, hl⟩ d := by
      rw [(dats m 0 c).before_of_pos 7 ⟨n + 1, hn⟩ (Nat.succ_ne_zero n) hf d]
      exact if_neg hx
    have last : (dats m 0 c).after 7 ⟨n, hl⟩ = (dats m 0 c).after 7 ⟨n + 1, hn⟩ := by
      rw [after0_7, after0_7]
      exact congrArg _ (upTo_eq 12 ⟨n, hl⟩ ⟨n + 1, hn⟩ (show n / 21 = (n + 1) / 21 by omega) (show 12 ≤ n % 21 by omega) (show 12 ≤ (n + 1) % 21 by omega))
    rw [step, ← last]
    by_cases e : n % 21 ≤ 12
    · unfold Dat.left; rw [live0_7 ⟨n, hl⟩ ⟨by dsimp only; omega, e⟩]; rfl
    · unfold Dat.left; rw [idle0_7 ⟨n, hl⟩ (fun q => e q.2)]; exact before7 c d n hl (by omega)

theorem kept7 (c : Dev nD) (t : Fin cfg0.N) (d) (h : ¬ (11 ≤ t.val % 21 ∧ t.val % 21 ≤ 12)) :
    owns (c : Thread nD τ) (win0_7.stage (cfg0.slots t 7)) fullShare ((dats m 0 c).before 7 t d) ⊢ ((dats m 0 c).leavesExact 7 t : sProp 𝕄) := by
  have hi := idle0_7 t h
  unfold Dat.leavesExact
  rw [hi]
  cases hf : (cfg0.win 7).flush t with
  | false => dsimp only; iintro H; iexists d; iexact H
  | true =>
    have e : (dats m 0 c).before 7 t d = (dats m 0 c).after 7 t := before7 m c d t.val t.isLt (by
      have := (flush0_7 t).mp hf
      omega)
    rw [e]

theorem made7 (c : Dev nD) (t : Fin cfg0.N) (h : 11 ≤ t.val % 21 ∧ t.val % 21 ≤ 12) :
    owns (c : Thread nD τ) (win0_7.stage (cfg0.slots t 7)) fullShare (out7 m c t) ⊢ ((dats m 0 c).leavesExact 7 t : sProp 𝕄) := by
  have hi := live0_7 t h
  unfold Dat.leavesExact
  rw [hi, after0_7, upTo_self 12 t h.2]

theorem idle0_8 (t : Fin cfg0.N) (h : ¬ (13 ≤ t.val % 21 ∧ t.val % 21 ≤ 20)) : cfg0.idle 8 (cfg0.grid.coords t) = true := by
  show (!(k0_cond6 (grid0.coords t) == 1#1)) = true
  have hc : ¬ (k0_cond6 (grid0.coords t) = 1#1) := fun q => h ((hcond0_5 t).mp q)
  simp [hc]

theorem live0_8 (t : Fin cfg0.N) (h : 13 ≤ t.val % 21 ∧ t.val % 21 ≤ 20) : cfg0.idle 8 (cfg0.grid.coords t) = false := by
  show (!(k0_cond6 (grid0.coords t) == 1#1)) = false
  have hc : k0_cond6 (grid0.coords t) = 1#1 := (hcond0_5 t).mpr h
  simp [hc]

theorem flush0_8 : ∀ t : Fin cfg0.N, (cfg0.win 8).flush t = true ↔ ((13 ≤ t.val % 21 ∧ t.val % 21 < 20) ∨ t.val % 21 = 20) :=
  (by decide +kernel : ∀ t : Fin grid0.N, win0_8.flush t = true ↔ ((13 ≤ t.val % 21 ∧ t.val % 21 < 20) ∨ t.val % 21 = 20))

theorem kept8 (c : Dev nD) (t : Fin cfg0.N) (d) (h : ¬ (13 ≤ t.val % 21 ∧ t.val % 21 ≤ 20)) :
    owns (c : Thread nD τ) (win0_8.stage (cfg0.slots t 8)) fullShare ((dats m 0 c).before 8 t d) ⊢ ((dats m 0 c).leavesExact 8 t : sProp 𝕄) := by
  have hi := idle0_8 t h
  unfold Dat.leavesExact
  rw [hi]
  cases hf : (cfg0.win 8).flush t with
  | false => dsimp only; iintro H; iexists d; iexact H
  | true =>
    exact absurd ((flush0_8 t).mp hf) (by omega)

theorem made8 (c : Dev nD) (t : Fin cfg0.N) (h : 13 ≤ t.val % 21 ∧ t.val % 21 ≤ 20) :
    owns (c : Thread nD τ) (win0_8.stage (cfg0.slots t 8)) fullShare (out8 m c t) ⊢ ((dats m 0 c).leavesExact 8 t : sProp 𝕄) := by
  have hi := live0_8 t h
  unfold Dat.leavesExact
  rw [hi, after0_8, upTo_self 20 t h.2]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3,
    show (dats m 0 c).Φ t.succ = PhiC m c (t.val + 1) from rfl, show (dats m 0 c).Φ t.castSucc = PhiC m c t.val from rfl]
  unfold PhiC
  by_cases h0 : t.val % 21 = 0
  · iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ ((hcond0_0 t).mpr h0) ((hcond0_1 t).mpr (by omega)) (fun h => absurd ((hcond0_2 t).mp h) (by omega)) (fun h => absurd ((hcond0_3 t).mp h) (by omega)) (fun h => absurd ((hcond0_4 t).mp h) (by omega)) (fun h => absurd ((hcond0_5 t).mp h) (by omega)) (iblk m c 0 t) (iblk m c 1 t) (iblk m c 2 t)) Set.univ _)
    isplitl [H0]; · iexact H0
    isplitl [H1]; · iexact H1
    isplitl [H2]; · iexact H2
    isplitl [H4]; · iexists _; iexact H4
    isplitl [HS]; · iexists _; iexact HS
    iintro ⟨H0, H1, H2, H4, HS⟩
    rw [← xnAt_first m c t h0]
    isplitl [HS Hg]
    · isplitl [HS]
      · iexists _; isplitr; swap; · iexact HS
        ipureintro; exact Held_step m c t
      iexact Hg
    isplitl [Ho]; · iexact Ho
    isplitl [H0]; · iexact H0
    isplitl [H1]; · iexact H1
    isplitl [H2]; · iexact H2
    isplitl [H3]; · iexact H3
    isplitl [H4]; · iapply (made4 m c t (by omega)); iexact H4
    isplitl [H5]; · iapply (kept5 m c t d5 (by omega)); iexact H5
    isplitl [H6]; · iapply (kept6 m c t d6 (by omega)); iexact H6
    isplitl [H7]; · iapply (kept7 m c t d7 (by omega)); iexact H7
    iapply (kept8 m c t d8 (by omega)); iexact H8
  iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hX t rfl h0
  by_cases h1 : t.val % 21 ≤ 6
  · iapply ((run_B c (grid0.coords t) _ _ _ _ _ _ _ _ _ _ _ _ _ _ _ _ _ _ _ _ (fun h => h0 ((hcond0_0 t).mp h)) ((hcond0_1 t).mpr (by omega)) (fun h => absurd ((hcond0_2 t).mp h) (by omega)) (fun h => absurd ((hcond0_3 t).mp h) (by omega)) (fun h => absurd ((hcond0_4 t).mp h) (by omega)) (fun h => absurd ((hcond0_5 t).mp h) (by omega)) (iblk m c 2 t) (xnAt m c t)) Set.univ _)
    isplitl [H2]; · iexact H2
    isplitl [H4]; · iexists _; iexact H4
    isplitl [HS]; · iexact HS
    iintro ⟨H2, H4, HS⟩
    isplitl [HS Hg]
    · isplitl [HS]
      · iexists _; isplitr; swap; · iexact HS
        ipureintro; exact Held_step m c t
      iexact Hg
    isplitl [Ho]; · iexact Ho
    isplitl [H0]; · iexact H0
    isplitl [H1]; · iexact H1
    isplitl [H2]; · iexact H2
    isplitl [H3]; · iexact H3
    isplitl [H4]; · iapply (made4 m c t (by omega)); iexact H4
    isplitl [H5]; · iapply (kept5 m c t d5 (by omega)); iexact H5
    isplitl [H6]; · iapply (kept6 m c t d6 (by omega)); iexact H6
    isplitl [H7]; · iapply (kept7 m c t d7 (by omega)); iexact H7
    iapply (kept8 m c t d8 (by omega)); iexact H8
  by_cases h2 : t.val % 21 ≤ 8
  · iapply ((run_C c (grid0.coords t) _ _ _ _ _ _ _ _ _ _ _ _ _ _ _ _ _ _ _ _ (fun h => h0 ((hcond0_0 t).mp h)) (fun h => absurd ((hcond0_1 t).mp h) (by omega)) ((hcond0_2 t).mpr (by omega)) (fun h => absurd ((hcond0_3 t).mp h) (by omega)) (fun h => absurd ((hcond0_4 t).mp h) (by omega)) (fun h => absurd ((hcond0_5 t).mp h) (by omega)) (iblk m c 2 t) (xnAt m c t)) Set.univ _)
    isplitl [H2]; · iexact H2
    isplitl [H5]; · iexists _; iexact H5
    isplitl [HS]; · iexact HS
    iintro ⟨H2, H5, HS⟩
    isplitl [HS Hg]
    · isplitl [HS]
      · iexists _; isplitr; swap; · iexact HS
        ipureintro; exact Held_step m c t
      iexact Hg
    isplitl [Ho]; · iexact Ho
    isplitl [H0]; · iexact H0
    isplitl [H1]; · iexact H1
    isplitl [H2]; · iexact H2
    isplitl [H3]; · iexact H3
    isplitl [H4]; · iapply (kept4 m c t d4 (by omega)); iexact H4
    isplitl [H5]; · iapply (made5 m c t (by omega)); iexact H5
    isplitl [H6]; · iapply (kept6 m c t d6 (by omega)); iexact H6
    isplitl [H7]; · iapply (kept7 m c t d7 (by omega)); iexact H7
    iapply (kept8 m c t d8 (by omega)); iexact H8
  by_cases h3 : t.val % 21 ≤ 10
  · iapply ((run_D c (grid0.coords t) _ _ _ _ _ _ _ _ _ _ _ _ _ _ _ _ _ _ _ _ (fun h => h0 ((hcond0_0 t).mp h)) (fun h => absurd ((hcond0_1 t).mp h) (by omega)) (fun h => absurd ((hcond0_2 t).mp h) (by omega)) ((hcond0_3 t).mpr (by omega)) (fun h => absurd ((hcond0_4 t).mp h) (by omega)) (fun h => absurd ((hcond0_5 t).mp h) (by omega)) (iblk m c 3 t) (xnAt m c t)) Set.univ _)
    isplitl [H3]; · iexact H3
    isplitl [H6]; · iexists _; iexact H6
    isplitl [HS]; · iexact HS
    iintro ⟨H3, H6, HS⟩
    isplitl [HS Hg]
    · isplitl [HS]
      · iexists _; isplitr; swap; · iexact HS
        ipureintro; exact Held_step m c t
      iexact Hg
    isplitl [Ho]; · iexact Ho
    isplitl [H0]; · iexact H0
    isplitl [H1]; · iexact H1
    isplitl [H2]; · iexact H2
    isplitl [H3]; · iexact H3
    isplitl [H4]; · iapply (kept4 m c t d4 (by omega)); iexact H4
    isplitl [H5]; · iapply (kept5 m c t d5 (by omega)); iexact H5
    isplitl [H6]; · iapply (made6 m c t (by omega)); iexact H6
    isplitl [H7]; · iapply (kept7 m c t d7 (by omega)); iexact H7
    iapply (kept8 m c t d8 (by omega)); iexact H8
  by_cases h4 : t.val % 21 ≤ 12
  · iapply ((run_E c (grid0.coords t) _ _ _ _ _ _ _ _ _ _ _ _ _ _ _ _ _ _ _ _ (fun h => h0 ((hcond0_0 t).mp h)) (fun h => absurd ((hcond0_1 t).mp h) (by omega)) (fun h => absurd ((hcond0_2 t).mp h) (by omega)) (fun h => absurd ((hcond0_3 t).mp h) (by omega)) ((hcond0_4 t).mpr (by omega)) (fun h => absurd ((hcond0_5 t).mp h) (by omega)) (iblk m c 3 t) (xnAt m c t)) Set.univ _)
    isplitl [H3]; · iexact H3
    isplitl [H7]; · iexists _; iexact H7
    isplitl [HS]; · iexact HS
    iintro ⟨H3, H7, HS⟩
    isplitl [HS Hg]
    · isplitl [HS]
      · iexists _; isplitr; swap; · iexact HS
        ipureintro; exact Held_step m c t
      iexact Hg
    isplitl [Ho]; · iexact Ho
    isplitl [H0]; · iexact H0
    isplitl [H1]; · iexact H1
    isplitl [H2]; · iexact H2
    isplitl [H3]; · iexact H3
    isplitl [H4]; · iapply (kept4 m c t d4 (by omega)); iexact H4
    isplitl [H5]; · iapply (kept5 m c t d5 (by omega)); iexact H5
    isplitl [H6]; · iapply (kept6 m c t d6 (by omega)); iexact H6
    isplitl [H7]; · iapply (made7 m c t (by omega)); iexact H7
    iapply (kept8 m c t d8 (by omega)); iexact H8
  iapply ((run_F c (grid0.coords t) _ _ _ _ _ _ _ _ _ _ _ _ _ _ _ _ _ _ _ _ (fun h => h0 ((hcond0_0 t).mp h)) (fun h => absurd ((hcond0_1 t).mp h) (by omega)) (fun h => absurd ((hcond0_2 t).mp h) (by omega)) (fun h => absurd ((hcond0_3 t).mp h) (by omega)) (fun h => absurd ((hcond0_4 t).mp h) (by omega)) ((hcond0_5 t).mpr (by omega)) (iblk m c 2 t) (xnAt m c t)) Set.univ _)
  isplitl [H2]; · iexact H2
  isplitl [H8]; · iexists _; iexact H8
  isplitl [HS]; · iexact HS
  iintro ⟨H2, H8, HS⟩
  isplitl [HS Hg]
  · isplitl [HS]
    · iexists _; isplitr; swap; · iexact HS
      ipureintro; exact Held_step m c t
    iexact Hg
  isplitl [Ho]; · iexact Ho
  isplitl [H0]; · iexact H0
  isplitl [H1]; · iexact H1
  isplitl [H2]; · iexact H2
  isplitl [H3]; · iexact H3
  isplitl [H4]; · iapply (kept4 m c t d4 (by omega)); iexact H4
  isplitl [H5]; · iapply (kept5 m c t d5 (by omega)); iexact H5
  isplitl [H6]; · iapply (kept6 m c t d6 (by omega)); iexact H6
  isplitl [H7]; · iapply (kept7 m c t d7 (by omega)); iexact H7
  iapply (made8 m c t (by omega)); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiC m c 0 from rfl, PhiA0_eq]
  unfold PhiC
  iintro ⟨⟨%d, HS⟩, Hg⟩
  isplitl [HS]
  · iexists d
    isplitr
    · ipureintro; intro s h h'; exact absurd (by rw [h]) h'
    iexact HS
  iexact Hg

theorem hout (c : Dev nD) : (dats m 0 c).Φ (Fin.last cfg0.N) ⊢ Pipeline.ΦA spec0 c := by
  rw [show (dats m 0 c).Φ (Fin.last cfg0.N) = PhiC m c cfg0.N from rfl, PhiA0_eq]
  unfold PhiC
  iintro ⟨⟨%d, -, HS⟩, Hg⟩
  isplitl [HS]
  · iexists d
    iexact HS
  iexact Hg

/-! ## The run and the frame -/

set_option backward.isDefEq.respectTransparency.types false in
set_option maxHeartbeats 800000 in
/-- The call's run: it ends, with the arrays as the points left them and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.ProjRef.lean ====
/-
  The projection as the reference states it: the normed residual, its product with the fused weight, and the six results
  cut from that product; and what each of them is, entry by entry. The kernel's block products follow.
-/
module

public import proofs.«01_k».proof.Proof.Entry
public import proofs.«01_k».proof.Proof.ProjFrame
public import proofs.«01_k».proof.Proof.Gen.Reference2Ideal.Run

@[expose] public section

set_option maxRecDepth 16384

noncomputable section

open Idealize.ShloMosaic Idealize.ShloMosaic.TcCoe Idealize.SL.Sem

namespace Cert.Proj

/-- The batch and the position of a row. -/
abbrev bOf (g : Fin 16384) : Fin 8 := ⟨g.val / 2048, by have := g.isLt; omega⟩
abbrev tOf (g : Fin 16384) : Fin 2048 := ⟨g.val % 2048, by omega⟩

/-- A row `h` normed with the scale `g`. -/
def normed (h g : Fin 2048 → EReal) (n : Fin 2048) : EReal :=
  h n * Ideal.rsqrt (Ideal.div (∑ e : Fin 2048, h e * h e) (Ideal.ofBits .f32 0x45000000#32) + Ideal.ofBits .f32 0x358637BD#32) * g n

/-- The `3584` side columns as the layer lays them out: two groups of 96 columns, each followed by 32 of zeros. -/
def pick (f : Fin 10688 → EReal) (j : Fin 3584) : EReal :=
  if j.val < 3168 then f ⟨j.val, by have := j.isLt; omega⟩
  else if j.val < 3200 then 0
  else if j.val < 3296 then f ⟨j.val - 32, by have := j.isLt; omega⟩
  else if j.val < 3328 then 0
  else f ⟨j.val - 64, by have := j.isLt; omega⟩

theorem pick_eq (f : Fin 10688 → EReal) (j : Fin 3584) (o : Fin 10688)
    (h : j.val < 3168 ∧ o.val = j.val ∨ (3200 ≤ j.val ∧ j.val < 3296 ∧ o.val + 32 = j.val) ∨ (3328 ≤ j.val ∧ o.val + 64 = j.val)) :
    pick f j = f o := by
  unfold pick
  split_ifs <;> first
    | (exfalso; omega)
    | exact congrArg f (Fin.ext (by dsimp only; omega))

/-- A sum against picked columns is the picked sum: a column of zeros adds to zero. -/
theorem sum_pick (a : Fin 2048 → EReal) (w : Fin 2048 → Fin 10688 → EReal) (j : Fin 3584) :
    (∑ k : Fin 2048, a k * pick (w k) j) = pick (fun e => ∑ k : Fin 2048, a k * w k e) j := by
  unfold pick
  split
  · rfl
  split
  · simp only [mul_zero, Finset.sum_const_zero]
  split
  · rfl
  split
  · simp only [mul_zero, Finset.sum_const_zero]
  · rfl

open Cert.Reference2Ideal Cert.Reference2Ideal.Gen

variable (x : FVec Ideal S8x2048x2048 .f32) (g : FVec Ideal S2048 .f32) (w : FVec Ideal S2048x10688 .f32)

/-- The fused projection of a position, at a column of the fused weight. -/
def proj (b : Fin 8) (t : Fin 2048) (e : Fin 10688) : EReal :=
  ∑ k : Fin 2048, normed (fun n => x (ix3 b t n)) (fun n => g (ix1 n)) k * w (ix2 k e)

/-! ## The reference's stages -/

def normRef : FVec Ideal S8x2048x2048 .f32 :=
  mulf (mulf x (broadcastInDim S8x2048x2048 ![0, 1, 2] bcast_S8x2048x1_S8x2048x2048_0_1_2
      (Host.rsqrt (addf (Host.divf (broadcastInDim S8x2048x1 ![0, 1] bcast_S8x2048_S8x2048x1_0_1
          (Host.reduceAdd (mulf x x) (constant S_ .f32 0x00000000#32) reducesTo_S8x2048x2048_S8x2048_d2 h_S_))
        (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

def projRef : FVec Ideal S8x2048x10688 .f32 :=
  Host.dotGeneral dot_S8x2048x2048_S2048x10688_S8x2048x10688_2_0_01_1_n_n none (normRef x g) w

variable (u : FVec Ideal S8x2048x10688 .f32)

def sideRef : FVec Ideal S8x2048x3520 .f32 := extractStridedSlice S8x2048x3520 ![0, 0, 0] u slices_S8x2048x10688_S8x2048x3520_0_0_0

def padRef (v : FVec Ideal S8x2048x96 .f32) : FVec Ideal S8x2048x128 .f32 :=
  pad S8x2048x128 ![0, 0, 0] ![0, 0, 32] ![0, 0, 0] v (sitofp .f32 (constantI S_ 32 0#32)) pads_S8x2048x96_S8x2048x128_000_000_0320 h_S_

def rowsRef (s : FVec Ideal S8x2048x3520 .f32) : FVec Ideal S8x2048x3584 .f32 :=
  concatenate S8x2048x3584 2
    [⟨S8x2048x3072, extractStridedSlice S8x2048x3072 ![0, 0, 0] s slices_S8x2048x3520_S8x2048x3072_0_0_0⟩,
     ⟨S8x2048x128, padRef (extractStridedSlice S8x2048x96 ![0, 0, 3072] s slices_S8x2048x3520_S8x2048x96_0_0_3072)⟩,
     ⟨S8x2048x128, padRef (extractStridedSlice S8x2048x96 ![0, 0, 3168] s slices_S8x2048x3520_S8x2048x96_0_0_3168)⟩,
     ⟨S8x2048x256, extractStridedSlice S8x2048x256 ![0, 0, 3264] s slices_S8x2048x3520_S8x2048x256_0_0_3264⟩]
    concatenates_S8x2048x3072_S8x2048x128_S8x2048x128_S8x2048x256_S8x2048x3584_d2

def attnRef : FVec Ideal S8x2048x3072 .f32 := extractStridedSlice S8x2048x3072 ![0, 0, 3520] u slices_S8x2048x10688_S8x2048x3072_0_0_3520

/-- The six results, of the fused product. -/
def ref0 : FVec Ideal S16384x3584 .f32 := shapeCast _ (rowsRef (sideRef u)) shapeCasts_S8x2048x3584_S16384x3584

def ref1 : FVec Ideal S16384x1024 .bf16 :=
  shapeCast _ (truncf .bf16 (mulf (extractStridedSlice S8x2048x1024 ![0, 0, 0] (attnRef u) slices_S8x2048x3072_S8x2048x1024_0_0_0)
    (broadcastInDim S8x2048x1024 ![] bcast_S_S8x2048x1024 (constant S_ .f32 0x3E000000#32))) bitsLt_bf16_f32) shapeCasts_S8x2048x1024_S16384x1024

def ref2 : FVec Ideal S8x2048x16x64 .f32 :=
  shapeCast _ (extractStridedSlice S8x2048x1024 ![0, 0, 1024] (attnRef u) slices_S8x2048x3072_S8x2048x1024_0_0_1024) shapeCasts_S8x2048x1024_S8x2048x16x64

def ref3 : FVec Ideal S8x2048x16x64 .f32 :=
  shapeCast _ (extractStridedSlice S8x2048x1024 ![0, 0, 2048] (attnRef u) slices_S8x2048x3072_S8x2048x1024_0_0_2048) shapeCasts_S8x2048x1024_S8x2048x16x64

def ref4 : FVec Ideal S16384x4096 .bf16 :=
  shapeCast _ (truncf .bf16 (extractStridedSlice S8x2048x4096 ![0, 0, 6592] u slices_S8x2048x10688_S8x2048x4096_0_0_6592) bitsLt_bf16_f32)
    shapeCasts_S8x2048x4096_S16384x4096

def ref5 : FVec Ideal S8x3520 .f32 :=
  shapeCast _ (extractStridedSlice S8x1x3520 ![0, 2047, 0] (sideRef u) slices_S8x2048x3520_S8x1x3520_0_2047_0) shapeCasts_S8x1x3520_S8x3520

/-! ## The stages, entry by entry -/

theorem normRef_apply (b : Fin 8) (t n : Fin 2048) :
    normRef x g (ix3 b t n) = normed (fun e => x (ix3 b t e)) (fun e => g (ix1 e)) n := by
  unfold normRef normed
  pointwise

theorem projRef_apply (b : Fin 8) (t : Fin 2048) (e : Fin 10688) : projRef x g w (ix3 b t e) = proj x g w b t e := by
  unfold projRef proj
  pointwise [normRef_apply]

theorem sideRef_apply (b : Fin 8) (t : Fin 2048) (e : Fin 3520) :
    sideRef u (ix3 b t e) = u (ix3 b t (⟨e.val, by have := e.isLt; omega⟩ : Fin 10688)) := by
  unfold sideRef
  pointwise

theorem padRef_apply (v : FVec Ideal S8x2048x96 .f32) (b : Fin 8) (t : Fin 2048) (e : Fin 128) :
    padRef v (ix3 b t e) = if h : e.val < 96 then v (ix3 b t ⟨e.val, h⟩) else 0 := by
  have z : (FloatOps.sitofp (F := Ideal) FTy.f32 0#32) = (0 : EReal) := by
    show (((0#32).toInt : ℝ) : EReal) = 0
    simp
  unfold padRef
  pointwise
  rw [z]

theorem rowsRef_read (s : FVec Ideal S8x2048x3520 .f32) (b : Fin 8) (t : Fin 2048) (j : Fin 3584) :
    rowsRef s (ix3 b t j) = if h : j.val < 3072 then s (ix3 b t (⟨j.val, by omega⟩ : Fin 3520))
      else if h : j.val - 3072 < 128 then
        (if h : j.val - 3072 < 96 then s (ix3 b t (⟨3072 + (j.val - 3072), by omega⟩ : Fin 3520)) else 0)
      else if h : j.val - 3072 - 128 < 128 then
        (if h : j.val - 3072 - 128 < 96 then s (ix3 b t (⟨3168 + (j.val - 3072 - 128), by omega⟩ : Fin 3520)) else 0)
      else s (ix3 b t (⟨3264 + (j.val - 3072 - 128 - 128), by have := j.isLt; omega⟩ : Fin 3520)) := by
  unfold rowsRef
  pointwise [padRef_apply]

theorem rowsRef_apply (b : Fin 8) (t : Fin 2048) (j : Fin 3584) :
    rowsRef (sideRef u) (ix3 b t j) = pick (fun e => u (ix3 b t e)) j := by
  rw [rowsRef_read]
  simp only [sideRef_apply]
  unfold pick
  have hj := j.isLt
  have at_ : ∀ (p q : Fin 10688), p.val = q.val → u (ix3 b t p) = u (ix3 b t q) := fun p q h => by rw [Fin.ext h]
  by_cases a : j.val < 3072
  · rw [dif_pos a, if_pos (by omega)]
  rw [dif_neg a]
  by_cases b' : j.val - 3072 < 128
  · rw [dif_pos b']
    by_cases c : j.val - 3072 < 96
    · rw [dif_pos c, if_pos (by omega)]
      exact at_ _ _ (by show 3072 + (j.val - 3072) = j.val; omega)
    · rw [dif_neg c, if_neg (by omega), if_pos (by omega)]
  rw [dif_neg b', if_neg (by omega), if_neg (by omega)]
  by_cases c : j.val - 3072 - 128 < 128
  · rw [dif_pos c]
    by_cases d : j.val - 3072 - 128 < 96
    · rw [dif_pos d, if_pos (by omega)]
      exact at_ _ _ (by show 3168 + (j.val - 3072 - 128) = j.val - 32; omega)
    · rw [dif_neg d, if_neg (by omega), if_pos (by omega)]
  · rw [dif_neg c, if_neg (by omega), if_neg (by omega)]
    exact at_ _ _ (by show 3264 + (j.val - 3072 - 128 - 128) = j.val - 64; omega)

theorem ref0_apply (r : Fin 16384) (j : Fin 3584) :
    ref0 (projRef x g w) (ix2 r j) = pick (fun e => proj x g w (bOf r) (tOf r) e) j := by
  have h : ref0 (projRef x g w) (ix2 r j) = rowsRef (sideRef (projRef x g w)) (ix3 (bOf r) (tOf r) j) := by
    unfold ref0
    generalize rowsRef (sideRef (projRef x g w)) = z
    pointwise
  rw [h, rowsRef_apply]
  simp only [projRef_apply]

theorem ref1_apply (r : Fin 16384) (j : Fin 1024) :
    ref1 u (ix2 r j) = u (ix3 (bOf r) (tOf r) (⟨3520 + j.val, by have := j.isLt; omega⟩ : Fin 10688)) * Attn.eighth := by
  unfold ref1 attnRef
  pointwise

theorem ref2_apply (b : Fin 8) (t : Fin 2048) (h : Fin 16) (d : Fin 64) :
    ref2 u (ix4 b t h d) = u (ix3 b t (⟨3520 + (1024 + (h.val * 64 + d.val)), by have := h.isLt; have := d.isLt; omega⟩ : Fin 10688)) := by
  unfold ref2 attnRef
  pointwise

theorem ref3_apply (b : Fin 8) (t : Fin 2048) (h : Fin 16) (d : Fin 64) :
    ref3 u (ix4 b t h d) = u (ix3 b t (⟨3520 + (2048 + (h.val * 64 + d.val)), by have := h.isLt; have := d.isLt; omega⟩ : Fin 10688)) := by
  unfold ref3 attnRef
  pointwise

theorem ref4_apply (r : Fin 16384) (j : Fin 4096) :
    ref4 u (ix2 r j) = u (ix3 (bOf r) (tOf r) (⟨6592 + j.val, by have := j.isLt; omega⟩ : Fin 10688)) := by
  unfold ref4
  pointwise

theorem ref5_apply (b : Fin 8) (e : Fin 3520) :
    ref5 u (ix2 b e) = u (ix3 b (⟨2047, by decide⟩ : Fin 2048) (⟨e.val, by have := e.isLt; omega⟩ : Fin 10688)) := by
  unfold ref5
  pointwise [sideRef_apply]

section Payloads

open Cert.Kernel2Ideal Cert.Kernel2Ideal.Gen

variable (v : FVec Ideal Cert.Kernel2Ideal.S1024x2048 .f32) (s : FVec Ideal Cert.Kernel2Ideal.S1x2048 .f32)
    (xn : FVec Ideal Cert.Kernel2Ideal.S1024x2048 .bf16) (wb : FVec Ideal Cert.Kernel2Ideal.S2048x512 .bf16)
    (wk : FVec Ideal Cert.Kernel2Ideal.S512x2048 .bf16)

theorem pay1_apply (r : Fin 1024) (n : Fin 2048) :
    (k0_pay1 v s : FVec Ideal Cert.Kernel2Ideal.S1024x2048 .bf16) (ix2 r n) = normed (fun e => v (ix2 r e)) (fun e => s (ix2 0 e)) n := by
  unfold k0_pay1 normed
  pointwise

theorem pay2_apply (r : Fin 1024) (n : Fin 512) : (k0_pay2 xn wb : FVec Ideal Cert.Kernel2Ideal.S1024x512 .f32) (ix2 r n) = ∑ k : Fin 2048, xn (ix2 r k) * wb (ix2 k n) := by
  unfold k0_pay2
  pointwise

theorem pay3_apply (r : Fin 1024) (n : Fin 512) : (k0_pay3 xn wb : FVec Ideal Cert.Kernel2Ideal.S1024x512 .bf16) (ix2 r n) = ∑ k : Fin 2048, xn (ix2 r k) * wb (ix2 k n) := by
  unfold k0_pay3
  pointwise

theorem pay6_apply (r : Fin 1024) (n : Fin 512) : (k0_pay6 xn wb : FVec Ideal Cert.Kernel2Ideal.S1024x512 .bf16) (ix2 r n) = ∑ k : Fin 2048, xn (ix2 r k) * wb (ix2 k n) := by
  unfold k0_pay6
  pointwise

theorem pay4_apply (z : Fin 1) (n : Fin 512) (r : Fin 1024) :
    (k0_pay4 wk xn : FVec Ideal Cert.Kernel2Ideal.S1x512x1024 .f32) (ix3 z n r) = ∑ k : Fin 2048, wk (ix2 n k) * xn (ix2 r k) := by
  unfold k0_pay4
  pointwise

theorem pay5_apply (z : Fin 1) (n : Fin 512) (r : Fin 1024) :
    (k0_pay5 wk xn : FVec Ideal Cert.Kernel2Ideal.S1x512x1024 .f32) (ix3 z n r) = ∑ k : Fin 2048, wk (ix2 n k) * xn (ix2 r k) := by
  unfold k0_pay5
  pointwise

end Payloads

variable (m : (ℓ : Loc nD τ sig) → Buf (Elt Ideal) ℓ) (c : Dev nD)

/-- The reference's fused product of its arguments. -/
def fusedRef : FVec Ideal S8x2048x10688 .f32 :=
  projRef (m ((c.tc : Thread nD τ).loc main_arg0)) (m ((c.tc : Thread nD τ).loc main_arg1)) (m ((c.tc : Thread nD τ).loc main_arg2))

theorem res0_eq : Value.res_main_v29 m c = ref0 (fusedRef m c) := rfl

end Cert.Proj

end
-- ==== Proof.ProjBlocks.lean ====
/-
  The projection call's operands: the fused weight the call is given, column by column, and the blocks its grid points read.
-/
module

public import proofs.«01_k».proof.Defs
public import proofs.«01_k».proof.Proof.ProjRef
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Proj

open Cert.Kernel2Ideal Cert.Kernel2Ideal.Gen

variable (m : (ℓ : Loc nD τ sig) → Buf (Elt Ideal) ℓ) (c : Dev nD)

theorem index0 : ∀ t : Fin cfg0.N, win0_0.index t = ![t.val / 21, 0] := by decide +kernel
theorem index1 : ∀ t : Fin cfg0.N, win0_1.index t = ![0, 0] := by decide +kernel
theorem index2 : ∀ t : Fin cfg0.N, win0_2.index t = ![0, if 9 ≤ t.val % 21 ∧ t.val % 21 < 13 then 8 else t.val % 21] := by decide +kernel
theorem index3 : ∀ t : Fin cfg0.N, win0_3.index t = ![min (t.val % 21 - 9) 3, 0] := by decide +kernel
theorem index4 : ∀ t : Fin cfg0.N, win0_4.index t = ![t.val / 21, min (t.val % 21) 6] := by decide +kernel
theorem index5 : ∀ t : Fin cfg0.N, win0_5.index t = ![t.val / 21, min (t.val % 21 - 7) 1] := by decide +kernel
theorem index6 : ∀ t : Fin cfg0.N, win0_6.index t = ![t.val / 42, min (t.val % 21 - 9) 1, t.val / 21 % 2] := by decide +kernel
theorem index7 : ∀ t : Fin cfg0.N, win0_7.index t = ![t.val / 42, min (t.val % 21 - 11) 1, t.val / 21 % 2] := by decide +kernel
theorem index8 : ∀ t : Fin cfg0.N, win0_8.index t = ![t.val / 21, min (t.val % 21 - 13) 7] := by decide +kernel

theorem lt336 (t : Fin cfg0.N) : t.val < 336 := Nat.lt_of_lt_of_eq t.isLt N_0

/-- The row of the arrays that row `r` of a point's block is. -/
abbrev row (t : Fin cfg0.N) (r : Fin 1024) : Fin 16384 :=
  ⟨t.val / 21 * 1024 + r.val, by have := lt336 t; have := r.isLt; omega⟩

abbrev argX : FVec Ideal S8x2048x2048 .f32 := m ((c : Thread nD τ).loc main_arg0)
abbrev argG : FVec Ideal S2048 .f32 := m ((c : Thread nD τ).loc main_arg1)
abbrev argW : FVec Ideal S2048x10688 .f32 := m ((c : Thread nD τ).loc main_arg2)

/-! ## The fused weight the call is given -/

/-- Ninety-six columns and thirty-two of zeros. -/
def padW (v : FVec Ideal S2048x96 .f32) : FVec Ideal S2048x128 .f32 :=
  pad S2048x128 ![0, 0] ![0, 32] ![0, 0] v (sitofp .f32 (constantI S_ 32 0#32)) pads_S2048x96_S2048x128_000_0320 h_S_

/-- The side columns, laid out. -/
def rowsW (s : FVec Ideal S2048x3520 .f32) : FVec Ideal S2048x3584 .f32 :=
  concatenate S2048x3584 1
    [⟨S2048x3072, extractStridedSlice S2048x3072 ![0, 0] s slices_S2048x3520_S2048x3072_0_0⟩,
     ⟨S2048x128, padW (extractStridedSlice S2048x96 ![0, 3072] s slices_S2048x3520_S2048x96_0_3072)⟩,
     ⟨S2048x128, padW (extractStridedSlice S2048x96 ![0, 3168] s slices_S2048x3520_S2048x96_0_3168)⟩,
     ⟨S2048x256, extractStridedSlice S2048x256 ![0, 3264] s slices_S2048x3520_S2048x256_0_3264⟩]
    concatenates_S2048x3072_S2048x128_S2048x128_S2048x256_S2048x3584_d1

/-- The fused weight: the side columns, the scaled query columns, the key and value columns, the gate columns. -/
def allW (w : FVec Ideal S2048x10688 .f32) : FVec Ideal S2048x10752 .bf16 :=
  concatenate S2048x10752 1
    [⟨S2048x3584, truncf .bf16 (rowsW (extractStridedSlice S2048x3520 ![0, 0] w slices_S2048x10688_S2048x3520_0_0)) bitsLt_bf16_f32⟩,
     ⟨S2048x1024, truncf .bf16 (mulf (extractStridedSlice S2048x1024 ![0, 3520] w slices_S2048x10688_S2048x1024_0_3520)
        (broadcastInDim S2048x1024 ![] bcast_S_S2048x1024 (constant S_ .f32 0x3E000000#32))) bitsLt_bf16_f32⟩,
     ⟨S2048x1024, truncf .bf16 (extractStridedSlice S2048x1024 ![0, 4544] w slices_S2048x10688_S2048x1024_0_4544) bitsLt_bf16_f32⟩,
     ⟨S2048x1024, truncf .bf16 (extractStridedSlice S2048x1024 ![0, 5568] w slices_S2048x10688_S2048x1024_0_5568) bitsLt_bf16_f32⟩,
     ⟨S2048x4096, truncf .bf16 (extractStridedSlice S2048x4096 ![0, 6592] w slices_S2048x10688_S2048x4096_0_6592) bitsLt_bf16_f32⟩]
    concatenates_S2048x3584_S2048x1024_S2048x1024_S2048x1024_S2048x4096_S2048x10752_d1

open Idealize.ShloMosaic.StableHlo in
set_option maxHeartbeats 4000000 in
theorem V_all : (Gen.V m c main_v19 : FVec Ideal S2048x10752 .bf16) = allW (argW m c) := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

open Idealize.ShloMosaic.StableHlo in
set_option maxHeartbeats 4000000 in
theorem V_kv : (Gen.V m c main_v22 : FVec Ideal S2048x2048 .bf16) = truncf .bf16 (extractStridedSlice S2048x2048 ![4544, 0] (transpose S10688x2048 [1, 0] (argW m c) transposes_S2048x10688_S10688x2048_1_0) slices_S10688x2048_S2048x2048_4544_0) bitsLt_bf16_f32 := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

open Idealize.ShloMosaic.StableHlo in
set_option maxHeartbeats 4000000 in
theorem V_x : (Gen.V m c main_v23 : FVec Ideal S16384x2048 .f32) = shapeCast _ (argX m c) shapeCasts_S8x2048x2048_S16384x2048 := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

open Idealize.ShloMosaic.StableHlo in
set_option maxHeartbeats 4000000 in
theorem V_g : (Gen.V m c main_v24 : FVec Ideal S1x2048 .f32) = shapeCast _ (argG m c) shapeCasts_S2048_S1x2048 := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

section Weight

variable (w : FVec Ideal S2048x10688 .f32)

theorem padW_apply (v : FVec Ideal S2048x96 .f32) (k : Fin 2048) (e : Fin 128) :
    padW v (ix2 k e) = if h : e.val < 96 then v (ix2 k ⟨e.val, h⟩) else 0 := by
  have z : (FloatOps.sitofp (F := Ideal) FTy.f32 0#32) = (0 : EReal) := by
    show (((0#32).toInt : ℝ) : EReal) = 0
    simp
  unfold padW
  pointwise
  rw [z]

theorem rowsW_read (s : FVec Ideal S2048x3520 .f32) (k : Fin 2048) (j : Fin 3584) :
    rowsW s (ix2 k j) = if h : j.val < 3072 then s (ix2 k (⟨j.val, by omega⟩ : Fin 3520))
      else if h : j.val - 3072 < 128 then
        (if h : j.val - 3072 < 96 then s (ix2 k (⟨3072 + (j.val - 3072), by omega⟩ : Fin 3520)) else 0)
      else if h : j.val - 3072 - 128 < 128 then
        (if h : j.val - 3072 - 128 < 96 then s (ix2 k (⟨3168 + (j.val - 3072 - 128), by omega⟩ : Fin 3520)) else 0)
      else s (ix2 k (⟨3264 + (j.val - 3072 - 128 - 128), by have := j.isLt; omega⟩ : Fin 3520)) := by
  unfold rowsW
  pointwise [padW_apply]

theorem rowsW_apply (k : Fin 2048) (j : Fin 3584) :
    rowsW (extractStridedSlice S2048x3520 ![0, 0] w slices_S2048x10688_S2048x3520_0_0) (ix2 k j) = pick (fun e => w (ix2 k e)) j := by
  have hs : ∀ e : Fin 3520, extractStridedSlice S2048x3520 ![0, 0] w slices_S2048x10688_S2048x3520_0_0 (ix2 k e)
      = w (ix2 k (⟨e.val, by have := e.isLt; omega⟩ : Fin 10688)) := fun e => by pointwise
  rw [rowsW_read]
  simp only [hs]
  unfold pick
  have hj := j.isLt
  have at_ : ∀ (p q : Fin 10688), p.val = q.val → w (ix2 k p) = w (ix2 k q) := fun p q h => by rw [Fin.ext h]
  by_cases a : j.val < 3072
  · rw [dif_pos a, if_pos (by omega)]
  rw [dif_neg a]
  by_cases b' : j.val - 3072 < 128
  · rw [dif_pos b']
    by_cases c : j.val - 3072 < 96
    · rw [dif_pos c, if_pos (by omega)]
      exact at_ _ _ (by show 3072 + (j.val - 3072) = j.val; omega)
    · rw [dif_neg c, if_neg (by omega), if_pos (by omega)]
  rw [dif_neg b', if_neg (by omega), if_neg (by omega)]
  by_cases c : j.val - 3072 - 128 < 128
  · rw [dif_pos c]
    by_cases d : j.val - 3072 - 128 < 96
    · rw [dif_pos d, if_pos (by omega)]
      exact at_ _ _ (by show 3168 + (j.val - 3072 - 128) = j.val - 32; omega)
    · rw [dif_neg d, if_neg (by omega), if_pos (by omega)]
  · rw [dif_neg c, if_neg (by omega), if_neg (by omega)]
    exact at_ _ _ (by show 3264 + (j.val - 3072 - 128 - 128) = j.val - 64; omega)

theorem all_rows (k : Fin 2048) (j : Fin 3584) :
    allW w (ix2 k (⟨j.val, by have := j.isLt; omega⟩ : Fin 10752)) = pick (fun e => w (ix2 k e)) j := by
  have hj := j.isLt
  unfold allW
  pointwise [rowsW_apply]

theorem all_query (k : Fin 2048) (j : Fin 1024) :
    allW w (ix2 k (⟨3584 + j.val, by have := j.isLt; omega⟩ : Fin 10752)) = w (ix2 k (⟨3520 + j.val, by have := j.isLt; omega⟩ : Fin 10688)) * Attn.eighth := by
  have hj := j.isLt
  unfold allW
  pointwise

theorem all_gate (k : Fin 2048) (j : Fin 4096) :
    allW w (ix2 k (⟨6656 + j.val, by have := j.isLt; omega⟩ : Fin 10752)) = w (ix2 k (⟨6592 + j.val, by have := j.isLt; omega⟩ : Fin 10688)) := by
  have hj := j.isLt
  unfold allW
  pointwise
  rw [dif_neg (by omega), dif_neg (by omega), dif_neg (by omega), dif_neg (by omega)]
  exact congrArg (fun e => w (ix2 k e)) (Fin.ext (by show 6592 + (6656 + j.val - 3584 - 1024 - 1024 - 1024) = 6592 + j.val; omega))

end Weight

/-! ## The blocks a point reads -/

theorem blk0_apply (t : Fin cfg0.N) (r : Fin 1024) (k : Fin 2048) :
    (iblk m c 0 t : FVec Ideal S1024x2048 .f32) (ix2 r k) = argX m c (ix3 (bOf (row t r)) (tOf (row t r)) k) := by
  have h : (iblk m c 0 t : FVec Ideal S1024x2048 .f32) (ix2 r k) = (Gen.V m c main_v23 : FVec Ideal S16384x2048 .f32) (ix2 (row t r) k) := by
    blk_ext [iblk, index0 t]
  rw [h, V_x]
  pointwise
  try rfl

theorem blk1_apply (t : Fin cfg0.N) (z : Fin 1) (k : Fin 2048) :
    (iblk m c 1 t : FVec Ideal S1x2048 .f32) (ix2 z k) = argG m c (ix1 k) := by
  have h : (iblk m c 1 t : FVec Ideal S1x2048 .f32) (ix2 z k) = (Gen.V m c main_v24 : FVec Ideal S1x2048 .f32) (ix2 z k) := by
    blk_ext [iblk, index1 t]
  rw [h, V_g]
  pointwise
  try rfl

theorem blk2_apply (t : Fin cfg0.N) (k : Fin 2048) (n : Fin 512) (e : Fin 10752)
    (h : e.val = (if 9 ≤ t.val % 21 ∧ t.val % 21 < 13 then 8 else t.val % 21) * 512 + n.val) :
    (iblk m c 2 t : FVec Ideal S2048x512 .bf16) (ix2 k n) = allW (argW m c) (ix2 k e) := by
  have h' : (iblk m c 2 t : FVec Ideal S2048x512 .bf16) (ix2 k n) = (Gen.V m c main_v19 : FVec Ideal S2048x10752 .bf16) (ix2 k e) := by
    blk_ext [iblk, index2 t]
  rw [h', V_all]

theorem blk3_apply (t : Fin cfg0.N) (n : Fin 512) (k : Fin 2048) :
    (iblk m c 3 t : FVec Ideal S512x2048 .bf16) (ix2 n k)
      = argW m c (ix2 k (⟨4544 + (min (t.val % 21 - 9) 3 * 512 + n.val), by have := n.isLt; omega⟩ : Fin 10688)) := by
  have h : (iblk m c 3 t : FVec Ideal S512x2048 .bf16) (ix2 n k)
      = (Gen.V m c main_v22 : FVec Ideal S2048x2048 .bf16) (ix2 (⟨min (t.val % 21 - 9) 3 * 512 + n.val, by have := n.isLt; omega⟩ : Fin 2048) k) := by
    blk_ext [iblk, index3 t]
  rw [h, V_kv]
  pointwise
  try rfl

end Cert.Proj

end
-- ==== Proof.Proj.lean ====
/-
  The projection call: the products its grid points write, and the arrays the program leaves — the reference's six
  results.
-/
module

public import proofs.«01_k».proof.Defs
public import proofs.«01_k».proof.Proof.ProjBlocks
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Proj

open Cert.Kernel2Ideal Cert.Kernel2Ideal.Gen

variable (m : (ℓ : Loc nD τ sig) → Buf (Elt Ideal) ℓ) (c : Dev nD)

/-! ## What a point computes -/

/-- The fused projection of a row. -/
abbrev projAt (g : Fin 16384) (e : Fin 10688) : EReal := proj (argX m c) (argG m c) (argW m c) (bOf g) (tOf g) e

/-- The normed rows a point multiplies are those of its own row block. -/
theorem xn_apply (t : Fin cfg0.N) (r : Fin 1024) (k : Fin 2048) :
    (xnAt m c t : FVec Ideal S1024x2048 .bf16) (ix2 r k)
      = normed (fun e => argX m c (ix3 (bOf (row t r)) (tOf (row t r)) e)) (fun e => argG m c (ix1 e)) k := by
  have er : row (upTo 0 t) r = row t r := Fin.ext (by
    show (t.val / 21 * 21 + min (t.val % 21) 0) / 21 * 1024 + r.val = t.val / 21 * 1024 + r.val; omega)
  unfold xnAt
  rw [pay1_apply]
  simp only [blk0_apply, blk1_apply, er]

theorem out4_apply (t : Fin cfg0.N) (h : t.val % 21 ≤ 6) (r : Fin 1024) (n : Fin 512) (q : Fin 3584) (hq : q.val = t.val % 21 * 512 + n.val) :
    (out4 m c t : FVec Ideal S1024x512 .f32) (ix2 r n)
      = pick (projAt m c (row t r)) q := by
  have hn := n.isLt
  have hq' := q.isLt
  unfold out4
  rw [pay2_apply]
  have hb : ∀ k : Fin 2048, (iblk m c 2 t : FVec Ideal S2048x512 .bf16) (ix2 k n)
      = pick (fun e => argW m c (ix2 k e)) q := fun k => by
    rw [blk2_apply m c t k n (⟨q.val, by omega⟩ : Fin 10752) (by rw [if_neg (by omega)]; exact hq)]
    exact all_rows (argW m c) k q
  simp only [xn_apply, hb]
  exact sum_pick _ (fun k e => argW m c (ix2 k e)) _

theorem out5_apply (t : Fin cfg0.N) (h0 : 7 ≤ t.val % 21) (h1 : t.val % 21 ≤ 8) (r : Fin 1024) (n : Fin 512) (q : Fin 1024) (hq : q.val = (t.val % 21 - 7) * 512 + n.val) :
    (out5 m c t : FVec Ideal S1024x512 .bf16) (ix2 r n)
      = projAt m c (row t r) (⟨3520 + q.val, by have := q.isLt; omega⟩ : Fin 10688) * Attn.eighth := by
  have hn := n.isLt
  have hq' := q.isLt
  unfold out5
  rw [pay3_apply]
  have hb : ∀ k : Fin 2048, (iblk m c 2 t : FVec Ideal S2048x512 .bf16) (ix2 k n)
      = argW m c (ix2 k (⟨3520 + q.val, by omega⟩ : Fin 10688)) * Attn.eighth := fun k => by
    rw [blk2_apply m c t k n (⟨3584 + q.val, by omega⟩ : Fin 10752)
      (by rw [if_neg (by omega)]; show 3584 + q.val = _; omega)]
    exact all_query (argW m c) k q
  simp only [xn_apply, hb, ← mul_assoc]
  exact Attn.sum_mul_eighth _ _

theorem out6_apply (t : Fin cfg0.N) (h0 : 9 ≤ t.val % 21) (h1 : t.val % 21 ≤ 10) (z : Fin 1) (n : Fin 512) (r : Fin 1024) (q : Fin 1024) (hq : q.val = (t.val % 21 - 9) * 512 + n.val) :
    (out6 m c t : FVec Ideal S1x512x1024 .f32) (ix3 z n r)
      = projAt m c (row t r) (⟨3520 + (1024 + q.val), by have := q.isLt; omega⟩ : Fin 10688) := by
  have hn := n.isLt
  have hq' := q.isLt
  unfold out6
  rw [pay4_apply]
  refine Finset.sum_congr rfl fun k _ => ?_
  rw [xn_apply, blk3_apply, mul_comm]
  exact congrArg (fun e => _ * argW m c (ix2 k e)) (Fin.ext (by
    show 4544 + (min (t.val % 21 - 9) 3 * 512 + n.val) = 3520 + (1024 + q.val); omega))

theorem out7_apply (t : Fin cfg0.N) (h0 : 11 ≤ t.val % 21) (h1 : t.val % 21 ≤ 12) (z : Fin 1) (n : Fin 512) (r : Fin 1024) (q : Fin 1024) (hq : q.val = (t.val % 21 - 11) * 512 + n.val) :
    (out7 m c t : FVec Ideal S1x512x1024 .f32) (ix3 z n r)
      = projAt m c (row t r) (⟨3520 + (2048 + q.val), by have := q.isLt; omega⟩ : Fin 10688) := by
  have hn := n.isLt
  have hq' := q.isLt
  unfold out7
  rw [pay5_apply]
  refine Finset.sum_congr rfl fun k _ => ?_
  rw [xn_apply, blk3_apply, mul_comm]
  exact congrArg (fun e => _ * argW m c (ix2 k e)) (Fin.ext (by
    show 4544 + (min (t.val % 21 - 9) 3 * 512 + n.val) = 3520 + (2048 + q.val); omega))

theorem out8_apply (t : Fin cfg0.N) (h0 : 13 ≤ t.val % 21) (r : Fin 1024) (n : Fin 512) (q : Fin 4096) (hq : q.val = (t.val % 21 - 13) * 512 + n.val) :
    (out8 m c t : FVec Ideal S1024x512 .bf16) (ix2 r n)
      = projAt m c (row t r) (⟨6592 + q.val, by have := q.isLt; omega⟩ : Fin 10688) := by
  have hn := n.isLt
  have hq' := q.isLt
  unfold out8
  rw [pay6_apply]
  refine Finset.sum_congr rfl fun k _ => ?_
  rw [xn_apply, blk2_apply m c t k n (⟨6656 + q.val, by omega⟩ : Fin 10752)
      (by rw [if_neg (by omega)]; show 6656 + q.val = _; omega)]
  exact congrArg (fun e => _ * e) (all_gate (argW m c) k q)

/-! ## The arrays the call leaves -/

abbrev rowsArr : FVec Ideal S16384x3584 .f32 := fun i => pick (projAt m c (i 0)) (i 1)

abbrev queryArr : FVec Ideal S16384x1024 .bf16 := fun i =>
  projAt m c (i 0) (⟨3520 + (i 1).val, by have h : (i 1).val < 1024 := (i 1).isLt; omega⟩ : Fin 10688) * Attn.eighth

abbrev keyArr : FVec Ideal S8x1024x2048 .f32 := fun i =>
  proj (argX m c) (argG m c) (argW m c) (i 0) (i 2) (⟨3520 + (1024 + (i 1).val), by have h : (i 1).val < 1024 := (i 1).isLt; omega⟩ : Fin 10688)

abbrev valueArr : FVec Ideal S8x1024x2048 .f32 := fun i =>
  proj (argX m c) (argG m c) (argW m c) (i 0) (i 2) (⟨3520 + (2048 + (i 1).val), by have h : (i 1).val < 1024 := (i 1).isLt; omega⟩ : Fin 10688)

abbrev gateArr : FVec Ideal S16384x4096 .bf16 := fun i =>
  projAt m c (i 0) (⟨6592 + (i 1).val, by have h : (i 1).val < 4096 := (i 1).isLt; omega⟩ : Fin 10688)

theorem final4 : (dats m 0 c).arrAt 4 cfg0.N = rowsArr m c := by
  refine (dats m 0 c).arrAt_eq_of_covers 4 _ (by decide +kernel) fun t hf y => ?_
  blk_simp
  rw [after0_4]
  have hj := (flush0_4 t).mp hf
  have ht := lt336 t
  obtain ⟨r, n, rfl⟩ : ∃ (r : Fin 1024) (n : Fin 512), y = ix2 r n := ⟨y 0, y 1, by funext a; fin_cases a <;> rfl⟩
  have hn := n.isLt
  have p : ((View.whole main_v25_0).slice (win0_4.rect t)).emb (ix2 r n)
      = ix2 (row t r) (⟨min (t.val % 21) 6 * 512 + n.val, by omega⟩ : Fin 3584) := by blk_ext [index4 t]
  have ev : (upTo 6 t).val = t.val / 21 * 21 + min (t.val % 21) 6 := rfl
  have er : row (upTo 6 t) r = row t r := Fin.ext (by
    show (t.val / 21 * 21 + min (t.val % 21) 6) / 21 * 1024 + r.val = t.val / 21 * 1024 + r.val; omega)
  have e : (out4 m c (upTo 6 t) : FVec Ideal S1024x512 .f32) (ix2 r n)
      = rowsArr m c (ix2 (row t r) (⟨min (t.val % 21) 6 * 512 + n.val, by omega⟩ : Fin 3584)) := by
    rw [out4_apply m c (upTo 6 t) (by omega) r n (⟨min (t.val % 21) 6 * 512 + n.val, by omega⟩ : Fin 3584) (by show min (t.val % 21) 6 * 512 + n.val = ((t.val / 21 * 21 + min (t.val % 21) 6) % 21) * 512 + n.val; omega), er]
    rfl
  exact e.trans (congrArg (rowsArr m c) p.symm)

theorem final5 : (dats m 0 c).arrAt 5 cfg0.N = queryArr m c := by
  refine (dats m 0 c).arrAt_eq_of_covers 5 _ (by decide +kernel) fun t hf y => ?_
  blk_simp
  rw [after0_5]
  have hj := (flush0_5 t).mp hf
  have ht := lt336 t
  obtain ⟨r, n, rfl⟩ : ∃ (r : Fin 1024) (n : Fin 512), y = ix2 r n := ⟨y 0, y 1, by funext a; fin_cases a <;> rfl⟩
  have hn := n.isLt
  have p : ((View.whole main_v25_1).slice (win0_5.rect t)).emb (ix2 r n)
      = ix2 (row t r) (⟨min (t.val % 21 - 7) 1 * 512 + n.val, by omega⟩ : Fin 1024) := by blk_ext [index5 t]
  have ev : (upTo 8 t).val = t.val / 21 * 21 + min (t.val % 21) 8 := rfl
  have er : row (upTo 8 t) r = row t r := Fin.ext (by
    show (t.val / 21 * 21 + min (t.val % 21) 8) / 21 * 1024 + r.val = t.val / 21 * 1024 + r.val; omega)
  have e : (out5 m c (upTo 8 t) : FVec Ideal S1024x512 .bf16) (ix2 r n)
      = queryArr m c (ix2 (row t r) (⟨min (t.val % 21 - 7) 1 * 512 + n.val, by omega⟩ : Fin 1024)) := by
    rw [out5_apply m c (upTo 8 t) (by omega) (by omega) r n (⟨min (t.val % 21 - 7) 1 * 512 + n.val, by omega⟩ : Fin 1024) (by show min (t.val % 21 - 7) 1 * 512 + n.val = ((t.val / 21 * 21 + min (t.val % 21) 8) % 21 - 7) * 512 + n.val; omega), er]
    rfl
  exact e.trans (congrArg (queryArr m c) p.symm)

theorem final6 : (dats m 0 c).arrAt 6 cfg0.N = keyArr m c := by
  refine (dats m 0 c).arrAt_eq_of_covers 6 _ (by decide +kernel) fun t hf y => ?_
  blk_simp
  rw [after0_6]
  have hj := (flush0_6 t).mp hf
  have ht := lt336 t
  obtain ⟨z, n, r, rfl⟩ : ∃ (z : Fin 1) (n : Fin 512) (r : Fin 1024), y = ix3 z n r := ⟨y 0, y 1, y 2, by funext a; fin_cases a <;> rfl⟩
  have hn := n.isLt
  have hr := r.isLt
  have p : ((View.whole main_v25_2).slice (win0_6.rect t)).emb (ix3 z n r)
      = ix3 (⟨t.val / 42, by omega⟩ : Fin 8) (⟨min (t.val % 21 - 9) 1 * 512 + n.val, by omega⟩ : Fin 1024) (⟨t.val / 21 % 2 * 1024 + r.val, by omega⟩ : Fin 2048) := by
    blk_ext [index6 t]
  have ev : (upTo 10 t).val = t.val / 21 * 21 + min (t.val % 21) 10 := rfl
  have eb : bOf (row (upTo 10 t) r) = (⟨t.val / 42, by omega⟩ : Fin 8) := Fin.ext (by
    show ((t.val / 21 * 21 + min (t.val % 21) 10) / 21 * 1024 + r.val) / 2048 = t.val / 42; omega)
  have et : tOf (row (upTo 10 t) r) = (⟨t.val / 21 % 2 * 1024 + r.val, by omega⟩ : Fin 2048) := Fin.ext (by
    show ((t.val / 21 * 21 + min (t.val % 21) 10) / 21 * 1024 + r.val) % 2048 = t.val / 21 % 2 * 1024 + r.val; omega)
  have e : (out6 m c (upTo 10 t) : FVec Ideal S1x512x1024 .f32) (ix3 z n r)
      = keyArr m c (ix3 (⟨t.val / 42, by omega⟩ : Fin 8) (⟨min (t.val % 21 - 9) 1 * 512 + n.val, by omega⟩ : Fin 1024) (⟨t.val / 21 % 2 * 1024 + r.val, by omega⟩ : Fin 2048)) := by
    rw [out6_apply m c (upTo 10 t) (by omega) (by omega) z n r (⟨min (t.val % 21 - 9) 1 * 512 + n.val, by omega⟩ : Fin 1024) (by show min (t.val % 21 - 9) 1 * 512 + n.val = ((t.val / 21 * 21 + min (t.val % 21) 10) % 21 - 9) * 512 + n.val; omega)]
    unfold projAt
    rw [eb, et]
    rfl
  exact e.trans (congrArg (keyArr m c) p.symm)

theorem final7 : (dats m 0 c).arrAt 7 cfg0.N = valueArr m c := by
  refine (dats m 0 c).arrAt_eq_of_covers 7 _ (by decide +kernel) fun t hf y => ?_
  blk_simp
  rw [after0_7]
  have hj := (flush0_7 t).mp hf
  have ht := lt336 t
  obtain ⟨z, n, r, rfl⟩ : ∃ (z : Fin 1) (n : Fin 512) (r : Fin 1024), y = ix3 z n r := ⟨y 0, y 1, y 2, by funext a; fin_cases a <;> rfl⟩
  have hn := n.isLt
  have hr := r.isLt
  have p : ((View.whole main_v25_3).slice (win0_7.rect t)).emb (ix3 z n r)
      = ix3 (⟨t.val / 42, by omega⟩ : Fin 8) (⟨min (t.val % 21 - 11) 1 * 512 + n.val, by omega⟩ : Fin 1024) (⟨t.val / 21 % 2 * 1024 + r.val, by omega⟩ : Fin 2048) := by
    blk_ext [index7 t]
  have ev : (upTo 12 t).val = t.val / 21 * 21 + min (t.val % 21) 12 := rfl
  have eb : bOf (row (upTo 12 t) r) = (⟨t.val / 42, by omega⟩ : Fin 8) := Fin.ext (by
    show ((t.val / 21 * 21 + min (t.val % 21) 12) / 21 * 1024 + r.val) / 2048 = t.val / 42; omega)
  have et : tOf (row (upTo 12 t) r) = (⟨t.val / 21 % 2 * 1024 + r.val, by omega⟩ : Fin 2048) := Fin.ext (by
    show ((t.val / 21 * 21 + min (t.val % 21) 12) / 21 * 1024 + r.val) % 2048 = t.val / 21 % 2 * 1024 + r.val; omega)
  have e : (out7 m c (upTo 12 t) : FVec Ideal S1x512x1024 .f32) (ix3 z n r)
      = valueArr m c (ix3 (⟨t.val / 42, by omega⟩ : Fin 8) (⟨min (t.val % 21 - 11) 1 * 512 + n.val, by omega⟩ : Fin 1024) (⟨t.val / 21 % 2 * 1024 + r.val, by omega⟩ : Fin 2048)) := by
    rw [out7_apply m c (upTo 12 t) (by omega) (by omega) z n r (⟨min (t.val % 21 - 11) 1 * 512 + n.val, by omega⟩ : Fin 1024) (by show min (t.val % 21 - 11) 1 * 512 + n.val = ((t.val / 21 * 21 + min (t.val % 21) 12) % 21 - 11) * 512 + n.val; omega)]
    unfold projAt
    rw [eb, et]
    rfl
  exact e.trans (congrArg (valueArr m c) p.symm)

theorem final8 : (dats m 0 c).arrAt 8 cfg0.N = gateArr m c := by
  refine (dats m 0 c).arrAt_eq_of_covers 8 _ (by decide +kernel) fun t hf y => ?_
  blk_simp
  rw [after0_8]
  have hj := (flush0_8 t).mp hf
  have ht := lt336 t
  obtain ⟨r, n, rfl⟩ : ∃ (r : Fin 1024) (n : Fin 512), y = ix2 r n := ⟨y 0, y 1, by funext a; fin_cases a <;> rfl⟩
  have hn := n.isLt
  have p : ((View.whole main_v25_4).slice (win0_8.rect t)).emb (ix2 r n)
      = ix2 (row t r) (⟨min (t.val % 21 - 13) 7 * 512 + n.val, by omega⟩ : Fin 4096) := by blk_ext [index8 t]
  have ev : (upTo 20 t).val = t.val / 21 * 21 + min (t.val % 21) 20 := rfl
  have er : row (upTo 20 t) r = row t r := Fin.ext (by
    show (t.val / 21 * 21 + min (t.val % 21) 20) / 21 * 1024 + r.val = t.val / 21 * 1024 + r.val; omega)
  have e : (out8 m c (upTo 20 t) : FVec Ideal S1024x512 .bf16) (ix2 r n)
      = gateArr m c (ix2 (row t r) (⟨min (t.val % 21 - 13) 7 * 512 + n.val, by omega⟩ : Fin 4096)) := by
    rw [out8_apply m c (upTo 20 t) (by omega) r n (⟨min (t.val % 21 - 13) 7 * 512 + n.val, by omega⟩ : Fin 4096) (by show min (t.val % 21 - 13) 7 * 512 + n.val = ((t.val / 21 * 21 + min (t.val % 21) 20) % 21 - 13) * 512 + n.val; omega), er]
    rfl
  exact e.trans (congrArg (gateArr m c) p.symm)

/-- The fused product as the reference forms it of the same arguments. -/
abbrev fused : FVec Ideal Cert.Reference2Ideal.S8x2048x10688 .f32 := projRef (argX m c) (argG m c) (argW m c)

theorem fused_apply (b : Fin 8) (t : Fin 2048) (e : Fin 10688) :
    fused m c (ix3 b t e) = proj (argX m c) (argG m c) (argW m c) b t e := projRef_apply ..

/-! ## The host code after the call -/

/-- Keys or values, split by heads. -/
def byHead (a : FVec Ideal S8x1024x2048 .f32) : FVec Ideal S8x2048x16x64 .f32 :=
  transpose S8x2048x16x64 [0, 3, 1, 2] (shapeCast S8x16x64x2048 a shapeCasts_S8x1024x2048_S8x16x64x2048)
    transposes_S8x16x64x2048_S8x2048x16x64_0_3_1_2

/-- The last row of every sequence without the zero columns. -/
def lastRow (a : FVec Ideal S16384x3584 .f32) : FVec Ideal S8x3520 .f32 :=
  let r : FVec Ideal S8x3584 .f32 := shapeCast _ (extractStridedSlice S8x1x3584 ![0, 2047, 0]
    (shapeCast _ a shapeCasts_S16384x3584_S8x2048x3584 : FVec Ideal S8x2048x3584 .f32) slices_S8x2048x3584_S8x1x3584_0_2047_0) shapeCasts_S8x1x3584_S8x3584
  concatenate S8x3520 1
    [⟨S8x3072, extractStridedSlice S8x3072 ![0, 0] r slices_S8x3584_S8x3072_0_0⟩,
     ⟨S8x96, extractStridedSlice S8x96 ![0, 3072] r slices_S8x3584_S8x96_0_3072⟩,
     ⟨S8x96, extractStridedSlice S8x96 ![0, 3200] r slices_S8x3584_S8x96_0_3200⟩,
     ⟨S8x256, extractStridedSlice S8x256 ![0, 3328] r slices_S8x3584_S8x256_0_3328⟩]
    concatenates_S8x3072_S8x96_S8x96_S8x256_S8x3520_d1

theorem byHead_apply (a : FVec Ideal S8x1024x2048 .f32) (b : Fin 8) (t : Fin 2048) (h : Fin 16) (d : Fin 64) :
    byHead a (ix4 b t h d) = a (ix3 b (⟨h.val * 64 + d.val, by have := h.isLt; have := d.isLt; omega⟩ : Fin 1024) t) := by
  unfold byHead
  pointwise

theorem lastRow_apply (a : FVec Ideal S16384x3584 .f32) (f : Fin 10688 → EReal) (b : Fin 8)
    (ha : ∀ j : Fin 3584, a (ix2 (⟨b.val * 2048 + 2047, by have := b.isLt; omega⟩ : Fin 16384) j) = pick f j) (e : Fin 3520) :
    lastRow a (ix2 b e) = f (⟨e.val, by have := e.isLt; omega⟩ : Fin 10688) := by
  have he := e.isLt
  unfold lastRow
  pointwise
  split_ifs <;> rw [ha] <;> exact pick_eq f _ _ (by dsimp only; omega)

open Idealize.ShloMosaic.StableHlo in
theorem host_keys (U : Valuation τ sig (Elt Ideal)) : StableHlo.after ([hostOps1].flatten) U (Proc.devRef .tc main_v27)
    = byHead (U (Proc.devRef .tc main_v25_2)) := by
  unfold byHead
  simp only [hostOps1, List.flatten_cons, List.flatten_nil, List.append_nil, TRef.unary, TRef.toBuf, TRef.ofBuf, cast_eq]
  after_results_simp <;> (try dsimp only [Matrix.cons_val]) <;> (try after_results_simp) <;> rfl

theorem after_keys : Pipeline.afterTail₀ cfgs (dats m) 0 (V0 m) [hostOps1] c main_v27 = byHead ((dats m 0 c).arrAt 6 cfg0.N) :=
  (host_keys _).trans (congrArg byHead (Pipeline.withArrays_arr spec0 launch0.win.arr_inj c (V0 m c) (fun w => (dats m 0 c).arrAt w cfg0.N) 6))

open Idealize.ShloMosaic.StableHlo in
theorem host_values (U : Valuation τ sig (Elt Ideal)) : StableHlo.after ([hostOps1].flatten) U (Proc.devRef .tc main_v29)
    = byHead (U (Proc.devRef .tc main_v25_3)) := by
  unfold byHead
  simp only [hostOps1, List.flatten_cons, List.flatten_nil, List.append_nil, TRef.unary, TRef.toBuf, TRef.ofBuf, cast_eq]
  after_results_simp <;> (try dsimp only [Matrix.cons_val]) <;> (try after_results_simp) <;> rfl

theorem after_values : Pipeline.afterTail₀ cfgs (dats m) 0 (V0 m) [hostOps1] c main_v29 = byHead ((dats m 0 c).arrAt 7 cfg0.N) :=
  (host_values _).trans (congrArg byHead (Pipeline.withArrays_arr spec0 launch0.win.arr_inj c (V0 m c) (fun w => (dats m 0 c).arrAt w cfg0.N) 7))

open Idealize.ShloMosaic.StableHlo in
theorem host_last (U : Valuation τ sig (Elt Ideal)) : StableHlo.after ([hostOps1].flatten) U (Proc.devRef .tc main_v37)
    = lastRow (U (Proc.devRef .tc main_v25_0)) := by
  unfold lastRow
  simp only [hostOps1, List.flatten_cons, List.flatten_nil, List.append_nil, TRef.unary, TRef.toBuf, TRef.ofBuf, cast_eq]
  after_results_simp <;> (try dsimp only [Matrix.cons_val]) <;> (try after_results_simp) <;> rfl

theorem after_last : Pipeline.afterTail₀ cfgs (dats m) 0 (V0 m) [hostOps1] c main_v37 = lastRow ((dats m 0 c).arrAt 4 cfg0.N) :=
  (host_last _).trans (congrArg lastRow (Pipeline.withArrays_arr spec0 launch0.win.arr_inj c (V0 m c) (fun w => (dats m 0 c).arrAt w cfg0.N) 4))

/-- The reference's results of the same arguments are the same arrays. -/
theorem same0 : ref0 (fused m c) = (dats m 0 c).arrAt 4 cfg0.N := by
  rw [final4]
  funext i
  obtain ⟨r, n, rfl⟩ : ∃ (r : Fin 16384) (n : Fin 3584), i = ix2 r n := ⟨i 0, i 1, by funext a; fin_cases a <;> rfl⟩
  rw [ref0_apply]
  rfl

theorem same1 : ref1 (fused m c) = (dats m 0 c).arrAt 5 cfg0.N := by
  rw [final5]
  funext i
  obtain ⟨r, n, rfl⟩ : ∃ (r : Fin 16384) (n : Fin 1024), i = ix2 r n := ⟨i 0, i 1, by funext a; fin_cases a <;> rfl⟩
  rw [ref1_apply, fused_apply]
  rfl

theorem same2 : ref2 (fused m c) = byHead ((dats m 0 c).arrAt 6 cfg0.N) := by
  rw [final6]
  funext i
  obtain ⟨b, t, h, d, rfl⟩ : ∃ (b : Fin 8) (t : Fin 2048) (h : Fin 16) (d : Fin 64), i = ix4 b t h d := ⟨i 0, i 1, i 2, i 3, by funext a; fin_cases a <;> rfl⟩
  rw [ref2_apply, fused_apply, byHead_apply]
  rfl

theorem same3 : ref3 (fused m c) = byHead ((dats m 0 c).arrAt 7 cfg0.N) := by
  rw [final7]
  funext i
  obtain ⟨b, t, h, d, rfl⟩ : ∃ (b : Fin 8) (t : Fin 2048) (h : Fin 16) (d : Fin 64), i = ix4 b t h d := ⟨i 0, i 1, i 2, i 3, by funext a; fin_cases a <;> rfl⟩
  rw [ref3_apply, fused_apply, byHead_apply]
  rfl

theorem same4 : ref4 (fused m c) = (dats m 0 c).arrAt 8 cfg0.N := by
  rw [final8]
  funext i
  obtain ⟨r, n, rfl⟩ : ∃ (r : Fin 16384) (n : Fin 4096), i = ix2 r n := ⟨i 0, i 1, by funext a; fin_cases a <;> rfl⟩
  rw [ref4_apply, fused_apply]
  rfl

theorem same5 : ref5 (fused m c) = lastRow ((dats m 0 c).arrAt 4 cfg0.N) := by
  rw [final4]
  funext i
  obtain ⟨b, e, rfl⟩ : ∃ (b : Fin 8) (e : Fin 3520), i = ix2 b e := ⟨i 0, i 1, by funext a; fin_cases a <;> rfl⟩
  have eb : bOf (⟨b.val * 2048 + 2047, by have := b.isLt; omega⟩ : Fin 16384) = b := Fin.ext (by show (b.val * 2048 + 2047) / 2048 = b.val; omega)
  have et : tOf (⟨b.val * 2048 + 2047, by have := b.isLt; omega⟩ : Fin 16384) = (⟨2047, by decide⟩ : Fin 2048) := Fin.ext (by show (b.val * 2048 + 2047) % 2048 = 2047; omega)
  rw [ref5_apply, fused_apply, lastRow_apply _ (projAt m c (⟨b.val * 2048 + 2047, by have := b.isLt; omega⟩ : Fin 16384)) b (fun _ => rfl)]
  unfold projAt
  rw [eb, et]

/-- The program leaves the six arrays and its arguments as they were. -/
theorem run (g : Dev nD → PrngReg) : θ_run defs (onTc (τ := τ) (main (F := Ideal))) ⟨m, fun _ => 0, g⟩ (fun r => ∀ c : Dev nD,
      r.2.mem ((c.tc : Thread nD τ).loc main_v25_0) = (dats m 0 c).arrAt 4 cfg0.N
      ∧ r.2.mem ((c.tc : Thread nD τ).loc main_v25_1) = (dats m 0 c).arrAt 5 cfg0.N
      ∧ r.2.mem ((c.tc : Thread nD τ).loc main_v27) = byHead ((dats m 0 c).arrAt 6 cfg0.N)
      ∧ r.2.mem ((c.tc : Thread nD τ).loc main_v29) = byHead ((dats m 0 c).arrAt 7 cfg0.N)
      ∧ r.2.mem ((c.tc : Thread nD τ).loc main_v25_4) = (dats m 0 c).arrAt 8 cfg0.N
      ∧ r.2.mem ((c.tc : Thread nD τ).loc main_v37) = lastRow ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, (h.1 c).1 5,
      ((h.1 c).2 main_v27 (Pipeline.mem_restRefs_of main_v27 (by decide) (by decide))).trans (after_keys m c),
      ((h.1 c).2 main_v29 (Pipeline.mem_restRefs_of main_v29 (by decide) (by decide))).trans (after_values m c),
      (h.1 c).1 8,
      ((h.1 c).2 main_v37 (Pipeline.mem_restRefs_of main_v37 (by decide) (by decide))).trans (after_last m c), h.2.1 c⟩)
    (θ_run_and (run_main m g) (frame m g))

open Cert.Kernel2Ideal in
theorem algebraic : Cert.algebraic_Kernel2Ideal_Reference2Ideal := fun m g m' g' _ heq =>
  ⟨fun c => (Gen.dats m 0 c).arrAt 4 cfg0.N, fun c => (Gen.dats m 0 c).arrAt 5 cfg0.N, fun c => byHead ((Gen.dats m 0 c).arrAt 6 cfg0.N),
    fun c => byHead ((Gen.dats m 0 c).arrAt 7 cfg0.N), fun c => (Gen.dats m 0 c).arrAt 8 cfg0.N, fun c => lastRow ((Gen.dats m 0 c).arrAt 4 cfg0.N),
    run m g,
    (θ_run Cert.Reference2Ideal.defs _ _).mono (fun r hr c => by
        obtain ⟨e0, e1, e2⟩ := heq c
        have es : fusedRef m' c = fused m c := by
          unfold fusedRef
          rw [e0, e1, e2]
        exact ⟨(hr c).1.trans ((res0_eq m' c).trans ((congrArg ref0 es).trans (same0 m c))),
          (hr c).2.1.trans ((congrArg ref1 es).trans (same1 m c)),
          (hr c).2.2.1.trans ((congrArg ref2 es).trans (same2 m c)),
          (hr c).2.2.2.1.trans ((congrArg ref3 es).trans (same3 m c)),
          (hr c).2.2.2.2.1.trans ((congrArg ref4 es).trans (same4 m c)),
          (hr c).2.2.2.2.2.1.trans ((congrArg ref5 es).trans (same5 m c)),
          (hr c).2.2.2.2.2.2⟩)
      (Cert.Reference2Ideal.Value.run (F := Ideal) m' g')⟩

end Cert.Proj

end
-- ==== Proof.FfnRun.lean ====
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.WordCmp
public import Idealize.ShloMosaic.Lib.Claim

/-!
# One step of the feed-forward kernel

The body of the feed-forward call at one grid point, run over its buffers.  It reads the block of rows, the two weight
blocks of the up projection, the convolution's taps, the block of the down projection and the rows before the block;
it adds to the output block, writes the tail block, and keeps the last rows of the gate for the next block of rows.
-/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: the point is the first of its row block. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- Row `j` of the convolution's taps. -/
def tap0 (x3 : Vec F S3x512 .f32) : Vec F S1x512 .f32 := VecWindow.window x3 ![0, 0] S1x512.size inb_S3x512_S1x512_0_0
def tap1 (x3 : Vec F S3x512 .f32) : Vec F S1x512 .f32 := VecWindow.window x3 ![1, 0] S1x512.size inb_S3x512_S1x512_1_0
def tap2 (x3 : Vec F S3x512 .f32) : Vec F S1x512 .f32 := VecWindow.window x3 ![2, 0] S1x512.size inb_S3x512_S1x512_2_0

/-- The rows carried for a point's columns. -/
def carried (i : grid0.Coords) (X : Vec F S11x8x512 .f32) : Vec F S1x8x512 .f32 := VecWindow.window X (k0_off1 i) S1x8x512.size (k0_off1_inb i)

/-- The carried rows with a point's own last rows put in. -/
def carry (i : grid0.Coords) (x0 : Vec F S1024x2048 .bf16) (x1 : Vec F S2048x512 .bf16) (X : Vec F S11x8x512 .f32) : Vec F S11x8x512 .f32 :=
  VecWindow.put X (k0_off1 i) S1x8x512.size (k0_pay10 (k0_pay4 x0 x1))

/-- The convolved gate of a point: its block of rows, its gate weights, the taps, the rows given before the first block of
    a sequence and the rows carried from the block before. -/
def convOf (i : grid0.Coords) (x0 : Vec F S1024x2048 .bf16) (x1 : Vec F S2048x512 .bf16) (x3 : Vec F S3x512 .f32)
    (x5 : Vec F S1x8x512 .f32) (r : Vec F S1x8x512 .f32) : FVec F S1024x512 .f32 :=
  k0_pay12 (k0_pay4 x0 x1) (k0_pay6 x0 x1) (k0_pay7 x0 x1) (k0_pay8 i x5 r) (iota .tc S8x512 32 [0] iota_S8x512_d0_w32) k0_pay9
    (tap0 x3) (tap1 x3) (tap2 x3)

/-- What a point leaves in the output block that held `o`. -/
def accOf (i : grid0.Coords) (x0 : Vec F S1024x2048 .bf16) (x1 : Vec F S2048x512 .bf16) (x2 : Vec F S2048x512 .bf16) (x3 : Vec F S3x512 .f32)
    (x4 : Vec F S512x2048 .bf16) (x5 : Vec F S1x8x512 .f32) (r : Vec F S1x8x512 .f32) (o : Vec F S1024x2048 .f32) : FVec F S1024x2048 .f32 :=
  k0_pay1 (k0_pay5 x0 x2) (convOf i x0 x1 x3 x5 r) k0_pay13 o x4

set_option maxHeartbeats 2000000 in
/-- The body at the first point of a block of rows: the output block may hold anything before. -/
theorem run_A (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S512x2048 .bf16) (harg6 : arg6.IsWhole) (arg7 : Memref sig .tc .vmem S1x8x512 .f32) (harg7 : arg7.IsWhole) (arg8 : Memref sig .tc .vmem S1024x2048 .f32) (harg8 : arg8.IsWhole) (arg9 : Memref sig .tc .vmem S1x8x512 .f32) (harg9 : arg9.IsWhole) (arg10 : Memref sig .tc .vmem S11x8x512 .f32) (harg10 : arg10.IsWhole)
    (hc0 : cond0_0 i)
    (x0 : Vec F S1024x2048 .bf16) (x1 : Vec F S2048x512 .bf16) (x2 : Vec F S2048x512 .bf16) (x3 : Vec F S3x512 .f32) (x4 : Vec F S512x2048 .bf16) (x5 : Vec F S1x8x512 .f32)  (xs : Vec F S11x8x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (accOf i x0 x1 x2 x3 x4 x5 (carried i xs) k0_pay2) ∗ owns (c : Thread nD τ) arg9 fullShare (k0_pay11 (k0_pay4 x0 x1)) ∗ owns (c : Thread nD τ) arg10 fullShare (carry i x0 x1 xs)) -∗ K PUnit.unit))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      unfold accOf convOf carried tap0 tap1 tap2
      rw [View.read_writes_full]
      delta run_A.sl.r_5
      delta run_A.sl.r_4 run_A.sl.r_3 run_A.sl.r_2 run_A.sl.r_1 run_A.sl.r
      rw [(View.readAt_full arg2.view (harg2.unread x0) inb_S1024x2048_S1024x2048_0_0).trans (harg2.read_unread x0), (View.readAt_full arg3.view (harg3.unread x1) inb_S2048x512_S2048x512_0_0).trans (harg3.read_unread x1), (View.readAt_full arg4.view (harg4.unread x2) inb_S2048x512_S2048x512_0_0).trans (harg4.read_unread x2), (View.readAt_full arg6.view (harg6.unread x4) inb_S512x2048_S512x2048_0_0).trans (harg6.read_unread x4), (View.readAt_full arg7.view (harg7.unread x5) inb_S1x8x512_S1x8x512_0_0_0).trans (harg7.read_unread x5), show run_A.sl.v90 (F := F) c arg8 = k0_pay2 from (View.readAt_full arg8.view _ inb_S1024x2048_S1024x2048_0_0).trans (View.read_writes_full arg8.view _ _ _ _), (View.readAt_unit arg10.view (harg10.unread xs) (k0_off1_inb i) rfl (k0_off1_inb i)).trans (congrArg (fun z : Vec F S11x8x512 .f32 => VecWindow.window z (k0_off1 i) S1x8x512.size (k0_off1_inb i)) (harg10.read_unread xs)), (View.readAt_unit arg5.view (harg5.unread x3) inb_S3x512_S1x512_0_0 rfl inb_S3x512_S1x512_0_0).trans (congrArg (fun z : Vec F S3x512 .f32 => VecWindow.window z ![0, 0] S1x512.size inb_S3x512_S1x512_0_0) (harg5.read_unread x3)), (View.readAt_unit arg5.view (harg5.unread x3) inb_S3x512_S1x512_1_0 rfl inb_S3x512_S1x512_1_0).trans (congrArg (fun z : Vec F S3x512 .f32 => VecWindow.window z ![1, 0] S1x512.size inb_S3x512_S1x512_1_0) (harg5.read_unread x3)), (View.readAt_unit arg5.view (harg5.unread x3) inb_S3x512_S1x512_2_0 rfl inb_S3x512_S1x512_2_0).trans (congrArg (fun z : Vec F S3x512 .f32 => VecWindow.window z ![2, 0] S1x512.size inb_S3x512_S1x512_2_0) (harg5.read_unread x3))]; rfl
    isplitl [H7]
    · iexists _; isplitr; swap; · iexact H7
      ipureintro
      rw [View.read_writes_full]
      delta run_A.sl.r
      rw [(View.readAt_full arg2.view (harg2.unread x0) inb_S1024x2048_S1024x2048_0_0).trans (harg2.read_unread x0), (View.readAt_full arg3.view (harg3.unread x1) inb_S2048x512_S2048x512_0_0).trans (harg3.read_unread x1)]
    iexists _; isplitr; swap; · iexact HS0
    ipureintro
    unfold carry
    rw [View.read_writes_cons_put _ _ _ _ _ rfl]
    delta run_A.sl.r
    rw [View.writes_nil, harg10.read_unread, (View.readAt_full arg2.view (harg2.unread x0) inb_S1024x2048_S1024x2048_0_0).trans (harg2.read_unread x0), (View.readAt_full arg3.view (harg3.unread x1) inb_S2048x512_S2048x512_0_0).trans (harg3.read_unread x1)]

set_option maxHeartbeats 2000000 in
/-- The body at a later point of a block of rows: the output block holds the sum so far. -/
theorem run_B (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S512x2048 .bf16) (harg6 : arg6.IsWhole) (arg7 : Memref sig .tc .vmem S1x8x512 .f32) (harg7 : arg7.IsWhole) (arg8 : Memref sig .tc .vmem S1024x2048 .f32) (harg8 : arg8.IsWhole) (arg9 : Memref sig .tc .vmem S1x8x512 .f32) (harg9 : arg9.IsWhole) (arg10 : Memref sig .tc .vmem S11x8x512 .f32) (harg10 : arg10.IsWhole)
    (hc0 : ¬cond0_0 i)
    (x0 : Vec F S1024x2048 .bf16) (x1 : Vec F S2048x512 .bf16) (x2 : Vec F S2048x512 .bf16) (x3 : Vec F S3x512 .f32) (x4 : Vec F S512x2048 .bf16) (x5 : Vec F S1x8x512 .f32) (x6 : Vec F S1024x2048 .f32) (xs : Vec F S11x8x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (accOf i x0 x1 x2 x3 x4 x5 (carried i xs) x6) ∗ owns (c : Thread nD τ) arg9 fullShare (k0_pay11 (k0_pay4 x0 x1)) ∗ owns (c : Thread nD τ) arg10 fullShare (carry i x0 x1 xs)) -∗ K PUnit.unit))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      unfold accOf convOf carried tap0 tap1 tap2
      rw [View.read_writes_full]
      delta run_B.sl.r_5
      delta run_B.sl.r_4 run_B.sl.r_3 run_B.sl.r_2 run_B.sl.r_1 run_B.sl.r
      rw [(View.readAt_full arg2.view (harg2.unread x0) inb_S1024x2048_S1024x2048_0_0).trans (harg2.read_unread x0), (View.readAt_full arg3.view (harg3.unread x1) inb_S2048x512_S2048x512_0_0).trans (harg3.read_unread x1), (View.readAt_full arg4.view (harg4.unread x2) inb_S2048x512_S2048x512_0_0).trans (harg4.read_unread x2), (View.readAt_full arg6.view (harg6.unread x4) inb_S512x2048_S512x2048_0_0).trans (harg6.read_unread x4), (View.readAt_full arg7.view (harg7.unread x5) inb_S1x8x512_S1x8x512_0_0_0).trans (harg7.read_unread x5), (View.readAt_full arg8.view (harg8.unread x6) inb_S1024x2048_S1024x2048_0_0).trans (harg8.read_unread x6), (View.readAt_unit arg10.view (harg10.unread xs) (k0_off1_inb i) rfl (k0_off1_inb i)).trans (congrArg (fun z : Vec F S11x8x512 .f32 => VecWindow.window z (k0_off1 i) S1x8x512.size (k0_off1_inb i)) (harg10.read_unread xs)), (View.readAt_unit arg5.view (harg5.unread x3) inb_S3x512_S1x512_0_0 rfl inb_S3x512_S1x512_0_0).trans (congrArg (fun z : Vec F S3x512 .f32 => VecWindow.window z ![0, 0] S1x512.size inb_S3x512_S1x512_0_0) (harg5.read_unread x3)), (View.readAt_unit arg5.view (harg5.unread x3) inb_S3x512_S1x512_1_0 rfl inb_S3x512_S1x512_1_0).trans (congrArg (fun z : Vec F S3x512 .f32 => VecWindow.window z ![1, 0] S1x512.size inb_S3x512_S1x512_1_0) (harg5.read_unread x3)), (View.readAt_unit arg5.view (harg5.unread x3) inb_S3x512_S1x512_2_0 rfl inb_S3x512_S1x512_2_0).trans (congrArg (fun z : Vec F S3x512 .f32 => VecWindow.window z ![2, 0] S1x512.size inb_S3x512_S1x512_2_0) (harg5.read_unread x3))]; rfl
    isplitl [H7]
    · iexists _; isplitr; swap; · iexact H7
      ipureintro
      rw [View.read_writes_full]
      delta run_B.sl.r
      rw [(View.readAt_full arg2.view (harg2.unread x0) inb_S1024x2048_S1024x2048_0_0).trans (harg2.read_unread x0), (View.readAt_full arg3.view (harg3.unread x1) inb_S2048x512_S2048x512_0_0).trans (harg3.read_unread x1)]
    iexists _; isplitr; swap; · iexact HS0
    ipureintro
    unfold carry
    rw [View.read_writes_cons_put _ _ _ _ _ rfl]
    delta run_B.sl.r
    rw [View.writes_nil, harg10.read_unread, (View.readAt_full arg2.view (harg2.unread x0) inb_S1024x2048_S1024x2048_0_0).trans (harg2.read_unread x0), (View.readAt_full arg3.view (harg3.unread x1) inb_S2048x512_S2048x512_0_0).trans (harg3.read_unread x1)]

end Cert.Kernel3Ideal.Gen

end
-- ==== Proof.FfnFrame.lean ====
module

public import proofs.«01_k».proof.Proof.FfnRun

/-!
# The feed-forward call's run

What every grid point leaves (`accN`: the sum over the hidden blocks so far; the tail block), what the carried rows hold
between points (`Carr`), and the run of the whole call with those contents.
-/

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The gate of the point's rows and columns. -/
def ugAt (c : Dev nD) (t : Fin cfg0.N) : FVec F S1024x512 .f32 := k0_pay4 (iblk m c 0 t) (iblk m c 1 t)

/-- The last rows of the gate one block of rows before the point's (at the first block of rows, which does not look, any). -/
def prevAt (c : Dev nD) (t : Fin cfg0.N) : FVec F S1x8x512 .f32 :=
  if h : 11 ≤ t.val then k0_pay10 (ugAt m c ⟨t.val - 11, by omega⟩) else k0_pay10 (ugAt m c t)

/-- What the point leaves in the output block that held `o`. -/
def stepAt (c : Dev nD) (t : Fin cfg0.N) (o : Vec F S1024x2048 .f32) : FVec F S1024x2048 .f32 :=
  accOf (grid0.coords t) (iblk m c 0 t) (iblk m c 1 t) (iblk m c 2 t) (iblk m c 3 t) (iblk m c 4 t) (iblk m c 5 t) (prevAt m c t) o

/-- The output block after point `n`: started from zero at the first point of a block of rows. -/
def accN (c : Dev nD) : (n : ℕ) → n < cfg0.N → FVec F S1024x2048 .f32
  | 0, h => stepAt m c ⟨0, h⟩ k0_pay2
  | n + 1, h => stepAt m c ⟨n + 1, h⟩ (if (n + 1) % 11 = 0 then k0_pay2 else accN c n (Nat.lt_of_succ_lt h))

theorem accN_first (c : Dev nD) (t : Fin cfg0.N) (h : t.val % 11 = 0) : accN m c t.val t.isLt = stepAt m c t k0_pay2 := by
  obtain ⟨n, hn⟩ := t
  cases n with
  | zero => rfl
  | succ n => show stepAt m c _ (if (n + 1) % 11 = 0 then _ else _) = _; rw [if_pos h]

theorem accN_next (c : Dev nD) (t : Fin cfg0.N) (h : t.val % 11 ≠ 0) :
    accN m c t.val t.isLt = stepAt m c t (accN m c (t.val - 1) (by omega)) := by
  obtain ⟨n, hn⟩ := t
  cases n with
  | zero => exact absurd rfl h
  | succ n => show stepAt m c _ (if (n + 1) % 11 = 0 then _ else _) = _; rw [if_neg h]; rfl

/-! ## The carried rows -/

theorem coord0 : ∀ t : Fin cfg0.N, (grid0.coords t 0).val = t.val / 11 % 16 :=
  (fun t => Pipeline.Grid.coords_val t 0 (by decide) rfl : ∀ t : Fin grid0.N, (grid0.coords t 0).val = t.val / 11 % 16)

theorem coord1 : ∀ t : Fin cfg0.N, (grid0.coords t 1).val = t.val / 1 % 11 :=
  (fun t => Pipeline.Grid.coords_val t 1 (by decide) rfl : ∀ t : Fin grid0.N, (grid0.coords t 1).val = t.val / 1 % 11)

theorem off_row (t : Fin cfg0.N) : k0_off1 (grid0.coords t) 0 = t.val % 11 := by
  have e1 : (grid0.coords t 1).val = t.val / 1 % 11 := coord1 t
  show (BitVec.ofNat 32 (grid0.coords t 1).val).toNat = _
  rw [BitVec.toNat_ofNat, e1]; omega

theorem off_eq (t s : Fin cfg0.N) (h : t.val % 11 = s.val % 11) : k0_off1 (grid0.coords t) = k0_off1 (grid0.coords s) := by
  have ht := off_row t; have hs := off_row s
  funext a
  match a with
  | ⟨0, _⟩ => exact (ht.trans h).trans hs.symm
  | ⟨1, _⟩ => rfl
  | ⟨2, _⟩ => rfl

/-- Before point `n` the carried rows hold, for each of the eleven points before it, that point's last gate rows. -/
def Carr (c : Dev nD) (n : ℕ) (X : Vec F S11x8x512 .f32) : Prop :=
  ∀ s : Fin cfg0.N, s.val < n → n ≤ s.val + 11 → carried (grid0.coords s) X = k0_pay10 (ugAt m c s)

theorem window_off {X : Vec F S11x8x512 .f32} {o o' : Fin 3 → ℕ} (h : o = o') (i : ∀ a, o a + S1x8x512.size a ≤ S11x8x512.size a)
    (i' : ∀ a, o' a + S1x8x512.size a ≤ S11x8x512.size a) :
    (VecWindow.window X o S1x8x512.size i : Vec F S1x8x512 .f32) = VecWindow.window X o' S1x8x512.size i' := by
  subst h; rfl

theorem Carr_step (c : Dev nD) (t : Fin cfg0.N) (X : Vec F S11x8x512 .f32) (h : Carr m c t.val X) :
    Carr m c (t.val + 1) (carry (grid0.coords t) (iblk m c 0 t) (iblk m c 1 t) X) := by
  intro s h1 h2
  by_cases e : s = t
  · subst e
    exact VecWindow.window_put_same X _ _ _ _
  · have hne : s.val ≠ t.val := fun q => e (Fin.ext q)
    refine Eq.trans ?_ (h s (by omega) (by omega))
    refine VecWindow.window_put_of_disjoint X _ _ _ _ _ _ (0 : Fin 3) ?_
    have es := off_row s; have et := off_row t
    have z : S1x8x512.size 0 = 1 := rfl
    show k0_off1 (grid0.coords s) 0 + S1x8x512.size 0 ≤ k0_off1 (grid0.coords t) 0 ∨ k0_off1 (grid0.coords t) 0 + S1x8x512.size 0 ≤ k0_off1 (grid0.coords s) 0
    rw [es, et, z]
    omega

/-- At the first block of rows the carried rows are not looked at. -/
theorem rows_first (i : grid0.Coords) (h : (i 0).val = 0) (x : Vec F S1x8x512 .f32) (r r' : Vec F S1x8x512 .f32) :
    k0_pay8 i x r = k0_pay8 i x r' := by
  unfold k0_pay8
  rw [h]
  rfl

theorem conv_carried (c : Dev nD) (t : Fin cfg0.N) (X : Vec F S11x8x512 .f32) (h : Carr m c t.val X)
    (x0 : Vec F S1024x2048 .bf16) (x1 : Vec F S2048x512 .bf16) (x2 : Vec F S2048x512 .bf16) (x3 : Vec F S3x512 .f32)
    (x4 : Vec F S512x2048 .bf16) (x5 : Vec F S1x8x512 .f32) (o : Vec F S1024x2048 .f32) :
    accOf (grid0.coords t) x0 x1 x2 x3 x4 x5 (carried (grid0.coords t) X) o = accOf (grid0.coords t) x0 x1 x2 x3 x4 x5 (prevAt m c t) o := by
  have ht : t.val < 176 := Nat.lt_of_lt_of_eq t.isLt N_0
  by_cases h11 : 11 ≤ t.val
  · have e := h ⟨t.val - 11, by omega⟩ (by show t.val - 11 < t.val; omega) (by show t.val ≤ t.val - 11 + 11; omega)
    have eo : carried (grid0.coords t) X = carried (grid0.coords (⟨t.val - 11, by omega⟩ : Fin cfg0.N)) X :=
      window_off (off_eq _ _ (by show t.val % 11 = (t.val - 11) % 11; omega)) _ _
    rw [eo, e]
    unfold prevAt
    rw [dif_pos h11]
  · have e0 : (grid0.coords t 0).val = 0 := by
      have : (grid0.coords t 0).val = t.val / 11 % 16 := coord0 t
      omega
    unfold accOf convOf
    rw [rows_first (grid0.coords t) e0 x5 (carried (grid0.coords t) X) (prevAt m c t)]

/-! ## The proof data -/

/-- The carried rows' buffer. -/
abbrev scM0_0 : Memref sig .tc .vmem S11x8x512 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What holds between points. -/
def PhiC (c : Dev nD) (n : ℕ) : sProp 𝕄 :=
  iprop((∃ X, ⌜Carr m c n X⌝ ∗ owns (c : Thread nD τ) scM0_0 fullShare X) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => accN m c t.val t.isLt
    | ⟨7, _⟩ => k0_pay11 (ugAt m c t)
  Φ t := PhiC m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = accN m c t.val t.isLt := by dsimp only [dats]
theorem after0_7 (c : Dev nD) (t : Fin cfg0.N) : (dats m 0 c).after 7 t = k0_pay11 (ugAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later point of a block of rows the output block holds what the point before left. -/
theorem before0_6 (c : Dev nD) (t : Fin cfg0.N) (h : t.val % 11 ≠ 0) (d) :
    (dats m 0 c).before 6 t d = accN m c (t.val - 1) (by omega) := by
  have ht : t.val < 176 := Nat.lt_of_lt_of_eq t.isLt N_0
  have hf : (cfg0.win 6).fetch t = false := (cfg0.win 6).fetch_out rfl t
  have hn : ¬ (cfg0.win 6).flush ⟨t.val - 1, Nat.lt_of_le_of_lt (Nat.sub_le _ _) t.isLt⟩ = true := fun q => by
    have := (flush0_6 _).mp q
    have : (t.val - 1) % 11 = 10 := this
    omega
  rw [(dats m 0 c).before_of_pos 6 t (by omega) hf d, if_neg hn]
  exact after0_6 m c ⟨t.val - 1, Nat.lt_of_le_of_lt (Nat.sub_le _ _) t.isLt⟩

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7,
    show (dats m 0 c).Φ t.succ = PhiC m c (t.val + 1) from rfl, show (dats m 0 c).Φ t.castSucc = PhiC m c t.val from rfl]
  unfold PhiC
  by_cases h0 : t.val % 11 = 0
  · rw [accN_first m c t h0]; unfold stepAt
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [← conv_carried m c t X hX]
    iapply ((run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iexists _; isplitr; swap; · iexact HS
        ipureintro; exact Carr_step m c t X hX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_6 m c t h0]; rw [accN_next m c t h0]; unfold stepAt
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [← conv_carried m c t X hX]
    iapply ((run_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (accN m c (t.val - 1) (by omega)) X) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]
      · iexists _; isplitr; swap; · iexact HS
        ipureintro; exact Carr_step m c t X hX
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiC m c 0 from rfl, PhiA0_eq]
  unfold PhiC
  iintro ⟨⟨%d, HS⟩, Hg⟩
  isplitl [HS]
  · iexists d
    isplitr
    · ipureintro; intro s h; exact absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = PhiC m c cfg0.N from rfl, PhiA0_eq]
  unfold PhiC
  iintro ⟨⟨%d, -, HS⟩, Hg⟩
  isplitl [HS]
  · iexists d
    iexact HS
  iexact Hg

/-! ## The run and the frame -/

set_option backward.isDefEq.respectTransparency.types false in
set_option maxHeartbeats 800000 in
/-- The call's run: it ends, with the arrays as the points left them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel3Ideal.Gen

end
-- ==== Proof.FfnPay.lean ====
/-
  The feed-forward kernel's pieces, entry by entry: the two halves of the up projection, the rows the convolution looks
  back to, the convolution, and the step that adds one hidden block's share to the output.
-/
module

public import proofs.«01_k».proof.Proof.FfnFrame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

/-- The smooth gate, in the form with the hyperbolic tangent. -/
def gelu (x : EReal) : EReal :=
  Ideal.ofBits .f32 0x3F000000#32 * x * (1 + Ideal.tanh (Ideal.ofBits .f32 0x3F4C422A#32 * (x + Ideal.ofBits .f32 0x3D372713#32 * x * x * x)))

open Cert.Kernel3Ideal Cert.Kernel3Ideal.Gen

theorem pay4_apply (x0 : FVec Ideal S1024x2048 .bf16) (x1 : FVec Ideal S2048x512 .bf16) (r : Fin 1024) (n : Fin 512) :
    (k0_pay4 (F := Ideal) x0 x1 : FVec Ideal S1024x512 .f32) (ix2 r n) = ∑ k : Fin 2048, x0 (ix2 r k) * x1 (ix2 k n) := by
  unfold k0_pay4 k0_pay3
  pointwise

theorem pay5_apply (x0 : FVec Ideal S1024x2048 .bf16) (x1 : FVec Ideal S2048x512 .bf16) (r : Fin 1024) (n : Fin 512) :
    (k0_pay5 (F := Ideal) x0 x1 : FVec Ideal S1024x512 .f32) (ix2 r n) = ∑ k : Fin 2048, x0 (ix2 r k) * x1 (ix2 k n) := by
  unfold k0_pay5 k0_pay3
  pointwise

theorem pay6_apply (x0 : FVec Ideal S1024x2048 .bf16) (x1 : FVec Ideal S2048x512 .bf16) (r : Fin 1024) (n : Fin 512) :
    (k0_pay6 (F := Ideal) x0 x1 : FVec Ideal S1024x512 .f32) (ix2 r n)
      = (k0_pay4 (F := Ideal) x0 x1 : FVec Ideal S1024x512 .f32) (ix2 (⟨(r.val + 1024 - 1) % 1024, Nat.mod_lt _ (by decide)⟩ : Fin 1024) n) := by
  unfold k0_pay6
  generalize (k0_pay4 (F := Ideal) x0 x1 : FVec Ideal S1024x512 .f32) = h
  pointwise

theorem pay7_apply (x0 : FVec Ideal S1024x2048 .bf16) (x1 : FVec Ideal S2048x512 .bf16) (r : Fin 1024) (n : Fin 512) :
    (k0_pay7 (F := Ideal) x0 x1 : FVec Ideal S1024x512 .f32) (ix2 r n)
      = (k0_pay4 (F := Ideal) x0 x1 : FVec Ideal S1024x512 .f32) (ix2 (⟨(r.val + 1024 - 2) % 1024, Nat.mod_lt _ (by decide)⟩ : Fin 1024) n) := by
  unfold k0_pay7
  generalize (k0_pay4 (F := Ideal) x0 x1 : FVec Ideal S1024x512 .f32) = h
  pointwise

theorem pay10_apply (v : FVec Ideal S1024x512 .f32) (u : Fin 1) (r : Fin 8) (n : Fin 512) :
    (k0_pay10 (F := Ideal) v : FVec Ideal S1x8x512 .f32) (ix3 u r n) = v (ix2 (⟨1016 + r.val, by have := r.isLt; omega⟩ : Fin 1024) n) := by
  unfold k0_pay10
  pointwise

theorem pay11_apply (v : FVec Ideal S1024x512 .f32) (u : Fin 1) (r : Fin 8) (n : Fin 512) :
    (k0_pay11 (F := Ideal) v : FVec Ideal S1x8x512 .f32) (ix3 u r n) = v (ix2 (⟨1016 + r.val, by have := r.isLt; omega⟩ : Fin 1024) n) := by
  unfold k0_pay11
  pointwise

theorem pay1_apply (uv cv : FVec Ideal S1024x512 .f32) (o : FVec Ideal S1024x2048 .f32) (wd : FVec Ideal S512x2048 .bf16) (r : Fin 1024) (n : Fin 2048) :
    (k0_pay1 (F := Ideal) uv cv k0_pay13 o wd : FVec Ideal S1024x2048 .f32) (ix2 r n)
      = o (ix2 r n) + ∑ e : Fin 512, gelu (cv (ix2 r e)) * uv (ix2 r e) * wd (ix2 e n) := by
  unfold k0_pay1 k0_pay13 gelu
  pointwise

theorem pay2_apply (r : Fin 1024) (n : Fin 2048) : (k0_pay2 (F := Ideal) : FVec Ideal S1024x2048 .f32) (ix2 r n) = 0 := by
  unfold k0_pay2
  pointwise

theorem sel_row (r j : ℕ) (hr : r < 8) (hj : j < 8) (a b : EReal) :
    Scalar.select (IntOp.cmpi .eq (BitVec.ofNat 32 r) (BitVec.ofNat 32 j)) a b = if r = j then a else b := by
  interval_cases r <;> interval_cases j <;> rfl

theorem pay12_apply (v7 v11 v12 : FVec Ideal S1024x512 .f32) (h : FVec Ideal S8x512 .f32) (t0 t1 t2 : FVec Ideal S1x512 .f32) (r : Fin 1024) (n : Fin 512) :
    (k0_pay12 (F := Ideal) v7 v11 v12 h (iota .tc S8x512 32 [0] iota_S8x512_d0_w32) k0_pay9 t0 t1 t2 : FVec Ideal S1024x512 .f32) (ix2 r n)
      = t0 (ix2 0 n) * (if r.val = 0 then h (ix2 6 n) else if r.val = 1 then h (ix2 7 n) else v12 (ix2 r n))
        + t1 (ix2 0 n) * (if r.val = 0 then h (ix2 7 n) else v11 (ix2 r n)) + t2 (ix2 0 n) * v7 (ix2 r n) := by
  unfold k0_pay12 k0_pay9
  pointwise
  by_cases hr : r.val < 8
  · rw [dif_pos hr, dif_pos hr]
    rw [sel_row r.val 0 hr (by decide), sel_row r.val 1 hr (by decide), sel_row r.val 0 hr (by decide)]
  · rw [dif_neg hr, dif_neg hr, if_neg (show ¬ r.val = 0 by omega), if_neg (show ¬ r.val = 1 by omega), if_neg (show ¬ r.val = 0 by omega)]
    have e : ∀ h, (⟨8 + (r.val - 8), h⟩ : Fin 1024) = r := fun h => Fin.ext (by show 8 + (r.val - 8) = r.val; omega)
    simp only [e]

theorem pay8_apply (i : grid0.Coords) (x y : FVec Ideal S1x8x512 .f32) (a : Fin 8) (n : Fin 512) :
    (k0_pay8 (F := Ideal) i x y : FVec Ideal S8x512 .f32) (ix2 a n) = if (i 0).val % 2 = 0 then x (ix3 0 a n) else y (ix3 0 a n) := by
  have h : (i 0).val < 16 := (i 0).isLt
  unfold k0_pay8
  generalize (i 0).val = q at h
  interval_cases q
  all_goals pointwise
  all_goals try rfl

theorem tap0_apply (x : FVec Ideal S3x512 .f32) (n : Fin 512) : (tap0 (F := Ideal) x : FVec Ideal S1x512 .f32) (ix2 0 n) = x (ix2 0 n) :=
  congrArg x (by funext a; fin_cases a <;> (apply Fin.ext; show _ + 1 * _ = _; first | rfl | (simp; rfl) | simp))
theorem tap1_apply (x : FVec Ideal S3x512 .f32) (n : Fin 512) : (tap1 (F := Ideal) x : FVec Ideal S1x512 .f32) (ix2 0 n) = x (ix2 1 n) :=
  congrArg x (by funext a; fin_cases a <;> (apply Fin.ext; show _ + 1 * _ = _; first | rfl | (simp; rfl) | simp))
theorem tap2_apply (x : FVec Ideal S3x512 .f32) (n : Fin 512) : (tap2 (F := Ideal) x : FVec Ideal S1x512 .f32) (ix2 0 n) = x (ix2 2 n) :=
  congrArg x (by funext a; fin_cases a <;> (apply Fin.ext; show _ + 1 * _ = _; first | rfl | (simp; rfl) | simp))

end Cert.Ffn

end
-- ==== Proof.FfnRef.lean ====
/-
  The feed-forward part as the reference states it: the up projection and its halves, the causal convolution of the gate,
  the smooth gate, the down projection; and the formulas its two results are, entry by entry.
-/
module

public import proofs.«01_k».proof.Proof.FfnPay
public import proofs.«01_k».proof.Proof.Gen.Reference3Ideal.Run

@[expose] public section

set_option maxRecDepth 16384

noncomputable section

open Idealize.ShloMosaic Idealize.ShloMosaic.TcCoe Idealize.SL.Sem

namespace Cert.Ffn

/-- The batch and the position of a row. -/
abbrev bOf (g : Fin 16384) : Fin 8 := ⟨g.val / 2048, by have := g.isLt; omega⟩
abbrev tOf (g : Fin 16384) : Fin 2048 := ⟨g.val % 2048, by omega⟩

abbrev lo (e : Fin 5632) : Fin 11264 := ⟨e.val, by have := e.isLt; omega⟩
abbrev hi (e : Fin 5632) : Fin 11264 := ⟨5632 + e.val, by have := e.isLt; omega⟩

open Cert.Reference3Ideal Cert.Reference3Ideal.Gen

variable (hn : FVec Ideal S8x2048x2048 .f32) (wu : FVec Ideal S2048x11264 .f32) (cw : FVec Ideal S3x5632 .f32)
    (wd : FVec Ideal S5632x2048 .f32) (cp : FVec Ideal S8x2x5632 .f32)

/-! ## The formulas -/

/-- The up projection of a position, at a column. -/
def up (b : Fin 8) (t : Fin 2048) (e : Fin 11264) : EReal := ∑ k : Fin 2048, hn (ix3 b t k) * wu (ix2 k e)

/-- The gate one and two positions back; before the sequence, the given rows. -/
def back1 (b : Fin 8) (t : Fin 2048) (e : Fin 5632) : EReal :=
  if t.val = 0 then cp (ix3 b 1 e) else up hn wu b ⟨t.val - 1, by have := t.isLt; omega⟩ (lo e)

def back2 (b : Fin 8) (t : Fin 2048) (e : Fin 5632) : EReal :=
  if t.val = 0 then cp (ix3 b 0 e) else if t.val = 1 then cp (ix3 b 1 e) else up hn wu b ⟨t.val - 2, by have := t.isLt; omega⟩ (lo e)

/-- The convolved gate. -/
def conv (b : Fin 8) (t : Fin 2048) (e : Fin 5632) : EReal :=
  cw (ix2 0 e) * back2 hn wu cp b t e + cw (ix2 1 e) * back1 hn wu cp b t e + cw (ix2 2 e) * up hn wu b t (lo e)

/-- One hidden column's share of an output entry. -/
def term (b : Fin 8) (t : Fin 2048) (n : Fin 2048) (e : Fin 5632) : EReal :=
  gelu (conv hn wu cw cp b t e) * up hn wu b t (hi e) * wd (ix2 e n)

/-! ## The reference's stages -/

def upRef : FVec Ideal S8x2048x11264 .f32 := Host.dotGeneral dot_S8x2048x2048_S2048x11264_S8x2048x11264_2_0_01_1_n_n none hn wu

def gateRef (u : FVec Ideal S8x2048x11264 .f32) : FVec Ideal S8x2048x5632 .f32 :=
  extractStridedSlice S8x2048x5632 ![0, 0, 0] u slices_S8x2048x11264_S8x2048x5632_0_0_0

def valRef (u : FVec Ideal S8x2048x11264 .f32) : FVec Ideal S8x2048x5632 .f32 :=
  extractStridedSlice S8x2048x5632 ![0, 0, 5632] u slices_S8x2048x11264_S8x2048x5632_0_0_5632

def bufRef (u : FVec Ideal S8x2048x5632 .f32) : FVec Ideal S8x2050x5632 .f32 :=
  concatenate S8x2050x5632 1 [⟨S8x2x5632, cp⟩, ⟨S8x2048x5632, u⟩] concatenates_S8x2x5632_S8x2048x5632_S8x2050x5632_d1

def tapRef (r : FVec Ideal S1x5632 .f32) : FVec Ideal S8x2048x5632 .f32 :=
  broadcastInDim S8x2048x5632 ![0, 1, 2] bcast_S1x1x5632_S8x2048x5632_0_1_2
    (broadcastInDim S1x1x5632 ![2] bcast_S5632_S1x1x5632_2 (shapeCast _ r shapeCasts_S1x5632_S5632))

def convRef (bf : FVec Ideal S8x2050x5632 .f32) : FVec Ideal S8x2048x5632 .f32 :=
  addf (addf (addf (broadcastInDim S8x2048x5632 ![] bcast_S_S8x2048x5632 (constant S_ .f32 0x00000000#32))
      (mulf (tapRef (extractStridedSlice S1x5632 ![0, 0] cw slices_S3x5632_S1x5632_0_0)) (extractStridedSlice S8x2048x5632 ![0, 0, 0] bf slices_S8x2050x5632_S8x2048x5632_0_0_0)))
      (mulf (tapRef (extractStridedSlice S1x5632 ![1, 0] cw slices_S3x5632_S1x5632_1_0)) (extractStridedSlice S8x2048x5632 ![0, 1, 0] bf slices_S8x2050x5632_S8x2048x5632_0_1_0)))
      (mulf (tapRef (extractStridedSlice S1x5632 ![2, 0] cw slices_S3x5632_S1x5632_2_0)) (extractStridedSlice S8x2048x5632 ![0, 2, 0] bf slices_S8x2050x5632_S8x2048x5632_0_2_0))

def geluRef (x : FVec Ideal S8x2048x5632 .f32) : FVec Ideal S8x2048x5632 .f32 :=
  mulf x (mulf (broadcastInDim S8x2048x5632 ![] bcast_S_S8x2048x5632 (constant S_ .f32 0x3F000000#32))
    (addf (broadcastInDim S8x2048x5632 ![] bcast_S_S8x2048x5632 (constant S_ .f32 0x3F800000#32))
      (Host.tanh (mulf (broadcastInDim S8x2048x5632 ![] bcast_S_S8x2048x5632 (constant S_ .f32 0x3F4C422A#32))
        (addf x (mulf (broadcastInDim S8x2048x5632 ![] bcast_S_S8x2048x5632 (constant S_ .f32 0x3D372713#32)) (mulf (mulf x x) x)))))))

def downRef (a b : FVec Ideal S8x2048x5632 .f32) : FVec Ideal S16384x2048 .f32 :=
  shapeCast _ (Host.dotGeneral dot_S8x2048x5632_S5632x2048_S8x2048x2048_2_0_01_1_n_n none (mulf a b) wd) shapeCasts_S8x2048x2048_S16384x2048

/-- The reference's two results. -/
def ref0 : FVec Ideal S16384x2048 .f32 :=
  downRef wd (geluRef (convRef cw (bufRef cp (gateRef (upRef hn wu))))) (valRef (upRef hn wu))

def ref1 : FVec Ideal S16x8x5632 .f32 :=
  extractStridedSlice S16x8x5632 ![0, 1016, 0] (shapeCast _ (gateRef (upRef hn wu)) shapeCasts_S8x2048x5632_S16x1024x5632) slices_S16x1024x5632_S16x8x5632_0_1016_0

/-! ## The stages, entry by entry -/

theorem upRef_apply (b : Fin 8) (t : Fin 2048) (e : Fin 11264) : upRef hn wu (ix3 b t e) = up hn wu b t e := by
  unfold upRef up
  pointwise

theorem gateRef_apply (u : FVec Ideal S8x2048x11264 .f32) (b : Fin 8) (t : Fin 2048) (e : Fin 5632) : gateRef u (ix3 b t e) = u (ix3 b t (lo e)) := by
  unfold gateRef
  pointwise

theorem valRef_apply (u : FVec Ideal S8x2048x11264 .f32) (b : Fin 8) (t : Fin 2048) (e : Fin 5632) : valRef u (ix3 b t e) = u (ix3 b t (hi e)) := by
  unfold valRef
  pointwise

theorem bufRef_apply (u : FVec Ideal S8x2048x5632 .f32) (b : Fin 8) (t : Fin 2050) (e : Fin 5632) :
    bufRef cp u (ix3 b t e) = if h : t.val < 2 then cp (ix3 b ⟨t.val, h⟩ e) else u (ix3 b ⟨t.val - 2, by have := t.isLt; omega⟩ e) := by
  unfold bufRef
  pointwise

theorem tapRef_apply (r : FVec Ideal S1x5632 .f32) (b : Fin 8) (t : Fin 2048) (e : Fin 5632) : tapRef r (ix3 b t e) = r (ix2 0 e) := by
  unfold tapRef
  pointwise

theorem convRef_apply (bf : FVec Ideal S8x2050x5632 .f32) (b : Fin 8) (t : Fin 2048) (e : Fin 5632) :
    convRef cw bf (ix3 b t e) = cw (ix2 0 e) * bf (ix3 b (⟨t.val, by have := t.isLt; omega⟩ : Fin 2050) e)
      + cw (ix2 1 e) * bf (ix3 b (⟨1 + t.val, by have := t.isLt; omega⟩ : Fin 2050) e)
      + cw (ix2 2 e) * bf (ix3 b (⟨2 + t.val, by have := t.isLt; omega⟩ : Fin 2050) e) := by
  unfold convRef
  pointwise [tapRef_apply]

theorem geluRef_apply (x : FVec Ideal S8x2048x5632 .f32) (b : Fin 8) (t : Fin 2048) (e : Fin 5632) : geluRef x (ix3 b t e) = gelu (x (ix3 b t e)) := by
  have h : geluRef x (ix3 b t e) = x (ix3 b t e) * (Ideal.ofBits .f32 0x3F000000#32 * (1 + Ideal.tanh (Ideal.ofBits .f32 0x3F4C422A#32
      * (x (ix3 b t e) + Ideal.ofBits .f32 0x3D372713#32 * (x (ix3 b t e) * x (ix3 b t e) * x (ix3 b t e)))))) := by
    unfold geluRef
    pointwise
  rw [h]
  unfold gelu
  generalize x (ix3 b t e) = y
  rw [show Ideal.ofBits .f32 0x3D372713#32 * y * y * y = Ideal.ofBits .f32 0x3D372713#32 * (y * y * y) by simp only [mul_assoc]]
  rw [← mul_assoc, mul_comm y]

theorem downRef_apply (a v : FVec Ideal S8x2048x5632 .f32) (g : Fin 16384) (n : Fin 2048) :
    downRef wd a v (ix2 g n) = ∑ e : Fin 5632, a (ix3 (bOf g) (tOf g) e) * v (ix3 (bOf g) (tOf g) e) * wd (ix2 e n) := by
  unfold downRef
  pointwise

theorem conv_eq (b : Fin 8) (t : Fin 2048) (e : Fin 5632) :
    convRef cw (bufRef cp (gateRef (upRef hn wu))) (ix3 b t e) = conv hn wu cw cp b t e := by
  rw [convRef_apply, bufRef_apply, bufRef_apply, bufRef_apply]
  unfold conv back1 back2
  have ht := t.isLt
  rw [dif_neg (show ¬ 2 + t.val < 2 by omega)]
  have e2 : ∀ h, (⟨2 + t.val - 2, h⟩ : Fin 2048) = t := fun h => Fin.ext (by show 2 + t.val - 2 = t.val; omega)
  simp only [gateRef_apply, upRef_apply, e2]
  by_cases h0 : t.val = 0
  · rw [dif_pos (show t.val < 2 by omega), dif_pos (show 1 + t.val < 2 by omega), if_pos h0, if_pos h0]
    have a0 : ∀ h, (⟨t.val, h⟩ : Fin 2) = 0 := fun h => Fin.ext h0
    have a1 : ∀ h, (⟨1 + t.val, h⟩ : Fin 2) = 1 := fun h => Fin.ext (by show 1 + t.val = 1; omega)
    simp only [a0, a1]
  · rw [dif_neg (show ¬ 1 + t.val < 2 by omega), if_neg h0, if_neg h0]
    have b1 : ∀ h, (⟨1 + t.val - 2, h⟩ : Fin 2048) = ⟨t.val - 1, by omega⟩ := fun h => Fin.ext (by show 1 + t.val - 2 = t.val - 1; omega)
    simp only [b1]
    by_cases h1 : t.val = 1
    · rw [dif_pos (show t.val < 2 by omega), if_pos h1]
      have a0 : ∀ h, (⟨t.val, h⟩ : Fin 2) = 1 := fun h => Fin.ext h1
      simp only [a0]
    · rw [dif_neg (show ¬ t.val < 2 by omega), if_neg h1]

theorem ref0_apply (g : Fin 16384) (n : Fin 2048) :
    ref0 hn wu cw wd cp (ix2 g n) = ∑ e : Fin 5632, term hn wu cw wd cp (bOf g) (tOf g) n e := by
  unfold ref0 term
  rw [downRef_apply]
  refine Finset.sum_congr rfl fun e _ => ?_
  rw [geluRef_apply, conv_eq, valRef_apply, upRef_apply]

theorem ref1_apply (i : Fin 16) (a : Fin 8) (e : Fin 5632) :
    ref1 hn wu (ix3 i a e) = up hn wu (⟨i.val / 2, by have := i.isLt; omega⟩ : Fin 8)
      (⟨i.val % 2 * 1024 + (1016 + a.val), by have := a.isLt; omega⟩ : Fin 2048) (lo e) := by
  have h : ref1 hn wu (ix3 i a e) = gateRef (upRef hn wu) (ix3 (⟨i.val / 2, by have := i.isLt; omega⟩ : Fin 8)
      (⟨i.val % 2 * 1024 + (1016 + a.val), by have := a.isLt; omega⟩ : Fin 2048) e) := by
    unfold ref1
    generalize gateRef (upRef hn wu) = z
    pointwise
  rw [h, gateRef_apply, upRef_apply]

variable (m : (ℓ : Loc nD τ sig) → Buf (Elt Ideal) ℓ) (c : Dev nD)

theorem res0_eq : Value.res_main_v43 m c = ref0 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Cert.Ffn

end
-- ==== Proof.Ffn.lean ====
/-
  The feed-forward call: the blocks its grid points read, the sum over the eleven hidden blocks, and the two arrays the
  call leaves — the reference's two results.
-/
module

public import proofs.«01_k».proof.Defs
public import proofs.«01_k».proof.Proof.FfnRef
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Ffn

open Cert.Kernel3Ideal Cert.Kernel3Ideal.Gen

variable (m : (ℓ : Loc nD τ sig) → Buf (Elt Ideal) ℓ) (c : Dev nD)

theorem index0 : ∀ t : Fin cfg0.N, win0_0.index t = ![t.val / 11, 0] := by decide +kernel
theorem index1 : ∀ t : Fin cfg0.N, win0_1.index t = ![0, t.val % 11] := by decide +kernel
theorem index2 : ∀ t : Fin cfg0.N, win0_2.index t = ![0, 11 + t.val % 11] := by decide +kernel
theorem index3 : ∀ t : Fin cfg0.N, win0_3.index t = ![0, t.val % 11] := by decide +kernel
theorem index4 : ∀ t : Fin cfg0.N, win0_4.index t = ![t.val % 11, 0] := by decide +kernel
theorem index5 : ∀ t : Fin cfg0.N, win0_5.index t = ![t.val / 22, 0, t.val % 11] := by decide +kernel
theorem index6 : ∀ t : Fin cfg0.N, win0_6.index t = ![t.val / 11, 0] := by decide +kernel
theorem index7 : ∀ t : Fin cfg0.N, win0_7.index t = ![t.val / 11, 0, t.val % 11] := by decide +kernel

theorem lt176 (t : Fin cfg0.N) : t.val < 176 := Nat.lt_of_lt_of_eq t.isLt N_0

/-- The row of the arrays that row `r` of a point's block is, and the hidden column that its column `n` is. -/
abbrev row (t : Fin cfg0.N) (r : Fin 1024) : Fin 16384 :=
  ⟨t.val / 11 * 1024 + r.val, by have := lt176 t; have := r.isLt; omega⟩
abbrev col (t : Fin cfg0.N) (n : Fin 512) : Fin 5632 :=
  ⟨t.val % 11 * 512 + n.val, by have := n.isLt; omega⟩

abbrev argHn : FVec Ideal S8x2048x2048 .f32 := m ((c : Thread nD τ).loc main_arg0)
abbrev argWu : FVec Ideal S2048x11264 .f32 := m ((c : Thread nD τ).loc main_arg1)
abbrev argCw : FVec Ideal S3x5632 .f32 := m ((c : Thread nD τ).loc main_arg2)
abbrev argWd : FVec Ideal S5632x2048 .f32 := m ((c : Thread nD τ).loc main_arg3)
abbrev argCp : FVec Ideal S8x2x5632 .f32 := m ((c : Thread nD τ).loc main_arg4)

/-! ## The blocks a point reads -/

theorem blk0_apply (t : Fin cfg0.N) (r : Fin 1024) (k : Fin 2048) :
    (iblk m c 0 t : FVec Ideal S1024x2048 .bf16) (ix2 r k) = argHn m c (ix3 (bOf (row t r)) (tOf (row t r)) k) := by
  have h : (iblk m c 0 t : FVec Ideal S1024x2048 .bf16) (ix2 r k) = (Gen.V m c main_v3 : FVec Ideal S16384x2048 .bf16) (ix2 (row t r) k) := by
    blk_ext [iblk, index0 t]
  rw [h]
  entry_read
  pointwise
  try rfl

theorem blk1_apply (t : Fin cfg0.N) (k : Fin 2048) (n : Fin 512) :
    (iblk m c 1 t : FVec Ideal S2048x512 .bf16) (ix2 k n) = argWu m c (ix2 k (lo (col t n))) := by
  have h : (iblk m c 1 t : FVec Ideal S2048x512 .bf16) (ix2 k n) = (Gen.V m c main_v4 : FVec Ideal S2048x11264 .bf16) (ix2 k (lo (col t n))) := by
    blk_ext [iblk, index1 t]
  rw [h]
  entry_read
  pointwise
  try rfl

theorem blk2_apply (t : Fin cfg0.N) (k : Fin 2048) (n : Fin 512) :
    (iblk m c 2 t : FVec Ideal S2048x512 .bf16) (ix2 k n) = argWu m c (ix2 k (hi (col t n))) := by
  have h : (iblk m c 2 t : FVec Ideal S2048x512 .bf16) (ix2 k n) = (Gen.V m c main_v4 : FVec Ideal S2048x11264 .bf16) (ix2 k (hi (col t n))) := by
    blk_ext [iblk, index2 t]
  rw [h]
  entry_read
  pointwise
  try rfl

theorem blk3_apply (t : Fin cfg0.N) (j : Fin 3) (n : Fin 512) :
    (iblk m c 3 t : FVec Ideal S3x512 .f32) (ix2 j n) = argCw m c (ix2 j (col t n)) := by
  have h : (iblk m c 3 t : FVec Ideal S3x512 .f32) (ix2 j n) = (Gen.V m c main_arg2 : FVec Ideal S3x5632 .f32) (ix2 j (col t n)) := by
    blk_ext [iblk, index3 t]
  rw [h, V_main_arg2]

theorem blk4_apply (t : Fin cfg0.N) (e : Fin 512) (n : Fin 2048) :
    (iblk m c 4 t : FVec Ideal S512x2048 .bf16) (ix2 e n) = argWd m c (ix2 (col t e) n) := by
  have h : (iblk m c 4 t : FVec Ideal S512x2048 .bf16) (ix2 e n) = (Gen.V m c main_v5 : FVec Ideal S5632x2048 .bf16) (ix2 (col t e) n) := by
    blk_ext [iblk, index4 t]
  rw [h]
  entry_read
  pointwise
  try rfl

/-- The batch of a point's rows. -/
abbrev bAt (t : Fin cfg0.N) : Fin 8 := ⟨t.val / 22, by have := lt176 t; omega⟩

theorem blk5_apply (t : Fin cfg0.N) (a : Fin 2) (n : Fin 512) :
    (iblk m c 5 t : FVec Ideal S1x8x512 .f32) (ix3 0 (⟨6 + a.val, by have := a.isLt; omega⟩ : Fin 8) n) = argCp m c (ix3 (bAt t) a (col t n)) := by
  have h : (iblk m c 5 t : FVec Ideal S1x8x512 .f32) (ix3 0 (⟨6 + a.val, by have := a.isLt; omega⟩ : Fin 8) n)
      = (Gen.V m c main_v1 : FVec Ideal S8x8x5632 .f32) (ix3 (bAt t) (⟨6 + a.val, by have := a.isLt; omega⟩ : Fin 8) (col t n)) := by
    blk_ext [iblk, index5 t]
  rw [h]
  entry_read
  pointwise
  try rfl

/-! ## What a point computes -/

/-- The gate's up projection at a point is the reference's at the row and column it stands for. -/
theorem ug_apply (t : Fin cfg0.N) (r : Fin 1024) (n : Fin 512) (b : Fin 8) (p : Fin 2048)
    (hb : (t.val / 11 * 1024 + r.val) / 2048 = b.val) (hp : (t.val / 11 * 1024 + r.val) % 2048 = p.val) :
    (ugAt m c t : FVec Ideal S1024x512 .f32) (ix2 r n) = up (argHn m c) (argWu m c) b p (lo (col t n)) := by
  obtain rfl : bOf (row t r) = b := Fin.ext hb
  obtain rfl : tOf (row t r) = p := Fin.ext hp
  unfold ugAt
  rw [pay4_apply]
  simp only [blk0_apply, blk1_apply]
  rfl

theorem uv_apply (t : Fin cfg0.N) (r : Fin 1024) (n : Fin 512) :
    (k0_pay5 (F := Ideal) (iblk m c 0 t) (iblk m c 2 t) : FVec Ideal S1024x512 .f32) (ix2 r n)
      = up (argHn m c) (argWu m c) (bOf (row t r)) (tOf (row t r)) (hi (col t n)) := by
  rw [pay5_apply]
  simp only [blk0_apply, blk2_apply]
  rfl

/-- The two rows before a point's block: the given ones at the start of a sequence, -/
theorem head_first (t : Fin cfg0.N) (h : t.val / 11 % 2 = 0) (a : Fin 2) (n : Fin 512) :
    (k0_pay8 (F := Ideal) (grid0.coords t) (iblk m c 5 t) (prevAt m c t) : FVec Ideal S8x512 .f32) (ix2 (⟨6 + a.val, by have := a.isLt; omega⟩ : Fin 8) n)
      = argCp m c (ix3 (bAt t) a (col t n)) := by
  have ht := lt176 t
  have e0 : (grid0.coords t 0).val = t.val / 11 % 16 := coord0 t
  rw [pay8_apply, if_pos (by rw [e0]; omega), blk5_apply]

/-- and the last rows of the block before otherwise. -/
theorem head_later (t : Fin cfg0.N) (h : t.val / 11 % 2 ≠ 0) (a : Fin 2) (n : Fin 512) :
    (k0_pay8 (F := Ideal) (grid0.coords t) (iblk m c 5 t) (prevAt m c t) : FVec Ideal S8x512 .f32) (ix2 (⟨6 + a.val, by have := a.isLt; omega⟩ : Fin 8) n)
      = up (argHn m c) (argWu m c) (bAt t) (⟨1022 + a.val, by have := a.isLt; omega⟩ : Fin 2048) (lo (col t n)) := by
  have ht := lt176 t
  have ha := a.isLt
  have e0 : (grid0.coords t 0).val = t.val / 11 % 16 := coord0 t
  rw [pay8_apply, if_neg (by rw [e0]; omega)]
  unfold prevAt
  rw [dif_pos (show 11 ≤ t.val by omega), pay10_apply,
    ug_apply m c _ _ n (bAt t) (⟨1022 + a.val, by omega⟩ : Fin 2048)
      (by show ((t.val - 11) / 11 * 1024 + (1016 + (6 + a.val))) / 2048 = t.val / 22; omega)
      (by show ((t.val - 11) / 11 * 1024 + (1016 + (6 + a.val))) % 2048 = 1022 + a.val; omega)]
  exact congrArg (fun e => up (argHn m c) (argWu m c) (bAt t) _ (lo e)) (Fin.ext (by show (t.val - 11) % 11 * 512 + n.val = t.val % 11 * 512 + n.val; omega))

/-- The convolved gate at a point is the reference's. -/
theorem conv_apply (t : Fin cfg0.N) (r : Fin 1024) (n : Fin 512) :
    (convOf (F := Ideal) (grid0.coords t) (iblk m c 0 t) (iblk m c 1 t) (iblk m c 3 t) (iblk m c 5 t) (prevAt m c t) : FVec Ideal S1024x512 .f32) (ix2 r n)
      = conv (argHn m c) (argWu m c) (argCw m c) (argCp m c) (bOf (row t r)) (tOf (row t r)) (col t n) := by
  have ht := lt176 t
  have hr := r.isLt
  have eb : bOf (row t r) = bAt t := Fin.ext (by show (t.val / 11 * 1024 + r.val) / 2048 = t.val / 22; omega)
  have hp : (tOf (row t r)).val = t.val / 11 % 2 * 1024 + r.val := by show (t.val / 11 * 1024 + r.val) % 2048 = _; omega
  unfold convOf
  rw [pay12_apply, pay6_apply, pay7_apply, tap0_apply, tap1_apply, tap2_apply, blk3_apply, blk3_apply, blk3_apply]
  have ug : (k0_pay4 (F := Ideal) (iblk m c 0 t) (iblk m c 1 t) : FVec Ideal S1024x512 .f32) = ugAt m c t := rfl
  rw [ug]
  unfold conv
  rw [eb]
  have h2 : (ugAt m c t : FVec Ideal S1024x512 .f32) (ix2 r n) = up (argHn m c) (argWu m c) (bAt t) (tOf (row t r)) (lo (col t n)) :=
    ug_apply m c t r n _ _ (by show _ = t.val / 22; omega) rfl
  have h1 : (if r.val = 0 then (k0_pay8 (F := Ideal) (grid0.coords t) (iblk m c 5 t) (prevAt m c t) : FVec Ideal S8x512 .f32) (ix2 7 n)
      else (ugAt m c t : FVec Ideal S1024x512 .f32) (ix2 (⟨(r.val + 1024 - 1) % 1024, Nat.mod_lt _ (by decide)⟩ : Fin 1024) n))
      = back1 (argHn m c) (argWu m c) (argCp m c) (bAt t) (tOf (row t r)) (col t n) := by
    unfold back1
    by_cases r0 : r.val = 0
    · rw [if_pos r0]
      by_cases hi : t.val / 11 % 2 = 0
      · rw [if_pos (show (tOf (row t r)).val = 0 by omega)]
        exact head_first m c t hi 1 n
      · rw [if_neg (show ¬ (tOf (row t r)).val = 0 by omega)]
        refine (head_later m c t hi 1 n).trans ?_
        exact congrArg (fun p => up (argHn m c) (argWu m c) (bAt t) p (lo (col t n))) (Fin.ext (by show 1022 + 1 = (tOf (row t r)).val - 1; omega))
    · rw [if_neg r0, if_neg (show ¬ (tOf (row t r)).val = 0 by omega)]
      exact ug_apply m c t _ n _ _ (by show (t.val / 11 * 1024 + (r.val + 1024 - 1) % 1024) / 2048 = t.val / 22; omega)
        (by show (t.val / 11 * 1024 + (r.val + 1024 - 1) % 1024) % 2048 = (tOf (row t r)).val - 1; omega)
  have h0 : (if r.val = 0 then (k0_pay8 (F := Ideal) (grid0.coords t) (iblk m c 5 t) (prevAt m c t) : FVec Ideal S8x512 .f32) (ix2 6 n)
      else if r.val = 1 then (k0_pay8 (F := Ideal) (grid0.coords t) (iblk m c 5 t) (prevAt m c t) : FVec Ideal S8x512 .f32) (ix2 7 n)
      else (ugAt m c t : FVec Ideal S1024x512 .f32) (ix2 (⟨(r.val + 1024 - 2) % 1024, Nat.mod_lt _ (by decide)⟩ : Fin 1024) n))
      = back2 (argHn m c) (argWu m c) (argCp m c) (bAt t) (tOf (row t r)) (col t n) := by
    unfold back2
    by_cases r0 : r.val = 0
    · rw [if_pos r0]
      by_cases hi : t.val / 11 % 2 = 0
      · rw [if_pos (show (tOf (row t r)).val = 0 by omega)]
        exact head_first m c t hi 0 n
      · rw [if_neg (show ¬ (tOf (row t r)).val = 0 by omega), if_neg (show ¬ (tOf (row t r)).val = 1 by omega)]
        refine (head_later m c t hi 0 n).trans ?_
        exact congrArg (fun p => up (argHn m c) (argWu m c) (bAt t) p (lo (col t n))) (Fin.ext (by show 1022 + 0 = (tOf (row t r)).val - 2; omega))
    · rw [if_neg r0, if_neg (show ¬ (tOf (row t r)).val = 0 by omega)]
      by_cases r1 : r.val = 1
      · rw [if_pos r1]
        by_cases hi : t.val / 11 % 2 = 0
        · rw [if_pos (show (tOf (row t r)).val = 1 by omega)]
          exact head_first m c t hi 1 n
        · rw [if_neg (show ¬ (tOf (row t r)).val = 1 by omega)]
          refine (head_later m c t hi 1 n).trans ?_
          exact congrArg (fun p => up (argHn m c) (argWu m c) (bAt t) p (lo (col t n))) (Fin.ext (by show 1022 + 1 = (tOf (row t r)).val - 2; omega))
      · rw [if_neg r1, if_neg (show ¬ (tOf (row t r)).val = 1 by omega)]
        exact ug_apply m c t _ n _ _ (by show (t.val / 11 * 1024 + (r.val + 1024 - 2) % 1024) / 2048 = t.val / 22; omega)
          (by show (t.val / 11 * 1024 + (r.val + 1024 - 2) % 1024) % 2048 = (tOf (row t r)).val - 2; omega)
  rw [h0, h1, h2]

/-! ## The sum over the hidden blocks -/

/-- The share of hidden block `q` in an output entry. -/
def part (g : Fin 16384) (n : Fin 2048) (q : ℕ) : EReal :=
  if h : q < 11 then ∑ e : Fin 512, term (argHn m c) (argWu m c) (argCw m c) (argWd m c) (argCp m c) (bOf g) (tOf g) n
    (⟨q * 512 + e.val, by have := e.isLt; omega⟩ : Fin 5632) else 0

theorem step_apply (t : Fin cfg0.N) (o : Vec Ideal S1024x2048 .f32) (r : Fin 1024) (n : Fin 2048) :
    (stepAt m c t o : FVec Ideal S1024x2048 .f32) (ix2 r n) = o (ix2 r n) + part m c (row t r) n (t.val % 11) := by
  unfold stepAt accOf part
  rw [pay1_apply, dif_pos (Nat.mod_lt _ (by decide))]
  simp only [conv_apply, uv_apply, blk4_apply]
  rfl

theorem acc_apply : ∀ (k : ℕ) (h : k < cfg0.N) (r : Fin 1024) (n : Fin 2048),
    (accN m c k h : FVec Ideal S1024x2048 .f32) (ix2 r n) = ∑ q ∈ Finset.range (k % 11 + 1), part m c (row ⟨k, h⟩ r) n q := by
  intro k
  induction k with
  | zero =>
    intro h r n
    rw [accN_first m c ⟨0, h⟩ rfl, step_apply, pay2_apply, zero_add]
    exact (Finset.sum_range_one _).symm
  | succ k ih =>
    intro h r n
    by_cases h0 : (k + 1) % 11 = 0
    · rw [accN_first m c ⟨k + 1, h⟩ h0, step_apply, pay2_apply, zero_add]
      show part m c _ n ((k + 1) % 11) = _
      rw [h0]
      exact (Finset.sum_range_one _).symm
    · rw [accN_next m c ⟨k + 1, h⟩ h0, step_apply]
      show (accN m c k _ : FVec Ideal S1024x2048 .f32) (ix2 r n) + part m c _ n ((k + 1) % 11) = _
      rw [ih (Nat.lt_of_succ_lt h) r n, Finset.sum_range_succ _ ((k + 1) % 11)]
      have e : k % 11 + 1 = (k + 1) % 11 := by omega
      have er : row ⟨k, Nat.lt_of_succ_lt h⟩ r = row ⟨k + 1, h⟩ r := Fin.ext (by show k / 11 * 1024 + r.val = (k + 1) / 11 * 1024 + r.val; omega)
      rw [e, er]

/-- The eleven shares are the whole sum over the hidden columns. -/
theorem parts_eq (g : Fin 16384) (n : Fin 2048) :
    ∑ q ∈ Finset.range 11, part m c g n q
      = ∑ e : Fin 5632, term (argHn m c) (argWu m c) (argCw m c) (argWd m c) (argCp m c) (bOf g) (tOf g) n e := by
  rw [Finset.sum_range, ← Equiv.sum_comp (finProdFinEquiv (m := 11) (n := 512)), Fintype.sum_prod_type]
  refine Finset.sum_congr rfl fun q _ => ?_
  unfold part
  rw [dif_pos q.isLt]
  refine Finset.sum_congr rfl fun e _ => ?_
  exact congrArg _ (Fin.ext (by show q.val * 512 + e.val = e.val + 512 * q.val; omega))

/-! ## The arrays the call leaves -/

abbrev outArr : FVec Ideal S16384x2048 .f32 := fun i =>
  ∑ e : Fin 5632, term (argHn m c) (argWu m c) (argCw m c) (argWd m c) (argCp m c) (bOf (i 0)) (tOf (i 0)) (i 1) e

abbrev tailArr : FVec Ideal S16x8x5632 .f32 := fun i =>
  up (argHn m c) (argWu m c) (⟨(i 0).val / 2, by have h : (i 0).val < 16 := (i 0).isLt; omega⟩ : Fin 8)
    (⟨(i 0).val % 2 * 1024 + (1016 + (i 1).val), by have h : (i 1).val < 8 := (i 1).isLt; omega⟩ : Fin 2048) (lo (i 2))

theorem final0 : (dats m 0 c).arrAt 6 cfg0.N = outArr m c := by
  refine (dats m 0 c).arrAt_eq_of_covers 6 _ (by decide +kernel) fun t hf y => ?_
  blk_simp
  rw [after0_6]
  obtain ⟨r, n, rfl⟩ : ∃ (r : Fin 1024) (n : Fin 2048), y = ix2 r n := ⟨y 0, y 1, by funext a; fin_cases a <;> rfl⟩
  have p : ((View.whole main_v6_0).slice (win0_6.rect t)).emb (ix2 r n) = ix2 (row t r) n := by blk_ext [index6 t]
  have h10 := (flush0_6 t).mp hf
  have e : (accN m c t.val t.isLt : FVec Ideal S1024x2048 .f32) (ix2 r n) = outArr m c (ix2 (row t r) n) := by
    rw [acc_apply, h10]
    exact parts_eq m c (row t r) n
  exact e.trans (congrArg (outArr m c) p.symm)

theorem final1 : (dats m 0 c).arrAt 7 cfg0.N = tailArr m c := by
  refine (dats m 0 c).arrAt_eq_of_covers 7 _ (by decide +kernel) fun t hf y => ?_
  blk_simp
  rw [after0_7]
  have ht := lt176 t
  obtain ⟨u, a, n, rfl⟩ : ∃ (u : Fin 1) (a : Fin 8) (n : Fin 512), y = ix3 u a n := ⟨y 0, y 1, y 2, by funext a; fin_cases a <;> rfl⟩
  have p : ((View.whole main_v6_1).slice (win0_7.rect t)).emb (ix3 u a n)
      = ix3 (⟨t.val / 11, by omega⟩ : Fin 16) a (col t n) := by blk_ext [index7 t]
  have ha := a.isLt
  have e : (k0_pay11 (F := Ideal) (ugAt m c t) : FVec Ideal S1x8x512 .f32) (ix3 u a n)
      = tailArr m c (ix3 (⟨t.val / 11, by omega⟩ : Fin 16) a (col t n)) := by
    rw [pay11_apply]
    exact ug_apply m c t _ n _ _ (by show (t.val / 11 * 1024 + (1016 + a.val)) / 2048 = t.val / 11 / 2; omega)
      (by show (t.val / 11 * 1024 + (1016 + a.val)) % 2048 = t.val / 11 % 2 * 1024 + (1016 + a.val); omega)
  exact e.trans (congrArg (tailArr m c) p.symm)

/-- The reference's results of the same arguments are the same arrays. -/
theorem same0 : ref0 (argHn m c) (argWu m c) (argCw m c) (argWd m c) (argCp m c) = (dats m 0 c).arrAt 6 cfg0.N := by
  rw [final0]
  funext i
  obtain ⟨r, n, rfl⟩ : ∃ (r : Fin 16384) (n : Fin 2048), i = ix2 r n := ⟨i 0, i 1, by funext a; fin_cases a <;> rfl⟩
  rw [ref0_apply]
  rfl

theorem same1 : ref1 (argHn m c) (argWu m c) = (dats m 0 c).arrAt 7 cfg0.N := by
  rw [final1]
  funext i
  obtain ⟨r, a, n, rfl⟩ : ∃ (r : Fin 16) (a : Fin 8) (n : Fin 5632), i = ix3 r a n := ⟨i 0, i 1, i 2, by funext a; fin_cases a <;> rfl⟩
  rw [ref1_apply]
  rfl

/-- The call leaves the two arrays and its arguments as they were. -/
theorem run (g : Dev nD → PrngReg) : θ_run defs (onTc (τ := τ) (main (F := Ideal))) ⟨m, fun _ => 0, g⟩ (fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 6, (h.1 c).1 7, h.2.1 c⟩) (θ_run_and (run_main m g) (frame m g))

open Cert.Kernel3Ideal in
theorem algebraic : Cert.algebraic_Kernel3Ideal_Reference3Ideal := fun m g m' g' _ heq =>
  ⟨fun c => (Gen.dats m 0 c).arrAt 6 cfg0.N, fun c => (Gen.dats m 0 c).arrAt 7 cfg0.N,
    run m g,
    (θ_run Cert.Reference3Ideal.defs _ _).mono (fun r hr c => by
        obtain ⟨e0, e1, e2, e3, e4⟩ := heq c
        have es0 : ref0 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
            = ref0 (argHn m c) (argWu m c) (argCw m c) (argWd m c) (argCp m c) := by
          rw [e0, e1, e2, e3, e4]
        have es1 : ref1 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1))
            = ref1 (argHn m c) (argWu m c) := by
          rw [e0, e1]
        exact ⟨(hr c).1.trans ((res0_eq m' c).trans (es0.trans (same0 m c))), (hr c).2.1.trans (es1.trans (same1 m c)), (hr c).2.2⟩)
      (Cert.Reference3Ideal.Value.run (F := Ideal) m' g')⟩

end Cert.Ffn

end
-- ==== Proof.Merge.lean ====
/-
  The merge of the two branches: each branch's output through its own projection and gate, their sum through the
  output projection and added to the residual, and the root-mean-square norm of the outcome. Row by row the kernel's
  two output arrays and the reference's two results are the same two formulas.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.Mrg

/-- The root-mean-square norm of a row of 2048 numbers, scaled by `g`. -/
def rmsRow (h g : Fin 2048 → EReal) (n : Fin 2048) : EReal :=
  h n * Ideal.rsqrt (Ideal.div (∑ e : Fin 2048, h e * h e) (Ideal.ofBits .f32 0x45000000#32) + Ideal.ofBits .f32 0x358637BD#32) * g n

/-- One row of the merged residual: `yr`, `os` the branches' rows, `gr`, `gs` their gates' logits, `x` the residual. -/
def mergeRow (yr os : Fin 1024 → EReal) (gr gs x : Fin 2048 → EReal) (wr ws : Fin 1024 → Fin 2048 → EReal)
    (wo : Fin 2048 → Fin 2048 → EReal) (n : Fin 2048) : EReal :=
  x n + ∑ e : Fin 2048, (Ideal.logistic (gr e) * (∑ k : Fin 1024, yr k * wr k e)
    + Ideal.logistic (gs e) * (∑ k : Fin 1024, os k * ws k e)) * wo e n

section Kernel

open Cert.Kernel4Ideal Cert.Kernel4Ideal.Gen

variable (v0 : FVec Ideal S512x1024 .bf16) (v2 : FVec Ideal S1024x2048 .bf16) (v5 : FVec Ideal S512x1024 .bf16)
    (v7 : FVec Ideal S1024x2048 .bf16) (v10 v15 : FVec Ideal S512x2048 .bf16) (v21 : FVec Ideal S512x2048 .f32)
    (v24 : FVec Ideal S2048x2048 .bf16)

theorem pay2_apply (r : Fin 512) (n : Fin 2048) :
    (k0_pay2 (F := Ideal) v0 v2 v5 v7 v10 v15 v21 v24 : FVec Ideal S512x2048 .f32) (ix2 r n)
      = mergeRow (fun k => v0 (ix2 r k)) (fun k => v5 (ix2 r k)) (fun e => v10 (ix2 r e)) (fun e => v15 (ix2 r e))
          (fun e => v21 (ix2 r e)) (fun k e => v2 (ix2 k e)) (fun k e => v7 (ix2 k e)) (fun e n => v24 (ix2 e n)) n := by
  unfold k0_pay2 mergeRow
  pointwise

theorem pay1_apply (h : FVec Ideal S512x2048 .f32) (g : FVec Ideal S1x2048 .f32) (s : FVec Ideal S512x1 .f32) (r : Fin 512) (n : Fin 2048) :
    (k0_pay1 (F := Ideal) h (k0_pay3 g) s : FVec Ideal S512x2048 .bf16) (ix2 r n)
      = h (ix2 r n) * Ideal.rsqrt (Ideal.div (s (ix2 r 0)) (Ideal.ofBits .f32 0x45000000#32) + Ideal.ofBits .f32 0x358637BD#32) * g (ix2 0 n) := by
  unfold k0_pay1 k0_pay3
  pointwise

theorem pay4_apply (r : Fin 512) (u : Fin 1) :
    (k0_pay4 (F := Ideal) v0 v2 v5 v7 v10 v15 v21 v24 : FVec Ideal S512x1 .f32) (ix2 r u)
      = ∑ e : Fin 2048, (k0_pay2 (F := Ideal) v0 v2 v5 v7 v10 v15 v21 v24 : FVec Ideal S512x2048 .f32) (ix2 r e)
          * (k0_pay2 (F := Ideal) v0 v2 v5 v7 v10 v15 v21 v24 : FVec Ideal S512x2048 .f32) (ix2 r e) := by
  unfold k0_pay4
  generalize (k0_pay2 (F := Ideal) v0 v2 v5 v7 v10 v15 v21 v24 : FVec Ideal S512x2048 .f32) = h
  pointwise

end Kernel

section Reference

open Cert.Reference4Ideal Cert.Reference4Ideal.Gen

/-- The reference's gate: the logistic function, spelt out. -/
def gateRef (z : FVec Ideal S8x2048x2048 .f32) : FVec Ideal S8x2048x2048 .f32 :=
  Host.divf (broadcastInDim S8x2048x2048 ![] bcast_S_S8x2048x2048 (constant S_ .f32 0x3F800000#32))
    (addf (broadcastInDim S8x2048x2048 ![] bcast_S_S8x2048x2048 (constant S_ .f32 0x3F800000#32)) (Host.exp (Host.negf z)))

/-- The reference's merged residual. -/
def sumRef (yr os : FVec Ideal S8x2048x1024 .f32) (pg : FVec Ideal S8x2048x4096 .f32) (x : FVec Ideal S8x2048x2048 .f32)
    (wr ws : FVec Ideal S1024x2048 .f32) (wo : FVec Ideal S2048x2048 .f32) : FVec Ideal S8x2048x2048 .f32 :=
  addf x (Host.dotGeneral dot_S8x2048x2048_S2048x2048_S8x2048x2048_2_0_01_1_n_n none
    (addf (mulf (gateRef (extractStridedSlice S8x2048x2048 ![0, 0, 0] pg slices_S8x2048x4096_S8x2048x2048_0_0_0))
        (Host.dotGeneral dot_S8x2048x1024_S1024x2048_S8x2048x2048_2_0_01_1_n_n none yr wr))
      (mulf (gateRef (extractStridedSlice S8x2048x2048 ![0, 0, 2048] pg slices_S8x2048x4096_S8x2048x2048_0_0_2048))
        (Host.dotGeneral dot_S8x2048x1024_S1024x2048_S8x2048x2048_2_0_01_1_n_n none os ws))) wo)

/-- The reference's norm. -/
def normRef (h : FVec Ideal S8x2048x2048 .f32) (g : FVec Ideal S2048 .f32) : FVec Ideal S8x2048x2048 .f32 :=
  mulf (mulf h (broadcastInDim S8x2048x2048 ![0, 1, 2] bcast_S8x2048x1_S8x2048x2048_0_1_2
      (Host.rsqrt (addf (Host.divf (broadcastInDim S8x2048x1 ![0, 1] bcast_S8x2048_S8x2048x1_0_1
          (Host.reduceAdd (mulf h h) (constant S_ .f32 0x00000000#32) reducesTo_S8x2048x2048_S8x2048_d2 h_S_))
        (broadcastInDim S8x2048x1 ![] bcast_S_S8x2048x1 (constant S_ .f32 0x45000000#32)))
        (broadcastInDim S8x2048x1 ![] bcast_S_S8x2048x1 (constant S_ .f32 0x358637BD#32))))))
    (broadcastInDim S8x2048x2048 ![0, 1, 2] bcast_S1x1x2048_S8x2048x2048_0_1_2 (broadcastInDim S1x1x2048 ![2] bcast_S2048_S1x1x2048_2 g))

/-- The reference's two results. -/
def ref0 (h : FVec Ideal S8x2048x2048 .f32) : FVec Ideal S16384x2048 .f32 := shapeCast _ h shapeCasts_S8x2048x2048_S16384x2048

def ref1 (h : FVec Ideal S8x2048x2048 .f32) (g : FVec Ideal S2048 .f32) : FVec Ideal S16384x2048 .bf16 :=
  truncf .bf16 (shapeCast _ (normRef h g) shapeCasts_S8x2048x2048_S16384x2048) bitsLt_bf16_f32

theorem gateRef_apply (z : FVec Ideal S8x2048x2048 .f32) (b : Fin 8) (t n : Fin 2048) :
    gateRef z (ix3 b t n) = Ideal.logistic (z (ix3 b t n)) := by
  unfold gateRef Ideal.logistic
  pointwise

theorem sumRef_apply (yr os : FVec Ideal S8x2048x1024 .f32) (pg : FVec Ideal S8x2048x4096 .f32) (x : FVec Ideal S8x2048x2048 .f32)
    (wr ws : FVec Ideal S1024x2048 .f32) (wo : FVec Ideal S2048x2048 .f32) (b : Fin 8) (t n : Fin 2048) :
    sumRef yr os pg x wr ws wo (ix3 b t n)
      = mergeRow (fun k => yr (ix3 b t k)) (fun k => os (ix3 b t k))
          (fun e => pg (ix3 b t (⟨e.val, by have := e.isLt; omega⟩ : Fin 4096))) (fun e => pg (ix3 b t (⟨2048 + e.val, by have := e.isLt; omega⟩ : Fin 4096)))
          (fun e => x (ix3 b t e)) (fun k e => wr (ix2 k e)) (fun k e => ws (ix2 k e)) (fun e n => wo (ix2 e n)) n := by
  unfold sumRef mergeRow
  pointwise [gateRef_apply]

theorem normRef_apply (h : FVec Ideal S8x2048x2048 .f32) (g : FVec Ideal S2048 .f32) (b : Fin 8) (t n : Fin 2048) :
    normRef h g (ix3 b t n) = rmsRow (fun e => h (ix3 b t e)) (fun e => g (ix1 e)) n := by
  unfold normRef rmsRow
  pointwise

theorem ref0_apply (h : FVec Ideal S8x2048x2048 .f32) (r : Fin 16384) (n : Fin 2048) :
    ref0 h (ix2 r n) = h (ix3 (⟨r.val / 2048, by have := r.isLt; omega⟩ : Fin 8) (⟨r.val % 2048, by omega⟩ : Fin 2048) n) := by
  unfold ref0
  pointwise

theorem ref1_apply (h : FVec Ideal S8x2048x2048 .f32) (g : FVec Ideal S2048 .f32) (r : Fin 16384) (n : Fin 2048) :
    ref1 h g (ix2 r n) = normRef h g (ix3 (⟨r.val / 2048, by have := r.isLt; omega⟩ : Fin 8) (⟨r.val % 2048, by omega⟩ : Fin 2048) n) := by
  unfold ref1
  pointwise

variable (m : (ℓ : Loc nD τ sig) → Buf (Elt Ideal) ℓ) (c : Dev nD)

theorem res1_eq : Value.res_main_v36 m c = ref1 (sumRef (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))) (m ((c.tc : Thread nD τ).loc main_arg7)) := rfl

end Reference

section Blocks

open Cert.Kernel4Ideal Cert.Kernel4Ideal.Gen

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 1] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![t.val, 0] := by decide +kernel
theorem index10 : ∀ t : Fin cfg0.N, win0_10.index t = ![t.val, 0] := by decide +kernel

/-- The row of the arrays that row `r` of grid step `t`'s blocks is. -/
abbrev row (t : Fin cfg0.N) (r : Fin 512) : Fin 16384 :=
  ⟨t.val * 512 + r.val, by have h := t.isLt; have hN : cfg0.N = 32 := N_0; have := r.isLt; omega⟩

abbrev bOf (r : Fin 16384) : Fin 8 := ⟨r.val / 2048, by have := r.isLt; omega⟩
abbrev tOf (r : Fin 16384) : Fin 2048 := ⟨r.val % 2048, by omega⟩

abbrev argYr : FVec Ideal S8x2048x1024 .f32 := m ((c : Thread nD τ).loc main_arg0)
abbrev argOs : FVec Ideal S8x2048x1024 .f32 := m ((c : Thread nD τ).loc main_arg1)
abbrev argPg : FVec Ideal S8x2048x4096 .f32 := m ((c : Thread nD τ).loc main_arg2)
abbrev argX : FVec Ideal S8x2048x2048 .f32 := m ((c : Thread nD τ).loc main_arg3)
abbrev argWr : FVec Ideal S1024x2048 .f32 := m ((c : Thread nD τ).loc main_arg4)
abbrev argWs : FVec Ideal S1024x2048 .f32 := m ((c : Thread nD τ).loc main_arg5)
abbrev argWo : FVec Ideal S2048x2048 .f32 := m ((c : Thread nD τ).loc main_arg6)
abbrev argG : FVec Ideal S2048 .f32 := m ((c : Thread nD τ).loc main_arg7)

theorem blk0_apply (t : Fin cfg0.N) (r : Fin 512) (k : Fin 1024) :
    (iblk m c 0 t : FVec Ideal S512x1024 .bf16) (ix2 r k) = argYr m c (ix3 (bOf (row t r)) (tOf (row t r)) k) := by
  have h : (iblk m c 0 t : FVec Ideal S512x1024 .bf16) (ix2 r k) = (Gen.V m c main_v1 : FVec Ideal S16384x1024 .bf16) (ix2 (row t r) k) := by
    blk_ext [iblk, index0 t]
  rw [h]
  entry_read
  pointwise
  try rfl

theorem blk1_apply (t : Fin cfg0.N) (r : Fin 512) (k : Fin 1024) :
    (iblk m c 1 t : FVec Ideal S512x1024 .bf16) (ix2 r k) = argOs m c (ix3 (bOf (row t r)) (tOf (row t r)) k) := by
  have h : (iblk m c 1 t : FVec Ideal S512x1024 .bf16) (ix2 r k) = (Gen.V m c main_v3 : FVec Ideal S16384x1024 .bf16) (ix2 (row t r) k) := by
    blk_ext [iblk, index1 t]
  rw [h]
  entry_read
  pointwise
  try rfl

theorem blk2_apply (t : Fin cfg0.N) (r : Fin 512) (e : Fin 2048) :
    (iblk m c 2 t : FVec Ideal S512x2048 .bf16) (ix2 r e) = argPg m c (ix3 (bOf (row t r)) (tOf (row t r)) (⟨e.val, by have := e.isLt; omega⟩ : Fin 4096)) := by
  have h : (iblk m c 2 t : FVec Ideal S512x2048 .bf16) (ix2 r e) = (Gen.V m c main_v5 : FVec Ideal S16384x4096 .bf16) (ix2 (row t r) (⟨e.val, by have := e.isLt; omega⟩ : Fin 4096)) := by
    blk_ext [iblk, index2 t]
  rw [h]
  entry_read
  pointwise
  try rfl

theorem blk3_apply (t : Fin cfg0.N) (r : Fin 512) (e : Fin 2048) :
    (iblk m c 3 t : FVec Ideal S512x2048 .bf16) (ix2 r e) = argPg m c (ix3 (bOf (row t r)) (tOf (row t r)) (⟨2048 + e.val, by have := e.isLt; omega⟩ : Fin 4096)) := by
  have h : (iblk m c 3 t : FVec Ideal S512x2048 .bf16) (ix2 r e) = (Gen.V m c main_v5 : FVec Ideal S16384x4096 .bf16) (ix2 (row t r) (⟨2048 + e.val, by have := e.isLt; omega⟩ : Fin 4096)) := by
    blk_ext [iblk, index3 t]
  rw [h]
  entry_read
  pointwise
  try rfl

theorem blk4_apply (t : Fin cfg0.N) (r : Fin 512) (e : Fin 2048) :
    (iblk m c 4 t : FVec Ideal S512x2048 .f32) (ix2 r e) = argX m c (ix3 (bOf (row t r)) (tOf (row t r)) e) := by
  have h : (iblk m c 4 t : FVec Ideal S512x2048 .f32) (ix2 r e) = (Gen.V m c main_v6 : FVec Ideal S16384x2048 .f32) (ix2 (row t r) e) := by
    blk_ext [iblk, index4 t]
  rw [h]
  entry_read
  pointwise
  try rfl

theorem blk5_apply (t : Fin cfg0.N) (r : Fin 1024) (e : Fin 2048) :
    (iblk m c 5 t : FVec Ideal S1024x2048 .bf16) (ix2 r e) = argWr m c (ix2 r e) := by
  have h : (iblk m c 5 t : FVec Ideal S1024x2048 .bf16) (ix2 r e) = (Gen.V m c main_v7 : FVec Ideal S1024x2048 .bf16) (ix2 r e) := by
    blk_ext [iblk, index5 t]
  rw [h]
  entry_read
  pointwise
  try rfl

theorem blk6_apply (t : Fin cfg0.N) (r : Fin 1024) (e : Fin 2048) :
    (iblk m c 6 t : FVec Ideal S1024x2048 .bf16) (ix2 r e) = argWs m c (ix2 r e) := by
  have h : (iblk m c 6 t : FVec Ideal S1024x2048 .bf16) (ix2 r e) = (Gen.V m c main_v8 : FVec Ideal S1024x2048 .bf16) (ix2 r e) := by
    blk_ext [iblk, index6 t]
  rw [h]
  entry_read
  pointwise
  try rfl

theorem blk7_apply (t : Fin cfg0.N) (r : Fin 2048) (e : Fin 2048) :
    (iblk m c 7 t : FVec Ideal S2048x2048 .bf16) (ix2 r e) = argWo m c (ix2 r e) := by
  have h : (iblk m c 7 t : FVec Ideal S2048x2048 .bf16) (ix2 r e) = (Gen.V m c main_v9 : FVec Ideal S2048x2048 .bf16) (ix2 r e) := by
    blk_ext [iblk, index7 t]
  rw [h]
  entry_read
  pointwise
  try rfl

theorem blk8_apply (t : Fin cfg0.N) (r : Fin 1) (e : Fin 2048) :
    (iblk m c 8 t : FVec Ideal S1x2048 .f32) (ix2 r e) = argG m c (ix1 e) := by
  have h : (iblk m c 8 t : FVec Ideal S1x2048 .f32) (ix2 r e) = (Gen.V m c main_v10 : FVec Ideal S1x2048 .f32) (ix2 r e) := by
    blk_ext [iblk, index8 t]
  rw [h]
  entry_read
  pointwise
  try rfl

/-- The merged residual and its norm, as arrays of 16384 rows. -/
abbrev hArr : FVec Ideal S16384x2048 .f32 := fun i => mergeRow (fun k => argYr m c (ix3 (bOf (i 0)) (tOf (i 0)) k))
  (fun k => argOs m c (ix3 (bOf (i 0)) (tOf (i 0)) k))
  (fun e => argPg m c (ix3 (bOf (i 0)) (tOf (i 0)) (⟨e.val, by have := e.isLt; omega⟩ : Fin 4096)))
  (fun e => argPg m c (ix3 (bOf (i 0)) (tOf (i 0)) (⟨2048 + e.val, by have := e.isLt; omega⟩ : Fin 4096)))
  (fun e => argX m c (ix3 (bOf (i 0)) (tOf (i 0)) e)) (fun k e => argWr m c (ix2 k e)) (fun k e => argWs m c (ix2 k e))
  (fun e n => argWo m c (ix2 e n)) (i 1)

abbrev hnArr : FVec Ideal S16384x2048 .bf16 := fun i => rmsRow (fun e => hArr m c (ix2 (i 0) e)) (fun e => argG m c (ix1 e)) (i 1)

theorem step0 (t : Fin cfg0.N) (r : Fin 512) (n : Fin 2048) :
    (k0_pay2 (F := Ideal) (iblk m c 0 t) (iblk m c 5 t) (iblk m c 1 t) (iblk m c 6 t) (iblk m c 2 t) (iblk m c 3 t) (iblk m c 4 t) (iblk m c 7 t)
      : FVec Ideal S512x2048 .f32) (ix2 r n) = hArr m c (ix2 (row t r) n) := by
  rw [pay2_apply]
  simp only [blk0_apply, blk1_apply, blk2_apply, blk3_apply, blk4_apply, blk5_apply, blk6_apply, blk7_apply]
  rfl

theorem step1 (t : Fin cfg0.N) (r : Fin 512) (n : Fin 2048) :
    (k0_pay1 (F := Ideal) (k0_pay2 (iblk m c 0 t) (iblk m c 5 t) (iblk m c 1 t) (iblk m c 6 t) (iblk m c 2 t) (iblk m c 3 t) (iblk m c 4 t) (iblk m c 7 t))
        (k0_pay3 (iblk m c 8 t))
        (k0_pay4 (iblk m c 0 t) (iblk m c 5 t) (iblk m c 1 t) (iblk m c 6 t) (iblk m c 2 t) (iblk m c 3 t) (iblk m c 4 t) (iblk m c 7 t))
      : FVec Ideal S512x2048 .bf16) (ix2 r n) = hnArr m c (ix2 (row t r) n) := by
  rw [pay1_apply, pay4_apply]
  simp only [step0, blk8_apply]
  rfl

theorem final0 : (dats m 0 c).arrAt 9 cfg0.N = hArr m c := by
  refine (dats m 0 c).arrAt_eq_of_covers 9 _ (by decide +kernel) fun t hf y => ?_
  blk_simp
  rw [after0_9]
  frame_out
  obtain ⟨r, n, rfl⟩ : ∃ (r : Fin 512) (n : Fin 2048), y = ix2 r n := ⟨y 0, y 1, by funext a; fin_cases a <;> rfl⟩
  have p : ((View.whole main_v11_0).slice (win0_9.rect t)).emb (ix2 r n) = ix2 (row t r) n := by blk_ext [index9 t]
  exact (step0 m c t r n).trans (congrArg (hArr m c) p.symm)

theorem final1 : (dats m 0 c).arrAt 10 cfg0.N = hnArr m c := by
  refine (dats m 0 c).arrAt_eq_of_covers 10 _ (by decide +kernel) fun t hf y => ?_
  blk_simp
  rw [after0_10]
  frame_out
  obtain ⟨r, n, rfl⟩ : ∃ (r : Fin 512) (n : Fin 2048), y = ix2 r n := ⟨y 0, y 1, by funext a; fin_cases a <;> rfl⟩
  have p : ((View.whole main_v11_1).slice (win0_10.rect t)).emb (ix2 r n) = ix2 (row t r) n := by blk_ext [index10 t]
  exact (step1 m c t r n).trans (congrArg (hnArr m c) p.symm)

/-- The reference's results of the same arguments are the same arrays. -/
theorem same0 : ref0 (sumRef (argYr m c) (argOs m c) (argPg m c) (argX m c) (argWr m c) (argWs m c) (argWo m c)) = (dats m 0 c).arrAt 9 cfg0.N := by
  rw [final0]
  funext i
  obtain ⟨r, n, rfl⟩ : ∃ (r : Fin 16384) (n : Fin 2048), i = ix2 r n := ⟨i 0, i 1, by funext a; fin_cases a <;> rfl⟩
  rw [ref0_apply, sumRef_apply]
  rfl

theorem same1 : ref1 (sumRef (argYr m c) (argOs m c) (argPg m c) (argX m c) (argWr m c) (argWs m c) (argWo m c)) (argG m c)
    = (dats m 0 c).arrAt 10 cfg0.N := by
  rw [final1]
  funext i
  obtain ⟨r, n, rfl⟩ : ∃ (r : Fin 16384) (n : Fin 2048), i = ix2 r n := ⟨i 0, i 1, by funext a; fin_cases a <;> rfl⟩
  rw [ref1_apply, normRef_apply]
  simp only [sumRef_apply]
  rfl

end Blocks

open Cert.Kernel4Ideal in
theorem algebraic : Cert.algebraic_Kernel4Ideal_Reference4Ideal := fun m g m' g' _ heq =>
  ⟨fun c => (Gen.dats m 0 c).arrAt 9 cfg0.N, fun c => (Gen.dats m 0 c).arrAt 10 cfg0.N,
    Value.run_blocks m g,
    (θ_run Cert.Reference4Ideal.defs _ _).mono (fun r hr c => by
        obtain ⟨e0, e1, e2, e3, e4, e5, e6, e7⟩ := heq c
        have es : sumRef (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))
            = sumRef (argYr m c) (argOs m c) (argPg m c) (argX m c) (argWr m c) (argWs m c) (argWo m c) := by
          rw [e0, e1, e2, e3, e4, e5, e6]
        have h0 : r.2.mem ((c.tc : Thread Cert.Reference4Ideal.nD Cert.Reference4Ideal.τ).loc Cert.Reference4Ideal.main_v34)
            = ref0 (sumRef (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6))) := (hr c).1
        refine ⟨h0.trans ((congrArg ref0 es).trans (same0 m c)), (hr c).2.1.trans ((res1_eq m' c).trans (Eq.trans ?_ (same1 m c))), (hr c).2.2⟩
        exact congr (congrArg ref1 es) e7)
      (Cert.Reference4Ideal.Value.run (F := Ideal) m' g')⟩

end Cert.Mrg
-- ==== Proof.Output.lean ====
/-
  The layer's last step: the feed-forward output added to the residual, the per-layer embedding's projection gated by
  the residual's norm added to that, and the final norm. Row by row the kernel's output array and the reference's
  result are the same formula.
-/
module

public import proofs.«01_k».proof.Defs
public import proofs.«01_k».proof.Proof.Merge
public import proofs.«01_k».proof.Proof.Gen.Kernel5Ideal.Value
public import proofs.«01_k».proof.Proof.Gen.Reference5Ideal.Run

@[expose] public section

set_option maxRecDepth 16384

noncomputable section

open Idealize.ShloMosaic Idealize.ShloMosaic.TcCoe Idealize.SL.Sem
open Idealize.ShloMosaic.Pipeline (Dat)

namespace Cert.Out

open Cert.Mrg (rmsRow gateRef normRef ref0)

/-- One row of the residual before the final norm: `h` the residual, `f` the feed-forward output, `pe` the embedding. -/
def embRow (h f : Fin 2048 → EReal) (pe : Fin 256 → EReal) (we : Fin 256 → Fin 2048 → EReal) (wg : Fin 2048 → Fin 2048 → EReal)
    (g : Fin 2048 → EReal) (n : Fin 2048) : EReal :=
  (h n + f n) + (∑ k : Fin 256, pe k * we k n) * Ideal.logistic (∑ e : Fin 2048, rmsRow (fun n => h n + f n) g e * wg e n)

section Kernel

open Cert.Kernel5Ideal Cert.Kernel5Ideal.Gen

variable (v0 v2 : FVec Ideal S512x2048 .f32) (v5 : FVec Ideal S1x2048 .f32) (v20 : FVec Ideal S2048x2048 .bf16)
    (v24 : FVec Ideal S512x256 .f32) (v27 : FVec Ideal S256x2048 .bf16)

theorem pay2_apply (r : Fin 512) (n : Fin 2048) :
    (k0_pay2 (F := Ideal) v0 v2 v5 v20 v24 v27 : FVec Ideal S512x2048 .f32) (ix2 r n)
      = embRow (fun e => v0 (ix2 r e)) (fun e => v2 (ix2 r e)) (fun k => v24 (ix2 r k)) (fun k e => v27 (ix2 k e))
          (fun e n => v20 (ix2 e n)) (fun e => v5 (ix2 0 e)) n := by
  unfold k0_pay2 embRow rmsRow
  pointwise

theorem pay1_apply (h : FVec Ideal S512x2048 .f32) (g : FVec Ideal S1x2048 .f32) (s : FVec Ideal S512x1 .f32) (r : Fin 512) (n : Fin 2048) :
    (k0_pay1 (F := Ideal) h (k0_pay3 g) s k0_pay5 : FVec Ideal S512x2048 .f32) (ix2 r n)
      = h (ix2 r n) * Ideal.rsqrt (Ideal.div (s (ix2 r 0)) (Ideal.ofBits .f32 0x45000000#32) + Ideal.ofBits .f32 0x358637BD#32) * g (ix2 0 n) := by
  unfold k0_pay1 k0_pay3 k0_pay5
  pointwise

theorem pay4_apply (r : Fin 512) (u : Fin 1) :
    (k0_pay4 (F := Ideal) v0 v2 v5 v20 v24 v27 : FVec Ideal S512x1 .f32) (ix2 r u)
      = ∑ e : Fin 2048, (k0_pay2 (F := Ideal) v0 v2 v5 v20 v24 v27 : FVec Ideal S512x2048 .f32) (ix2 r e)
          * (k0_pay2 (F := Ideal) v0 v2 v5 v20 v24 v27 : FVec Ideal S512x2048 .f32) (ix2 r e) := by
  unfold k0_pay4
  generalize (k0_pay2 (F := Ideal) v0 v2 v5 v20 v24 v27 : FVec Ideal S512x2048 .f32) = h
  pointwise

end Kernel

section Reference

open Cert.Reference5Ideal Cert.Reference5Ideal.Gen

/-- The reference's residual before the final norm. -/
def embRef (h f : FVec Ideal S8x2048x2048 .f32) (pe : FVec Ideal S8x2048x256 .f32) (we : FVec Ideal S256x2048 .f32)
    (wg : FVec Ideal S2048x2048 .f32) (g : FVec Ideal S2048 .f32) : FVec Ideal S8x2048x2048 .f32 :=
  addf (addf h f) (mulf (Host.dotGeneral dot_S8x2048x256_S256x2048_S8x2048x2048_2_0_01_1_n_n none pe we)
    (gateRef (Host.dotGeneral dot_S8x2048x2048_S2048x2048_S8x2048x2048_2_0_01_1_n_n none (normRef (addf h f) g) wg)))

theorem embRef_apply (h f : FVec Ideal S8x2048x2048 .f32) (pe : FVec Ideal S8x2048x256 .f32) (we : FVec Ideal S256x2048 .f32)
    (wg : FVec Ideal S2048x2048 .f32) (g : FVec Ideal S2048 .f32) (b : Fin 8) (t n : Fin 2048) :
    embRef h f pe we wg g (ix3 b t n) = embRow (fun e => h (ix3 b t e)) (fun e => f (ix3 b t e)) (fun k => pe (ix3 b t k))
      (fun k e => we (ix2 k e)) (fun e n => wg (ix2 e n)) (fun e => g (ix1 e)) n := by
  unfold embRef embRow
  pointwise [Cert.Mrg.gateRef_apply, Cert.Mrg.normRef_apply]
  try rfl

variable (m : (ℓ : Loc nD τ sig) → Buf (Elt Ideal) ℓ) (c : Dev nD)

theorem res_eq : Value.res_main_v37 m c = ref0 (normRef (embRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) := rfl

end Reference

section Blocks

open Cert.Kernel5Ideal Cert.Kernel5Ideal.Gen

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel

/-- The row of the arrays that row `r` of grid step `t`'s blocks is. -/
abbrev row (t : Fin cfg0.N) (r : Fin 512) : Fin 16384 :=
  ⟨t.val * 512 + r.val, by have h := t.isLt; have hN : cfg0.N = 32 := N_0; have := r.isLt; omega⟩

abbrev bOf (r : Fin 16384) : Fin 8 := ⟨r.val / 2048, by have := r.isLt; omega⟩
abbrev tOf (r : Fin 16384) : Fin 2048 := ⟨r.val % 2048, by omega⟩

abbrev argH : FVec Ideal S8x2048x2048 .f32 := m ((c : Thread nD τ).loc main_arg0)
abbrev argF : FVec Ideal S8x2048x2048 .f32 := m ((c : Thread nD τ).loc main_arg1)
abbrev argPe : FVec Ideal S8x2048x256 .f32 := m ((c : Thread nD τ).loc main_arg2)
abbrev argWe : FVec Ideal S256x2048 .f32 := m ((c : Thread nD τ).loc main_arg3)
abbrev argWg : FVec Ideal S2048x2048 .f32 := m ((c : Thread nD τ).loc main_arg4)
abbrev argGe : FVec Ideal S2048 .f32 := m ((c : Thread nD τ).loc main_arg5)
abbrev argGf : FVec Ideal S2048 .f32 := m ((c : Thread nD τ).loc main_arg6)

theorem blk0_apply (t : Fin cfg0.N) (r : Fin 512) (e : Fin 2048) :
    (iblk m c 0 t : FVec Ideal S512x2048 .f32) (ix2 r e) = argH m c (ix3 (bOf (row t r)) (tOf (row t r)) e) := by
  have h : (iblk m c 0 t : FVec Ideal S512x2048 .f32) (ix2 r e) = (Gen.V m c main_v0 : FVec Ideal S16384x2048 .f32) (ix2 (row t r) e) := by
    blk_ext [iblk, index0 t]
  rw [h]
  entry_read
  pointwise

theorem blk1_apply (t : Fin cfg0.N) (r : Fin 512) (e : Fin 2048) :
    (iblk m c 1 t : FVec Ideal S512x2048 .f32) (ix2 r e) = argF m c (ix3 (bOf (row t r)) (tOf (row t r)) e) := by
  have h : (iblk m c 1 t : FVec Ideal S512x2048 .f32) (ix2 r e) = (Gen.V m c main_v1 : FVec Ideal S16384x2048 .f32) (ix2 (row t r) e) := by
    blk_ext [iblk, index1 t]
  rw [h]
  entry_read
  pointwise

theorem blk2_apply (t : Fin cfg0.N) (r : Fin 512) (k : Fin 256) :
    (iblk m c 2 t : FVec Ideal S512x256 .f32) (ix2 r k) = argPe m c (ix3 (bOf (row t r)) (tOf (row t r)) k) := by
  have h : (iblk m c 2 t : FVec Ideal S512x256 .f32) (ix2 r k) = (Gen.V m c main_v2 : FVec Ideal S16384x256 .f32) (ix2 (row t r) k) := by
    blk_ext [iblk, index2 t]
  rw [h]
  entry_read
  pointwise

theorem blk3_apply (t : Fin cfg0.N) (r : Fin 256) (e : Fin 2048) :
    (iblk m c 3 t : FVec Ideal S256x2048 .bf16) (ix2 r e) = argWe m c (ix2 r e) := by
  have h : (iblk m c 3 t : FVec Ideal S256x2048 .bf16) (ix2 r e) = (Gen.V m c main_v3 : FVec Ideal S256x2048 .bf16) (ix2 r e) := by
    blk_ext [iblk, index3 t]
  rw [h]
  entry_read
  pointwise

theorem blk4_apply (t : Fin cfg0.N) (r : Fin 2048) (e : Fin 2048) :
    (iblk m c 4 t : FVec Ideal S2048x2048 .bf16) (ix2 r e) = argWg m c (ix2 r e) := by
  have h : (iblk m c 4 t : FVec Ideal S2048x2048 .bf16) (ix2 r e) = (Gen.V m c main_v4 : FVec Ideal S2048x2048 .bf16) (ix2 r e) := by
    blk_ext [iblk, index4 t]
  rw [h]
  entry_read
  pointwise

theorem blk5_apply (t : Fin cfg0.N) (r : Fin 1) (e : Fin 2048) :
    (iblk m c 5 t : FVec Ideal S1x2048 .f32) (ix2 r e) = argGe m c (ix1 e) := by
  have h : (iblk m c 5 t : FVec Ideal S1x2048 .f32) (ix2 r e) = (Gen.V m c main_v5 : FVec Ideal S1x2048 .f32) (ix2 r e) := by
    blk_ext [iblk, index5 t]
  rw [h]
  entry_read
  pointwise

theorem blk6_apply (t : Fin cfg0.N) (r : Fin 1) (e : Fin 2048) :
    (iblk m c 6 t : FVec Ideal S1x2048 .f32) (ix2 r e) = argGf m c (ix1 e) := by
  have h : (iblk m c 6 t : FVec Ideal S1x2048 .f32) (ix2 r e) = (Gen.V m c main_v6 : FVec Ideal S1x2048 .f32) (ix2 r e) := by
    blk_ext [iblk, index6 t]
  rw [h]
  entry_read
  pointwise

/-- The residual before the final norm, and the output, as arrays of 16384 rows. -/
abbrev eArr : FVec Ideal S16384x2048 .f32 := fun i => embRow (fun e => argH m c (ix3 (bOf (i 0)) (tOf (i 0)) e))
  (fun e => argF m c (ix3 (bOf (i 0)) (tOf (i 0)) e)) (fun k => argPe m c (ix3 (bOf (i 0)) (tOf (i 0)) k))
  (fun k e => argWe m c (ix2 k e)) (fun e n => argWg m c (ix2 e n)) (fun e => argGe m c (ix1 e)) (i 1)

abbrev yArr : FVec Ideal S16384x2048 .f32 := fun i => rmsRow (fun e => eArr m c (ix2 (i 0) e)) (fun e => argGf m c (ix1 e)) (i 1)

theorem step0 (t : Fin cfg0.N) (r : Fin 512) (n : Fin 2048) :
    (k0_pay2 (F := Ideal) (iblk m c 0 t) (iblk m c 1 t) (iblk m c 5 t) (iblk m c 4 t) (iblk m c 2 t) (iblk m c 3 t) : FVec Ideal S512x2048 .f32) (ix2 r n) = eArr m c (ix2 (row t r) n) := by
  rw [pay2_apply]
  simp only [blk0_apply, blk1_apply, blk2_apply, blk3_apply, blk4_apply, blk5_apply]
  rfl

theorem step1 (t : Fin cfg0.N) (r : Fin 512) (n : Fin 2048) :
    (k0_pay1 (F := Ideal) (k0_pay2 (iblk m c 0 t) (iblk m c 1 t) (iblk m c 5 t) (iblk m c 4 t) (iblk m c 2 t) (iblk m c 3 t))
        (k0_pay3 (iblk m c 6 t))
        (k0_pay4 (iblk m c 0 t) (iblk m c 1 t) (iblk m c 5 t) (iblk m c 4 t) (iblk m c 2 t) (iblk m c 3 t)) k0_pay5
      : FVec Ideal S512x2048 .f32) (ix2 r n) = yArr m c (ix2 (row t r) n) := by
  rw [pay1_apply, pay4_apply]
  simp only [step0, blk6_apply]
  rfl

theorem final : (dats m 0 c).arrAt 7 cfg0.N = yArr m c := by
  refine (dats m 0 c).arrAt_eq_of_covers 7 _ (by decide +kernel) fun t hf y => ?_
  blk_simp
  rw [after0_7]
  frame_out
  obtain ⟨r, n, rfl⟩ : ∃ (r : Fin 512) (n : Fin 2048), y = ix2 r n := ⟨y 0, y 1, by funext a; fin_cases a <;> rfl⟩
  have p : ((View.whole main_v7).slice (win0_7.rect t)).emb (ix2 r n) = ix2 (row t r) n := by blk_ext [index7 t]
  exact (step1 m c t r n).trans (congrArg (yArr m c) p.symm)

/-- The reference's result of the same arguments is the same array. -/
theorem same : ref0 (normRef (embRef (argH m c) (argF m c) (argPe m c) (argWe m c) (argWg m c) (argGe m c)) (argGf m c)) = (dats m 0 c).arrAt 7 cfg0.N := by
  rw [final]
  funext i
  obtain ⟨r, n, rfl⟩ : ∃ (r : Fin 16384) (n : Fin 2048), i = ix2 r n := ⟨i 0, i 1, by funext a; fin_cases a <;> rfl⟩
  rw [Cert.Mrg.ref0_apply, Cert.Mrg.normRef_apply]
  simp only [embRef_apply]
  rfl

end Blocks

open Cert.Kernel5Ideal in
theorem algebraic : Cert.algebraic_Kernel5Ideal_Reference5Ideal := fun m g m' g' _ heq =>
  ⟨fun c => (Gen.dats m 0 c).arrAt 7 cfg0.N, Value.run_blocks m g,
    (θ_run Cert.Reference5Ideal.defs _ _).mono (fun r hr c => by
        obtain ⟨e0, e1, e2, e3, e4, e5, e6⟩ := heq c
        have es : embRef (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))
            = embRef (argH m c) (argF m c) (argPe m c) (argWe m c) (argWg m c) (argGe m c) := by
          rw [e0, e1, e2, e3, e4, e5]
        refine ⟨(hr c).1.trans ((res_eq m' c).trans (Eq.trans ?_ (same m c))), (hr c).2⟩
        exact congrArg ref0 (congr (congrArg normRef es) e6))
      (Cert.Reference5Ideal.Value.run (F := Ideal) m' g')⟩

end Cert.Out
-- ==== Proof.MergeNew.lean ====
/-
  The merge of the two branches on the new tokens: the same two formulas as in `Merge.lean`, for 256 rows, which are one
  block.
-/
module

public import proofs.«01_k».proof.Defs
public import proofs.«01_k».proof.Proof.Merge
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.MrgNew

open Cert.Mrg (rmsRow mergeRow)

section Kernel

open Cert.Kernel6Ideal Cert.Kernel6Ideal.Gen

variable (v0 : FVec Ideal S256x1024 .bf16) (v2 : FVec Ideal S1024x2048 .bf16) (v5 : FVec Ideal S256x1024 .bf16)
    (v7 : FVec Ideal S1024x2048 .bf16) (v10 v15 : FVec Ideal S256x2048 .bf16) (v21 : FVec Ideal S256x2048 .f32)
    (v24 : FVec Ideal S2048x2048 .bf16)

theorem pay2_apply (r : Fin 256) (n : Fin 2048) :
    (k0_pay2 (F := Ideal) v0 v2 v5 v7 v10 v15 v21 v24 : FVec Ideal S256x2048 .f32) (ix2 r n)
      = mergeRow (fun k => v0 (ix2 r k)) (fun k => v5 (ix2 r k)) (fun e => v10 (ix2 r e)) (fun e => v15 (ix2 r e))
          (fun e => v21 (ix2 r e)) (fun k e => v2 (ix2 k e)) (fun k e => v7 (ix2 k e)) (fun e n => v24 (ix2 e n)) n := by
  unfold k0_pay2 mergeRow
  pointwise

theorem pay1_apply (h : FVec Ideal S256x2048 .f32) (g : FVec Ideal S1x2048 .f32) (s : FVec Ideal S256x1 .f32) (r : Fin 256) (n : Fin 2048) :
    (k0_pay1 (F := Ideal) h (k0_pay3 g) s : FVec Ideal S256x2048 .bf16) (ix2 r n)
      = h (ix2 r n) * Ideal.rsqrt (Ideal.div (s (ix2 r 0)) (Ideal.ofBits .f32 0x45000000#32) + Ideal.ofBits .f32 0x358637BD#32) * g (ix2 0 n) := by
  unfold k0_pay1 k0_pay3
  pointwise

theorem pay4_apply (r : Fin 256) (u : Fin 1) :
    (k0_pay4 (F := Ideal) v0 v2 v5 v7 v10 v15 v21 v24 : FVec Ideal S256x1 .f32) (ix2 r u)
      = ∑ e : Fin 2048, (k0_pay2 (F := Ideal) v0 v2 v5 v7 v10 v15 v21 v24 : FVec Ideal S256x2048 .f32) (ix2 r e)
          * (k0_pay2 (F := Ideal) v0 v2 v5 v7 v10 v15 v21 v24 : FVec Ideal S256x2048 .f32) (ix2 r e) := by
  unfold k0_pay4
  generalize (k0_pay2 (F := Ideal) v0 v2 v5 v7 v10 v15 v21 v24 : FVec Ideal S256x2048 .f32) = h
  pointwise

end Kernel

section Reference

open Cert.Reference6Ideal Cert.Reference6Ideal.Gen

/-- The reference's gate: the logistic function, spelt out. -/
def gateRef (z : FVec Ideal S32x8x2048 .f32) : FVec Ideal S32x8x2048 .f32 :=
  Host.divf (broadcastInDim S32x8x2048 ![] bcast_S_S32x8x2048 (constant S_ .f32 0x3F800000#32))
    (addf (broadcastInDim S32x8x2048 ![] bcast_S_S32x8x2048 (constant S_ .f32 0x3F800000#32)) (Host.exp (Host.negf z)))

/-- The reference's merged residual. -/
def sumRef (yr os : FVec Ideal S32x8x1024 .f32) (pg : FVec Ideal S32x8x4096 .f32) (x : FVec Ideal S32x8x2048 .f32)
    (wr ws : FVec Ideal S1024x2048 .f32) (wo : FVec Ideal S2048x2048 .f32) : FVec Ideal S32x8x2048 .f32 :=
  addf x (Host.dotGeneral dot_S32x8x2048_S2048x2048_S32x8x2048_2_0_01_1_n_n none
    (addf (mulf (gateRef (extractStridedSlice S32x8x2048 ![0, 0, 0] pg slices_S32x8x4096_S32x8x2048_0_0_0))
        (Host.dotGeneral dot_S32x8x1024_S1024x2048_S32x8x2048_2_0_01_1_n_n none yr wr))
      (mulf (gateRef (extractStridedSlice S32x8x2048 ![0, 0, 2048] pg slices_S32x8x4096_S32x8x2048_0_0_2048))
        (Host.dotGeneral dot_S32x8x1024_S1024x2048_S32x8x2048_2_0_01_1_n_n none os ws))) wo)

/-- The reference's norm. -/
def normRef (h : FVec Ideal S32x8x2048 .f32) (g : FVec Ideal S2048 .f32) : FVec Ideal S32x8x2048 .f32 :=
  mulf (mulf h (broadcastInDim S32x8x2048 ![0, 1, 2] bcast_S32x8x1_S32x8x2048_0_1_2
      (Host.rsqrt (addf (Host.divf (broadcastInDim S32x8x1 ![0, 1] bcast_S32x8_S32x8x1_0_1
          (Host.reduceAdd (mulf h h) (constant S_ .f32 0x00000000#32) reducesTo_S32x8x2048_S32x8_d2 h_S_))
        (broadcastInDim S32x8x1 ![] bcast_S_S32x8x1 (constant S_ .f32 0x45000000#32)))
        (broadcastInDim S32x8x1 ![] bcast_S_S32x8x1 (constant S_ .f32 0x358637BD#32))))))
    (broadcastInDim S32x8x2048 ![0, 1, 2] bcast_S1x1x2048_S32x8x2048_0_1_2 (broadcastInDim S1x1x2048 ![2] bcast_S2048_S1x1x2048_2 g))

/-- The reference's two results. -/
def ref0 (h : FVec Ideal S32x8x2048 .f32) : FVec Ideal S256x2048 .f32 := shapeCast _ h shapeCasts_S32x8x2048_S256x2048

def ref1 (h : FVec Ideal S32x8x2048 .f32) (g : FVec Ideal S2048 .f32) : FVec Ideal S256x2048 .bf16 :=
  truncf .bf16 (shapeCast _ (normRef h g) shapeCasts_S32x8x2048_S256x2048) bitsLt_bf16_f32

theorem gateRef_apply (z : FVec Ideal S32x8x2048 .f32) (b : Fin 32) (t : Fin 8) (n : Fin 2048) :
    gateRef z (ix3 b t n) = Ideal.logistic (z (ix3 b t n)) := by
  unfold gateRef Ideal.logistic
  pointwise

theorem sumRef_apply (yr os : FVec Ideal S32x8x1024 .f32) (pg : FVec Ideal S32x8x4096 .f32) (x : FVec Ideal S32x8x2048 .f32)
    (wr ws : FVec Ideal S1024x2048 .f32) (wo : FVec Ideal S2048x2048 .f32) (b : Fin 32) (t : Fin 8) (n : Fin 2048) :
    sumRef yr os pg x wr ws wo (ix3 b t n)
      = mergeRow (fun k => yr (ix3 b t k)) (fun k => os (ix3 b t k))
          (fun e => pg (ix3 b t (⟨e.val, by have := e.isLt; omega⟩ : Fin 4096))) (fun e => pg (ix3 b t (⟨2048 + e.val, by have := e.isLt; omega⟩ : Fin 4096)))
          (fun e => x (ix3 b t e)) (fun k e => wr (ix2 k e)) (fun k e => ws (ix2 k e)) (fun e n => wo (ix2 e n)) n := by
  unfold sumRef mergeRow
  pointwise [gateRef_apply]

theorem normRef_apply (h : FVec Ideal S32x8x2048 .f32) (g : FVec Ideal S2048 .f32) (b : Fin 32) (t : Fin 8) (n : Fin 2048) :
    normRef h g (ix3 b t n) = rmsRow (fun e => h (ix3 b t e)) (fun e => g (ix1 e)) n := by
  unfold normRef rmsRow
  pointwise

theorem ref0_apply (h : FVec Ideal S32x8x2048 .f32) (r : Fin 256) (n : Fin 2048) :
    ref0 h (ix2 r n) = h (ix3 (⟨r.val / 8, by have := r.isLt; omega⟩ : Fin 32) (⟨r.val % 8, by omega⟩ : Fin 8) n) := by
  unfold ref0
  pointwise

theorem ref1_apply (h : FVec Ideal S32x8x2048 .f32) (g : FVec Ideal S2048 .f32) (r : Fin 256) (n : Fin 2048) :
    ref1 h g (ix2 r n) = normRef h g (ix3 (⟨r.val / 8, by have := r.isLt; omega⟩ : Fin 32) (⟨r.val % 8, by omega⟩ : Fin 8) n) := by
  unfold ref1
  pointwise

variable (m : (ℓ : Loc nD τ sig) → Buf (Elt Ideal) ℓ) (c : Dev nD)

theorem res1_eq : Value.res_main_v36 m c = ref1 (sumRef (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))) (m ((c.tc : Thread nD τ).loc main_arg7)) := rfl

end Reference

section Blocks

open Cert.Kernel6Ideal Cert.Kernel6Ideal.Gen

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![t.val, 1] := by decide +kernel
theorem index4 : ∀ t : Fin cfg0.N, win0_4.index t = ![t.val, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index8 : ∀ t : Fin cfg0.N, win0_8.index t = ![0, 0] := by decide +kernel
theorem index9 : ∀ t : Fin cfg0.N, win0_9.index t = ![t.val, 0] := by decide +kernel
theorem index10 : ∀ t : Fin cfg0.N, win0_10.index t = ![t.val, 0] := by decide +kernel

/-- The row of the arrays that row `r` of the one grid step's blocks is. -/
abbrev row (_ : Fin cfg0.N) (r : Fin 256) : Fin 256 := r

abbrev bOf (r : Fin 256) : Fin 32 := ⟨r.val / 8, by have := r.isLt; omega⟩
abbrev tOf (r : Fin 256) : Fin 8 := ⟨r.val % 8, by omega⟩

abbrev argYr : FVec Ideal S32x8x1024 .f32 := m ((c : Thread nD τ).loc main_arg0)
abbrev argOs : FVec Ideal S32x8x1024 .f32 := m ((c : Thread nD τ).loc main_arg1)
abbrev argPg : FVec Ideal S32x8x4096 .f32 := m ((c : Thread nD τ).loc main_arg2)
abbrev argX : FVec Ideal S32x8x2048 .f32 := m ((c : Thread nD τ).loc main_arg3)
abbrev argWr : FVec Ideal S1024x2048 .f32 := m ((c : Thread nD τ).loc main_arg4)
abbrev argWs : FVec Ideal S1024x2048 .f32 := m ((c : Thread nD τ).loc main_arg5)
abbrev argWo : FVec Ideal S2048x2048 .f32 := m ((c : Thread nD τ).loc main_arg6)
abbrev argG : FVec Ideal S2048 .f32 := m ((c : Thread nD τ).loc main_arg7)

theorem blk0_apply (t : Fin cfg0.N) (r : Fin 256) (k : Fin 1024) :
    (iblk m c 0 t : FVec Ideal S256x1024 .bf16) (ix2 r k) = argYr m c (ix3 (bOf (row t r)) (tOf (row t r)) k) := by
  have h : (iblk m c 0 t : FVec Ideal S256x1024 .bf16) (ix2 r k) = (Gen.V m c main_v1 : FVec Ideal S256x1024 .bf16) (ix2 (row t r) k) := by
    blk_ext [iblk, index0 t]
  rw [h]
  entry_read
  pointwise
  try rfl

theorem blk1_apply (t : Fin cfg0.N) (r : Fin 256) (k : Fin 1024) :
    (iblk m c 1 t : FVec Ideal S256x1024 .bf16) (ix2 r k) = argOs m c (ix3 (bOf (row t r)) (tOf (row t r)) k) := by
  have h : (iblk m c 1 t : FVec Ideal S256x1024 .bf16) (ix2 r k) = (Gen.V m c main_v3 : FVec Ideal S256x1024 .bf16) (ix2 (row t r) k) := by
    blk_ext [iblk, index1 t]
  rw [h]
  entry_read
  pointwise
  try rfl

theorem blk2_apply (t : Fin cfg0.N) (r : Fin 256) (e : Fin 2048) :
    (iblk m c 2 t : FVec Ideal S256x2048 .bf16) (ix2 r e) = argPg m c (ix3 (bOf (row t r)) (tOf (row t r)) (⟨e.val, by have := e.isLt; omega⟩ : Fin 4096)) := by
  have h : (iblk m c 2 t : FVec Ideal S256x2048 .bf16) (ix2 r e) = (Gen.V m c main_v5 : FVec Ideal S256x4096 .bf16) (ix2 (row t r) (⟨e.val, by have := e.isLt; omega⟩ : Fin 4096)) := by
    blk_ext [iblk, index2 t]
  rw [h]
  entry_read
  pointwise
  try rfl

theorem blk3_apply (t : Fin cfg0.N) (r : Fin 256) (e : Fin 2048) :
    (iblk m c 3 t : FVec Ideal S256x2048 .bf16) (ix2 r e) = argPg m c (ix3 (bOf (row t r)) (tOf (row t r)) (⟨2048 + e.val, by have := e.isLt; omega⟩ : Fin 4096)) := by
  have h : (iblk m c 3 t : FVec Ideal S256x2048 .bf16) (ix2 r e) = (Gen.V m c main_v5 : FVec Ideal S256x4096 .bf16) (ix2 (row t r) (⟨2048 + e.val, by have := e.isLt; omega⟩ : Fin 4096)) := by
    blk_ext [iblk, index3 t]
  rw [h]
  entry_read
  pointwise
  try rfl

theorem blk4_apply (t : Fin cfg0.N) (r : Fin 256) (e : Fin 2048) :
    (iblk m c 4 t : FVec Ideal S256x2048 .f32) (ix2 r e) = argX m c (ix3 (bOf (row t r)) (tOf (row t r)) e) := by
  have h : (iblk m c 4 t : FVec Ideal S256x2048 .f32) (ix2 r e) = (Gen.V m c main_v6 : FVec Ideal S256x2048 .f32) (ix2 (row t r) e) := by
    blk_ext [iblk, index4 t]
  rw [h]
  entry_read
  pointwise
  try rfl

theorem blk5_apply (t : Fin cfg0.N) (r : Fin 1024) (e : Fin 2048) :
    (iblk m c 5 t : FVec Ideal S1024x2048 .bf16) (ix2 r e) = argWr m c (ix2 r e) := by
  have h : (iblk m c 5 t : FVec Ideal S1024x2048 .bf16) (ix2 r e) = (Gen.V m c main_v7 : FVec Ideal S1024x2048 .bf16) (ix2 r e) := by
    blk_ext [iblk, index5 t]
  rw [h]
  entry_read
  pointwise
  try rfl

theorem blk6_apply (t : Fin cfg0.N) (r : Fin 1024) (e : Fin 2048) :
    (iblk m c 6 t : FVec Ideal S1024x2048 .bf16) (ix2 r e) = argWs m c (ix2 r e) := by
  have h : (iblk m c 6 t : FVec Ideal S1024x2048 .bf16) (ix2 r e) = (Gen.V m c main_v8 : FVec Ideal S1024x2048 .bf16) (ix2 r e) := by
    blk_ext [iblk, index6 t]
  rw [h]
  entry_read
  pointwise
  try rfl

theorem blk7_apply (t : Fin cfg0.N) (r : Fin 2048) (e : Fin 2048) :
    (iblk m c 7 t : FVec Ideal S2048x2048 .bf16) (ix2 r e) = argWo m c (ix2 r e) := by
  have h : (iblk m c 7 t : FVec Ideal S2048x2048 .bf16) (ix2 r e) = (Gen.V m c main_v9 : FVec Ideal S2048x2048 .bf16) (ix2 r e) := by
    blk_ext [iblk, index7 t]
  rw [h]
  entry_read
  pointwise
  try rfl

theorem blk8_apply (t : Fin cfg0.N) (r : Fin 1) (e : Fin 2048) :
    (iblk m c 8 t : FVec Ideal S1x2048 .f32) (ix2 r e) = argG m c (ix1 e) := by
  have h : (iblk m c 8 t : FVec Ideal S1x2048 .f32) (ix2 r e) = (Gen.V m c main_v10 : FVec Ideal S1x2048 .f32) (ix2 r e) := by
    blk_ext [iblk, index8 t]
  rw [h]
  entry_read
  pointwise
  try rfl

/-- The merged residual and its norm, as arrays of 256 rows. -/
abbrev hArr : FVec Ideal S256x2048 .f32 := fun i => mergeRow (fun k => argYr m c (ix3 (bOf (i 0)) (tOf (i 0)) k))
  (fun k => argOs m c (ix3 (bOf (i 0)) (tOf (i 0)) k))
  (fun e => argPg m c (ix3 (bOf (i 0)) (tOf (i 0)) (⟨e.val, by have := e.isLt; omega⟩ : Fin 4096)))
  (fun e => argPg m c (ix3 (bOf (i 0)) (tOf (i 0)) (⟨2048 + e.val, by have := e.isLt; omega⟩ : Fin 4096)))
  (fun e => argX m c (ix3 (bOf (i 0)) (tOf (i 0)) e)) (fun k e => argWr m c (ix2 k e)) (fun k e => argWs m c (ix2 k e))
  (fun e n => argWo m c (ix2 e n)) (i 1)

abbrev hnArr : FVec Ideal S256x2048 .bf16 := fun i => rmsRow (fun e => hArr m c (ix2 (i 0) e)) (fun e => argG m c (ix1 e)) (i 1)

theorem step0 (t : Fin cfg0.N) (r : Fin 256) (n : Fin 2048) :
    (k0_pay2 (F := Ideal) (iblk m c 0 t) (iblk m c 5 t) (iblk m c 1 t) (iblk m c 6 t) (iblk m c 2 t) (iblk m c 3 t) (iblk m c 4 t) (iblk m c 7 t)
      : FVec Ideal S256x2048 .f32) (ix2 r n) = hArr m c (ix2 (row t r) n) := by
  rw [pay2_apply]
  simp only [blk0_apply, blk1_apply, blk2_apply, blk3_apply, blk4_apply, blk5_apply, blk6_apply, blk7_apply]
  rfl

theorem step1 (t : Fin cfg0.N) (r : Fin 256) (n : Fin 2048) :
    (k0_pay1 (F := Ideal) (k0_pay2 (iblk m c 0 t) (iblk m c 5 t) (iblk m c 1 t) (iblk m c 6 t) (iblk m c 2 t) (iblk m c 3 t) (iblk m c 4 t) (iblk m c 7 t))
        (k0_pay3 (iblk m c 8 t))
        (k0_pay4 (iblk m c 0 t) (iblk m c 5 t) (iblk m c 1 t) (iblk m c 6 t) (iblk m c 2 t) (iblk m c 3 t) (iblk m c 4 t) (iblk m c 7 t))
      : FVec Ideal S256x2048 .bf16) (ix2 r n) = hnArr m c (ix2 (row t r) n) := by
  rw [pay1_apply, pay4_apply]
  simp only [step0, blk8_apply]
  rfl

theorem final0 : (dats m 0 c).arrAt 9 cfg0.N = hArr m c := by
  refine (dats m 0 c).arrAt_eq_of_covers 9 _ (by decide +kernel) fun t hf y => ?_
  blk_simp
  rw [after0_9]
  frame_out
  obtain ⟨r, n, rfl⟩ : ∃ (r : Fin 256) (n : Fin 2048), y = ix2 r n := ⟨y 0, y 1, by funext a; fin_cases a <;> rfl⟩
  have p : ((View.whole main_v11_0).slice (win0_9.rect t)).emb (ix2 r n) = ix2 (row t r) n := by blk_ext [index9 t]
  exact (step0 m c t r n).trans (congrArg (hArr m c) p.symm)

theorem final1 : (dats m 0 c).arrAt 10 cfg0.N = hnArr m c := by
  refine (dats m 0 c).arrAt_eq_of_covers 10 _ (by decide +kernel) fun t hf y => ?_
  blk_simp
  rw [after0_10]
  frame_out
  obtain ⟨r, n, rfl⟩ : ∃ (r : Fin 256) (n : Fin 2048), y = ix2 r n := ⟨y 0, y 1, by funext a; fin_cases a <;> rfl⟩
  have p : ((View.whole main_v11_1).slice (win0_10.rect t)).emb (ix2 r n) = ix2 (row t r) n := by blk_ext [index10 t]
  exact (step1 m c t r n).trans (congrArg (hnArr m c) p.symm)

/-- The reference's results of the same arguments are the same arrays. -/
theorem same0 : ref0 (sumRef (argYr m c) (argOs m c) (argPg m c) (argX m c) (argWr m c) (argWs m c) (argWo m c)) = (dats m 0 c).arrAt 9 cfg0.N := by
  rw [final0]
  funext i
  obtain ⟨r, n, rfl⟩ : ∃ (r : Fin 256) (n : Fin 2048), i = ix2 r n := ⟨i 0, i 1, by funext a; fin_cases a <;> rfl⟩
  rw [ref0_apply, sumRef_apply]
  rfl

theorem same1 : ref1 (sumRef (argYr m c) (argOs m c) (argPg m c) (argX m c) (argWr m c) (argWs m c) (argWo m c)) (argG m c)
    = (dats m 0 c).arrAt 10 cfg0.N := by
  rw [final1]
  funext i
  obtain ⟨r, n, rfl⟩ : ∃ (r : Fin 256) (n : Fin 2048), i = ix2 r n := ⟨i 0, i 1, by funext a; fin_cases a <;> rfl⟩
  rw [ref1_apply, normRef_apply]
  simp only [sumRef_apply]
  rfl

end Blocks

open Cert.Kernel6Ideal in
theorem algebraic : Cert.algebraic_Kernel6Ideal_Reference6Ideal := fun m g m' g' _ heq =>
  ⟨fun c => (Gen.dats m 0 c).arrAt 9 cfg0.N, fun c => (Gen.dats m 0 c).arrAt 10 cfg0.N,
    Value.run_blocks m g,
    (θ_run Cert.Reference6Ideal.defs _ _).mono (fun r hr c => by
        obtain ⟨e0, e1, e2, e3, e4, e5, e6, e7⟩ := heq c
        have es : sumRef (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6))
            = sumRef (argYr m c) (argOs m c) (argPg m c) (argX m c) (argWr m c) (argWs m c) (argWo m c) := by
          rw [e0, e1, e2, e3, e4, e5, e6]
        have h0 : r.2.mem ((c.tc : Thread Cert.Reference6Ideal.nD Cert.Reference6Ideal.τ).loc Cert.Reference6Ideal.main_v34)
            = ref0 (sumRef (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6))) := (hr c).1
        refine ⟨h0.trans ((congrArg ref0 es).trans (same0 m c)), (hr c).2.1.trans ((res1_eq m' c).trans (Eq.trans ?_ (same1 m c))), (hr c).2.2⟩
        exact congr (congrArg ref1 es) e7)
      (Cert.Reference6Ideal.Value.run (F := Ideal) m' g')⟩

end Cert.MrgNew
-- ==== Proof.OutputNew.lean ====
/-
  The layer's last step on the new tokens: the same formula as in `Output.lean`, for 256 rows, which are one block.
-/
module

public import proofs.«01_k».proof.Defs
public import proofs.«01_k».proof.Proof.MergeNew
public import proofs.«01_k».proof.Proof.Output
public import proofs.«01_k».proof.Proof.Gen.Kernel7Ideal.Value
public import proofs.«01_k».proof.Proof.Gen.Reference7Ideal.Run

@[expose] public section

set_option maxRecDepth 16384

noncomputable section

open Idealize.ShloMosaic Idealize.ShloMosaic.TcCoe Idealize.SL.Sem
open Idealize.ShloMosaic.Pipeline (Dat)

namespace Cert.OutNew

open Cert.Mrg (rmsRow)
open Cert.MrgNew (gateRef normRef ref0)
open Cert.Out (embRow)

section Kernel

open Cert.Kernel7Ideal Cert.Kernel7Ideal.Gen

variable (v0 v2 : FVec Ideal S256x2048 .f32) (v5 : FVec Ideal S1x2048 .f32) (v20 : FVec Ideal S2048x2048 .bf16)
    (v24 : FVec Ideal S256x256 .f32) (v27 : FVec Ideal S256x2048 .bf16)

theorem pay2_apply (r : Fin 256) (n : Fin 2048) :
    (k0_pay2 (F := Ideal) v0 v2 v5 v20 v24 v27 : FVec Ideal S256x2048 .f32) (ix2 r n)
      = embRow (fun e => v0 (ix2 r e)) (fun e => v2 (ix2 r e)) (fun k => v24 (ix2 r k)) (fun k e => v27 (ix2 k e))
          (fun e n => v20 (ix2 e n)) (fun e => v5 (ix2 0 e)) n := by
  unfold k0_pay2 embRow rmsRow
  pointwise

theorem pay1_apply (h : FVec Ideal S256x2048 .f32) (g : FVec Ideal S1x2048 .f32) (s : FVec Ideal S256x1 .f32) (r : Fin 256) (n : Fin 2048) :
    (k0_pay1 (F := Ideal) h (k0_pay3 g) s k0_pay5 : FVec Ideal S256x2048 .f32) (ix2 r n)
      = h (ix2 r n) * Ideal.rsqrt (Ideal.div (s (ix2 r 0)) (Ideal.ofBits .f32 0x45000000#32) + Ideal.ofBits .f32 0x358637BD#32) * g (ix2 0 n) := by
  unfold k0_pay1 k0_pay3 k0_pay5
  pointwise

theorem pay4_apply (r : Fin 256) (u : Fin 1) :
    (k0_pay4 (F := Ideal) v0 v2 v5 v20 v24 v27 : FVec Ideal S256x1 .f32) (ix2 r u)
      = ∑ e : Fin 2048, (k0_pay2 (F := Ideal) v0 v2 v5 v20 v24 v27 : FVec Ideal S256x2048 .f32) (ix2 r e)
          * (k0_pay2 (F := Ideal) v0 v2 v5 v20 v24 v27 : FVec Ideal S256x2048 .f32) (ix2 r e) := by
  unfold k0_pay4
  generalize (k0_pay2 (F := Ideal) v0 v2 v5 v20 v24 v27 : FVec Ideal S256x2048 .f32) = h
  pointwise

end Kernel

section Reference

open Cert.Reference7Ideal Cert.Reference7Ideal.Gen

/-- The reference's residual before the final norm. -/
def embRef (h f : FVec Ideal S32x8x2048 .f32) (pe : FVec Ideal S32x8x256 .f32) (we : FVec Ideal S256x2048 .f32)
    (wg : FVec Ideal S2048x2048 .f32) (g : FVec Ideal S2048 .f32) : FVec Ideal S32x8x2048 .f32 :=
  addf (addf h f) (mulf (Host.dotGeneral dot_S32x8x256_S256x2048_S32x8x2048_2_0_01_1_n_n none pe we)
    (gateRef (Host.dotGeneral dot_S32x8x2048_S2048x2048_S32x8x2048_2_0_01_1_n_n none (normRef (addf h f) g) wg)))

theorem embRef_apply (h f : FVec Ideal S32x8x2048 .f32) (pe : FVec Ideal S32x8x256 .f32) (we : FVec Ideal S256x2048 .f32)
    (wg : FVec Ideal S2048x2048 .f32) (g : FVec Ideal S2048 .f32) (b : Fin 32) (t : Fin 8) (n : Fin 2048) :
    embRef h f pe we wg g (ix3 b t n) = embRow (fun e => h (ix3 b t e)) (fun e => f (ix3 b t e)) (fun k => pe (ix3 b t k))
      (fun k e => we (ix2 k e)) (fun e n => wg (ix2 e n)) (fun e => g (ix1 e)) n := by
  unfold embRef embRow
  pointwise [Cert.MrgNew.gateRef_apply, Cert.MrgNew.normRef_apply]
  try rfl

variable (m : (ℓ : Loc nD τ sig) → Buf (Elt Ideal) ℓ) (c : Dev nD)

theorem res_eq : Value.res_main_v37 m c = ref0 (normRef (embRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6))) := rfl

end Reference

section Blocks

open Cert.Kernel7Ideal Cert.Kernel7Ideal.Gen

variable (m : (ℓ : Loc nD τ sig) → Buf (Elt Ideal) ℓ) (c : Dev nD)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val, 0] := by decide +kernel

/-- The row of the arrays that row `r` of the one grid step's blocks is. -/
abbrev row (_ : Fin cfg0.N) (r : Fin 256) : Fin 256 := r

abbrev bOf (r : Fin 256) : Fin 32 := ⟨r.val / 8, by have := r.isLt; omega⟩
abbrev tOf (r : Fin 256) : Fin 8 := ⟨r.val % 8, by omega⟩

abbrev argH : FVec Ideal S32x8x2048 .f32 := m ((c : Thread nD τ).loc main_arg0)
abbrev argF : FVec Ideal S32x8x2048 .f32 := m ((c : Thread nD τ).loc main_arg1)
abbrev argPe : FVec Ideal S32x8x256 .f32 := m ((c : Thread nD τ).loc main_arg2)
abbrev argWe : FVec Ideal S256x2048 .f32 := m ((c : Thread nD τ).loc main_arg3)
abbrev argWg : FVec Ideal S2048x2048 .f32 := m ((c : Thread nD τ).loc main_arg4)
abbrev argGe : FVec Ideal S2048 .f32 := m ((c : Thread nD τ).loc main_arg5)
abbrev argGf : FVec Ideal S2048 .f32 := m ((c : Thread nD τ).loc main_arg6)

theorem blk0_apply (t : Fin cfg0.N) (r : Fin 256) (e : Fin 2048) :
    (iblk m c 0 t : FVec Ideal S256x2048 .f32) (ix2 r e) = argH m c (ix3 (bOf (row t r)) (tOf (row t r)) e) := by
  have h : (iblk m c 0 t : FVec Ideal S256x2048 .f32) (ix2 r e) = (Gen.V m c main_v0 : FVec Ideal S256x2048 .f32) (ix2 (row t r) e) := by
    blk_ext [iblk, index0 t]
  rw [h]
  entry_read
  pointwise

theorem blk1_apply (t : Fin cfg0.N) (r : Fin 256) (e : Fin 2048) :
    (iblk m c 1 t : FVec Ideal S256x2048 .f32) (ix2 r e) = argF m c (ix3 (bOf (row t r)) (tOf (row t r)) e) := by
  have h : (iblk m c 1 t : FVec Ideal S256x2048 .f32) (ix2 r e) = (Gen.V m c main_v1 : FVec Ideal S256x2048 .f32) (ix2 (row t r) e) := by
    blk_ext [iblk, index1 t]
  rw [h]
  entry_read
  pointwise

theorem blk2_apply (t : Fin cfg0.N) (r : Fin 256) (k : Fin 256) :
    (iblk m c 2 t : FVec Ideal S256x256 .f32) (ix2 r k) = argPe m c (ix3 (bOf (row t r)) (tOf (row t r)) k) := by
  have h : (iblk m c 2 t : FVec Ideal S256x256 .f32) (ix2 r k) = (Gen.V m c main_v2 : FVec Ideal S256x256 .f32) (ix2 (row t r) k) := by
    blk_ext [iblk, index2 t]
  rw [h]
  entry_read
  pointwise

theorem blk3_apply (t : Fin cfg0.N) (r : Fin 256) (e : Fin 2048) :
    (iblk m c 3 t : FVec Ideal S256x2048 .bf16) (ix2 r e) = argWe m c (ix2 r e) := by
  have h : (iblk m c 3 t : FVec Ideal S256x2048 .bf16) (ix2 r e) = (Gen.V m c main_v3 : FVec Ideal S256x2048 .bf16) (ix2 r e) := by
    blk_ext [iblk, index3 t]
  rw [h]
  entry_read
  pointwise

theorem blk4_apply (t : Fin cfg0.N) (r : Fin 2048) (e : Fin 2048) :
    (iblk m c 4 t : FVec Ideal S2048x2048 .bf16) (ix2 r e) = argWg m c (ix2 r e) := by
  have h : (iblk m c 4 t : FVec Ideal S2048x2048 .bf16) (ix2 r e) = (Gen.V m c main_v4 : FVec Ideal S2048x2048 .bf16) (ix2 r e) := by
    blk_ext [iblk, index4 t]
  rw [h]
  entry_read
  pointwise

theorem blk5_apply (t : Fin cfg0.N) (r : Fin 1) (e : Fin 2048) :
    (iblk m c 5 t : FVec Ideal S1x2048 .f32) (ix2 r e) = argGe m c (ix1 e) := by
  have h : (iblk m c 5 t : FVec Ideal S1x2048 .f32) (ix2 r e) = (Gen.V m c main_v5 : FVec Ideal S1x2048 .f32) (ix2 r e) := by
    blk_ext [iblk, index5 t]
  rw [h]
  entry_read
  pointwise

theorem blk6_apply (t : Fin cfg0.N) (r : Fin 1) (e : Fin 2048) :
    (iblk m c 6 t : FVec Ideal S1x2048 .f32) (ix2 r e) = argGf m c (ix1 e) := by
  have h : (iblk m c 6 t : FVec Ideal S1x2048 .f32) (ix2 r e) = (Gen.V m c main_v6 : FVec Ideal S1x2048 .f32) (ix2 r e) := by
    blk_ext [iblk, index6 t]
  rw [h]
  entry_read
  pointwise

/-- The residual before the final norm, and the output, as arrays of 256 rows. -/
abbrev eArr : FVec Ideal S256x2048 .f32 := fun i => embRow (fun e => argH m c (ix3 (bOf (i 0)) (tOf (i 0)) e))
  (fun e => argF m c (ix3 (bOf (i 0)) (tOf (i 0)) e)) (fun k => argPe m c (ix3 (bOf (i 0)) (tOf (i 0)) k))
  (fun k e => argWe m c (ix2 k e)) (fun e n => argWg m c (ix2 e n)) (fun e => argGe m c (ix1 e)) (i 1)

abbrev yArr : FVec Ideal S256x2048 .f32 := fun i => rmsRow (fun e => eArr m c (ix2 (i 0) e)) (fun e => argGf m c (ix1 e)) (i 1)

theorem step0 (t : Fin cfg0.N) (r : Fin 256) (n : Fin 2048) :
    (k0_pay2 (F := Ideal) (iblk m c 0 t) (iblk m c 1 t) (iblk m c 5 t) (iblk m c 4 t) (iblk m c 2 t) (iblk m c 3 t) : FVec Ideal S256x2048 .f32) (ix2 r n) = eArr m c (ix2 (row t r) n) := by
  rw [pay2_apply]
  simp only [blk0_apply, blk1_apply, blk2_apply, blk3_apply, blk4_apply, blk5_apply]
  rfl

theorem step1 (t : Fin cfg0.N) (r : Fin 256) (n : Fin 2048) :
    (k0_pay1 (F := Ideal) (k0_pay2 (iblk m c 0 t) (iblk m c 1 t) (iblk m c 5 t) (iblk m c 4 t) (iblk m c 2 t) (iblk m c 3 t))
        (k0_pay3 (iblk m c 6 t))
        (k0_pay4 (iblk m c 0 t) (iblk m c 1 t) (iblk m c 5 t) (iblk m c 4 t) (iblk m c 2 t) (iblk m c 3 t)) k0_pay5
      : FVec Ideal S256x2048 .f32) (ix2 r n) = yArr m c (ix2 (row t r) n) := by
  rw [pay1_apply, pay4_apply]
  simp only [step0, blk6_apply]
  rfl

theorem final : (dats m 0 c).arrAt 7 cfg0.N = yArr m c := by
  refine (dats m 0 c).arrAt_eq_of_covers 7 _ (by decide +kernel) fun t hf y => ?_
  blk_simp
  rw [after0_7]
  frame_out
  obtain ⟨r, n, rfl⟩ : ∃ (r : Fin 256) (n : Fin 2048), y = ix2 r n := ⟨y 0, y 1, by funext a; fin_cases a <;> rfl⟩
  have p : ((View.whole main_v7).slice (win0_7.rect t)).emb (ix2 r n) = ix2 (row t r) n := by blk_ext [index7 t]
  exact (step1 m c t r n).trans (congrArg (yArr m c) p.symm)

/-- The reference's result of the same arguments is the same array. -/
theorem same : ref0 (normRef (embRef (argH m c) (argF m c) (argPe m c) (argWe m c) (argWg m c) (argGe m c)) (argGf m c)) = (dats m 0 c).arrAt 7 cfg0.N := by
  rw [final]
  funext i
  obtain ⟨r, n, rfl⟩ : ∃ (r : Fin 256) (n : Fin 2048), i = ix2 r n := ⟨i 0, i 1, by funext a; fin_cases a <;> rfl⟩
  rw [Cert.MrgNew.ref0_apply, Cert.MrgNew.normRef_apply]
  simp only [embRef_apply]
  rfl

end Blocks

open Cert.Kernel7Ideal in
theorem algebraic : Cert.algebraic_Kernel7Ideal_Reference7Ideal := fun m g m' g' _ heq =>
  ⟨fun c => (Gen.dats m 0 c).arrAt 7 cfg0.N, Value.run_blocks m g,
    (θ_run Cert.Reference7Ideal.defs _ _).mono (fun r hr c => by
        obtain ⟨e0, e1, e2, e3, e4, e5, e6⟩ := heq c
        have es : embRef (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5))
            = embRef (argH m c) (argF m c) (argPe m c) (argWe m c) (argWg m c) (argGe m c) := by
          rw [e0, e1, e2, e3, e4, e5]
        refine ⟨(hr c).1.trans ((res_eq m' c).trans (Eq.trans ?_ (same m c))), (hr c).2⟩
        exact congrArg ref0 (congr (congrArg normRef es) e6))
      (Cert.Reference7Ideal.Value.run (F := Ideal) m' g')⟩

end Cert.OutNew
-- ==== Proof.FfnNewRef.lean ====
/-
  The feed-forward part on the new tokens as the reference states it: as in `FfnRef.lean`, for 32 sequences of eight
  positions; the second result is the whole gate.
-/
module

public import proofs.«01_k».proof.Defs
public import proofs.«01_k».proof.Proof.FfnRef
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.ValueKit.Held

@[expose] public section

set_option maxRecDepth 16384

noncomputable section

open Idealize.ShloMosaic Idealize.ShloMosaic.TcCoe Idealize.SL.Sem

namespace Cert.FfnNew

open Cert.Ffn (gelu lo hi)

/-- The sequence and the position of a row. -/
abbrev bOf (g : Fin 256) : Fin 32 := ⟨g.val / 8, by have := g.isLt; omega⟩
abbrev tOf (g : Fin 256) : Fin 8 := ⟨g.val % 8, by omega⟩

open Cert.Reference8Ideal Cert.Reference8Ideal.Gen

variable (hn : FVec Ideal S32x8x2048 .f32) (wu : FVec Ideal S2048x11264 .f32) (cw : FVec Ideal S3x5632 .f32)
    (wd : FVec Ideal S5632x2048 .f32) (cp : FVec Ideal S32x2x5632 .f32)

/-! ## The formulas -/

/-- The up projection of a position, at a column. -/
def up (b : Fin 32) (t : Fin 8) (e : Fin 11264) : EReal := ∑ k : Fin 2048, hn (ix3 b t k) * wu (ix2 k e)

/-- The gate one and two positions back; before the sequence, the given rows. -/
def back1 (b : Fin 32) (t : Fin 8) (e : Fin 5632) : EReal :=
  if t.val = 0 then cp (ix3 b 1 e) else up hn wu b ⟨t.val - 1, by have := t.isLt; omega⟩ (lo e)

def back2 (b : Fin 32) (t : Fin 8) (e : Fin 5632) : EReal :=
  if t.val = 0 then cp (ix3 b 0 e) else if t.val = 1 then cp (ix3 b 1 e) else up hn wu b ⟨t.val - 2, by have := t.isLt; omega⟩ (lo e)

/-- The convolved gate. -/
def conv (b : Fin 32) (t : Fin 8) (e : Fin 5632) : EReal :=
  cw (ix2 0 e) * back2 hn wu cp b t e + cw (ix2 1 e) * back1 hn wu cp b t e + cw (ix2 2 e) * up hn wu b t (lo e)

/-- One hidden column's share of an output entry. -/
def term (b : Fin 32) (t : Fin 8) (n : Fin 2048) (e : Fin 5632) : EReal :=
  gelu (conv hn wu cw cp b t e) * up hn wu b t (hi e) * wd (ix2 e n)

/-! ## The reference's stages -/

def upRef : FVec Ideal S32x8x11264 .f32 := Host.dotGeneral dot_S32x8x2048_S2048x11264_S32x8x11264_2_0_01_1_n_n none hn wu

def gateRef (u : FVec Ideal S32x8x11264 .f32) : FVec Ideal S32x8x5632 .f32 :=
  extractStridedSlice S32x8x5632 ![0, 0, 0] u slices_S32x8x11264_S32x8x5632_0_0_0

def valRef (u : FVec Ideal S32x8x11264 .f32) : FVec Ideal S32x8x5632 .f32 :=
  extractStridedSlice S32x8x5632 ![0, 0, 5632] u slices_S32x8x11264_S32x8x5632_0_0_5632

def bufRef (u : FVec Ideal S32x8x5632 .f32) : FVec Ideal S32x10x5632 .f32 :=
  concatenate S32x10x5632 1 [⟨S32x2x5632, cp⟩, ⟨S32x8x5632, u⟩] concatenates_S32x2x5632_S32x8x5632_S32x10x5632_d1

def tapRef (r : FVec Ideal S1x5632 .f32) : FVec Ideal S32x8x5632 .f32 :=
  broadcastInDim S32x8x5632 ![0, 1, 2] bcast_S1x1x5632_S32x8x5632_0_1_2
    (broadcastInDim S1x1x5632 ![2] bcast_S5632_S1x1x5632_2 (shapeCast _ r shapeCasts_S1x5632_S5632))

def convRef (bf : FVec Ideal S32x10x5632 .f32) : FVec Ideal S32x8x5632 .f32 :=
  addf (addf (addf (broadcastInDim S32x8x5632 ![] bcast_S_S32x8x5632 (constant S_ .f32 0x00000000#32))
      (mulf (tapRef (extractStridedSlice S1x5632 ![0, 0] cw slices_S3x5632_S1x5632_0_0)) (extractStridedSlice S32x8x5632 ![0, 0, 0] bf slices_S32x10x5632_S32x8x5632_0_0_0)))
      (mulf (tapRef (extractStridedSlice S1x5632 ![1, 0] cw slices_S3x5632_S1x5632_1_0)) (extractStridedSlice S32x8x5632 ![0, 1, 0] bf slices_S32x10x5632_S32x8x5632_0_1_0)))
      (mulf (tapRef (extractStridedSlice S1x5632 ![2, 0] cw slices_S3x5632_S1x5632_2_0)) (extractStridedSlice S32x8x5632 ![0, 2, 0] bf slices_S32x10x5632_S32x8x5632_0_2_0))

def geluRef (x : FVec Ideal S32x8x5632 .f32) : FVec Ideal S32x8x5632 .f32 :=
  mulf x (mulf (broadcastInDim S32x8x5632 ![] bcast_S_S32x8x5632 (constant S_ .f32 0x3F000000#32))
    (addf (broadcastInDim S32x8x5632 ![] bcast_S_S32x8x5632 (constant S_ .f32 0x3F800000#32))
      (Host.tanh (mulf (broadcastInDim S32x8x5632 ![] bcast_S_S32x8x5632 (constant S_ .f32 0x3F4C422A#32))
        (addf x (mulf (broadcastInDim S32x8x5632 ![] bcast_S_S32x8x5632 (constant S_ .f32 0x3D372713#32)) (mulf (mulf x x) x)))))))

def downRef (a b : FVec Ideal S32x8x5632 .f32) : FVec Ideal S256x2048 .f32 :=
  shapeCast _ (Host.dotGeneral dot_S32x8x5632_S5632x2048_S32x8x2048_2_0_01_1_n_n none (mulf a b) wd) shapeCasts_S32x8x2048_S256x2048

/-- The reference's two results. -/
def ref0 : FVec Ideal S256x2048 .f32 :=
  downRef wd (geluRef (convRef cw (bufRef cp (gateRef (upRef hn wu))))) (valRef (upRef hn wu))

def ref1 : FVec Ideal S256x5632 .f32 := shapeCast _ (gateRef (upRef hn wu)) shapeCasts_S32x8x5632_S256x5632

/-! ## The stages, entry by entry -/

theorem upRef_apply (b : Fin 32) (t : Fin 8) (e : Fin 11264) : upRef hn wu (ix3 b t e) = up hn wu b t e := by
  unfold upRef up
  pointwise

theorem gateRef_apply (u : FVec Ideal S32x8x11264 .f32) (b : Fin 32) (t : Fin 8) (e : Fin 5632) : gateRef u (ix3 b t e) = u (ix3 b t (lo e)) := by
  unfold gateRef
  pointwise

theorem valRef_apply (u : FVec Ideal S32x8x11264 .f32) (b : Fin 32) (t : Fin 8) (e : Fin 5632) : valRef u (ix3 b t e) = u (ix3 b t (hi e)) := by
  unfold valRef
  pointwise

theorem bufRef_apply (u : FVec Ideal S32x8x5632 .f32) (b : Fin 32) (t : Fin 10) (e : Fin 5632) :
    bufRef cp u (ix3 b t e) = if h : t.val < 2 then cp (ix3 b ⟨t.val, h⟩ e) else u (ix3 b ⟨t.val - 2, by have := t.isLt; omega⟩ e) := by
  unfold bufRef
  pointwise

theorem tapRef_apply (r : FVec Ideal S1x5632 .f32) (b : Fin 32) (t : Fin 8) (e : Fin 5632) : tapRef r (ix3 b t e) = r (ix2 0 e) := by
  unfold tapRef
  pointwise

theorem convRef_apply (bf : FVec Ideal S32x10x5632 .f32) (b : Fin 32) (t : Fin 8) (e : Fin 5632) :
    convRef cw bf (ix3 b t e) = cw (ix2 0 e) * bf (ix3 b (⟨t.val, by have := t.isLt; omega⟩ : Fin 10) e)
      + cw (ix2 1 e) * bf (ix3 b (⟨1 + t.val, by have := t.isLt; omega⟩ : Fin 10) e)
      + cw (ix2 2 e) * bf (ix3 b (⟨2 + t.val, by have := t.isLt; omega⟩ : Fin 10) e) := by
  unfold convRef
  pointwise [tapRef_apply]

theorem geluRef_apply (x : FVec Ideal S32x8x5632 .f32) (b : Fin 32) (t : Fin 8) (e : Fin 5632) : geluRef x (ix3 b t e) = gelu (x (ix3 b t e)) := by
  have h : geluRef x (ix3 b t e) = x (ix3 b t e) * (Ideal.ofBits .f32 0x3F000000#32 * (1 + Ideal.tanh (Ideal.ofBits .f32 0x3F4C422A#32
      * (x (ix3 b t e) + Ideal.ofBits .f32 0x3D372713#32 * (x (ix3 b t e) * x (ix3 b t e) * x (ix3 b t e)))))) := by
    unfold geluRef
    pointwise
  rw [h]
  unfold gelu
  generalize x (ix3 b t e) = y
  rw [show Ideal.ofBits .f32 0x3D372713#32 * y * y * y = Ideal.ofBits .f32 0x3D372713#32 * (y * y * y) by simp only [mul_assoc]]
  rw [← mul_assoc, mul_comm y]

theorem downRef_apply (a v : FVec Ideal S32x8x5632 .f32) (g : Fin 256) (n : Fin 2048) :
    downRef wd a v (ix2 g n) = ∑ e : Fin 5632, a (ix3 (bOf g) (tOf g) e) * v (ix3 (bOf g) (tOf g) e) * wd (ix2 e n) := by
  unfold downRef
  pointwise

theorem conv_eq (b : Fin 32) (t : Fin 8) (e : Fin 5632) :
    convRef cw (bufRef cp (gateRef (upRef hn wu))) (ix3 b t e) = conv hn wu cw cp b t e := by
  rw [convRef_apply, bufRef_apply, bufRef_apply, bufRef_apply]
  unfold conv back1 back2
  have ht := t.isLt
  rw [dif_neg (show ¬ 2 + t.val < 2 by omega)]
  have e2 : ∀ h, (⟨2 + t.val - 2, h⟩ : Fin 8) = t := fun h => Fin.ext (by show 2 + t.val - 2 = t.val; omega)
  simp only [gateRef_apply, upRef_apply, e2]
  by_cases h0 : t.val = 0
  · rw [dif_pos (show t.val < 2 by omega), dif_pos (show 1 + t.val < 2 by omega), if_pos h0, if_pos h0]
    have a0 : ∀ h, (⟨t.val, h⟩ : Fin 2) = 0 := fun h => Fin.ext h0
    have a1 : ∀ h, (⟨1 + t.val, h⟩ : Fin 2) = 1 := fun h => Fin.ext (by show 1 + t.val = 1; omega)
    simp only [a0, a1]
  · rw [dif_neg (show ¬ 1 + t.val < 2 by omega), if_neg h0, if_neg h0]
    have b1 : ∀ h, (⟨1 + t.val - 2, h⟩ : Fin 8) = ⟨t.val - 1, by omega⟩ := fun h => Fin.ext (by show 1 + t.val - 2 = t.val - 1; omega)
    simp only [b1]
    by_cases h1 : t.val = 1
    · rw [dif_pos (show t.val < 2 by omega), if_pos h1]
      have a0 : ∀ h, (⟨t.val, h⟩ : Fin 2) = 1 := fun h => Fin.ext h1
      simp only [a0]
    · rw [dif_neg (show ¬ t.val < 2 by omega), if_neg h1]

theorem ref0_apply (g : Fin 256) (n : Fin 2048) :
    ref0 hn wu cw wd cp (ix2 g n) = ∑ e : Fin 5632, term hn wu cw wd cp (bOf g) (tOf g) n e := by
  unfold ref0 term
  rw [downRef_apply]
  refine Finset.sum_congr rfl fun e _ => ?_
  rw [geluRef_apply, conv_eq, valRef_apply, upRef_apply]

theorem ref1_apply (g : Fin 256) (e : Fin 5632) : ref1 hn wu (ix2 g e) = up hn wu (bOf g) (tOf g) (lo e) := by
  have h : ref1 hn wu (ix2 g e) = gateRef (upRef hn wu) (ix3 (bOf g) (tOf g) e) := by
    unfold ref1
    generalize gateRef (upRef hn wu) = z
    pointwise
  rw [h, gateRef_apply, upRef_apply]

variable (m : (ℓ : Loc nD τ sig) → Buf (Elt Ideal) ℓ) (c : Dev nD)

theorem res0_eq : Value.res_main_v41 m c = ref0 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Cert.FfnNew

end
-- ==== Proof.FfnNew.lean ====
/-
  The feed-forward call on the new tokens: the blocks its eleven grid points read, the sum over the eleven hidden blocks,
  and the two arrays the call leaves — the reference's two results. Every sequence has eight rows, so the rows before a
  sequence are always the given ones, and nothing is carried from block to block.
-/
module

public import proofs.«01_k».proof.Proof.FfnNewRef

@[expose] public section

set_option maxRecDepth 16384

noncomputable section

open Idealize.ShloMosaic Idealize.ShloMosaic.TcCoe Idealize.SL.Sem
open Idealize.ShloMosaic.Pipeline (Dat)

namespace Cert.FfnNew

open Cert.Ffn (gelu lo hi)
open Cert.Kernel8Ideal Cert.Kernel8Ideal.Gen

/-! ## The pieces a point computes, entry by entry -/

theorem pay4_apply (x0 : FVec Ideal S256x2048 .bf16) (x1 : FVec Ideal S2048x512 .bf16) (r : Fin 256) (n : Fin 512) :
    (k0_pay4 (F := Ideal) x0 x1 : FVec Ideal S256x512 .f32) (ix2 r n) = ∑ k : Fin 2048, x0 (ix2 r k) * x1 (ix2 k n) := by
  unfold k0_pay4 k0_pay3
  pointwise

theorem pay5_apply (x0 : FVec Ideal S256x2048 .bf16) (x1 : FVec Ideal S2048x512 .bf16) (r : Fin 256) (n : Fin 512) :
    (k0_pay5 (F := Ideal) x0 x1 : FVec Ideal S256x512 .f32) (ix2 r n) = ∑ k : Fin 2048, x0 (ix2 r k) * x1 (ix2 k n) := by
  unfold k0_pay5 k0_pay3
  pointwise

theorem pay7_apply (r : Fin 256) (n : Fin 512) : (k0_pay7 : IVec S256x512 32) (ix2 r n) = BitVec.ofNat 32 r.val &&& 7#32 := by
  unfold k0_pay7
  pointwise
  try rfl

theorem low_bits (r : ℕ) : BitVec.ofNat 32 r &&& 7#32 = BitVec.ofNat 32 (r % 8) := by
  apply BitVec.eq_of_toNat_eq
  rw [BitVec.toNat_and, BitVec.toNat_ofNat, BitVec.toNat_ofNat, BitVec.toNat_ofNat]
  rw [show 7 % 2 ^ 32 = 2 ^ 3 - 1 from rfl, Nat.and_two_pow_sub_one_eq_mod]
  omega

theorem sel_lt (r : ℕ) (hr : r < 8) (a b : EReal) :
    Scalar.select (IntOp.cmpi .slt (BitVec.ofNat 32 r) 2#32) a b = if r < 2 then a else b := by
  interval_cases r <;> rfl

theorem sel_eq (r : ℕ) (hr : r < 8) (a b : EReal) :
    Scalar.select (IntOp.cmpi .eq (BitVec.ofNat 32 r) 0#32) a b = if r = 0 then a else b := by
  interval_cases r <;> rfl

theorem pay8_apply (x0 : FVec Ideal S256x2048 .bf16) (x1 : FVec Ideal S2048x512 .bf16) (p : FVec Ideal S256x512 .f32) (w : FVec Ideal S1x512 .f32)
    (r : Fin 256) (n : Fin 512) :
    (k0_pay8 (F := Ideal) x0 x1 p w : FVec Ideal S256x512 .f32) (ix2 r n)
      = w (ix2 0 n) * (if r.val % 8 < 2 then p (ix2 r n)
          else (k0_pay4 (F := Ideal) x0 x1 : FVec Ideal S256x512 .f32) (ix2 (⟨(r.val + 256 - 2) % 256, Nat.mod_lt _ (by decide)⟩ : Fin 256) n)) := by
  unfold k0_pay8 k0_pay6
  generalize (k0_pay4 (F := Ideal) x0 x1 : FVec Ideal S256x512 .f32) = h
  pointwise [pay7_apply]
  rw [low_bits, sel_lt _ (Nat.mod_lt _ (by decide))]

theorem pay9_apply (x0 : FVec Ideal S256x2048 .bf16) (x1 : FVec Ideal S2048x512 .bf16) (p : FVec Ideal S256x512 .f32) (w : FVec Ideal S1x512 .f32)
    (r : Fin 256) (n : Fin 512) :
    (k0_pay9 (F := Ideal) x0 x1 p w : FVec Ideal S256x512 .f32) (ix2 r n)
      = w (ix2 0 n) * (if r.val % 8 = 0 then p (ix2 (⟨(r.val + 256 - 255) % 256, Nat.mod_lt _ (by decide)⟩ : Fin 256) n)
          else (k0_pay4 (F := Ideal) x0 x1 : FVec Ideal S256x512 .f32) (ix2 (⟨(r.val + 256 - 1) % 256, Nat.mod_lt _ (by decide)⟩ : Fin 256) n)) := by
  unfold k0_pay9 k0_pay6
  generalize (k0_pay4 (F := Ideal) x0 x1 : FVec Ideal S256x512 .f32) = h
  pointwise [pay7_apply]
  rw [low_bits, sel_eq _ (Nat.mod_lt _ (by decide))]

theorem pay1_apply (ug uv c2 c1 : FVec Ideal S256x512 .f32) (w : FVec Ideal S1x512 .f32) (o : FVec Ideal S256x2048 .f32)
    (wd : FVec Ideal S512x2048 .bf16) (r : Fin 256) (n : Fin 2048) :
    (k0_pay1 (F := Ideal) ug uv c2 c1 w o wd : FVec Ideal S256x2048 .f32) (ix2 r n)
      = o (ix2 r n) + ∑ e : Fin 512, gelu (c2 (ix2 r e) + c1 (ix2 r e) + w (ix2 0 e) * ug (ix2 r e)) * uv (ix2 r e) * wd (ix2 e n) := by
  unfold k0_pay1 gelu
  pointwise

theorem pay2_apply (r : Fin 256) (n : Fin 2048) : (k0_pay2 (F := Ideal) : FVec Ideal S256x2048 .f32) (ix2 r n) = 0 := by
  unfold k0_pay2
  pointwise

variable (m : (ℓ : Loc nD τ sig) → Buf (Elt Ideal) ℓ) (c : Dev nD)

/-- What a point adds to the output block that held `o`. -/
def stepAt (t : Fin cfg0.N) (o : FVec Ideal S256x2048 .f32) : FVec Ideal S256x2048 .f32 :=
  k0_pay1 (F := Ideal) (k0_pay4 (iblk m c 0 t) (iblk m c 1 t)) (k0_pay5 (iblk m c 0 t) (iblk m c 2 t))
    (k0_pay8 (iblk m c 0 t) (iblk m c 1 t) (iblk m c 5 t) (VecWindow.window (iblk m c 3 t : FVec Ideal S3x512 .f32) ![0, 0] S1x512.size inb_S3x512_S1x512_0_0))
    (k0_pay9 (iblk m c 0 t) (iblk m c 1 t) (iblk m c 5 t) (VecWindow.window (iblk m c 3 t : FVec Ideal S3x512 .f32) ![1, 0] S1x512.size inb_S3x512_S1x512_1_0))
    (VecWindow.window (iblk m c 3 t : FVec Ideal S3x512 .f32) ![2, 0] S1x512.size inb_S3x512_S1x512_2_0) o (iblk m c 4 t)

theorem outs_first (t : Fin cfg0.N) (h0 : t.val % 11 = 0) :
    ((outsAt0 m c t.val t.isLt).1 : FVec Ideal S256x2048 .f32) = stepAt m c t (k0_pay2 (F := Ideal)) := by
  rw [outsAt0_A m c t h0]
  frame_out
  unfold stepAt
  rfl

theorem outs_next (t : Fin cfg0.N) (h0 : ¬ t.val % 11 = 0) :
    ((outsAt0 m c t.val t.isLt).1 : FVec Ideal S256x2048 .f32) = stepAt m c t (outsAt0 m c (t.val - 1) (Nat.lt_of_le_of_lt (Nat.sub_le _ _) t.isLt)).1 := by
  rw [outsAt0_B m c t h0]
  frame_out
  unfold stepAt
  rfl

theorem tails (t : Fin cfg0.N) :
    ((outsAt0 m c t.val t.isLt).2 : FVec Ideal S256x512 .f32) = k0_pay4 (iblk m c 0 t) (iblk m c 1 t) := by
  by_cases h0 : t.val % 11 = 0
  · rw [outsAt0_A m c t h0]
    frame_out
    try rfl
  · rw [outsAt0_B m c t h0]
    frame_out
    try rfl

/-! ## The blocks a point reads -/

theorem index0 : ∀ t : Fin cfg0.N, win0_0.index t = ![0, 0] := by decide +kernel
theorem index1 : ∀ t : Fin cfg0.N, win0_1.index t = ![0, t.val] := by decide +kernel
theorem index2 : ∀ t : Fin cfg0.N, win0_2.index t = ![0, 11 + t.val] := by decide +kernel
theorem index3 : ∀ t : Fin cfg0.N, win0_3.index t = ![0, t.val] := by decide +kernel
theorem index4 : ∀ t : Fin cfg0.N, win0_4.index t = ![t.val, 0] := by decide +kernel
theorem index5 : ∀ t : Fin cfg0.N, win0_5.index t = ![0, t.val] := by decide +kernel
theorem index6 : ∀ t : Fin cfg0.N, win0_6.index t = ![0, 0] := by decide +kernel
theorem index7 : ∀ t : Fin cfg0.N, win0_7.index t = ![0, t.val] := by decide +kernel

theorem lt11 (t : Fin cfg0.N) : t.val < 11 := Nat.lt_of_lt_of_eq t.isLt N_0

/-- The hidden column that column `n` of a point's blocks is. -/
abbrev col (t : Fin cfg0.N) (n : Fin 512) : Fin 5632 :=
  ⟨t.val * 512 + n.val, by have := lt11 t; have := n.isLt; omega⟩

abbrev argHn : FVec Ideal S32x8x2048 .f32 := m ((c : Thread nD τ).loc main_arg0)
abbrev argWu : FVec Ideal S2048x11264 .f32 := m ((c : Thread nD τ).loc main_arg1)
abbrev argCw : FVec Ideal S3x5632 .f32 := m ((c : Thread nD τ).loc main_arg2)
abbrev argWd : FVec Ideal S5632x2048 .f32 := m ((c : Thread nD τ).loc main_arg3)
abbrev argCp : FVec Ideal S32x2x5632 .f32 := m ((c : Thread nD τ).loc main_arg4)

theorem blk0_apply (t : Fin cfg0.N) (r : Fin 256) (k : Fin 2048) :
    (iblk m c 0 t : FVec Ideal S256x2048 .bf16) (ix2 r k) = argHn m c (ix3 (bOf r) (tOf r) k) := by
  have h : (iblk m c 0 t : FVec Ideal S256x2048 .bf16) (ix2 r k) = (Gen.V m c main_v4 : FVec Ideal S256x2048 .bf16) (ix2 r k) := by
    blk_ext [iblk, index0 t]
  rw [h]
  entry_read
  pointwise
  try rfl

theorem blk1_apply (t : Fin cfg0.N) (k : Fin 2048) (n : Fin 512) :
    (iblk m c 1 t : FVec Ideal S2048x512 .bf16) (ix2 k n) = argWu m c (ix2 k (lo (col t n))) := by
  have h : (iblk m c 1 t : FVec Ideal S2048x512 .bf16) (ix2 k n) = (Gen.V m c main_v5 : FVec Ideal S2048x11264 .bf16) (ix2 k (lo (col t n))) := by
    blk_ext [iblk, index1 t]
  rw [h]
  entry_read
  pointwise
  try rfl

theorem blk2_apply (t : Fin cfg0.N) (k : Fin 2048) (n : Fin 512) :
    (iblk m c 2 t : FVec Ideal S2048x512 .bf16) (ix2 k n) = argWu m c (ix2 k (hi (col t n))) := by
  have h : (iblk m c 2 t : FVec Ideal S2048x512 .bf16) (ix2 k n) = (Gen.V m c main_v5 : FVec Ideal S2048x11264 .bf16) (ix2 k (hi (col t n))) := by
    blk_ext [iblk, index2 t]
  rw [h]
  entry_read
  pointwise
  try rfl

theorem blk3_apply (t : Fin cfg0.N) (j : Fin 3) (n : Fin 512) :
    (iblk m c 3 t : FVec Ideal S3x512 .f32) (ix2 j n) = argCw m c (ix2 j (col t n)) := by
  have h : (iblk m c 3 t : FVec Ideal S3x512 .f32) (ix2 j n) = (Gen.V m c main_arg2 : FVec Ideal S3x5632 .f32) (ix2 j (col t n)) := by
    blk_ext [iblk, index3 t]
  rw [h, V_main_arg2]

theorem blk4_apply (t : Fin cfg0.N) (e : Fin 512) (n : Fin 2048) :
    (iblk m c 4 t : FVec Ideal S512x2048 .bf16) (ix2 e n) = argWd m c (ix2 (col t e) n) := by
  have h : (iblk m c 4 t : FVec Ideal S512x2048 .bf16) (ix2 e n) = (Gen.V m c main_v6 : FVec Ideal S5632x2048 .bf16) (ix2 (col t e) n) := by
    blk_ext [iblk, index4 t]
  rw [h]
  entry_read
  pointwise
  try rfl

/-- The given rows stand in the first two rows of a sequence's eight. -/
theorem blk5_apply (t : Fin cfg0.N) (r : Fin 256) (n : Fin 512) (b : Fin 32) (a : Fin 2) (hr : r.val = 8 * b.val + a.val) :
    (iblk m c 5 t : FVec Ideal S256x512 .f32) (ix2 r n) = argCp m c (ix3 b a (col t n)) := by
  have h : (iblk m c 5 t : FVec Ideal S256x512 .f32) (ix2 r n) = (Gen.V m c main_v2 : FVec Ideal S256x5632 .f32) (ix2 r (col t n)) := by
    blk_ext [iblk, index5 t]
  have ha := a.isLt
  rw [h]
  entry_read
  pointwise
  rw [dif_pos (show r.val % 8 < 2 by omega)]
  have e1 : ∀ h, (⟨r.val / 8, h⟩ : Fin 32) = b := fun h => Fin.ext (by show r.val / 8 = b.val; omega)
  have e2 : ∀ h, (⟨r.val % 8, h⟩ : Fin 2) = a := fun h => Fin.ext (by show r.val % 8 = a.val; omega)
  simp only [e1, e2]
  try rfl

/-! ## What a point computes -/

theorem tap_apply (x : FVec Ideal S3x512 .f32) (n : Fin 512) :
    (VecWindow.window x ![0, 0] S1x512.size inb_S3x512_S1x512_0_0 : FVec Ideal S1x512 .f32) (ix2 0 n) = x (ix2 0 n)
    ∧ (VecWindow.window x ![1, 0] S1x512.size inb_S3x512_S1x512_1_0 : FVec Ideal S1x512 .f32) (ix2 0 n) = x (ix2 1 n)
    ∧ (VecWindow.window x ![2, 0] S1x512.size inb_S3x512_S1x512_2_0 : FVec Ideal S1x512 .f32) (ix2 0 n) = x (ix2 2 n) := by
  refine ⟨congrArg x ?_, congrArg x ?_, congrArg x ?_⟩ <;>
    (funext a; fin_cases a <;> (apply Fin.ext; show _ + 1 * _ = _; first | rfl | (simp; rfl) | simp))

/-- The gate's up projection at a point is the reference's at the row and column it stands for. -/
theorem ug_apply (t : Fin cfg0.N) (r : Fin 256) (n : Fin 512) (b : Fin 32) (p : Fin 8) (hb : r.val / 8 = b.val) (hp : r.val % 8 = p.val) :
    (k0_pay4 (F := Ideal) (iblk m c 0 t) (iblk m c 1 t) : FVec Ideal S256x512 .f32) (ix2 r n) = up (argHn m c) (argWu m c) b p (lo (col t n)) := by
  obtain rfl : bOf r = b := Fin.ext hb
  obtain rfl : tOf r = p := Fin.ext hp
  rw [pay4_apply]
  simp only [blk0_apply, blk1_apply]
  rfl

theorem uv_apply (t : Fin cfg0.N) (r : Fin 256) (n : Fin 512) :
    (k0_pay5 (F := Ideal) (iblk m c 0 t) (iblk m c 2 t) : FVec Ideal S256x512 .f32) (ix2 r n) = up (argHn m c) (argWu m c) (bOf r) (tOf r) (hi (col t n)) := by
  rw [pay5_apply]
  simp only [blk0_apply, blk2_apply]
  rfl

/-- The row two back: a given one at the first two positions. -/
theorem two_back (t : Fin cfg0.N) (r : Fin 256) (n : Fin 512) :
    (if r.val % 8 < 2 then (iblk m c 5 t : FVec Ideal S256x512 .f32) (ix2 r n)
      else (k0_pay4 (F := Ideal) (iblk m c 0 t) (iblk m c 1 t) : FVec Ideal S256x512 .f32) (ix2 (⟨(r.val + 256 - 2) % 256, Nat.mod_lt _ (by decide)⟩ : Fin 256) n))
      = back2 (argHn m c) (argWu m c) (argCp m c) (bOf r) (tOf r) (col t n) := by
  have hr := r.isLt
  unfold back2
  by_cases h0 : r.val % 8 = 0
  · rw [if_pos (show r.val % 8 < 2 by omega), if_pos (show (tOf r).val = 0 from h0)]
    exact blk5_apply m c t r n (bOf r) 0 (by show r.val = 8 * (r.val / 8) + 0; omega)
  · rw [if_neg (show ¬ (tOf r).val = 0 from h0)]
    by_cases h1 : r.val % 8 = 1
    · rw [if_pos (show r.val % 8 < 2 by omega), if_pos (show (tOf r).val = 1 from h1)]
      exact blk5_apply m c t r n (bOf r) 1 (by show r.val = 8 * (r.val / 8) + 1; omega)
    · rw [if_neg (show ¬ r.val % 8 < 2 by omega), if_neg (show ¬ (tOf r).val = 1 from h1)]
      exact ug_apply m c t _ n _ _ (by show (r.val + 256 - 2) % 256 / 8 = r.val / 8; omega) (by show (r.val + 256 - 2) % 256 % 8 = r.val % 8 - 2; omega)

/-- The row one back: the second given one at the first position. -/
theorem one_back (t : Fin cfg0.N) (r : Fin 256) (n : Fin 512) :
    (if r.val % 8 = 0 then (iblk m c 5 t : FVec Ideal S256x512 .f32) (ix2 (⟨(r.val + 256 - 255) % 256, Nat.mod_lt _ (by decide)⟩ : Fin 256) n)
      else (k0_pay4 (F := Ideal) (iblk m c 0 t) (iblk m c 1 t) : FVec Ideal S256x512 .f32) (ix2 (⟨(r.val + 256 - 1) % 256, Nat.mod_lt _ (by decide)⟩ : Fin 256) n))
      = back1 (argHn m c) (argWu m c) (argCp m c) (bOf r) (tOf r) (col t n) := by
  have hr := r.isLt
  unfold back1
  by_cases h0 : r.val % 8 = 0
  · rw [if_pos h0, if_pos (show (tOf r).val = 0 from h0)]
    exact blk5_apply m c t _ n (bOf r) 1 (by show (r.val + 256 - 255) % 256 = 8 * (r.val / 8) + 1; omega)
  · rw [if_neg h0, if_neg (show ¬ (tOf r).val = 0 from h0)]
    exact ug_apply m c t _ n _ _ (by show (r.val + 256 - 1) % 256 / 8 = r.val / 8; omega) (by show (r.val + 256 - 1) % 256 % 8 = r.val % 8 - 1; omega)

/-! ## The sum over the hidden blocks -/

/-- The share of hidden block `q` in an output entry. -/
def part (g : Fin 256) (n : Fin 2048) (q : ℕ) : EReal :=
  if h : q < 11 then ∑ e : Fin 512, term (argHn m c) (argWu m c) (argCw m c) (argWd m c) (argCp m c) (bOf g) (tOf g) n
    (⟨q * 512 + e.val, by have := e.isLt; omega⟩ : Fin 5632) else 0

theorem step_apply (t : Fin cfg0.N) (o : FVec Ideal S256x2048 .f32) (r : Fin 256) (n : Fin 2048) :
    stepAt m c t o (ix2 r n) = o (ix2 r n) + part m c r n t.val := by
  unfold stepAt part
  rw [pay1_apply, dif_pos (lt11 t)]
  simp only [pay8_apply, pay9_apply, uv_apply, blk4_apply, (tap_apply _ _).1, (tap_apply _ _).2.1, (tap_apply _ _).2.2, blk3_apply,
    ug_apply m c t r _ (bOf r) (tOf r) rfl rfl]
  refine congrArg (o (ix2 r n) + ·) (Finset.sum_congr rfl fun e _ => ?_)
  refine congrArg (· * argWd m c (ix2 (col t e) n)) (congrArg (· * up (argHn m c) (argWu m c) (bOf r) (tOf r) (hi (col t e))) (congrArg gelu ?_))
  refine congrArg (· + argCw m c (ix2 2 (col t e)) * up (argHn m c) (argWu m c) (bOf r) (tOf r) (lo (col t e))) ?_
  exact congrArg₂ (· + ·) (congrArg (argCw m c (ix2 0 (col t e)) * ·) (two_back m c t r e)) (congrArg (argCw m c (ix2 1 (col t e)) * ·) (one_back m c t r e))

theorem acc_apply : ∀ (k : ℕ) (h : k < cfg0.N) (r : Fin 256) (n : Fin 2048),
    ((outsAt0 m c k h).1 : FVec Ideal S256x2048 .f32) (ix2 r n) = ∑ q ∈ Finset.range (k + 1), part m c r n q := by
  intro k
  induction k with
  | zero =>
    intro h r n
    rw [outs_first m c ⟨0, h⟩ rfl, step_apply, pay2_apply, zero_add]
    exact (Finset.sum_range_one _).symm
  | succ k ih =>
    intro h r n
    have hk := lt11 ⟨k + 1, h⟩
    rw [outs_next m c ⟨k + 1, h⟩ (by show ¬ (k + 1) % 11 = 0; have : k + 1 < 11 := hk; omega), step_apply, Finset.sum_range_succ _ (k + 1)]
    exact congrArg (· + part m c r n (k + 1)) (ih (Nat.lt_of_succ_lt h) r n)

/-- The eleven shares are the whole sum over the hidden columns. -/
theorem parts_eq (g : Fin 256) (n : Fin 2048) :
    ∑ q ∈ Finset.range 11, part m c g n q
      = ∑ e : Fin 5632, term (argHn m c) (argWu m c) (argCw m c) (argWd m c) (argCp m c) (bOf g) (tOf g) n e := by
  rw [Finset.sum_range, ← Equiv.sum_comp (finProdFinEquiv (m := 11) (n := 512)), Fintype.sum_prod_type]
  refine Finset.sum_congr rfl fun q _ => ?_
  unfold part
  rw [dif_pos q.isLt]
  refine Finset.sum_congr rfl fun e _ => ?_
  exact congrArg _ (Fin.ext (by show q.val * 512 + e.val = e.val + 512 * q.val; omega))

/-! ## The arrays the call leaves -/

abbrev outArr : FVec Ideal S256x2048 .f32 := fun i =>
  ∑ e : Fin 5632, term (argHn m c) (argWu m c) (argCw m c) (argWd m c) (argCp m c) (bOf (i 0)) (tOf (i 0)) (i 1) e

abbrev tailArr : FVec Ideal S256x5632 .f32 := fun i => up (argHn m c) (argWu m c) (bOf (i 0)) (tOf (i 0)) (lo (i 1))

theorem final0 : (dats m 0 c).arrAt 6 cfg0.N = outArr m c := by
  refine (dats m 0 c).arrAt_eq_of_covers 6 _ (by decide +kernel) fun t hf y => ?_
  blk_simp
  rw [after0_6]
  obtain ⟨r, n, rfl⟩ : ∃ (r : Fin 256) (n : Fin 2048), y = ix2 r n := ⟨y 0, y 1, by funext a; fin_cases a <;> rfl⟩
  have p : ((View.whole main_v7_0).slice (win0_6.rect t)).emb (ix2 r n) = ix2 r n := by blk_ext [index6 t]
  have h10 : t.val = 10 := by have := (flush0_6 t).mp hf; have := lt11 t; omega
  have e : ((outsAt0 m c t.val t.isLt).1 : FVec Ideal S256x2048 .f32) (ix2 r n) = outArr m c (ix2 r n) := by
    rw [acc_apply, h10]
    exact parts_eq m c r n
  exact e.trans (congrArg (outArr m c) p.symm)

theorem final1 : (dats m 0 c).arrAt 7 cfg0.N = tailArr m c := by
  refine (dats m 0 c).arrAt_eq_of_covers 7 _ (by decide +kernel) fun t hf y => ?_
  blk_simp
  rw [after0_7]
  obtain ⟨r, n, rfl⟩ : ∃ (r : Fin 256) (n : Fin 512), y = ix2 r n := ⟨y 0, y 1, by funext a; fin_cases a <;> rfl⟩
  have p : ((View.whole main_v7_1).slice (win0_7.rect t)).emb (ix2 r n) = ix2 r (col t n) := by blk_ext [index7 t]
  have e : ((outsAt0 m c t.val t.isLt).2 : FVec Ideal S256x512 .f32) (ix2 r n) = tailArr m c (ix2 r (col t n)) := by
    rw [tails]
    exact ug_apply m c t r n _ _ rfl rfl
  exact e.trans (congrArg (tailArr m c) p.symm)

/-- The reference's results of the same arguments are the same arrays. -/
theorem same0 : ref0 (argHn m c) (argWu m c) (argCw m c) (argWd m c) (argCp m c) = (dats m 0 c).arrAt 6 cfg0.N := by
  rw [final0]
  funext i
  obtain ⟨r, n, rfl⟩ : ∃ (r : Fin 256) (n : Fin 2048), i = ix2 r n := ⟨i 0, i 1, by funext a; fin_cases a <;> rfl⟩
  rw [ref0_apply]
  rfl

theorem same1 : ref1 (argHn m c) (argWu m c) = (dats m 0 c).arrAt 7 cfg0.N := by
  rw [final1]
  funext i
  obtain ⟨r, n, rfl⟩ : ∃ (r : Fin 256) (n : Fin 5632), i = ix2 r n := ⟨i 0, i 1, by funext a; fin_cases a <;> rfl⟩
  rw [ref1_apply]
  rfl

open Cert.Kernel8Ideal in
theorem algebraic : Cert.algebraic_Kernel8Ideal_Reference8Ideal := fun m g m' g' _ heq =>
  ⟨fun c => (Gen.dats m 0 c).arrAt 6 cfg0.N, fun c => (Gen.dats m 0 c).arrAt 7 cfg0.N,
    Value.run_blocks m g,
    (θ_run Cert.Reference8Ideal.defs _ _).mono (fun r hr c => by
        obtain ⟨e0, e1, e2, e3, e4⟩ := heq c
        have es0 : ref0 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))
            = ref0 (argHn m c) (argWu m c) (argCw m c) (argWd m c) (argCp m c) := by
          rw [e0, e1, e2, e3, e4]
        have es1 : ref1 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
            = ref1 (argHn m c) (argWu m c) := by
          rw [e0, e1]
        exact ⟨(hr c).1.trans ((res0_eq m' c).trans (es0.trans (same0 m c))), (hr c).2.1.trans (es1.trans (same1 m c)), (hr c).2.2⟩)
      (Cert.Reference8Ideal.Value.run (F := Ideal) m' g')⟩

end Cert.FfnNew

end
-- ==== Proof.ProjNewRun.lean ====
module

public import proofs.«01_k».proof.Proof.Gen.Kernel9Ideal.Frame
public import proofs.«01_k».proof.Proof.Gen.Kernel9Ideal.Skeleton
public import Idealize.ShloMosaic.Lib.Pipeline.FrameBody
public import Idealize.ShloMosaic.Lib.VecWindow
public import Idealize.ShloMosaic.Lib.WholeRead
public import Idealize.ShloMosaic.Lib.Ring
public import Idealize.ShloMosaic.Lib.Tactic
public import Idealize.ShloMosaic.Lib.WordCmp
public import Idealize.ShloMosaic.Lib.Claim

/-!
# One step of the input projection's kernel on the new tokens

The body of the call at one grid point, in its six cases: the first point normalises the rows into the scratch buffer and
computes the first block of the recurrence's columns; the later points multiply the normalised rows by one block of the
weights each, and put the product into the output their column block belongs to.
Every run names only the buffers its case touches.
-/

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's conditions on the grid point -/

/-- The point is the first. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

/-- The point's column block is one of the recurrence's columns. -/
theorem hcond0_1 : ∀ t : Fin cfg0.N, k0_cond2 (grid0.coords t) = 1#1 ↔ (0 ≤ t.val ∧ t.val ≤ 6) :=
  (by decide +kernel : ∀ t : Fin grid0.N, k0_cond2 (grid0.coords t) = 1#1 ↔ (0 ≤ t.val ∧ t.val ≤ 6))

/-- The point's column block is one of the queries. -/
theorem hcond0_2 : ∀ t : Fin cfg0.N, k0_cond3 (grid0.coords t) = 1#1 ↔ (7 ≤ t.val ∧ t.val ≤ 8) :=
  (by decide +kernel : ∀ t : Fin grid0.N, k0_cond3 (grid0.coords t) = 1#1 ↔ (7 ≤ t.val ∧ t.val ≤ 8))

/-- The point's column block is one of the keys. -/
theorem hcond0_3 : ∀ t : Fin cfg0.N, k0_cond4 (grid0.coords t) = 1#1 ↔ (9 ≤ t.val ∧ t.val ≤ 10) :=
  (by decide +kernel : ∀ t : Fin grid0.N, k0_cond4 (grid0.coords t) = 1#1 ↔ (9 ≤ t.val ∧ t.val ≤ 10))

/-- The point's column block is one of the values. -/
theorem hcond0_4 : ∀ t : Fin cfg0.N, k0_cond5 (grid0.coords t) = 1#1 ↔ (11 ≤ t.val ∧ t.val ≤ 12) :=
  (by decide +kernel : ∀ t : Fin grid0.N, k0_cond5 (grid0.coords t) = 1#1 ↔ (11 ≤ t.val ∧ t.val ≤ 12))

/-- The point's column block is one of the gates. -/
theorem hcond0_5 : ∀ t : Fin cfg0.N, k0_cond6 (grid0.coords t) = 1#1 ↔ (13 ≤ t.val ∧ t.val ≤ 20) :=
  (by decide +kernel : ∀ t : Fin grid0.N, k0_cond6 (grid0.coords t) = 1#1 ↔ (13 ≤ t.val ∧ t.val ≤ 20))

/-! ## The runs -/

variable (c : Dev nD) (i : grid0.Coords)
  (arg2 : Memref sig .tc .vmem S256x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S512x2048 .bf16) (harg5 : arg5.IsWhole)
  (arg6 : Memref sig .tc .vmem S256x512 .f32) (harg6 : arg6.IsWhole)
  (arg7 : Memref sig .tc .vmem S256x512 .bf16) (harg7 : arg7.IsWhole)
  (arg8 : Memref sig .tc .vmem S256x512 .f32) (harg8 : arg8.IsWhole)
  (arg9 : Memref sig .tc .vmem S256x512 .f32) (harg9 : arg9.IsWhole)
  (arg10 : Memref sig .tc .vmem S256x512 .bf16) (harg10 : arg10.IsWhole)
  (arg11 : Memref sig .tc .vmem S256x2048 .bf16) (harg11 : arg11.IsWhole)

set_option maxHeartbeats 2000000 in
/-- The body at the first point: the rows normalised, and the first block of the recurrence's columns. -/
theorem run_A
    (hc0 : cond0_0 i) (hc1 : k0_cond2 i = 1#1) (hc2 : ¬(k0_cond3 i = 1#1)) (hc3 : ¬(k0_cond4 i = 1#1)) (hc4 : ¬(k0_cond5 i = 1#1)) (hc5 : ¬(k0_cond6 i = 1#1))
    (x2 : Vec F S256x2048 .f32) (x3 : Vec F S1x2048 .f32) (x4 : Vec F S2048x512 .bf16) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ (∃ d, owns (c : Thread nD τ) arg6 fullShare d) ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg6 fullShare (k0_pay2 (k0_pay1 x2 x3) x4) ∗ owns (c : Thread nD τ) arg11 fullShare (k0_pay1 x2 x3)) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f2, %hf2, H2⟩, ⟨%f3, %hf3, H3⟩, ⟨%f4, %hf4, H4⟩, ⟨%d6, %f6, -, H6⟩, ⟨%ds, %fs, -, HS⟩, Hk⟩
    obtain rfl := harg2.eq_unread hf2; obtain rfl := harg3.eq_unread hf3; obtain rfl := harg4.eq_unread hf4
    sl_exec (disch := first | sl_exact hc0 | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; swap; · iexact H6
      ipureintro
      rw [View.read_writes_full]
      rw [show run_A.sl.v28 (F := F) c arg2 harg2 arg3 harg3 arg11 x2 x3 = k0_pay1 (arg2.view.readAt (Elt F) (Rect.unit ![0, 0] S256x2048.size inb_S256x2048_S256x2048_0_0).toLoadRect (harg2.unread x2)) (arg3.view.readAt (Elt F) (Rect.unit ![0, 0] S1x2048.size inb_S1x2048_S1x2048_0_0).toLoadRect (harg3.unread x3)) from (View.readAt_full arg11.view _ inb_S256x2048_S256x2048_0_0).trans (View.read_writes_full arg11.view _ _ _ _),
        (View.readAt_full arg2.view (harg2.unread x2) inb_S256x2048_S256x2048_0_0).trans (harg2.read_unread x2), (View.readAt_full arg3.view (harg3.unread x3) inb_S1x2048_S1x2048_0_0).trans (harg3.read_unread x3), (View.readAt_full arg4.view (harg4.unread x4) inb_S2048x512_S2048x512_0_0).trans (harg4.read_unread x4)]
    iexists _; isplitr; swap; · iexact HS
    ipureintro
    delta run_A.sl.HS_1
    rw [View.read_writes_full, (View.readAt_full arg2.view (harg2.unread x2) inb_S256x2048_S256x2048_0_0).trans (harg2.read_unread x2), (View.readAt_full arg3.view (harg3.unread x3) inb_S1x2048_S1x2048_0_0).trans (harg3.read_unread x3)]

set_option maxHeartbeats 2000000 in
/-- The body at a later block of the recurrence's columns. -/
theorem run_B
    (hc0 : ¬cond0_0 i) (hc1 : k0_cond2 i = 1#1) (hc2 : ¬(k0_cond3 i = 1#1)) (hc3 : ¬(k0_cond4 i = 1#1)) (hc4 : ¬(k0_cond5 i = 1#1)) (hc5 : ¬(k0_cond6 i = 1#1))
    (x4 : Vec F S2048x512 .bf16) (xs : Vec F S256x2048 .bf16) :
      ∀ (E : Set ℕ) (K : PUnit → sProp 𝕄),
        iprop(owns (c : Thread nD τ) arg4 fullShare x4 ∗ (∃ d, owns (c : Thread nD τ) arg6 fullShare d) ∗ owns (c : Thread nD τ) arg11 fullShare xs
            ∗ (iprop(owns (c : Thread nD τ) arg4 fullShare x4 ∗ owns (c : Thread nD τ) arg6 fullShare (k0_pay2 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d6, %f6, -, H6⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; swap; · iexact H6
      ipureintro
      rw [View.read_writes_full]
      rw [(View.readAt_full arg11.view (harg11.unread xs) inb_S256x2048_S256x2048_0_0).trans (harg11.read_unread xs), (View.readAt_full arg4.view (harg4.unread x4) inb_S2048x512_S2048x512_0_0).trans (harg4.read_unread x4)]
    iexists _; isplitr; swap; · iexact HS
    ipureintro
    exact harg11.read_unread _

set_option maxHeartbeats 2000000 in
/-- The body at a block of the queries. -/
theorem run_C
    (hc0 : ¬cond0_0 i) (hc1 : ¬(k0_cond2 i = 1#1)) (hc2 : k0_cond3 i = 1#1) (hc3 : ¬(k0_cond4 i = 1#1)) (hc4 : ¬(k0_cond5 i = 1#1)) (hc5 : ¬(k0_cond6 i = 1#1))
    (x4 : Vec F S2048x512 .bf16) (xs : Vec F S256x2048 .bf16) :
      ∀ (E : Set ℕ) (K : PUnit → sProp 𝕄),
        iprop(owns (c : Thread nD τ) arg4 fullShare x4 ∗ (∃ d, owns (c : Thread nD τ) arg7 fullShare d) ∗ owns (c : Thread nD τ) arg11 fullShare xs
            ∗ (iprop(owns (c : Thread nD τ) arg4 fullShare x4 ∗ owns (c : Thread nD τ) arg7 fullShare (k0_pay3 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d7, %f7, -, H7⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H7]
    · iexists _; isplitr; swap; · iexact H7
      ipureintro
      rw [View.read_writes_full]
      rw [(View.readAt_full arg11.view (harg11.unread xs) inb_S256x2048_S256x2048_0_0).trans (harg11.read_unread xs), (View.readAt_full arg4.view (harg4.unread x4) inb_S2048x512_S2048x512_0_0).trans (harg4.read_unread x4)]
    iexists _; isplitr; swap; · iexact HS
    ipureintro
    exact harg11.read_unread _

set_option maxHeartbeats 2000000 in
/-- The body at a block of the keys. -/
theorem run_D
    (hc0 : ¬cond0_0 i) (hc1 : ¬(k0_cond2 i = 1#1)) (hc2 : ¬(k0_cond3 i = 1#1)) (hc3 : k0_cond4 i = 1#1) (hc4 : ¬(k0_cond5 i = 1#1)) (hc5 : ¬(k0_cond6 i = 1#1))
    (x4 : Vec F S2048x512 .bf16) (xs : Vec F S256x2048 .bf16) :
      ∀ (E : Set ℕ) (K : PUnit → sProp 𝕄),
        iprop(owns (c : Thread nD τ) arg4 fullShare x4 ∗ (∃ d, owns (c : Thread nD τ) arg8 fullShare d) ∗ owns (c : Thread nD τ) arg11 fullShare xs
            ∗ (iprop(owns (c : Thread nD τ) arg4 fullShare x4 ∗ owns (c : Thread nD τ) arg8 fullShare (k0_pay4 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d8, %f8, -, H8⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H8]
    · iexists _; isplitr; swap; · iexact H8
      ipureintro
      rw [View.read_writes_full]
      rw [(View.readAt_full arg11.view (harg11.unread xs) inb_S256x2048_S256x2048_0_0).trans (harg11.read_unread xs), (View.readAt_full arg4.view (harg4.unread x4) inb_S2048x512_S2048x512_0_0).trans (harg4.read_unread x4)]
    iexists _; isplitr; swap; · iexact HS
    ipureintro
    exact harg11.read_unread _

set_option maxHeartbeats 2000000 in
/-- The body at a block of the values. -/
theorem run_E
    (hc0 : ¬cond0_0 i) (hc1 : ¬(k0_cond2 i = 1#1)) (hc2 : ¬(k0_cond3 i = 1#1)) (hc3 : ¬(k0_cond4 i = 1#1)) (hc4 : k0_cond5 i = 1#1) (hc5 : ¬(k0_cond6 i = 1#1))
    (x4 : Vec F S2048x512 .bf16) (xs : Vec F S256x2048 .bf16) :
      ∀ (E : Set ℕ) (K : PUnit → sProp 𝕄),
        iprop(owns (c : Thread nD τ) arg4 fullShare x4 ∗ (∃ d, owns (c : Thread nD τ) arg9 fullShare d) ∗ owns (c : Thread nD τ) arg11 fullShare xs
            ∗ (iprop(owns (c : Thread nD τ) arg4 fullShare x4 ∗ owns (c : Thread nD τ) arg9 fullShare (k0_pay5 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d9, %f9, -, H9⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H9]
    · iexists _; isplitr; swap; · iexact H9
      ipureintro
      rw [View.read_writes_full]
      rw [(View.readAt_full arg11.view (harg11.unread xs) inb_S256x2048_S256x2048_0_0).trans (harg11.read_unread xs), (View.readAt_full arg4.view (harg4.unread x4) inb_S2048x512_S2048x512_0_0).trans (harg4.read_unread x4)]
    iexists _; isplitr; swap; · iexact HS
    ipureintro
    exact harg11.read_unread _

set_option maxHeartbeats 2000000 in
/-- The body at a block of the gates. -/
theorem run_F
    (hc0 : ¬cond0_0 i) (hc1 : ¬(k0_cond2 i = 1#1)) (hc2 : ¬(k0_cond3 i = 1#1)) (hc3 : ¬(k0_cond4 i = 1#1)) (hc4 : ¬(k0_cond5 i = 1#1)) (hc5 : k0_cond6 i = 1#1)
    (x4 : Vec F S2048x512 .bf16) (xs : Vec F S256x2048 .bf16) :
      ∀ (E : Set ℕ) (K : PUnit → sProp 𝕄),
        iprop(owns (c : Thread nD τ) arg4 fullShare x4 ∗ (∃ d, owns (c : Thread nD τ) arg10 fullShare d) ∗ owns (c : Thread nD τ) arg11 fullShare xs
            ∗ (iprop(owns (c : Thread nD τ) arg4 fullShare x4 ∗ owns (c : Thread nD τ) arg10 fullShare (k0_pay6 xs x4) ∗ owns (c : Thread nD τ) arg11 fullShare xs) -∗ K PUnit.unit))
          ⊢ wp frame (wpE (defs₀ (F := F)) Variants.none c none) E (cc0_rms_proj i arg2 harg2 arg3 harg3 arg4 harg4 arg5 harg5 arg6 harg6 arg7 harg7 arg8 harg8 arg9 harg9 arg10 harg10 arg11 harg11) K := by
    intro E K
    simp only [cc0_rms_proj_eq_skeleton]; unfold cc0_rms_proj_skel
    unfold owns
    iintro ⟨⟨%f4, %hf4, H4⟩, ⟨%d10, %f10, -, H10⟩, ⟨%fs, %hfs, HS⟩, Hk⟩
    obtain rfl := harg4.eq_unread hf4; obtain rfl := harg11.eq_unread hfs
    sl_exec (disch := first | sl_exact hc0 | sl_exact hc1 | sl_exact hc2 | sl_exact hc3 | sl_exact hc4 | sl_exact hc5)
    sl_step
    iapply Hk
    isplitl [H4]
    · iexists _; isplitr; · ipureintro; exact harg4.read_unread _
      iexact H4
    isplitl [H10]
    · iexists _; isplitr; swap; · iexact H10
      ipureintro
      rw [View.read_writes_full]
      rw [(View.readAt_full arg11.view (harg11.unread xs) inb_S256x2048_S256x2048_0_0).trans (harg11.read_unread xs), (View.readAt_full arg4.view (harg4.unread x4) inb_S2048x512_S2048x512_0_0).trans (harg4.read_unread x4)]
    iexists _; isplitr; swap; · iexact HS
    ipureintro
    exact harg11.read_unread _

end Cert.Kernel9Ideal.Gen

end
-- ==== Proof.ProjNewFrame.lean ====
module

public import proofs.«01_k».proof.Proof.ProjNewRun

/-!
# The run of the input projection on the new tokens

What the scratch buffer holds between points (`Held`: the normalised rows), what every point leaves in its output
(`out4` … `out8`), and the run of the whole call with those contents.  A window's buffer is left alone at the points
whose column block belongs to another output; at the last point it still holds what the last point of its own left
(`still`).
-/

@[expose] public section

set_option maxRecDepth 16384

noncomputable section

namespace Cert.Kernel9Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

theorem lt21 (t : Fin cfg0.N) : t.val < 21 := Nat.lt_of_lt_of_eq t.isLt N_0

/-- The point at column block `j`, or `t` itself where `t` is before it. -/
def upTo (j : Fin 21) (t : Fin cfg0.N) : Fin cfg0.N := ⟨min t.val j.val, Nat.lt_of_le_of_lt (Nat.min_le_left _ _) t.isLt⟩

theorem upTo_self (j : Fin 21) (t : Fin cfg0.N) (h : t.val ≤ j.val) : upTo j t = t := Fin.ext (Nat.min_eq_left h)

theorem upTo_eq (j : Fin 21) (s t : Fin cfg0.N) (hs : j.val ≤ s.val) (ht : j.val ≤ t.val) : upTo j s = upTo j t :=
  Fin.ext ((Nat.min_eq_right hs).trans (Nat.min_eq_right ht).symm)

/-- The first point. -/
def start : Fin cfg0.N := ⟨0, Nat.lt_of_lt_of_eq (by decide) N_0.symm⟩

/-- The normalised rows, as the first point computes them. -/
def xnAt (c : Dev nD) : FVec F S256x2048 .bf16 := k0_pay1 (iblk m c 0 start) (iblk m c 1 start)

/-- What the point leaves in the recurrence's columns' block. -/
def out4 (c : Dev nD) (t : Fin cfg0.N) : FVec F S256x512 .f32 := k0_pay2 (xnAt m c) (iblk m c 2 t)
/-- What the point leaves in the queries' block. -/
def out5 (c : Dev nD) (t : Fin cfg0.N) : FVec F S256x512 .bf16 := k0_pay3 (xnAt m c) (iblk m c 2 t)
/-- What the point leaves in the keys' block. -/
def out6 (c : Dev nD) (t : Fin cfg0.N) : FVec F S256x512 .f32 := k0_pay4 (xnAt m c) (iblk m c 2 t)
/-- What the point leaves in the values' block. -/
def out7 (c : Dev nD) (t : Fin cfg0.N) : FVec F S256x512 .f32 := k0_pay5 (xnAt m c) (iblk m c 2 t)
/-- What the point leaves in the gates' block. -/
def out8 (c : Dev nD) (t : Fin cfg0.N) : FVec F S256x512 .bf16 := k0_pay6 (xnAt m c) (iblk m c 2 t)

/-- Between points: after the first point, the scratch buffer holds the normalised rows. -/
def Held (c : Dev nD) (n : ℕ) (X : Vec F S256x2048 .bf16) : Prop := n ≠ 0 → X = xnAt m c

theorem xnAt_first (c : Dev nD) (t : Fin cfg0.N) (h : t.val = 0) : xnAt m c = k0_pay1 (iblk m c 0 t) (iblk m c 1 t) := by
  obtain rfl : start = t := Fin.ext h.symm
  rfl

/-! ## The proof data -/

/-- The scratch buffer. -/
abbrev scM0_0 : Memref sig .tc .vmem S256x2048 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What holds between points. -/
def PhiC (c : Dev nD) (n : ℕ) : sProp 𝕄 :=
  iprop((∃ X, ⌜Held m c n X⌝ ∗ owns (c : Thread nD τ) scM0_0 fullShare X) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c (upTo 6 t)
    | ⟨5, _⟩ => out5 m c (upTo 8 t)
    | ⟨6, _⟩ => out6 m c (upTo 10 t)
    | ⟨7, _⟩ => out7 m c (upTo 12 t)
    | ⟨8, _⟩ => out8 m c (upTo 20 t)
  Φ t := PhiC m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c (upTo 6 t) := by dsimp only [dats]
theorem after0_5 (c : Dev nD) (t : Fin cfg0.N) : (dats m 0 c).after 5 t = out5 m c (upTo 8 t) := by dsimp only [dats]
theorem after0_6 (c : Dev nD) (t : Fin cfg0.N) : (dats m 0 c).after 6 t = out6 m c (upTo 10 t) := by dsimp only [dats]
theorem after0_7 (c : Dev nD) (t : Fin cfg0.N) : (dats m 0 c).after 7 t = out7 m c (upTo 12 t) := by dsimp only [dats]
theorem after0_8 (c : Dev nD) (t : Fin cfg0.N) : (dats m 0 c).after 8 t = out8 m c (upTo 20 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The points that leave a window alone -/

/-- A window written at no point after `j` but the last still holds, from then on, what point `j` left. -/
theorem still (c : Dev nD) (w : Fin cfg0.W) (j : ℕ) (hfetch : ∀ t, (cfg0.win w).fetch t = false)
    (hflush : ∀ t : Fin cfg0.N, (cfg0.win w).flush t = true → t.val < j ∨ t.val = 20)
    (hidle : ∀ t : Fin cfg0.N, j < t.val → cfg0.idle w (cfg0.grid.coords t) = true)
    (hlive : ∀ t : Fin cfg0.N, t.val = j → cfg0.idle w (cfg0.grid.coords t) = false)
    (hafter : ∀ s t : Fin cfg0.N, j ≤ s.val → j ≤ t.val → (dats m 0 c).after w s = (dats m 0 c).after w t)
    (hkept : ∀ t d, (dats m 0 c).kept w t d = (dats m 0 c).after w t) (d) :
    ∀ (n : ℕ) (h : n < cfg0.N), j < n → (dats m 0 c).before w ⟨n, h⟩ d = (dats m 0 c).after w ⟨n, h⟩
  | 0, _, h => absurd h (Nat.not_lt_zero _)
  | n + 1, hn, h => by
    have hl : n < cfg0.N := Nat.lt_of_succ_lt hn
    have hx : ¬ (cfg0.win w).flush ⟨n, hl⟩ = true := fun q => by
      have q' : n < j ∨ n = 20 := hflush ⟨n, hl⟩ q
      have : n + 1 < 21 := lt21 ⟨n + 1, hn⟩
      omega
    have step : (dats m 0 c).before w ⟨n + 1, hn⟩ d = (dats m 0 c).left w ⟨n, hl⟩ d := by
      rw [(dats m 0 c).before_of_pos w ⟨n + 1, hn⟩ (Nat.succ_ne_zero n) (hfetch _) d]
      exact if_neg hx
    rw [step, ← hafter ⟨n, hl⟩ ⟨n + 1, hn⟩ (Nat.le_of_lt_succ h) (Nat.le_of_lt h)]
    unfold Dat.left
    by_cases e : n = j
    · rw [hlive ⟨n, hl⟩ e]
      exact hkept _ _
    · have hj : j < n := by omega
      rw [hidle ⟨n, hl⟩ hj]
      exact still c w j hfetch hflush hidle hlive hafter hkept d n hl hj

/-- A buffer handed back as it was found. -/
theorem kept (c : Dev nD) (w : Fin cfg0.W) (t : Fin cfg0.N) (d) (hidle : cfg0.idle w (cfg0.grid.coords t) = true)
    (h : (cfg0.win w).flush t = true → (dats m 0 c).before w t d = (dats m 0 c).after w t) :
    owns (c : Thread nD τ) ((cfg0.win w).stage (cfg0.slots t w)) fullShare ((dats m 0 c).before w t d) ⊢ ((dats m 0 c).leavesExact w t : sProp 𝕄) := by
  unfold Dat.leavesExact
  rw [hidle]
  cases hf : (cfg0.win w).flush t with
  | false => dsimp only; iintro H; iexists d; iexact H
  | true => rw [h hf]

theorem idle0_4 (t : Fin cfg0.N) (h : ¬ (0 ≤ t.val ∧ t.val ≤ 6)) : cfg0.idle 4 (cfg0.grid.coords t) = true := by
  show (!(k0_cond2 (grid0.coords t) == 1#1)) = true
  have hc : ¬ (k0_cond2 (grid0.coords t) = 1#1) := fun q => h ((hcond0_1 t).mp q)
  simp [hc]

theorem live0_4 (t : Fin cfg0.N) (h : 0 ≤ t.val ∧ t.val ≤ 6) : cfg0.idle 4 (cfg0.grid.coords t) = false := by
  show (!(k0_cond2 (grid0.coords t) == 1#1)) = false
  have hc : k0_cond2 (grid0.coords t) = 1#1 := (hcond0_1 t).mpr h
  simp [hc]

/-- The window is written back at its own points but the last, and at the last point. -/
theorem flush0_4 : ∀ t : Fin cfg0.N, (cfg0.win 4).flush t = true ↔ ((0 ≤ t.val ∧ t.val < 6) ∨ t.val = 20) :=
  (by decide +kernel : ∀ t : Fin grid0.N, win0_4.flush t = true ↔ ((0 ≤ t.val ∧ t.val < 6) ∨ t.val = 20))

theorem kept4 (c : Dev nD) (t : Fin cfg0.N) (d) (h : ¬ (0 ≤ t.val ∧ t.val ≤ 6)) :
    owns (c : Thread nD τ) (win0_4.stage (cfg0.slots t 4)) fullShare ((dats m 0 c).before 4 t d) ⊢ ((dats m 0 c).leavesExact 4 t : sProp 𝕄) :=
  kept m c 4 t d (idle0_4 t h) fun hf =>
    still m c 4 6 (fun t => (cfg0.win 4).fetch_out rfl t) (fun t q => by have := (flush0_4 t).mp q; omega)
      (fun t q => idle0_4 t (by omega)) (fun t q => live0_4 t (by omega))
      (fun s t hs ht => by rw [after0_4, after0_4, upTo_eq 6 s t hs ht]) (fun _ _ => rfl) d t.val t.isLt (by have := (flush0_4 t).mp hf; omega)

/-- The buffer left with the point's own block. -/
theorem made4 (c : Dev nD) (t : Fin cfg0.N) (h : 0 ≤ t.val ∧ t.val ≤ 6) :
    owns (c : Thread nD τ) (win0_4.stage (cfg0.slots t 4)) fullShare (out4 m c t) ⊢ ((dats m 0 c).leavesExact 4 t : sProp 𝕄) := by
  unfold Dat.leavesExact
  rw [live0_4 t h, after0_4, upTo_self 6 t h.2]

/-! The windows 5 to 8, in the same words as window 4. -/

theorem idle0_5 (t : Fin cfg0.N) (h : ¬ (7 ≤ t.val ∧ t.val ≤ 8)) : cfg0.idle 5 (cfg0.grid.coords t) = true := by
  show (!(k0_cond3 (grid0.coords t) == 1#1)) = true
  have hc : ¬ (k0_cond3 (grid0.coords t) = 1#1) := fun q => h ((hcond0_2 t).mp q)
  simp [hc]

theorem live0_5 (t : Fin cfg0.N) (h : 7 ≤ t.val ∧ t.val ≤ 8) : cfg0.idle 5 (cfg0.grid.coords t) = false := by
  show (!(k0_cond3 (grid0.coords t) == 1#1)) = false
  have hc : k0_cond3 (grid0.coords t) = 1#1 := (hcond0_2 t).mpr h
  simp [hc]

theorem flush0_5 : ∀ t : Fin cfg0.N, (cfg0.win 5).flush t = true ↔ ((7 ≤ t.val ∧ t.val < 8) ∨ t.val = 20) :=
  (by decide +kernel : ∀ t : Fin grid0.N, win0_5.flush t = true ↔ ((7 ≤ t.val ∧ t.val < 8) ∨ t.val = 20))

theorem kept5 (c : Dev nD) (t : Fin cfg0.N) (d) (h : ¬ (7 ≤ t.val ∧ t.val ≤ 8)) :
    owns (c : Thread nD τ) (win0_5.stage (cfg0.slots t 5)) fullShare ((dats m 0 c).before 5 t d) ⊢ ((dats m 0 c).leavesExact 5 t : sProp 𝕄) :=
  kept m c 5 t d (idle0_5 t h) fun hf =>
    still m c 5 8 (fun t => (cfg0.win 5).fetch_out rfl t) (fun t q => by have := (flush0_5 t).mp q; omega)
      (fun t q => idle0_5 t (by omega)) (fun t q => live0_5 t (by omega))
      (fun s t hs ht => by rw [after0_5, after0_5, upTo_eq 8 s t hs ht]) (fun _ _ => rfl) d t.val t.isLt (by have := (flush0_5 t).mp hf; omega)

theorem made5 (c : Dev nD) (t : Fin cfg0.N) (h : 7 ≤ t.val ∧ t.val ≤ 8) :
    owns (c : Thread nD τ) (win0_5.stage (cfg0.slots t 5)) fullShare (out5 m c t) ⊢ ((dats m 0 c).leavesExact 5 t : sProp 𝕄) := by
  unfold Dat.leavesExact
  rw [live0_5 t h, after0_5, upTo_self 8 t h.2]

theorem idle0_6 (t : Fin cfg0.N) (h : ¬ (9 ≤ t.val ∧ t.val ≤ 10)) : cfg0.idle 6 (cfg0.grid.coords t) = true := by
  show (!(k0_cond4 (grid0.coords t) == 1#1)) = true
  have hc : ¬ (k0_cond4 (grid0.coords t) = 1#1) := fun q => h ((hcond0_3 t).mp q)
  simp [hc]

theorem live0_6 (t : Fin cfg0.N) (h : 9 ≤ t.val ∧ t.val ≤ 10) : cfg0.idle 6 (cfg0.grid.coords t) = false := by
  show (!(k0_cond4 (grid0.coords t) == 1#1)) = false
  have hc : k0_cond4 (grid0.coords t) = 1#1 := (hcond0_3 t).mpr h
  simp [hc]

theorem flush0_6 : ∀ t : Fin cfg0.N, (cfg0.win 6).flush t = true ↔ ((9 ≤ t.val ∧ t.val < 10) ∨ t.val = 20) :=
  (by decide +kernel : ∀ t : Fin grid0.N, win0_6.flush t = true ↔ ((9 ≤ t.val ∧ t.val < 10) ∨ t.val = 20))

theorem kept6 (c : Dev nD) (t : Fin cfg0.N) (d) (h : ¬ (9 ≤ t.val ∧ t.val ≤ 10)) :
    owns (c : Thread nD τ) (win0_6.stage (cfg0.slots t 6)) fullShare ((dats m 0 c).before 6 t d) ⊢ ((dats m 0 c).leavesExact 6 t : sProp 𝕄) :=
  kept m c 6 t d (idle0_6 t h) fun hf =>
    still m c 6 10 (fun t => (cfg0.win 6).fetch_out rfl t) (fun t q => by have := (flush0_6 t).mp q; omega)
      (fun t q => idle0_6 t (by omega)) (fun t q => live0_6 t (by omega))
      (fun s t hs ht => by rw [after0_6, after0_6, upTo_eq 10 s t hs ht]) (fun _ _ => rfl) d t.val t.isLt (by have := (flush0_6 t).mp hf; omega)

theorem made6 (c : Dev nD) (t : Fin cfg0.N) (h : 9 ≤ t.val ∧ t.val ≤ 10) :
    owns (c : Thread nD τ) (win0_6.stage (cfg0.slots t 6)) fullShare (out6 m c t) ⊢ ((dats m 0 c).leavesExact 6 t : sProp 𝕄) := by
  unfold Dat.leavesExact
  rw [live0_6 t h, after0_6, upTo_self 10 t h.2]

theorem idle0_7 (t : Fin cfg0.N) (h : ¬ (11 ≤ t.val ∧ t.val ≤ 12)) : cfg0.idle 7 (cfg0.grid.coords t) = true := by
  show (!(k0_cond5 (grid0.coords t) == 1#1)) = true
  have hc : ¬ (k0_cond5 (grid0.coords t) = 1#1) := fun q => h ((hcond0_4 t).mp q)
  simp [hc]

theorem live0_7 (t : Fin cfg0.N) (h : 11 ≤ t.val ∧ t.val ≤ 12) : cfg0.idle 7 (cfg0.grid.coords t) = false := by
  show (!(k0_cond5 (grid0.coords t) == 1#1)) = false
  have hc : k0_cond5 (grid0.coords t) = 1#1 := (hcond0_4 t).mpr h
  simp [hc]

theorem flush0_7 : ∀ t : Fin cfg0.N, (cfg0.win 7).flush t = true ↔ ((11 ≤ t.val ∧ t.val < 12) ∨ t.val = 20) :=
  (by decide +kernel : ∀ t : Fin grid0.N, win0_7.flush t = true ↔ ((11 ≤ t.val ∧ t.val < 12) ∨ t.val = 20))

theorem kept7 (c : Dev nD) (t : Fin cfg0.N) (d) (h : ¬ (11 ≤ t.val ∧ t.val ≤ 12)) :
    owns (c : Thread nD τ) (win0_7.stage (cfg0.slots t 7)) fullShare ((dats m 0 c).before 7 t d) ⊢ ((dats m 0 c).leavesExact 7 t : sProp 𝕄) :=
  kept m c 7 t d (idle0_7 t h) fun hf =>
    still m c 7 12 (fun t => (cfg0.win 7).fetch_out rfl t) (fun t q => by have := (flush0_7 t).mp q; omega)
      (fun t q => idle0_7 t (by omega)) (fun t q => live0_7 t (by omega))
      (fun s t hs ht => by rw [after0_7, after0_7, upTo_eq 12 s t hs ht]) (fun _ _ => rfl) d t.val t.isLt (by have := (flush0_7 t).mp hf; omega)

theorem made7 (c : Dev nD) (t : Fin cfg0.N) (h : 11 ≤ t.val ∧ t.val ≤ 12) :
    owns (c : Thread nD τ) (win0_7.stage (cfg0.slots t 7)) fullShare (out7 m c t) ⊢ ((dats m 0 c).leavesExact 7 t : sProp 𝕄) := by
  unfold Dat.leavesExact
  rw [live0_7 t h, after0_7, upTo_self 12 t h.2]

theorem idle0_8 (t : Fin cfg0.N) (h : ¬ (13 ≤ t.val ∧ t.val ≤ 20)) : cfg0.idle 8 (cfg0.grid.coords t) = true := by
  show (!(k0_cond6 (grid0.coords t) == 1#1)) = true
  have hc : ¬ (k0_cond6 (grid0.coords t) = 1#1) := fun q => h ((hcond0_5 t).mp q)
  simp [hc]

theorem live0_8 (t : Fin cfg0.N) (h : 13 ≤ t.val ∧ t.val ≤ 20) : cfg0.idle 8 (cfg0.grid.coords t) = false := by
  show (!(k0_cond6 (grid0.coords t) == 1#1)) = false
  have hc : k0_cond6 (grid0.coords t) = 1#1 := (hcond0_5 t).mpr h
  simp [hc]

theorem flush0_8 : ∀ t : Fin cfg0.N, (cfg0.win 8).flush t = true ↔ ((13 ≤ t.val ∧ t.val < 20) ∨ t.val = 20) :=
  (by decide +kernel : ∀ t : Fin grid0.N, win0_8.flush t = true ↔ ((13 ≤ t.val ∧ t.val < 20) ∨ t.val = 20))

theorem kept8 (c : Dev nD) (t : Fin cfg0.N) (d) (h : ¬ (13 ≤ t.val ∧ t.val ≤ 20)) :
    owns (c : Thread nD τ) (win0_8.stage (cfg0.slots t 8)) fullShare ((dats m 0 c).before 8 t d) ⊢ ((dats m 0 c).leavesExact 8 t : sProp 𝕄) :=
  kept m c 8 t d (idle0_8 t h) fun hf =>
    still m c 8 20 (fun t => (cfg0.win 8).fetch_out rfl t) (fun t q => by have := (flush0_8 t).mp q; omega)
      (fun t q => idle0_8 t (by omega)) (fun t q => live0_8 t (by omega))
      (fun s t hs ht => by rw [after0_8, after0_8, upTo_eq 20 s t hs ht]) (fun _ _ => rfl) d t.val t.isLt (by have := (flush0_8 t).mp hf; omega)

theorem made8 (c : Dev nD) (t : Fin cfg0.N) (h : 13 ≤ t.val ∧ t.val ≤ 20) :
    owns (c : Thread nD τ) (win0_8.stage (cfg0.slots t 8)) fullShare (out8 m c t) ⊢ ((dats m 0 c).leavesExact 8 t : sProp 𝕄) := by
  unfold Dat.leavesExact
  rw [live0_8 t h, after0_8, upTo_self 20 t h.2]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3,
    show (dats m 0 c).Φ t.succ = PhiC m c (t.val + 1) from rfl, show (dats m 0 c).Φ t.castSucc = PhiC m c t.val from rfl]
  unfold PhiC
  have ht := lt21 t
  by_cases h0 : t.val = 0
  · iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_A c (grid0.coords t) _ _ _ _ _ _ _ _ _ _ _ _ _ _ _ _ _ _ _ _ ((hcond0_0 t).mpr h0) ((hcond0_1 t).mpr (by omega)) (fun h => absurd ((hcond0_2 t).mp h) (by omega)) (fun h => absurd ((hcond0_3 t).mp h) (by omega)) (fun h => absurd ((hcond0_4 t).mp h) (by omega)) (fun h => absurd ((hcond0_5 t).mp h) (by omega)) (iblk m c 0 t) (iblk m c 1 t) (iblk m c 2 t)) Set.univ _)
    isplitl [H0]; · iexact H0
    isplitl [H1]; · iexact H1
    isplitl [H2]; · iexact H2
    isplitl [H4]; · iexists _; iexact H4
    isplitl [HS]; · iexists _; iexact HS
    iintro ⟨H0, H1, H2, H4, HS⟩
    rw [← xnAt_first m c t h0]
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iapply (made4 m c t (by omega)); iexact H4
    isplitl [H5]; · iapply (kept5 m c t d5 (by omega)); iexact H5
    isplitl [H6]; · iapply (kept6 m c t d6 (by omega)); iexact H6
    isplitl [H7]; · iapply (kept7 m c t d7 (by omega)); iexact H7
    iapply (kept8 m c t d8 (by omega)); iexact H8
  iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain rfl := hX h0
  by_cases h1 : t.val ≤ 6
  · iapply ((run_B c (grid0.coords t) _ _ _ _ _ _ _ _ _ _ _ _ _ _ _ _ _ _ _ _ (fun h => h0 ((hcond0_0 t).mp h)) ((hcond0_1 t).mpr (by omega)) (fun h => absurd ((hcond0_2 t).mp h) (by omega)) (fun h => absurd ((hcond0_3 t).mp h) (by omega)) (fun h => absurd ((hcond0_4 t).mp h) (by omega)) (fun h => absurd ((hcond0_5 t).mp h) (by omega)) (iblk m c 2 t) (xnAt m c)) Set.univ _)
    isplitl [H2]; · iexact H2
    isplitl [H4]; · iexists _; iexact H4
    isplitl [HS]; · iexact HS
    iintro ⟨H2, H4, HS⟩
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iapply (made4 m c t (by omega)); iexact H4
    isplitl [H5]; · iapply (kept5 m c t d5 (by omega)); iexact H5
    isplitl [H6]; · iapply (kept6 m c t d6 (by omega)); iexact H6
    isplitl [H7]; · iapply (kept7 m c t d7 (by omega)); iexact H7
    iapply (kept8 m c t d8 (by omega)); iexact H8
  by_cases h2 : t.val ≤ 8
  · iapply ((run_C c (grid0.coords t) _ _ _ _ _ _ _ _ _ _ _ _ _ _ _ _ _ _ _ _ (fun h => h0 ((hcond0_0 t).mp h)) (fun h => absurd ((hcond0_1 t).mp h) (by omega)) ((hcond0_2 t).mpr (by omega)) (fun h => absurd ((hcond0_3 t).mp h) (by omega)) (fun h => absurd ((hcond0_4 t).mp h) (by omega)) (fun h => absurd ((hcond0_5 t).mp h) (by omega)) (iblk m c 2 t) (xnAt m c)) Set.univ _)
    isplitl [H2]; · iexact H2
    isplitl [H5]; · iexists _; iexact H5
    isplitl [HS]; · iexact HS
    iintro ⟨H2, H5, HS⟩
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iapply (kept4 m c t d4 (by omega)); iexact H4
    isplitl [H5]; · iapply (made5 m c t (by omega)); iexact H5
    isplitl [H6]; · iapply (kept6 m c t d6 (by omega)); iexact H6
    isplitl [H7]; · iapply (kept7 m c t d7 (by omega)); iexact H7
    iapply (kept8 m c t d8 (by omega)); iexact H8
  by_cases h3 : t.val ≤ 10
  · iapply ((run_D c (grid0.coords t) _ _ _ _ _ _ _ _ _ _ _ _ _ _ _ _ _ _ _ _ (fun h => h0 ((hcond0_0 t).mp h)) (fun h => absurd ((hcond0_1 t).mp h) (by omega)) (fun h => absurd ((hcond0_2 t).mp h) (by omega)) ((hcond0_3 t).mpr (by omega)) (fun h => absurd ((hcond0_4 t).mp h) (by omega)) (fun h => absurd ((hcond0_5 t).mp h) (by omega)) (iblk m c 2 t) (xnAt m c)) Set.univ _)
    isplitl [H2]; · iexact H2
    isplitl [H6]; · iexists _; iexact H6
    isplitl [HS]; · iexact HS
    iintro ⟨H2, H6, HS⟩
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iapply (kept4 m c t d4 (by omega)); iexact H4
    isplitl [H5]; · iapply (kept5 m c t d5 (by omega)); iexact H5
    isplitl [H6]; · iapply (made6 m c t (by omega)); iexact H6
    isplitl [H7]; · iapply (kept7 m c t d7 (by omega)); iexact H7
    iapply (kept8 m c t d8 (by omega)); iexact H8
  by_cases h4 : t.val ≤ 12
  · iapply ((run_E c (grid0.coords t) _ _ _ _ _ _ _ _ _ _ _ _ _ _ _ _ _ _ _ _ (fun h => h0 ((hcond0_0 t).mp h)) (fun h => absurd ((hcond0_1 t).mp h) (by omega)) (fun h => absurd ((hcond0_2 t).mp h) (by omega)) (fun h => absurd ((hcond0_3 t).mp h) (by omega)) ((hcond0_4 t).mpr (by omega)) (fun h => absurd ((hcond0_5 t).mp h) (by omega)) (iblk m c 2 t) (xnAt m c)) Set.univ _)
    isplitl [H2]; · iexact H2
    isplitl [H7]; · iexists _; iexact H7
    isplitl [HS]; · iexact HS
    iintro ⟨H2, H7, HS⟩
    isplitl [HS Hg]
    · isplitl [HS]
      · iexists _; isplitr; swap; · iexact HS
        ipureintro; exact fun _ => rfl
      iexact Hg
    isplitl [Ho]; · iexact Ho
    isplitl [H0]; · iexact H0
    isplitl [H1]; · iexact H1
    isplitl [H2]; · iexact H2
    isplitl [H3]; · iexact H3
    isplitl [H4]; · iapply (kept4 m c t d4 (by omega)); iexact H4
    isplitl [H5]; · iapply (kept5 m c t d5 (by omega)); iexact H5
    isplitl [H6]; · iapply (kept6 m c t d6 (by omega)); iexact H6
    isplitl [H7]; · iapply (made7 m c t (by omega)); iexact H7
    iapply (kept8 m c t d8 (by omega)); iexact H8
  iapply ((run_F c (grid0.coords t) _ _ _ _ _ _ _ _ _ _ _ _ _ _ _ _ _ _ _ _ (fun h => h0 ((hcond0_0 t).mp h)) (fun h => absurd ((hcond0_1 t).mp h) (by omega)) (fun h => absurd ((hcond0_2 t).mp h) (by omega)) (fun h => absurd ((hcond0_3 t).mp h) (by omega)) (fun h => absurd ((hcond0_4 t).mp h) (by omega)) ((hcond0_5 t).mpr (by omega)) (iblk m c 2 t) (xnAt m c)) Set.univ _)
  isplitl [H2]; · iexact H2
  isplitl [H8]; · iexists _; iexact H8
  isplitl [HS]; · iexact HS
  iintro ⟨H2, H8, HS⟩
  isplitl [HS Hg]
  · isplitl [HS]
    · iexists _; isplitr; swap; · iexact HS
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iapply (kept4 m c t d4 (by omega)); iexact H4
  isplitl [H5]; · iapply (kept5 m c t d5 (by omega)); iexact H5
  isplitl [H6]; · iapply (kept6 m c t d6 (by omega)); iexact H6
  isplitl [H7]; · iapply (kept7 m c t d7 (by omega)); iexact H7
  iapply (made8 m c t (by omega)); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiC m c 0 from rfl, PhiA0_eq]
  unfold PhiC
  iintro ⟨⟨%d, HS⟩, Hg⟩
  isplitl [HS]
  · iexists d
    isplitr
    · ipureintro; intro h; exact absurd rfl h
    iexact HS
  iexact Hg

theorem hout (c : Dev nD) : (dats m 0 c).Φ (Fin.last cfg0.N) ⊢ Pipeline.ΦA spec0 c := by
  rw [show (dats m 0 c).Φ (Fin.last cfg0.N) = PhiC m c cfg0.N from rfl, PhiA0_eq]
  unfold PhiC
  iintro ⟨⟨%d, -, HS⟩, Hg⟩
  isplitl [HS]
  · iexists d
    iexact HS
  iexact Hg

/-! ## The run and the frame -/

set_option backward.isDefEq.respectTransparency.types false in
set_option maxHeartbeats 800000 in
/-- The call's run: it ends, with the arrays as the points left them and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel9Ideal.Gen

end
-- ==== Proof.ProjNewRef.lean ====
/-
  The projection of the new tokens as the reference states it: the normed rows, their product with the fused weight, and
  the six results cut from that product; and what each of them is, entry by entry. The kernel's block products follow.
-/
module

public import proofs.«01_k».proof.Proof.ProjBlocks
public import proofs.«01_k».proof.Proof.ProjNewFrame
public import proofs.«01_k».proof.Proof.Gen.Reference9Ideal.Run

@[expose] public section

set_option maxRecDepth 16384

noncomputable section

open Idealize.ShloMosaic Idealize.ShloMosaic.TcCoe Idealize.SL.Sem

namespace Cert.ProjNew

open Cert.Proj (normed pick)

/-- The batch and the position of a row. -/
abbrev bOf (g : Fin 256) : Fin 32 := ⟨g.val / 8, by have := g.isLt; omega⟩
abbrev tOf (g : Fin 256) : Fin 8 := ⟨g.val % 8, by omega⟩

open Cert.Reference9Ideal Cert.Reference9Ideal.Gen

variable (x : FVec Ideal S32x8x2048 .f32) (g : FVec Ideal S2048 .f32) (w : FVec Ideal S2048x10688 .f32)

/-- The fused projection of a position, at a column of the fused weight. -/
def proj (b : Fin 32) (t : Fin 8) (e : Fin 10688) : EReal :=
  ∑ k : Fin 2048, normed (fun n => x (ix3 b t n)) (fun n => g (ix1 n)) k * w (ix2 k e)

/-! ## The reference's stages -/

def normRef : FVec Ideal S32x8x2048 .f32 :=
  mulf (mulf x (broadcastInDim S32x8x2048 ![0, 1, 2] bcast_S32x8x1_S32x8x2048_0_1_2
      (Host.rsqrt (addf (Host.divf (broadcastInDim S32x8x1 ![0, 1] bcast_S32x8_S32x8x1_0_1
          (Host.reduceAdd (mulf x x) (constant S_ .f32 0x00000000#32) reducesTo_S32x8x2048_S32x8_d2 h_S_))
        (broadcastInDim S32x8x1 ![] bcast_S_S32x8x1 (constant S_ .f32 0x45000000#32)))
        (broadcastInDim S32x8x1 ![] bcast_S_S32x8x1 (constant S_ .f32 0x358637BD#32))))))
    (broadcastInDim S32x8x2048 ![0, 1, 2] bcast_S1x1x2048_S32x8x2048_0_1_2 (broadcastInDim S1x1x2048 ![2] bcast_S2048_S1x1x2048_2 g))

def projRef : FVec Ideal S32x8x10688 .f32 :=
  Host.dotGeneral dot_S32x8x2048_S2048x10688_S32x8x10688_2_0_01_1_n_n none (normRef x g) w

variable (u : FVec Ideal S32x8x10688 .f32)

def sideRef : FVec Ideal S32x8x3520 .f32 := extractStridedSlice S32x8x3520 ![0, 0, 0] u slices_S32x8x10688_S32x8x3520_0_0_0

def padRef (v : FVec Ideal S32x8x96 .f32) : FVec Ideal S32x8x128 .f32 :=
  pad S32x8x128 ![0, 0, 0] ![0, 0, 32] ![0, 0, 0] v (sitofp .f32 (constantI S_ 32 0#32)) pads_S32x8x96_S32x8x128_000_000_0320 h_S_

def rowsRef (s : FVec Ideal S32x8x3520 .f32) : FVec Ideal S32x8x3584 .f32 :=
  concatenate S32x8x3584 2
    [⟨S32x8x3072, extractStridedSlice S32x8x3072 ![0, 0, 0] s slices_S32x8x3520_S32x8x3072_0_0_0⟩,
     ⟨S32x8x128, padRef (extractStridedSlice S32x8x96 ![0, 0, 3072] s slices_S32x8x3520_S32x8x96_0_0_3072)⟩,
     ⟨S32x8x128, padRef (extractStridedSlice S32x8x96 ![0, 0, 3168] s slices_S32x8x3520_S32x8x96_0_0_3168)⟩,
     ⟨S32x8x256, extractStridedSlice S32x8x256 ![0, 0, 3264] s slices_S32x8x3520_S32x8x256_0_0_3264⟩]
    concatenates_S32x8x3072_S32x8x128_S32x8x128_S32x8x256_S32x8x3584_d2

def attnRef : FVec Ideal S32x8x3072 .f32 := extractStridedSlice S32x8x3072 ![0, 0, 3520] u slices_S32x8x10688_S32x8x3072_0_0_3520

/-- The six results, of the fused product. -/
def ref0 : FVec Ideal S256x3584 .f32 := shapeCast _ (rowsRef (sideRef u)) shapeCasts_S32x8x3584_S256x3584

def ref1 : FVec Ideal S256x1024 .bf16 :=
  shapeCast _ (truncf .bf16 (mulf (extractStridedSlice S32x8x1024 ![0, 0, 0] (attnRef u) slices_S32x8x3072_S32x8x1024_0_0_0)
    (broadcastInDim S32x8x1024 ![] bcast_S_S32x8x1024 (constant S_ .f32 0x3E000000#32))) bitsLt_bf16_f32) shapeCasts_S32x8x1024_S256x1024

def ref2 : FVec Ideal S32x8x16x64 .f32 :=
  shapeCast _ (extractStridedSlice S32x8x1024 ![0, 0, 1024] (attnRef u) slices_S32x8x3072_S32x8x1024_0_0_1024) shapeCasts_S32x8x1024_S32x8x16x64

def ref3 : FVec Ideal S32x8x16x64 .f32 :=
  shapeCast _ (extractStridedSlice S32x8x1024 ![0, 0, 2048] (attnRef u) slices_S32x8x3072_S32x8x1024_0_0_2048) shapeCasts_S32x8x1024_S32x8x16x64

def ref4 : FVec Ideal S256x4096 .bf16 :=
  shapeCast _ (truncf .bf16 (extractStridedSlice S32x8x4096 ![0, 0, 6592] u slices_S32x8x10688_S32x8x4096_0_0_6592) bitsLt_bf16_f32)
    shapeCasts_S32x8x4096_S256x4096

def ref5 : FVec Ideal S32x3520 .f32 :=
  shapeCast _ (extractStridedSlice S32x1x3520 ![0, 7, 0] (sideRef u) slices_S32x8x3520_S32x1x3520_0_7_0) shapeCasts_S32x1x3520_S32x3520

/-! ## The stages, entry by entry -/

theorem normRef_apply (b : Fin 32) (t : Fin 8) (n : Fin 2048) :
    normRef x g (ix3 b t n) = normed (fun e => x (ix3 b t e)) (fun e => g (ix1 e)) n := by
  unfold normRef normed
  pointwise

theorem projRef_apply (b : Fin 32) (t : Fin 8) (e : Fin 10688) : projRef x g w (ix3 b t e) = proj x g w b t e := by
  unfold projRef proj
  pointwise [normRef_apply]

theorem sideRef_apply (b : Fin 32) (t : Fin 8) (e : Fin 3520) :
    sideRef u (ix3 b t e) = u (ix3 b t (⟨e.val, by have := e.isLt; omega⟩ : Fin 10688)) := by
  unfold sideRef
  pointwise

theorem padRef_apply (v : FVec Ideal S32x8x96 .f32) (b : Fin 32) (t : Fin 8) (e : Fin 128) :
    padRef v (ix3 b t e) = if h : e.val < 96 then v (ix3 b t ⟨e.val, h⟩) else 0 := by
  have z : (FloatOps.sitofp (F := Ideal) FTy.f32 0#32) = (0 : EReal) := by
    show (((0#32).toInt : ℝ) : EReal) = 0
    simp
  unfold padRef
  pointwise
  rw [z]

theorem rowsRef_read (s : FVec Ideal S32x8x3520 .f32) (b : Fin 32) (t : Fin 8) (j : Fin 3584) :
    rowsRef s (ix3 b t j) = if h : j.val < 3072 then s (ix3 b t (⟨j.val, by omega⟩ : Fin 3520))
      else if h : j.val - 3072 < 128 then
        (if h : j.val - 3072 < 96 then s (ix3 b t (⟨3072 + (j.val - 3072), by omega⟩ : Fin 3520)) else 0)
      else if h : j.val - 3072 - 128 < 128 then
        (if h : j.val - 3072 - 128 < 96 then s (ix3 b t (⟨3168 + (j.val - 3072 - 128), by omega⟩ : Fin 3520)) else 0)
      else s (ix3 b t (⟨3264 + (j.val - 3072 - 128 - 128), by have := j.isLt; omega⟩ : Fin 3520)) := by
  unfold rowsRef
  pointwise [padRef_apply]

theorem rowsRef_apply (b : Fin 32) (t : Fin 8) (j : Fin 3584) :
    rowsRef (sideRef u) (ix3 b t j) = pick (fun e => u (ix3 b t e)) j := by
  rw [rowsRef_read]
  simp only [sideRef_apply]
  unfold pick
  have hj := j.isLt
  have at_ : ∀ (p q : Fin 10688), p.val = q.val → u (ix3 b t p) = u (ix3 b t q) := fun p q h => by rw [Fin.ext h]
  by_cases a : j.val < 3072
  · rw [dif_pos a, if_pos (by omega)]
  rw [dif_neg a]
  by_cases b' : j.val - 3072 < 128
  · rw [dif_pos b']
    by_cases c : j.val - 3072 < 96
    · rw [dif_pos c, if_pos (by omega)]
      exact at_ _ _ (by show 3072 + (j.val - 3072) = j.val; omega)
    · rw [dif_neg c, if_neg (by omega), if_pos (by omega)]
  rw [dif_neg b', if_neg (by omega), if_neg (by omega)]
  by_cases c : j.val - 3072 - 128 < 128
  · rw [dif_pos c]
    by_cases d : j.val - 3072 - 128 < 96
    · rw [dif_pos d, if_pos (by omega)]
      exact at_ _ _ (by show 3168 + (j.val - 3072 - 128) = j.val - 32; omega)
    · rw [dif_neg d, if_neg (by omega), if_pos (by omega)]
  · rw [dif_neg c, if_neg (by omega), if_neg (by omega)]
    exact at_ _ _ (by show 3264 + (j.val - 3072 - 128 - 128) = j.val - 64; omega)

theorem ref0_apply (r : Fin 256) (j : Fin 3584) :
    ref0 (projRef x g w) (ix2 r j) = pick (fun e => proj x g w (bOf r) (tOf r) e) j := by
  have h : ref0 (projRef x g w) (ix2 r j) = rowsRef (sideRef (projRef x g w)) (ix3 (bOf r) (tOf r) j) := by
    unfold ref0
    generalize rowsRef (sideRef (projRef x g w)) = z
    pointwise
  rw [h, rowsRef_apply]
  simp only [projRef_apply]

theorem ref1_apply (r : Fin 256) (j : Fin 1024) :
    ref1 u (ix2 r j) = u (ix3 (bOf r) (tOf r) (⟨3520 + j.val, by have := j.isLt; omega⟩ : Fin 10688)) * Attn.eighth := by
  unfold ref1 attnRef
  pointwise

theorem ref2_apply (b : Fin 32) (t : Fin 8) (h : Fin 16) (d : Fin 64) :
    ref2 u (ix4 b t h d) = u (ix3 b t (⟨3520 + (1024 + (h.val * 64 + d.val)), by have := h.isLt; have := d.isLt; omega⟩ : Fin 10688)) := by
  unfold ref2 attnRef
  pointwise

theorem ref3_apply (b : Fin 32) (t : Fin 8) (h : Fin 16) (d : Fin 64) :
    ref3 u (ix4 b t h d) = u (ix3 b t (⟨3520 + (2048 + (h.val * 64 + d.val)), by have := h.isLt; have := d.isLt; omega⟩ : Fin 10688)) := by
  unfold ref3 attnRef
  pointwise

theorem ref4_apply (r : Fin 256) (j : Fin 4096) :
    ref4 u (ix2 r j) = u (ix3 (bOf r) (tOf r) (⟨6592 + j.val, by have := j.isLt; omega⟩ : Fin 10688)) := by
  unfold ref4
  pointwise

theorem ref5_apply (b : Fin 32) (e : Fin 3520) :
    ref5 u (ix2 b e) = u (ix3 b (⟨7, by decide⟩ : Fin 8) (⟨e.val, by have := e.isLt; omega⟩ : Fin 10688)) := by
  unfold ref5
  pointwise [sideRef_apply]

section Payloads

open Cert.Kernel9Ideal Cert.Kernel9Ideal.Gen

variable (v : FVec Ideal Cert.Kernel9Ideal.S256x2048 .f32) (s : FVec Ideal Cert.Kernel9Ideal.S1x2048 .f32)
    (xn : FVec Ideal Cert.Kernel9Ideal.S256x2048 .bf16) (wb : FVec Ideal Cert.Kernel9Ideal.S2048x512 .bf16)

theorem pay1_apply (r : Fin 256) (n : Fin 2048) :
    (k0_pay1 v s : FVec Ideal Cert.Kernel9Ideal.S256x2048 .bf16) (ix2 r n) = normed (fun e => v (ix2 r e)) (fun e => s (ix2 0 e)) n := by
  unfold k0_pay1 normed
  pointwise

theorem pay2_apply (r : Fin 256) (n : Fin 512) : (k0_pay2 xn wb : FVec Ideal Cert.Kernel9Ideal.S256x512 .f32) (ix2 r n) = ∑ k : Fin 2048, xn (ix2 r k) * wb (ix2 k n) := by
  unfold k0_pay2
  pointwise

theorem pay3_apply (r : Fin 256) (n : Fin 512) : (k0_pay3 xn wb : FVec Ideal Cert.Kernel9Ideal.S256x512 .bf16) (ix2 r n) = ∑ k : Fin 2048, xn (ix2 r k) * wb (ix2 k n) := by
  unfold k0_pay3
  pointwise

theorem pay4_apply (r : Fin 256) (n : Fin 512) : (k0_pay4 xn wb : FVec Ideal Cert.Kernel9Ideal.S256x512 .f32) (ix2 r n) = ∑ k : Fin 2048, xn (ix2 r k) * wb (ix2 k n) := by
  unfold k0_pay4
  pointwise

theorem pay5_apply (r : Fin 256) (n : Fin 512) : (k0_pay5 xn wb : FVec Ideal Cert.Kernel9Ideal.S256x512 .f32) (ix2 r n) = ∑ k : Fin 2048, xn (ix2 r k) * wb (ix2 k n) := by
  unfold k0_pay5
  pointwise

theorem pay6_apply (r : Fin 256) (n : Fin 512) : (k0_pay6 xn wb : FVec Ideal Cert.Kernel9Ideal.S256x512 .bf16) (ix2 r n) = ∑ k : Fin 2048, xn (ix2 r k) * wb (ix2 k n) := by
  unfold k0_pay6
  pointwise

end Payloads

variable (m : (ℓ : Loc nD τ sig) → Buf (Elt Ideal) ℓ) (c : Dev nD)

/-- The reference's fused product of its arguments. -/
def fusedRef : FVec Ideal S32x8x10688 .f32 :=
  projRef (m ((c.tc : Thread nD τ).loc main_arg0)) (m ((c.tc : Thread nD τ).loc main_arg1)) (m ((c.tc : Thread nD τ).loc main_arg2))

theorem res0_eq : Value.res_main_v29 m c = ref0 (fusedRef m c) := rfl

end Cert.ProjNew

end
-- ==== Proof.ProjNewBlocks.lean ====
/-
  The projection of the new tokens: the blocks the grid points of its call read.
-/
module

public import proofs.«01_k».proof.Defs
public import proofs.«01_k».proof.Proof.ProjNewRef
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.ProjNew

open Cert.Kernel9Ideal Cert.Kernel9Ideal.Gen
open Cert.Proj (normed pick sum_pick allW all_rows all_query all_gate)

/-! ## The key and value columns of the fused weight -/

theorem all_key (w : FVec Ideal Cert.Kernel2Ideal.S2048x10688 .f32) (k : Fin 2048) (j : Fin 1024) :
    allW w (ix2 k (⟨4608 + j.val, by have := j.isLt; omega⟩ : Fin 10752)) = w (ix2 k (⟨3520 + (1024 + j.val), by have := j.isLt; omega⟩ : Fin 10688)) := by
  have hj := j.isLt
  unfold allW
  pointwise
  rw [dif_neg (by omega), dif_neg (by omega), dif_pos (by omega)]
  exact congrArg (fun e => w (ix2 k e)) (Fin.ext (by show 4544 + (4608 + j.val - 3584 - 1024) = 3520 + (1024 + j.val); omega))

theorem all_value (w : FVec Ideal Cert.Kernel2Ideal.S2048x10688 .f32) (k : Fin 2048) (j : Fin 1024) :
    allW w (ix2 k (⟨5632 + j.val, by have := j.isLt; omega⟩ : Fin 10752)) = w (ix2 k (⟨3520 + (2048 + j.val), by have := j.isLt; omega⟩ : Fin 10688)) := by
  have hj := j.isLt
  unfold allW
  pointwise
  rw [dif_neg (by omega), dif_neg (by omega), dif_neg (by omega), dif_pos (by omega)]
  exact congrArg (fun e => w (ix2 k e)) (Fin.ext (by show 5568 + (5632 + j.val - 3584 - 1024 - 1024) = 3520 + (2048 + j.val); omega))

/-! ## The blocks a point reads -/

variable (m : (ℓ : Loc nD τ sig) → Buf (Elt Ideal) ℓ) (c : Dev nD)

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, t.val] := by decide +kernel
theorem index4 : ∀ t : Fin cfg0.N, win0_4.index t = ![0, min t.val 6] := by decide +kernel
theorem index5 : ∀ t : Fin cfg0.N, win0_5.index t = ![0, min (t.val - 7) 1] := by decide +kernel
theorem index6 : ∀ t : Fin cfg0.N, win0_6.index t = ![0, min (t.val - 9) 1] := by decide +kernel
theorem index7 : ∀ t : Fin cfg0.N, win0_7.index t = ![0, min (t.val - 11) 1] := by decide +kernel
theorem index8 : ∀ t : Fin cfg0.N, win0_8.index t = ![0, min (t.val - 13) 7] := by decide +kernel

abbrev argX : FVec Ideal S32x8x2048 .f32 := m ((c : Thread nD τ).loc main_arg0)
abbrev argG : FVec Ideal S2048 .f32 := m ((c : Thread nD τ).loc main_arg1)
abbrev argW : FVec Ideal S2048x10688 .f32 := m ((c : Thread nD τ).loc main_arg2)

open Idealize.ShloMosaic.StableHlo in
set_option maxHeartbeats 4000000 in
theorem V_all : (Gen.V m c main_v19 : FVec Ideal S2048x10752 .bf16) = allW (argW m c) := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

open Idealize.ShloMosaic.StableHlo in
set_option maxHeartbeats 4000000 in
theorem V_x : (Gen.V m c main_v23 : FVec Ideal S256x2048 .f32) = shapeCast _ (argX m c) shapeCasts_S32x8x2048_S256x2048 := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

open Idealize.ShloMosaic.StableHlo in
set_option maxHeartbeats 4000000 in
theorem V_g : (Gen.V m c main_v24 : FVec Ideal S1x2048 .f32) = shapeCast _ (argG m c) shapeCasts_S2048_S1x2048 := by
  unfold Gen.V Gen.V0
  simp only [hostOps0, hostOps0_1, hostOps0_2, hostOps0_3, hostOps0_4, List.flatten_cons, List.flatten_nil, List.append_nil, List.cons_append, List.nil_append, TRef.binary, TRef.unary, TRef.toBuf, TRef.ofBuf, cast_eq]
  after_results_simp <;> (try dsimp only [Matrix.cons_val]) <;> (try after_results_simp) <;> rfl

theorem blk0_apply (t : Fin cfg0.N) (r : Fin 256) (k : Fin 2048) :
    (iblk m c 0 t : FVec Ideal S256x2048 .f32) (ix2 r k) = argX m c (ix3 (bOf r) (tOf r) k) := by
  have h : (iblk m c 0 t : FVec Ideal S256x2048 .f32) (ix2 r k) = (Gen.V m c main_v23 : FVec Ideal S256x2048 .f32) (ix2 r k) := by
    blk_ext [iblk, index0 t]
  rw [h, V_x]
  pointwise
  try rfl

theorem blk1_apply (t : Fin cfg0.N) (z : Fin 1) (k : Fin 2048) :
    (iblk m c 1 t : FVec Ideal S1x2048 .f32) (ix2 z k) = argG m c (ix1 k) := by
  have h : (iblk m c 1 t : FVec Ideal S1x2048 .f32) (ix2 z k) = (Gen.V m c main_v24 : FVec Ideal S1x2048 .f32) (ix2 z k) := by
    blk_ext [iblk, index1 t]
  rw [h, V_g]
  pointwise
  try rfl

theorem blk2_apply (t : Fin cfg0.N) (k : Fin 2048) (n : Fin 512) (e : Fin 10752) (h : e.val = t.val * 512 + n.val) :
    (iblk m c 2 t : FVec Ideal S2048x512 .bf16) (ix2 k n) = allW (argW m c) (ix2 k e) := by
  have h' : (iblk m c 2 t : FVec Ideal S2048x512 .bf16) (ix2 k n) = (Gen.V m c main_v19 : FVec Ideal S2048x10752 .bf16) (ix2 k e) := by
    blk_ext [iblk, index2 t]
  rw [h', V_all]

end Cert.ProjNew

end
-- ==== Proof.ProjNew.lean ====
/-
  The projection of the new tokens: the products its grid points write, and the arrays the program leaves — the
  reference's six results.
-/
module

public import proofs.«01_k».proof.Defs
public import proofs.«01_k».proof.Proof.ProjNewBlocks
public import Idealize.ShloMosaic.Lib.Pipeline.ValueKit.Held

@[expose] public section

set_option maxRecDepth 16384

noncomputable section

open Idealize.ShloMosaic Idealize.ShloMosaic.TcCoe Idealize.SL.Sem
open Idealize.ShloMosaic.Pipeline (Dat)

namespace Cert.ProjNew

open Cert.Kernel9Ideal Cert.Kernel9Ideal.Gen
open Cert.Proj (normed pick pick_eq sum_pick allW all_rows all_query all_gate)

variable (m : (ℓ : Loc nD τ sig) → Buf (Elt Ideal) ℓ) (c : Dev nD)

/-! ## What a point computes -/

/-- The fused projection of a row. -/
abbrev projAt (g : Fin 256) (e : Fin 10688) : EReal := proj (argX m c) (argG m c) (argW m c) (bOf g) (tOf g) e

theorem xn_apply (r : Fin 256) (k : Fin 2048) :
    (xnAt m c : FVec Ideal S256x2048 .bf16) (ix2 r k)
      = normed (fun e => argX m c (ix3 (bOf r) (tOf r) e)) (fun e => argG m c (ix1 e)) k := by
  unfold xnAt
  rw [pay1_apply]
  simp only [blk0_apply, blk1_apply]

theorem out4_apply (t : Fin cfg0.N) (h : t.val ≤ 6) (r : Fin 256) (n : Fin 512) (q : Fin 3584) (hq : q.val = t.val * 512 + n.val) :
    (out4 m c t : FVec Ideal S256x512 .f32) (ix2 r n) = pick (projAt m c r) q := by
  have hq' := q.isLt
  unfold out4
  rw [pay2_apply]
  have hb : ∀ k : Fin 2048, (iblk m c 2 t : FVec Ideal S2048x512 .bf16) (ix2 k n) = pick (fun e => argW m c (ix2 k e)) q := fun k => by
    rw [blk2_apply m c t k n (⟨q.val, by omega⟩ : Fin 10752) hq]
    exact all_rows (argW m c) k q
  simp only [xn_apply, hb]
  exact sum_pick _ (fun k e => argW m c (ix2 k e)) _

theorem out5_apply (t : Fin cfg0.N) (h0 : 7 ≤ t.val) (r : Fin 256) (n : Fin 512) (q : Fin 1024) (hq : q.val = (t.val - 7) * 512 + n.val) :
    (out5 m c t : FVec Ideal S256x512 .bf16) (ix2 r n)
      = projAt m c r (⟨3520 + q.val, by have := q.isLt; omega⟩ : Fin 10688) * Attn.eighth := by
  have hq' := q.isLt
  unfold out5
  rw [pay3_apply]
  have hb : ∀ k : Fin 2048, (iblk m c 2 t : FVec Ideal S2048x512 .bf16) (ix2 k n)
      = argW m c (ix2 k (⟨3520 + q.val, by omega⟩ : Fin 10688)) * Attn.eighth := fun k => by
    rw [blk2_apply m c t k n (⟨3584 + q.val, by omega⟩ : Fin 10752) (by show 3584 + q.val = _; omega)]
    exact all_query (argW m c) k q
  simp only [xn_apply, hb, ← mul_assoc]
  exact Attn.sum_mul_eighth _ _

theorem out6_apply (t : Fin cfg0.N) (h0 : 9 ≤ t.val) (r : Fin 256) (n : Fin 512) (q : Fin 1024) (hq : q.val = (t.val - 9) * 512 + n.val) :
    (out6 m c t : FVec Ideal S256x512 .f32) (ix2 r n) = projAt m c r (⟨3520 + (1024 + q.val), by have := q.isLt; omega⟩ : Fin 10688) := by
  have hq' := q.isLt
  unfold out6
  rw [pay4_apply]
  refine Finset.sum_congr rfl fun k _ => ?_
  rw [xn_apply, blk2_apply m c t k n (⟨4608 + q.val, by omega⟩ : Fin 10752) (by show 4608 + q.val = _; omega)]
  exact congrArg (fun e => _ * e) (all_key (argW m c) k q)

theorem out7_apply (t : Fin cfg0.N) (h0 : 11 ≤ t.val) (r : Fin 256) (n : Fin 512) (q : Fin 1024) (hq : q.val = (t.val - 11) * 512 + n.val) :
    (out7 m c t : FVec Ideal S256x512 .f32) (ix2 r n) = projAt m c r (⟨3520 + (2048 + q.val), by have := q.isLt; omega⟩ : Fin 10688) := by
  have hq' := q.isLt
  unfold out7
  rw [pay5_apply]
  refine Finset.sum_congr rfl fun k _ => ?_
  rw [xn_apply, blk2_apply m c t k n (⟨5632 + q.val, by omega⟩ : Fin 10752) (by show 5632 + q.val = _; omega)]
  exact congrArg (fun e => _ * e) (all_value (argW m c) k q)

theorem out8_apply (t : Fin cfg0.N) (h0 : 13 ≤ t.val) (r : Fin 256) (n : Fin 512) (q : Fin 4096) (hq : q.val = (t.val - 13) * 512 + n.val) :
    (out8 m c t : FVec Ideal S256x512 .bf16) (ix2 r n) = projAt m c r (⟨6592 + q.val, by have := q.isLt; omega⟩ : Fin 10688) := by
  have hq' := q.isLt
  unfold out8
  rw [pay6_apply]
  refine Finset.sum_congr rfl fun k _ => ?_
  rw [xn_apply, blk2_apply m c t k n (⟨6656 + q.val, by omega⟩ : Fin 10752) (by show 6656 + q.val = _; omega)]
  exact congrArg (fun e => _ * e) (all_gate (argW m c) k q)

/-! ## The arrays the call leaves -/

abbrev rowsArr : FVec Ideal S256x3584 .f32 := fun i => pick (projAt m c (i 0)) (i 1)

abbrev queryArr : FVec Ideal S256x1024 .bf16 := fun i =>
  projAt m c (i 0) (⟨3520 + (i 1).val, by have h : (i 1).val < 1024 := (i 1).isLt; omega⟩ : Fin 10688) * Attn.eighth

abbrev keyArr : FVec Ideal S256x1024 .f32 := fun i =>
  projAt m c (i 0) (⟨3520 + (1024 + (i 1).val), by have h : (i 1).val < 1024 := (i 1).isLt; omega⟩ : Fin 10688)

abbrev valueArr : FVec Ideal S256x1024 .f32 := fun i =>
  projAt m c (i 0) (⟨3520 + (2048 + (i 1).val), by have h : (i 1).val < 1024 := (i 1).isLt; omega⟩ : Fin 10688)

abbrev gateArr : FVec Ideal S256x4096 .bf16 := fun i =>
  projAt m c (i 0) (⟨6592 + (i 1).val, by have h : (i 1).val < 4096 := (i 1).isLt; omega⟩ : Fin 10688)

theorem final4 : (dats m 0 c).arrAt 4 cfg0.N = rowsArr m c := by
  refine (dats m 0 c).arrAt_eq_of_covers 4 _ (by decide +kernel) fun t hf y => ?_
  blk_simp
  rw [after0_4]
  have hj := (flush0_4 t).mp hf
  have ht := lt21 t
  obtain ⟨r, n, rfl⟩ : ∃ (r : Fin 256) (n : Fin 512), y = ix2 r n := ⟨y 0, y 1, by funext a; fin_cases a <;> rfl⟩
  have hn := n.isLt
  have p : ((View.whole main_v26_0).slice (win0_4.rect t)).emb (ix2 r n) = ix2 r (⟨min t.val 6 * 512 + n.val, by omega⟩ : Fin 3584) := by
    blk_ext [index4 t]
  have e : (out4 m c (upTo 6 t) : FVec Ideal S256x512 .f32) (ix2 r n) = rowsArr m c (ix2 r (⟨min t.val 6 * 512 + n.val, by omega⟩ : Fin 3584)) := by
    rw [out4_apply m c (upTo 6 t) (Nat.min_le_right _ _) r n (⟨min t.val 6 * 512 + n.val, by omega⟩ : Fin 3584)
      (by show min t.val 6 * 512 + n.val = (min t.val 6) * 512 + n.val; omega)]
    rfl
  exact e.trans (congrArg (rowsArr m c) p.symm)

theorem final5 : (dats m 0 c).arrAt 5 cfg0.N = queryArr m c := by
  refine (dats m 0 c).arrAt_eq_of_covers 5 _ (by decide +kernel) fun t hf y => ?_
  blk_simp
  rw [after0_5]
  have hj := (flush0_5 t).mp hf
  have ht := lt21 t
  obtain ⟨r, n, rfl⟩ : ∃ (r : Fin 256) (n : Fin 512), y = ix2 r n := ⟨y 0, y 1, by funext a; fin_cases a <;> rfl⟩
  have hn := n.isLt
  have p : ((View.whole main_v26_1).slice (win0_5.rect t)).emb (ix2 r n) = ix2 r (⟨min (t.val - 7) 1 * 512 + n.val, by omega⟩ : Fin 1024) := by
    blk_ext [index5 t]
  have e : (out5 m c (upTo 8 t) : FVec Ideal S256x512 .bf16) (ix2 r n) = queryArr m c (ix2 r (⟨min (t.val - 7) 1 * 512 + n.val, by omega⟩ : Fin 1024)) := by
    rw [out5_apply m c (upTo 8 t) (show 7 ≤ min t.val 8 by omega) r n (⟨min (t.val - 7) 1 * 512 + n.val, by omega⟩ : Fin 1024)
      (by show min (t.val - 7) 1 * 512 + n.val = (min t.val 8 - 7) * 512 + n.val; omega)]
    rfl
  exact e.trans (congrArg (queryArr m c) p.symm)

theorem final6 : (dats m 0 c).arrAt 6 cfg0.N = keyArr m c := by
  refine (dats m 0 c).arrAt_eq_of_covers 6 _ (by decide +kernel) fun t hf y => ?_
  blk_simp
  rw [after0_6]
  have hj := (flush0_6 t).mp hf
  have ht := lt21 t
  obtain ⟨r, n, rfl⟩ : ∃ (r : Fin 256) (n : Fin 512), y = ix2 r n := ⟨y 0, y 1, by funext a; fin_cases a <;> rfl⟩
  have hn := n.isLt
  have p : ((View.whole main_v26_2).slice (win0_6.rect t)).emb (ix2 r n) = ix2 r (⟨min (t.val - 9) 1 * 512 + n.val, by omega⟩ : Fin 1024) := by
    blk_ext [index6 t]
  have e : (out6 m c (upTo 10 t) : FVec Ideal S256x512 .f32) (ix2 r n) = keyArr m c (ix2 r (⟨min (t.val - 9) 1 * 512 + n.val, by omega⟩ : Fin 1024)) := by
    rw [out6_apply m c (upTo 10 t) (show 9 ≤ min t.val 10 by omega) r n (⟨min (t.val - 9) 1 * 512 + n.val, by omega⟩ : Fin 1024)
      (by show min (t.val - 9) 1 * 512 + n.val = (min t.val 10 - 9) * 512 + n.val; omega)]
    rfl
  exact e.trans (congrArg (keyArr m c) p.symm)

theorem final7 : (dats m 0 c).arrAt 7 cfg0.N = valueArr m c := by
  refine (dats m 0 c).arrAt_eq_of_covers 7 _ (by decide +kernel) fun t hf y => ?_
  blk_simp
  rw [after0_7]
  have hj := (flush0_7 t).mp hf
  have ht := lt21 t
  obtain ⟨r, n, rfl⟩ : ∃ (r : Fin 256) (n : Fin 512), y = ix2 r n := ⟨y 0, y 1, by funext a; fin_cases a <;> rfl⟩
  have hn := n.isLt
  have p : ((View.whole main_v26_3).slice (win0_7.rect t)).emb (ix2 r n) = ix2 r (⟨min (t.val - 11) 1 * 512 + n.val, by omega⟩ : Fin 1024) := by
    blk_ext [index7 t]
  have e : (out7 m c (upTo 12 t) : FVec Ideal S256x512 .f32) (ix2 r n) = valueArr m c (ix2 r (⟨min (t.val - 11) 1 * 512 + n.val, by omega⟩ : Fin 1024)) := by
    rw [out7_apply m c (upTo 12 t) (show 11 ≤ min t.val 12 by omega) r n (⟨min (t.val - 11) 1 * 512 + n.val, by omega⟩ : Fin 1024)
      (by show min (t.val - 11) 1 * 512 + n.val = (min t.val 12 - 11) * 512 + n.val; omega)]
    rfl
  exact e.trans (congrArg (valueArr m c) p.symm)

theorem final8 : (dats m 0 c).arrAt 8 cfg0.N = gateArr m c := by
  refine (dats m 0 c).arrAt_eq_of_covers 8 _ (by decide +kernel) fun t hf y => ?_
  blk_simp
  rw [after0_8]
  have hj := (flush0_8 t).mp hf
  have ht := lt21 t
  obtain ⟨r, n, rfl⟩ : ∃ (r : Fin 256) (n : Fin 512), y = ix2 r n := ⟨y 0, y 1, by funext a; fin_cases a <;> rfl⟩
  have hn := n.isLt
  have p : ((View.whole main_v26_4).slice (win0_8.rect t)).emb (ix2 r n) = ix2 r (⟨min (t.val - 13) 7 * 512 + n.val, by omega⟩ : Fin 4096) := by
    blk_ext [index8 t]
  have e : (out8 m c (upTo 20 t) : FVec Ideal S256x512 .bf16) (ix2 r n) = gateArr m c (ix2 r (⟨min (t.val - 13) 7 * 512 + n.val, by omega⟩ : Fin 4096)) := by
    rw [out8_apply m c (upTo 20 t) (show 13 ≤ min t.val 20 by omega) r n (⟨min (t.val - 13) 7 * 512 + n.val, by omega⟩ : Fin 4096)
      (by show min (t.val - 13) 7 * 512 + n.val = (min t.val 20 - 13) * 512 + n.val; omega)]
    rfl
  exact e.trans (congrArg (gateArr m c) p.symm)

/-- The fused product as the reference forms it of the same arguments. -/
abbrev fused : FVec Ideal Cert.Reference9Ideal.S32x8x10688 .f32 := projRef (argX m c) (argG m c) (argW m c)

theorem fused_apply (b : Fin 32) (t : Fin 8) (e : Fin 10688) :
    fused m c (ix3 b t e) = proj (argX m c) (argG m c) (argW m c) b t e := projRef_apply ..

/-! ## The host code after the call -/

/-- Keys or values, split by heads. -/
def byHead (a : FVec Ideal S256x1024 .f32) : FVec Ideal S32x8x16x64 .f32 :=
  shapeCast _ a shapeCasts_S256x1024_S32x8x16x64

/-- The last row of every sequence without the zero columns. -/
def lastRow (a : FVec Ideal S256x3584 .f32) : FVec Ideal S32x3520 .f32 :=
  let r : FVec Ideal S32x3584 .f32 := shapeCast _ (extractStridedSlice S32x1x3584 ![0, 7, 0]
    (shapeCast _ a shapeCasts_S256x3584_S32x8x3584 : FVec Ideal S32x8x3584 .f32) slices_S32x8x3584_S32x1x3584_0_7_0) shapeCasts_S32x1x3584_S32x3584
  concatenate S32x3520 1
    [⟨S32x3072, extractStridedSlice S32x3072 ![0, 0] r slices_S32x3584_S32x3072_0_0⟩,
     ⟨S32x96, extractStridedSlice S32x96 ![0, 3072] r slices_S32x3584_S32x96_0_3072⟩,
     ⟨S32x96, extractStridedSlice S32x96 ![0, 3200] r slices_S32x3584_S32x96_0_3200⟩,
     ⟨S32x256, extractStridedSlice S32x256 ![0, 3328] r slices_S32x3584_S32x256_0_3328⟩]
    concatenates_S32x3072_S32x96_S32x96_S32x256_S32x3520_d1

theorem byHead_apply (a : FVec Ideal S256x1024 .f32) (b : Fin 32) (t : Fin 8) (h : Fin 16) (d : Fin 64) :
    byHead a (ix4 b t h d) = a (ix2 (⟨b.val * 8 + t.val, by have := b.isLt; have := t.isLt; omega⟩ : Fin 256) (⟨h.val * 64 + d.val, by have := h.isLt; have := d.isLt; omega⟩ : Fin 1024)) := by
  unfold byHead
  pointwise

theorem lastRow_apply (a : FVec Ideal S256x3584 .f32) (f : Fin 10688 → EReal) (b : Fin 32)
    (ha : ∀ j : Fin 3584, a (ix2 (⟨b.val * 8 + 7, by have := b.isLt; omega⟩ : Fin 256) j) = pick f j) (e : Fin 3520) :
    lastRow a (ix2 b e) = f (⟨e.val, by have := e.isLt; omega⟩ : Fin 10688) := by
  have he := e.isLt
  unfold lastRow
  pointwise
  split_ifs <;> rw [ha] <;> exact pick_eq f _ _ (by dsimp only; omega)

open Idealize.ShloMosaic.StableHlo in
theorem host_keys (U : Valuation τ sig (Elt Ideal)) : StableHlo.after ([hostOps1].flatten) U (Proc.devRef .tc main_v27)
    = byHead (U (Proc.devRef .tc main_v26_2)) := by
  unfold byHead
  simp only [hostOps1, List.flatten_cons, List.flatten_nil, List.append_nil, TRef.unary, TRef.toBuf, TRef.ofBuf, cast_eq]
  after_results_simp <;> (try dsimp only [Matrix.cons_val]) <;> (try after_results_simp) <;> rfl

theorem after_keys : Pipeline.afterTail₀ cfgs (dats m) 0 (V0 m) [hostOps1] c main_v27 = byHead ((dats m 0 c).arrAt 6 cfg0.N) :=
  (host_keys _).trans (congrArg byHead (Pipeline.withArrays_arr spec0 launch0.win.arr_inj c (V0 m c) (fun w => (dats m 0 c).arrAt w cfg0.N) 6))

open Idealize.ShloMosaic.StableHlo in
theorem host_values (U : Valuation τ sig (Elt Ideal)) : StableHlo.after ([hostOps1].flatten) U (Proc.devRef .tc main_v28)
    = byHead (U (Proc.devRef .tc main_v26_3)) := by
  unfold byHead
  simp only [hostOps1, List.flatten_cons, List.flatten_nil, List.append_nil, TRef.unary, TRef.toBuf, TRef.ofBuf, cast_eq]
  after_results_simp <;> (try dsimp only [Matrix.cons_val]) <;> (try after_results_simp) <;> rfl

theorem after_values : Pipeline.afterTail₀ cfgs (dats m) 0 (V0 m) [hostOps1] c main_v28 = byHead ((dats m 0 c).arrAt 7 cfg0.N) :=
  (host_values _).trans (congrArg byHead (Pipeline.withArrays_arr spec0 launch0.win.arr_inj c (V0 m c) (fun w => (dats m 0 c).arrAt w cfg0.N) 7))

open Idealize.ShloMosaic.StableHlo in
theorem host_last (U : Valuation τ sig (Elt Ideal)) : StableHlo.after ([hostOps1].flatten) U (Proc.devRef .tc main_v36)
    = lastRow (U (Proc.devRef .tc main_v26_0)) := by
  unfold lastRow
  simp only [hostOps1, List.flatten_cons, List.flatten_nil, List.append_nil, TRef.unary, TRef.toBuf, TRef.ofBuf, cast_eq]
  after_results_simp <;> (try dsimp only [Matrix.cons_val]) <;> (try after_results_simp) <;> rfl

theorem after_last : Pipeline.afterTail₀ cfgs (dats m) 0 (V0 m) [hostOps1] c main_v36 = lastRow ((dats m 0 c).arrAt 4 cfg0.N) :=
  (host_last _).trans (congrArg lastRow (Pipeline.withArrays_arr spec0 launch0.win.arr_inj c (V0 m c) (fun w => (dats m 0 c).arrAt w cfg0.N) 4))

/-- The reference's results of the same arguments are the same arrays. -/
theorem same0 : ref0 (fused m c) = (dats m 0 c).arrAt 4 cfg0.N := by
  rw [final4]
  funext i
  obtain ⟨r, n, rfl⟩ : ∃ (r : Fin 256) (n : Fin 3584), i = ix2 r n := ⟨i 0, i 1, by funext a; fin_cases a <;> rfl⟩
  rw [ref0_apply]
  rfl

theorem same1 : ref1 (fused m c) = (dats m 0 c).arrAt 5 cfg0.N := by
  rw [final5]
  funext i
  obtain ⟨r, n, rfl⟩ : ∃ (r : Fin 256) (n : Fin 1024), i = ix2 r n := ⟨i 0, i 1, by funext a; fin_cases a <;> rfl⟩
  rw [ref1_apply, fused_apply]
  rfl

theorem same2 : ref2 (fused m c) = byHead ((dats m 0 c).arrAt 6 cfg0.N) := by
  rw [final6]
  funext i
  obtain ⟨b, t, h, d, rfl⟩ : ∃ (b : Fin 32) (t : Fin 8) (h : Fin 16) (d : Fin 64), i = ix4 b t h d := ⟨i 0, i 1, i 2, i 3, by funext a; fin_cases a <;> rfl⟩
  rw [ref2_apply, fused_apply, byHead_apply]
  have eb : bOf (⟨b.val * 8 + t.val, by have := b.isLt; have := t.isLt; omega⟩ : Fin 256) = b := Fin.ext (by show (b.val * 8 + t.val) / 8 = b.val; have := t.isLt; omega)
  have et : tOf (⟨b.val * 8 + t.val, by have := b.isLt; have := t.isLt; omega⟩ : Fin 256) = t := Fin.ext (by show (b.val * 8 + t.val) % 8 = t.val; have := t.isLt; omega)
  exact (congrArg₂ (fun b' t' => proj (argX m c) (argG m c) (argW m c) b' t' (⟨3520 + (1024 + (h.val * 64 + d.val)), by have := h.isLt; have := d.isLt; omega⟩ : Fin 10688)) eb et).symm

theorem same3 : ref3 (fused m c) = byHead ((dats m 0 c).arrAt 7 cfg0.N) := by
  rw [final7]
  funext i
  obtain ⟨b, t, h, d, rfl⟩ : ∃ (b : Fin 32) (t : Fin 8) (h : Fin 16) (d : Fin 64), i = ix4 b t h d := ⟨i 0, i 1, i 2, i 3, by funext a; fin_cases a <;> rfl⟩
  rw [ref3_apply, fused_apply, byHead_apply]
  have eb : bOf (⟨b.val * 8 + t.val, by have := b.isLt; have := t.isLt; omega⟩ : Fin 256) = b := Fin.ext (by show (b.val * 8 + t.val) / 8 = b.val; have := t.isLt; omega)
  have et : tOf (⟨b.val * 8 + t.val, by have := b.isLt; have := t.isLt; omega⟩ : Fin 256) = t := Fin.ext (by show (b.val * 8 + t.val) % 8 = t.val; have := t.isLt; omega)
  exact (congrArg₂ (fun b' t' => proj (argX m c) (argG m c) (argW m c) b' t' (⟨3520 + (2048 + (h.val * 64 + d.val)), by have := h.isLt; have := d.isLt; omega⟩ : Fin 10688)) eb et).symm

theorem same4 : ref4 (fused m c) = (dats m 0 c).arrAt 8 cfg0.N := by
  rw [final8]
  funext i
  obtain ⟨r, n, rfl⟩ : ∃ (r : Fin 256) (n : Fin 4096), i = ix2 r n := ⟨i 0, i 1, by funext a; fin_cases a <;> rfl⟩
  rw [ref4_apply, fused_apply]
  rfl

theorem same5 : ref5 (fused m c) = lastRow ((dats m 0 c).arrAt 4 cfg0.N) := by
  rw [final4]
  funext i
  obtain ⟨b, e, rfl⟩ : ∃ (b : Fin 32) (e : Fin 3520), i = ix2 b e := ⟨i 0, i 1, by funext a; fin_cases a <;> rfl⟩
  have eb : bOf (⟨b.val * 8 + 7, by have := b.isLt; omega⟩ : Fin 256) = b := Fin.ext (by show (b.val * 8 + 7) / 8 = b.val; omega)
  have et : tOf (⟨b.val * 8 + 7, by have := b.isLt; omega⟩ : Fin 256) = (⟨7, by decide⟩ : Fin 8) := Fin.ext (by show (b.val * 8 + 7) % 8 = 7; omega)
  rw [ref5_apply, fused_apply, lastRow_apply _ (projAt m c (⟨b.val * 8 + 7, by have := b.isLt; omega⟩ : Fin 256)) b (fun _ => rfl)]
  unfold projAt
  rw [eb, et]

/-- The program leaves the six arrays and its arguments as they were. -/
theorem run (g : Dev nD → PrngReg) : θ_run defs (onTc (τ := τ) (main (F := Ideal))) ⟨m, fun _ => 0, g⟩ (fun r => ∀ c : Dev nD,
      r.2.mem ((c.tc : Thread nD τ).loc main_v26_0) = (dats m 0 c).arrAt 4 cfg0.N
      ∧ r.2.mem ((c.tc : Thread nD τ).loc main_v26_1) = (dats m 0 c).arrAt 5 cfg0.N
      ∧ r.2.mem ((c.tc : Thread nD τ).loc main_v27) = byHead ((dats m 0 c).arrAt 6 cfg0.N)
      ∧ r.2.mem ((c.tc : Thread nD τ).loc main_v28) = byHead ((dats m 0 c).arrAt 7 cfg0.N)
      ∧ r.2.mem ((c.tc : Thread nD τ).loc main_v26_4) = (dats m 0 c).arrAt 8 cfg0.N
      ∧ r.2.mem ((c.tc : Thread nD τ).loc main_v36) = lastRow ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, (h.1 c).1 5,
      ((h.1 c).2 main_v27 (Pipeline.mem_restRefs_of main_v27 (by decide) (by decide))).trans (after_keys m c),
      ((h.1 c).2 main_v28 (Pipeline.mem_restRefs_of main_v28 (by decide) (by decide))).trans (after_values m c),
      (h.1 c).1 8,
      ((h.1 c).2 main_v36 (Pipeline.mem_restRefs_of main_v36 (by decide) (by decide))).trans (after_last m c), h.2.1 c⟩)
    (θ_run_and (run_main m g) (frame m g))

open Cert.Kernel9Ideal in
theorem algebraic : Cert.algebraic_Kernel9Ideal_Reference9Ideal := fun m g m' g' _ heq =>
  ⟨fun c => (Gen.dats m 0 c).arrAt 4 cfg0.N, fun c => (Gen.dats m 0 c).arrAt 5 cfg0.N, fun c => byHead ((Gen.dats m 0 c).arrAt 6 cfg0.N),
    fun c => byHead ((Gen.dats m 0 c).arrAt 7 cfg0.N), fun c => (Gen.dats m 0 c).arrAt 8 cfg0.N, fun c => lastRow ((Gen.dats m 0 c).arrAt 4 cfg0.N),
    run m g,
    (θ_run Cert.Reference9Ideal.defs _ _).mono (fun r hr c => by
        obtain ⟨e0, e1, e2⟩ := heq c
        have es : fusedRef m' c = fused m c := by
          unfold fusedRef
          rw [e0, e1, e2]
        exact ⟨(hr c).1.trans ((res0_eq m' c).trans ((congrArg ref0 es).trans (same0 m c))),
          (hr c).2.1.trans ((congrArg ref1 es).trans (same1 m c)),
          (hr c).2.2.1.trans ((congrArg ref2 es).trans (same2 m c)),
          (hr c).2.2.2.1.trans ((congrArg ref3 es).trans (same3 m c)),
          (hr c).2.2.2.2.1.trans ((congrArg ref4 es).trans (same4 m c)),
          (hr c).2.2.2.2.2.1.trans ((congrArg ref5 es).trans (same5 m c)),
          (hr c).2.2.2.2.2.2⟩)
      (Cert.Reference9Ideal.Value.run (F := Ideal) m' g')⟩

end Cert.ProjNew

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_causal_logits_at_most_30
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.RefRead
public import proofs.«01_k».proof.Proof.ProjRun
public import proofs.«01_k».proof.Proof.ProjFrame
public import proofs.«01_k».proof.Proof.ProjRunW
public import proofs.«01_k».proof.Proof.ProjFrameW
public import proofs.«01_k».proof.Proof.ProjRef
public import proofs.«01_k».proof.Proof.ProjBlocks
public import proofs.«01_k».proof.Proof.Proj
public import proofs.«01_k».proof.Proof.FfnRun
public import proofs.«01_k».proof.Proof.FfnFrame
public import proofs.«01_k».proof.Proof.FfnRunW
public import proofs.«01_k».proof.Proof.FfnFrameW
public import proofs.«01_k».proof.Proof.FfnPay
public import proofs.«01_k».proof.Proof.FfnRef
public import proofs.«01_k».proof.Proof.Ffn
public import proofs.«01_k».proof.Proof.Merge
public import proofs.«01_k».proof.Proof.Output
public import proofs.«01_k».proof.Proof.MergeNew
public import proofs.«01_k».proof.Proof.OutputNew
public import proofs.«01_k».proof.Proof.FfnNewRef
public import proofs.«01_k».proof.Proof.FfnNew
public import proofs.«01_k».proof.Proof.ProjNewRun
public import proofs.«01_k».proof.Proof.ProjNewFrame
public import proofs.«01_k».proof.Proof.ProjNewRunW
public import proofs.«01_k».proof.Proof.ProjNewFrameW
public import proofs.«01_k».proof.Proof.ProjNewRef
public import proofs.«01_k».proof.Proof.ProjNewBlocks
public import proofs.«01_k».proof.Proof.ProjNew
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end: its arguments unchanged, every counter zero. -/
theorem reference_frame : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Where the precondition holds, the kernel's output array is the reference's result. -/
theorem same_array (m : (ℓ : Loc Cert.KernelIdeal.nD Cert.KernelIdeal.τ Cert.KernelIdeal.sig) → Buf (Elt Ideal) ℓ)
    (h : Cert.Pre_KernelIdeal_causal_logits_at_most_30 m) (c : Dev Cert.KernelIdeal.nD) :
    Cert.Attn.Ref.outRef (Cert.Attn.argQ m c) (Cert.Attn.argK m c) (Cert.Attn.argV m c) (Cert.Attn.argB m c)
      = (Cert.KernelIdeal.Gen.dats m 0 c).arrAt 4 Cert.KernelIdeal.cfg0.N := by
  have hz := Cert.Attn.Ref.bounded_of_pre _ _ _ _ (h c)
  rw [Cert.Attn.final]
  funext i
  obtain ⟨b, t, D, rfl⟩ : ∃ (b : Fin 8) (t : Fin 2048) (D : Fin 1024), i = ix3 b t D :=
    ⟨i 0, i 1, i 2, by funext a; fin_cases a <;> rfl⟩
  exact (Cert.Attn.Ref.outRef_eq _ _ _ _ hz b t D).trans (Cert.Attn.arrOut_eq m c hz b t D).symm

theorem algebraic : Cert.algebraic_KernelIdeal_ReferenceIdeal_pre_causal_logits_at_most_30 := fun m g m' g' h heq =>
  ⟨fun c => (Cert.KernelIdeal.Gen.dats m 0 c).arrAt 4 Cert.KernelIdeal.cfg0.N,
    Cert.KernelIdeal.Value.run_blocks m g,
    (θ_run Cert.ReferenceIdeal.defs _ _).mono (fun r hr c => ⟨(hr c).1.trans ((Cert.Attn.Ref.res_eq m' c).trans (by
        obtain ⟨e0, e1, e2, e3⟩ := heq c
        refine Eq.trans ?_ (same_array m h c)
        exact congr (congr (congr (congrArg Cert.Attn.Ref.outRef e0) e1) e2) e3)), (hr c).2⟩)
      (Cert.ReferenceIdeal.Value.run (F := Ideal) m' g')⟩

/-- The reference of the projection runs to the end: its arguments unchanged, every counter zero. -/
theorem reference2_frame : Cert.quiescent_Reference2Ideal := fun m g _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m g)

/-- The reference of the ConvFFN runs to the end: its arguments unchanged, every counter zero. -/
theorem reference3_frame : Cert.quiescent_Reference3Ideal := fun m g _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m g)

/-- The reference of the merge runs to the end: its arguments unchanged, every counter zero. -/
theorem reference4_frame : Cert.quiescent_Reference4Ideal := fun m g _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m g)

/-- The reference of the output step runs to the end: its arguments unchanged, every counter zero. -/
theorem reference5_frame : Cert.quiescent_Reference5Ideal := fun m g _ =>
  (θ_run Cert.Reference5Ideal.defs _ _).mono (fun r h => ⟨fun c => (h c).2,
      Idealize.ShloMosaic.sem_eq_zero_of_no_sems (by decide) r.2⟩)
    (Cert.Reference5Ideal.Value.run (F := Ideal) m g)

/-- The reference of the merge of the new tokens runs to the end: its arguments unchanged, every counter zero. -/
theorem reference6_frame : Cert.quiescent_Reference6Ideal := fun m g _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m g)

/-- The reference of the output step of the new tokens runs to the end: its arguments unchanged, every counter zero. -/
theorem reference7_frame : Cert.quiescent_Reference7Ideal := fun m g _ =>
  (θ_run Cert.Reference7Ideal.defs _ _).mono (fun r h => ⟨fun c => (h c).2,
      Idealize.ShloMosaic.sem_eq_zero_of_no_sems (by decide) r.2⟩)
    (Cert.Reference7Ideal.Value.run (F := Ideal) m g)

/-- The reference of the ConvFFN of the new tokens runs to the end: its arguments unchanged, every counter zero. -/
theorem reference8_frame : Cert.quiescent_Reference8Ideal := fun m g _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m g)

/-- The reference of the projection of the new tokens runs to the end: its arguments unchanged, every counter zero. -/
theorem reference9_frame : Cert.quiescent_Reference9Ideal := fun m g _ =>
  (θ_run Cert.Reference9Ideal.defs _ _).mono (fun r h => ⟨fun c => (h c).2.2.2.2.2.2,
      Idealize.ShloMosaic.sem_eq_zero_of_no_sems (by decide) r.2⟩)
    (Cert.Reference9Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_causal_logits_at_most_30.Gen.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, reference2_frame,
    fun m g _ => Cert.Kernel3.Gen.frame m g, fun m g _ => Cert.Kernel3Ideal.Gen.frame m g, reference3_frame,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, reference7_frame,
    fun m g _ => Cert.Kernel8.Gen.frame m g, fun m g _ => Cert.Kernel8Ideal.Gen.frame m g, reference8_frame,
    fun m g _ => Cert.Kernel9.Gen.frame m g, fun m g _ => Cert.Kernel9Ideal.Gen.frame m g, reference9_frame,
    trivial, algebraic,
    trivial, Cert.Proj.algebraic,
    trivial, Cert.Ffn.algebraic,
    trivial, Cert.Mrg.algebraic,
    trivial, Cert.Out.algebraic,
    trivial, Cert.MrgNew.algebraic,
    trivial, Cert.OutNew.algebraic,
    trivial, Cert.FfnNew.algebraic,
    trivial, Cert.ProjNew.algebraic⟩

end Cert.Proof

end
